-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_inputs [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_inputs [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def Pre_KernelQ (m : (ℓ : Loc Cert.KernelQ.nD Cert.KernelQ.τ Cert.KernelQ.sig) → Buf (Elt Bits) ℓ) : Prop :=
  True

def Pre_KernelQIdeal (m : (ℓ : Loc Cert.KernelQIdeal.nD Cert.KernelQIdeal.τ Cert.KernelQIdeal.sig) → Buf (Elt Ideal) ℓ) : Prop :=
  True

def Pre_ReferenceQIdeal (m : (ℓ : Loc Cert.ReferenceQIdeal.nD Cert.ReferenceQIdeal.τ Cert.ReferenceQIdeal.sig) → Buf (Elt Ideal) ℓ) : Prop :=
  True

def Pre_KernelK (m : (ℓ : Loc Cert.KernelK.nD Cert.KernelK.τ Cert.KernelK.sig) → Buf (Elt Bits) ℓ) : Prop :=
  True

def Pre_KernelKIdeal (m : (ℓ : Loc Cert.KernelKIdeal.nD Cert.KernelKIdeal.τ Cert.KernelKIdeal.sig) → Buf (Elt Ideal) ℓ) : Prop :=
  True

def Pre_ReferenceKIdeal (m : (ℓ : Loc Cert.ReferenceKIdeal.nD Cert.ReferenceKIdeal.τ Cert.ReferenceKIdeal.sig) → Buf (Elt Ideal) ℓ) : Prop :=
  True

def Pre_KernelV (m : (ℓ : Loc Cert.KernelV.nD Cert.KernelV.τ Cert.KernelV.sig) → Buf (Elt Bits) ℓ) : Prop :=
  True

def Pre_KernelVIdeal (m : (ℓ : Loc Cert.KernelVIdeal.nD Cert.KernelVIdeal.τ Cert.KernelVIdeal.sig) → Buf (Elt Ideal) ℓ) : Prop :=
  True

def Pre_ReferenceVIdeal (m : (ℓ : Loc Cert.ReferenceVIdeal.nD Cert.ReferenceVIdeal.τ Cert.ReferenceVIdeal.sig) → Buf (Elt Ideal) ℓ) : Prop :=
  True

def Pre_KernelZ (m : (ℓ : Loc Cert.KernelZ.nD Cert.KernelZ.τ Cert.KernelZ.sig) → Buf (Elt Bits) ℓ) : Prop :=
  True

def Pre_KernelZIdeal (m : (ℓ : Loc Cert.KernelZIdeal.nD Cert.KernelZIdeal.τ Cert.KernelZIdeal.sig) → Buf (Elt Ideal) ℓ) : Prop :=
  True

def Pre_ReferenceZIdeal (m : (ℓ : Loc Cert.ReferenceZIdeal.nD Cert.ReferenceZIdeal.τ Cert.ReferenceZIdeal.sig) → Buf (Elt Ideal) ℓ) : Prop :=
  True

def Pre_KernelSK (m : (ℓ : Loc Cert.KernelSK.nD Cert.KernelSK.τ Cert.KernelSK.sig) → Buf (Elt Bits) ℓ) : Prop :=
  True

def Pre_KernelSKIdeal (m : (ℓ : Loc Cert.KernelSKIdeal.nD Cert.KernelSKIdeal.τ Cert.KernelSKIdeal.sig) → Buf (Elt Ideal) ℓ) : Prop :=
  True

def Pre_ReferenceSKIdeal (m : (ℓ : Loc Cert.ReferenceSKIdeal.nD Cert.ReferenceSKIdeal.τ Cert.ReferenceSKIdeal.sig) → Buf (Elt Ideal) ℓ) : Prop :=
  True

def Pre_KernelSV (m : (ℓ : Loc Cert.KernelSV.nD Cert.KernelSV.τ Cert.KernelSV.sig) → Buf (Elt Bits) ℓ) : Prop :=
  True

def Pre_KernelSVIdeal (m : (ℓ : Loc Cert.KernelSVIdeal.nD Cert.KernelSVIdeal.τ Cert.KernelSVIdeal.sig) → Buf (Elt Ideal) ℓ) : Prop :=
  True

def Pre_ReferenceSVIdeal (m : (ℓ : Loc Cert.ReferenceSVIdeal.nD Cert.ReferenceSVIdeal.τ Cert.ReferenceSVIdeal.sig) → Buf (Elt Ideal) ℓ) : Prop :=
  True

def Pre_KernelE [hPre_tables : Cert.Pre_tables.Facts] (m : (ℓ : Loc Cert.KernelE.nD Cert.KernelE.τ Cert.KernelE.sig) → Buf (Elt Bits) ℓ) : Prop :=
  ∀ c : Dev Cert.KernelE.nD,
    (Cert.Pre_tables.fn (F := Bits) (m ((c.tc : Thread Cert.KernelE.nD Cert.KernelE.τ).loc Cert.KernelE.main_arg0)) (m ((c.tc : Thread Cert.KernelE.nD Cert.KernelE.τ).loc Cert.KernelE.main_arg1)) (m ((c.tc : Thread Cert.KernelE.nD Cert.KernelE.τ).loc Cert.KernelE.main_arg2)) (m ((c.tc : Thread Cert.KernelE.nD Cert.KernelE.τ).loc Cert.KernelE.main_arg3)) (m ((c.tc : Thread Cert.KernelE.nD Cert.KernelE.τ).loc Cert.KernelE.main_arg4)) (m ((c.tc : Thread Cert.KernelE.nD Cert.KernelE.τ).loc Cert.KernelE.main_arg5)) (m ((c.tc : Thread Cert.KernelE.nD Cert.KernelE.τ).loc Cert.KernelE.main_arg6))) = (fun _ => 1#1)

def Pre_KernelEIdeal [hPre_tables : Cert.Pre_tables.Facts] (m : (ℓ : Loc Cert.KernelEIdeal.nD Cert.KernelEIdeal.τ Cert.KernelEIdeal.sig) → Buf (Elt Ideal) ℓ) : Prop :=
  ∀ c : Dev Cert.KernelEIdeal.nD,
    (Cert.Pre_tables.fn (F := Ideal) (m ((c.tc : Thread Cert.KernelEIdeal.nD Cert.KernelEIdeal.τ).loc Cert.KernelEIdeal.main_arg0)) (m ((c.tc : Thread Cert.KernelEIdeal.nD Cert.KernelEIdeal.τ).loc Cert.KernelEIdeal.main_arg1)) (m ((c.tc : Thread Cert.KernelEIdeal.nD Cert.KernelEIdeal.τ).loc Cert.KernelEIdeal.main_arg2)) (m ((c.tc : Thread Cert.KernelEIdeal.nD Cert.KernelEIdeal.τ).loc Cert.KernelEIdeal.main_arg3)) (m ((c.tc : Thread Cert.KernelEIdeal.nD Cert.KernelEIdeal.τ).loc Cert.KernelEIdeal.main_arg4)) (m ((c.tc : Thread Cert.KernelEIdeal.nD Cert.KernelEIdeal.τ).loc Cert.KernelEIdeal.main_arg5)) (m ((c.tc : Thread Cert.KernelEIdeal.nD Cert.KernelEIdeal.τ).loc Cert.KernelEIdeal.main_arg6))) = (fun _ => 1#1)

def Pre_ReferenceEIdeal (m : (ℓ : Loc Cert.ReferenceEIdeal.nD Cert.ReferenceEIdeal.τ Cert.ReferenceEIdeal.sig) → Buf (Elt Ideal) ℓ) : Prop :=
  True

def Pre_ReferenceEIdeal_tables [hPre_tables : Cert.Pre_tables.Facts] (m : (ℓ : Loc Cert.ReferenceEIdeal.nD Cert.ReferenceEIdeal.τ Cert.ReferenceEIdeal.sig) → Buf (Elt Ideal) ℓ) : Prop :=
  ∀ c : Dev Cert.ReferenceEIdeal.nD,
    (Cert.Pre_tables.fn (F := Ideal) (m ((c.tc : Thread Cert.ReferenceEIdeal.nD Cert.ReferenceEIdeal.τ).loc Cert.ReferenceEIdeal.main_arg0)) (m ((c.tc : Thread Cert.ReferenceEIdeal.nD Cert.ReferenceEIdeal.τ).loc Cert.ReferenceEIdeal.main_arg1)) (m ((c.tc : Thread Cert.ReferenceEIdeal.nD Cert.ReferenceEIdeal.τ).loc Cert.ReferenceEIdeal.main_arg2)) (m ((c.tc : Thread Cert.ReferenceEIdeal.nD Cert.ReferenceEIdeal.τ).loc Cert.ReferenceEIdeal.main_arg3)) (m ((c.tc : Thread Cert.ReferenceEIdeal.nD Cert.ReferenceEIdeal.τ).loc Cert.ReferenceEIdeal.main_arg4)) (m ((c.tc : Thread Cert.ReferenceEIdeal.nD Cert.ReferenceEIdeal.τ).loc Cert.ReferenceEIdeal.main_arg5)) (m ((c.tc : Thread Cert.ReferenceEIdeal.nD Cert.ReferenceEIdeal.τ).loc Cert.ReferenceEIdeal.main_arg6))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ r.2.sem = fun _ => 0)

def quiescent_KernelIdeal_pre_finite_inputs [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_inputs m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))
      ∧ r.2.sem = fun _ => 0)

def quiescent_ReferenceIdeal_pre_finite_inputs [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_inputs m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))
      ∧ r.2.sem = fun _ => 0)

def quiescent_KernelQ [hKernelQ : Cert.KernelQ.Facts] : Prop :=
  ∀ (m : (ℓ : Loc Cert.KernelQ.nD Cert.KernelQ.τ Cert.KernelQ.sig) → Buf (Elt Bits) ℓ) (g : Dev Cert.KernelQ.nD → PrngReg), Pre_KernelQ m →
    θ_run (Cert.KernelQ.defs (F := Bits)) (onTc (τ := Cert.KernelQ.τ) (Cert.KernelQ.main (F := Bits))) ⟨m, fun _ => 0, g⟩ (fun r => (∀ c : Dev Cert.KernelQ.nD,
      r.2.mem ((c.tc : Thread Cert.KernelQ.nD Cert.KernelQ.τ).loc Cert.KernelQ.main_arg0) = m ((c.tc : Thread Cert.KernelQ.nD Cert.KernelQ.τ).loc Cert.KernelQ.main_arg0)
      ∧ r.2.mem ((c.tc : Thread Cert.KernelQ.nD Cert.KernelQ.τ).loc Cert.KernelQ.main_arg1) = m ((c.tc : Thread Cert.KernelQ.nD Cert.KernelQ.τ).loc Cert.KernelQ.main_arg1))
      ∧ r.2.sem = fun _ => 0)

def quiescent_KernelQIdeal [hKernelQIdeal : Cert.KernelQIdeal.Facts] : Prop :=
  ∀ (m : (ℓ : Loc Cert.KernelQIdeal.nD Cert.KernelQIdeal.τ Cert.KernelQIdeal.sig) → Buf (Elt Ideal) ℓ) (g : Dev Cert.KernelQIdeal.nD → PrngReg), Pre_KernelQIdeal m →
    θ_run (Cert.KernelQIdeal.defs (F := Ideal)) (onTc (τ := Cert.KernelQIdeal.τ) (Cert.KernelQIdeal.main (F := Ideal))) ⟨m, fun _ => 0, g⟩ (fun r => (∀ c : Dev Cert.KernelQIdeal.nD,
      r.2.mem ((c.tc : Thread Cert.KernelQIdeal.nD Cert.KernelQIdeal.τ).loc Cert.KernelQIdeal.main_arg0) = m ((c.tc : Thread Cert.KernelQIdeal.nD Cert.KernelQIdeal.τ).loc Cert.KernelQIdeal.main_arg0)
      ∧ r.2.mem ((c.tc : Thread Cert.KernelQIdeal.nD Cert.KernelQIdeal.τ).loc Cert.KernelQIdeal.main_arg1) = m ((c.tc : Thread Cert.KernelQIdeal.nD Cert.KernelQIdeal.τ).loc Cert.KernelQIdeal.main_arg1))
      ∧ r.2.sem = fun _ => 0)

def quiescent_ReferenceQIdeal [hReferenceQIdeal : Cert.ReferenceQIdeal.Facts] : Prop :=
  ∀ (m : (ℓ : Loc Cert.ReferenceQIdeal.nD Cert.ReferenceQIdeal.τ Cert.ReferenceQIdeal.sig) → Buf (Elt Ideal) ℓ) (g : Dev Cert.ReferenceQIdeal.nD → PrngReg), Pre_ReferenceQIdeal m →
    θ_run (Cert.ReferenceQIdeal.defs (F := Ideal)) (onTc (τ := Cert.ReferenceQIdeal.τ) (Cert.ReferenceQIdeal.main (F := Ideal))) ⟨m, fun _ => 0, g⟩ (fun r => (∀ c : Dev Cert.ReferenceQIdeal.nD,
      r.2.mem ((c.tc : Thread Cert.ReferenceQIdeal.nD Cert.ReferenceQIdeal.τ).loc Cert.ReferenceQIdeal.main_arg0) = m ((c.tc : Thread Cert.ReferenceQIdeal.nD Cert.ReferenceQIdeal.τ).loc Cert.ReferenceQIdeal.main_arg0)
      ∧ r.2.mem ((c.tc : Thread Cert.ReferenceQIdeal.nD Cert.ReferenceQIdeal.τ).loc Cert.ReferenceQIdeal.main_arg1) = m ((c.tc : Thread Cert.ReferenceQIdeal.nD Cert.ReferenceQIdeal.τ).loc Cert.ReferenceQIdeal.main_arg1))
      ∧ r.2.sem = fun _ => 0)

def quiescent_KernelK [hKernelK : Cert.KernelK.Facts] : Prop :=
  ∀ (m : (ℓ : Loc Cert.KernelK.nD Cert.KernelK.τ Cert.KernelK.sig) → Buf (Elt Bits) ℓ) (g : Dev Cert.KernelK.nD → PrngReg), Pre_KernelK m →
    θ_run (Cert.KernelK.defs (F := Bits)) (onTc (τ := Cert.KernelK.τ) (Cert.KernelK.main (F := Bits))) ⟨m, fun _ => 0, g⟩ (fun r => (∀ c : Dev Cert.KernelK.nD,
      r.2.mem ((c.tc : Thread Cert.KernelK.nD Cert.KernelK.τ).loc Cert.KernelK.main_arg0) = m ((c.tc : Thread Cert.KernelK.nD Cert.KernelK.τ).loc Cert.KernelK.main_arg0)
      ∧ r.2.mem ((c.tc : Thread Cert.KernelK.nD Cert.KernelK.τ).loc Cert.KernelK.main_arg1) = m ((c.tc : Thread Cert.KernelK.nD Cert.KernelK.τ).loc Cert.KernelK.main_arg1))
      ∧ r.2.sem = fun _ => 0)

def quiescent_KernelKIdeal [hKernelKIdeal : Cert.KernelKIdeal.Facts] : Prop :=
  ∀ (m : (ℓ : Loc Cert.KernelKIdeal.nD Cert.KernelKIdeal.τ Cert.KernelKIdeal.sig) → Buf (Elt Ideal) ℓ) (g : Dev Cert.KernelKIdeal.nD → PrngReg), Pre_KernelKIdeal m →
    θ_run (Cert.KernelKIdeal.defs (F := Ideal)) (onTc (τ := Cert.KernelKIdeal.τ) (Cert.KernelKIdeal.main (F := Ideal))) ⟨m, fun _ => 0, g⟩ (fun r => (∀ c : Dev Cert.KernelKIdeal.nD,
      r.2.mem ((c.tc : Thread Cert.KernelKIdeal.nD Cert.KernelKIdeal.τ).loc Cert.KernelKIdeal.main_arg0) = m ((c.tc : Thread Cert.KernelKIdeal.nD Cert.KernelKIdeal.τ).loc Cert.KernelKIdeal.main_arg0)
      ∧ r.2.mem ((c.tc : Thread Cert.KernelKIdeal.nD Cert.KernelKIdeal.τ).loc Cert.KernelKIdeal.main_arg1) = m ((c.tc : Thread Cert.KernelKIdeal.nD Cert.KernelKIdeal.τ).loc Cert.KernelKIdeal.main_arg1))
      ∧ r.2.sem = fun _ => 0)

def quiescent_ReferenceKIdeal [hReferenceKIdeal : Cert.ReferenceKIdeal.Facts] : Prop :=
  ∀ (m : (ℓ : Loc Cert.ReferenceKIdeal.nD Cert.ReferenceKIdeal.τ Cert.ReferenceKIdeal.sig) → Buf (Elt Ideal) ℓ) (g : Dev Cert.ReferenceKIdeal.nD → PrngReg), Pre_ReferenceKIdeal m →
    θ_run (Cert.ReferenceKIdeal.defs (F := Ideal)) (onTc (τ := Cert.ReferenceKIdeal.τ) (Cert.ReferenceKIdeal.main (F := Ideal))) ⟨m, fun _ => 0, g⟩ (fun r => (∀ c : Dev Cert.ReferenceKIdeal.nD,
      r.2.mem ((c.tc : Thread Cert.ReferenceKIdeal.nD Cert.ReferenceKIdeal.τ).loc Cert.ReferenceKIdeal.main_arg0) = m ((c.tc : Thread Cert.ReferenceKIdeal.nD Cert.ReferenceKIdeal.τ).loc Cert.ReferenceKIdeal.main_arg0)
      ∧ r.2.mem ((c.tc : Thread Cert.ReferenceKIdeal.nD Cert.ReferenceKIdeal.τ).loc Cert.ReferenceKIdeal.main_arg1) = m ((c.tc : Thread Cert.ReferenceKIdeal.nD Cert.ReferenceKIdeal.τ).loc Cert.ReferenceKIdeal.main_arg1))
      ∧ r.2.sem = fun _ => 0)

def quiescent_KernelV [hKernelV : Cert.KernelV.Facts] : Prop :=
  ∀ (m : (ℓ : Loc Cert.KernelV.nD Cert.KernelV.τ Cert.KernelV.sig) → Buf (Elt Bits) ℓ) (g : Dev Cert.KernelV.nD → PrngReg), Pre_KernelV m →
    θ_run (Cert.KernelV.defs (F := Bits)) (onTc (τ := Cert.KernelV.τ) (Cert.KernelV.main (F := Bits))) ⟨m, fun _ => 0, g⟩ (fun r => (∀ c : Dev Cert.KernelV.nD,
      r.2.mem ((c.tc : Thread Cert.KernelV.nD Cert.KernelV.τ).loc Cert.KernelV.main_arg0) = m ((c.tc : Thread Cert.KernelV.nD Cert.KernelV.τ).loc Cert.KernelV.main_arg0)
      ∧ r.2.mem ((c.tc : Thread Cert.KernelV.nD Cert.KernelV.τ).loc Cert.KernelV.main_arg1) = m ((c.tc : Thread Cert.KernelV.nD Cert.KernelV.τ).loc Cert.KernelV.main_arg1))
      ∧ r.2.sem = fun _ => 0)

def quiescent_KernelVIdeal [hKernelVIdeal : Cert.KernelVIdeal.Facts] : Prop :=
  ∀ (m : (ℓ : Loc Cert.KernelVIdeal.nD Cert.KernelVIdeal.τ Cert.KernelVIdeal.sig) → Buf (Elt Ideal) ℓ) (g : Dev Cert.KernelVIdeal.nD → PrngReg), Pre_KernelVIdeal m →
    θ_run (Cert.KernelVIdeal.defs (F := Ideal)) (onTc (τ := Cert.KernelVIdeal.τ) (Cert.KernelVIdeal.main (F := Ideal))) ⟨m, fun _ => 0, g⟩ (fun r => (∀ c : Dev Cert.KernelVIdeal.nD,
      r.2.mem ((c.tc : Thread Cert.KernelVIdeal.nD Cert.KernelVIdeal.τ).loc Cert.KernelVIdeal.main_arg0) = m ((c.tc : Thread Cert.KernelVIdeal.nD Cert.KernelVIdeal.τ).loc Cert.KernelVIdeal.main_arg0)
      ∧ r.2.mem ((c.tc : Thread Cert.KernelVIdeal.nD Cert.KernelVIdeal.τ).loc Cert.KernelVIdeal.main_arg1) = m ((c.tc : Thread Cert.KernelVIdeal.nD Cert.KernelVIdeal.τ).loc Cert.KernelVIdeal.main_arg1))
      ∧ r.2.sem = fun _ => 0)

def quiescent_ReferenceVIdeal [hReferenceVIdeal : Cert.ReferenceVIdeal.Facts] : Prop :=
  ∀ (m : (ℓ : Loc Cert.ReferenceVIdeal.nD Cert.ReferenceVIdeal.τ Cert.ReferenceVIdeal.sig) → Buf (Elt Ideal) ℓ) (g : Dev Cert.ReferenceVIdeal.nD → PrngReg), Pre_ReferenceVIdeal m →
    θ_run (Cert.ReferenceVIdeal.defs (F := Ideal)) (onTc (τ := Cert.ReferenceVIdeal.τ) (Cert.ReferenceVIdeal.main (F := Ideal))) ⟨m, fun _ => 0, g⟩ (fun r => (∀ c : Dev Cert.ReferenceVIdeal.nD,
      r.2.mem ((c.tc : Thread Cert.ReferenceVIdeal.nD Cert.ReferenceVIdeal.τ).loc Cert.ReferenceVIdeal.main_arg0) = m ((c.tc : Thread Cert.ReferenceVIdeal.nD Cert.ReferenceVIdeal.τ).loc Cert.ReferenceVIdeal.main_arg0)
      ∧ r.2.mem ((c.tc : Thread Cert.ReferenceVIdeal.nD Cert.ReferenceVIdeal.τ).loc Cert.ReferenceVIdeal.main_arg1) = m ((c.tc : Thread Cert.ReferenceVIdeal.nD Cert.ReferenceVIdeal.τ).loc Cert.ReferenceVIdeal.main_arg1))
      ∧ r.2.sem = fun _ => 0)

def quiescent_KernelZ [hKernelZ : Cert.KernelZ.Facts] : Prop :=
  ∀ (m : (ℓ : Loc Cert.KernelZ.nD Cert.KernelZ.τ Cert.KernelZ.sig) → Buf (Elt Bits) ℓ) (g : Dev Cert.KernelZ.nD → PrngReg), Pre_KernelZ m →
    θ_run (Cert.KernelZ.defs (F := Bits)) (onTc (τ := Cert.KernelZ.τ) (Cert.KernelZ.main (F := Bits))) ⟨m, fun _ => 0, g⟩ (fun r => (∀ c : Dev Cert.KernelZ.nD,
      r.2.mem ((c.tc : Thread Cert.KernelZ.nD Cert.KernelZ.τ).loc Cert.KernelZ.main_arg0) = m ((c.tc : Thread Cert.KernelZ.nD Cert.KernelZ.τ).loc Cert.KernelZ.main_arg0)
      ∧ r.2.mem ((c.tc : Thread Cert.KernelZ.nD Cert.KernelZ.τ).loc Cert.KernelZ.main_arg1) = m ((c.tc : Thread Cert.KernelZ.nD Cert.KernelZ.τ).loc Cert.KernelZ.main_arg1))
      ∧ r.2.sem = fun _ => 0)

def quiescent_KernelZIdeal [hKernelZIdeal : Cert.KernelZIdeal.Facts] : Prop :=
  ∀ (m : (ℓ : Loc Cert.KernelZIdeal.nD Cert.KernelZIdeal.τ Cert.KernelZIdeal.sig) → Buf (Elt Ideal) ℓ) (g : Dev Cert.KernelZIdeal.nD → PrngReg), Pre_KernelZIdeal m →
    θ_run (Cert.KernelZIdeal.defs (F := Ideal)) (onTc (τ := Cert.KernelZIdeal.τ) (Cert.KernelZIdeal.main (F := Ideal))) ⟨m, fun _ => 0, g⟩ (fun r => (∀ c : Dev Cert.KernelZIdeal.nD,
      r.2.mem ((c.tc : Thread Cert.KernelZIdeal.nD Cert.KernelZIdeal.τ).loc Cert.KernelZIdeal.main_arg0) = m ((c.tc : Thread Cert.KernelZIdeal.nD Cert.KernelZIdeal.τ).loc Cert.KernelZIdeal.main_arg0)
      ∧ r.2.mem ((c.tc : Thread Cert.KernelZIdeal.nD Cert.KernelZIdeal.τ).loc Cert.KernelZIdeal.main_arg1) = m ((c.tc : Thread Cert.KernelZIdeal.nD Cert.KernelZIdeal.τ).loc Cert.KernelZIdeal.main_arg1))
      ∧ r.2.sem = fun _ => 0)

def quiescent_ReferenceZIdeal [hReferenceZIdeal : Cert.ReferenceZIdeal.Facts] : Prop :=
  ∀ (m : (ℓ : Loc Cert.ReferenceZIdeal.nD Cert.ReferenceZIdeal.τ Cert.ReferenceZIdeal.sig) → Buf (Elt Ideal) ℓ) (g : Dev Cert.ReferenceZIdeal.nD → PrngReg), Pre_ReferenceZIdeal m →
    θ_run (Cert.ReferenceZIdeal.defs (F := Ideal)) (onTc (τ := Cert.ReferenceZIdeal.τ) (Cert.ReferenceZIdeal.main (F := Ideal))) ⟨m, fun _ => 0, g⟩ (fun r => (∀ c : Dev Cert.ReferenceZIdeal.nD,
      r.2.mem ((c.tc : Thread Cert.ReferenceZIdeal.nD Cert.ReferenceZIdeal.τ).loc Cert.ReferenceZIdeal.main_arg0) = m ((c.tc : Thread Cert.ReferenceZIdeal.nD Cert.ReferenceZIdeal.τ).loc Cert.ReferenceZIdeal.main_arg0)
      ∧ r.2.mem ((c.tc : Thread Cert.ReferenceZIdeal.nD Cert.ReferenceZIdeal.τ).loc Cert.ReferenceZIdeal.main_arg1) = m ((c.tc : Thread Cert.ReferenceZIdeal.nD Cert.ReferenceZIdeal.τ).loc Cert.ReferenceZIdeal.main_arg1))
      ∧ r.2.sem = fun _ => 0)

def quiescent_KernelSK [hKernelSK : Cert.KernelSK.Facts] : Prop :=
  ∀ (m : (ℓ : Loc Cert.KernelSK.nD Cert.KernelSK.τ Cert.KernelSK.sig) → Buf (Elt Bits) ℓ) (g : Dev Cert.KernelSK.nD → PrngReg), Pre_KernelSK m →
    θ_run (Cert.KernelSK.defs (F := Bits)) (onTc (τ := Cert.KernelSK.τ) (Cert.KernelSK.main (F := Bits))) ⟨m, fun _ => 0, g⟩ (fun r => (∀ c : Dev Cert.KernelSK.nD,
      r.2.mem ((c.tc : Thread Cert.KernelSK.nD Cert.KernelSK.τ).loc Cert.KernelSK.main_arg0) = m ((c.tc : Thread Cert.KernelSK.nD Cert.KernelSK.τ).loc Cert.KernelSK.main_arg0)
      ∧ r.2.mem ((c.tc : Thread Cert.KernelSK.nD Cert.KernelSK.τ).loc Cert.KernelSK.main_arg1) = m ((c.tc : Thread Cert.KernelSK.nD Cert.KernelSK.τ).loc Cert.KernelSK.main_arg1))
      ∧ r.2.sem = fun _ => 0)

def quiescent_KernelSKIdeal [hKernelSKIdeal : Cert.KernelSKIdeal.Facts] : Prop :=
  ∀ (m : (ℓ : Loc Cert.KernelSKIdeal.nD Cert.KernelSKIdeal.τ Cert.KernelSKIdeal.sig) → Buf (Elt Ideal) ℓ) (g : Dev Cert.KernelSKIdeal.nD → PrngReg), Pre_KernelSKIdeal m →
    θ_run (Cert.KernelSKIdeal.defs (F := Ideal)) (onTc (τ := Cert.KernelSKIdeal.τ) (Cert.KernelSKIdeal.main (F := Ideal))) ⟨m, fun _ => 0, g⟩ (fun r => (∀ c : Dev Cert.KernelSKIdeal.nD,
      r.2.mem ((c.tc : Thread Cert.KernelSKIdeal.nD Cert.KernelSKIdeal.τ).loc Cert.KernelSKIdeal.main_arg0) = m ((c.tc : Thread Cert.KernelSKIdeal.nD Cert.KernelSKIdeal.τ).loc Cert.KernelSKIdeal.main_arg0)
      ∧ r.2.mem ((c.tc : Thread Cert.KernelSKIdeal.nD Cert.KernelSKIdeal.τ).loc Cert.KernelSKIdeal.main_arg1) = m ((c.tc : Thread Cert.KernelSKIdeal.nD Cert.KernelSKIdeal.τ).loc Cert.KernelSKIdeal.main_arg1))
      ∧ r.2.sem = fun _ => 0)

def quiescent_ReferenceSKIdeal [hReferenceSKIdeal : Cert.ReferenceSKIdeal.Facts] : Prop :=
  ∀ (m : (ℓ : Loc Cert.ReferenceSKIdeal.nD Cert.ReferenceSKIdeal.τ Cert.ReferenceSKIdeal.sig) → Buf (Elt Ideal) ℓ) (g : Dev Cert.ReferenceSKIdeal.nD → PrngReg), Pre_ReferenceSKIdeal m →
    θ_run (Cert.ReferenceSKIdeal.defs (F := Ideal)) (onTc (τ := Cert.ReferenceSKIdeal.τ) (Cert.ReferenceSKIdeal.main (F := Ideal))) ⟨m, fun _ => 0, g⟩ (fun r => (∀ c : Dev Cert.ReferenceSKIdeal.nD,
      r.2.mem ((c.tc : Thread Cert.ReferenceSKIdeal.nD Cert.ReferenceSKIdeal.τ).loc Cert.ReferenceSKIdeal.main_arg0) = m ((c.tc : Thread Cert.ReferenceSKIdeal.nD Cert.ReferenceSKIdeal.τ).loc Cert.ReferenceSKIdeal.main_arg0)
      ∧ r.2.mem ((c.tc : Thread Cert.ReferenceSKIdeal.nD Cert.ReferenceSKIdeal.τ).loc Cert.ReferenceSKIdeal.main_arg1) = m ((c.tc : Thread Cert.ReferenceSKIdeal.nD Cert.ReferenceSKIdeal.τ).loc Cert.ReferenceSKIdeal.main_arg1))
      ∧ r.2.sem = fun _ => 0)

def quiescent_KernelSV [hKernelSV : Cert.KernelSV.Facts] : Prop :=
  ∀ (m : (ℓ : Loc Cert.KernelSV.nD Cert.KernelSV.τ Cert.KernelSV.sig) → Buf (Elt Bits) ℓ) (g : Dev Cert.KernelSV.nD → PrngReg), Pre_KernelSV m →
    θ_run (Cert.KernelSV.defs (F := Bits)) (onTc (τ := Cert.KernelSV.τ) (Cert.KernelSV.main (F := Bits))) ⟨m, fun _ => 0, g⟩ (fun r => (∀ c : Dev Cert.KernelSV.nD,
      r.2.mem ((c.tc : Thread Cert.KernelSV.nD Cert.KernelSV.τ).loc Cert.KernelSV.main_arg0) = m ((c.tc : Thread Cert.KernelSV.nD Cert.KernelSV.τ).loc Cert.KernelSV.main_arg0)
      ∧ r.2.mem ((c.tc : Thread Cert.KernelSV.nD Cert.KernelSV.τ).loc Cert.KernelSV.main_arg1) = m ((c.tc : Thread Cert.KernelSV.nD Cert.KernelSV.τ).loc Cert.KernelSV.main_arg1))
      ∧ r.2.sem = fun _ => 0)

def quiescent_KernelSVIdeal [hKernelSVIdeal : Cert.KernelSVIdeal.Facts] : Prop :=
  ∀ (m : (ℓ : Loc Cert.KernelSVIdeal.nD Cert.KernelSVIdeal.τ Cert.KernelSVIdeal.sig) → Buf (Elt Ideal) ℓ) (g : Dev Cert.KernelSVIdeal.nD → PrngReg), Pre_KernelSVIdeal m →
    θ_run (Cert.KernelSVIdeal.defs (F := Ideal)) (onTc (τ := Cert.KernelSVIdeal.τ) (Cert.KernelSVIdeal.main (F := Ideal))) ⟨m, fun _ => 0, g⟩ (fun r => (∀ c : Dev Cert.KernelSVIdeal.nD,
      r.2.mem ((c.tc : Thread Cert.KernelSVIdeal.nD Cert.KernelSVIdeal.τ).loc Cert.KernelSVIdeal.main_arg0) = m ((c.tc : Thread Cert.KernelSVIdeal.nD Cert.KernelSVIdeal.τ).loc Cert.KernelSVIdeal.main_arg0)
      ∧ r.2.mem ((c.tc : Thread Cert.KernelSVIdeal.nD Cert.KernelSVIdeal.τ).loc Cert.KernelSVIdeal.main_arg1) = m ((c.tc : Thread Cert.KernelSVIdeal.nD Cert.KernelSVIdeal.τ).loc Cert.KernelSVIdeal.main_arg1))
      ∧ r.2.sem = fun _ => 0)

def quiescent_ReferenceSVIdeal [hReferenceSVIdeal : Cert.ReferenceSVIdeal.Facts] : Prop :=
  ∀ (m : (ℓ : Loc Cert.ReferenceSVIdeal.nD Cert.ReferenceSVIdeal.τ Cert.ReferenceSVIdeal.sig) → Buf (Elt Ideal) ℓ) (g : Dev Cert.ReferenceSVIdeal.nD → PrngReg), Pre_ReferenceSVIdeal m →
    θ_run (Cert.ReferenceSVIdeal.defs (F := Ideal)) (onTc (τ := Cert.ReferenceSVIdeal.τ) (Cert.ReferenceSVIdeal.main (F := Ideal))) ⟨m, fun _ => 0, g⟩ (fun r => (∀ c : Dev Cert.ReferenceSVIdeal.nD,
      r.2.mem ((c.tc : Thread Cert.ReferenceSVIdeal.nD Cert.ReferenceSVIdeal.τ).loc Cert.ReferenceSVIdeal.main_arg0) = m ((c.tc : Thread Cert.ReferenceSVIdeal.nD Cert.ReferenceSVIdeal.τ).loc Cert.ReferenceSVIdeal.main_arg0)
      ∧ r.2.mem ((c.tc : Thread Cert.ReferenceSVIdeal.nD Cert.ReferenceSVIdeal.τ).loc Cert.ReferenceSVIdeal.main_arg1) = m ((c.tc : Thread Cert.ReferenceSVIdeal.nD Cert.ReferenceSVIdeal.τ).loc Cert.ReferenceSVIdeal.main_arg1))
      ∧ r.2.sem = fun _ => 0)

def quiescent_KernelE [hKernelE : Cert.KernelE.Facts] [hPre_tables : Cert.Pre_tables.Facts] : Prop :=
  ∀ (m : (ℓ : Loc Cert.KernelE.nD Cert.KernelE.τ Cert.KernelE.sig) → Buf (Elt Bits) ℓ) (g : Dev Cert.KernelE.nD → PrngReg), Pre_KernelE m →
    θ_run (Cert.KernelE.defs (F := Bits)) (onTc (τ := Cert.KernelE.τ) (Cert.KernelE.main (F := Bits))) ⟨m, fun _ => 0, g⟩ (fun r => (∀ c : Dev Cert.KernelE.nD,
      r.2.mem ((c.tc : Thread Cert.KernelE.nD Cert.KernelE.τ).loc Cert.KernelE.main_arg0) = m ((c.tc : Thread Cert.KernelE.nD Cert.KernelE.τ).loc Cert.KernelE.main_arg0)
      ∧ r.2.mem ((c.tc : Thread Cert.KernelE.nD Cert.KernelE.τ).loc Cert.KernelE.main_arg1) = m ((c.tc : Thread Cert.KernelE.nD Cert.KernelE.τ).loc Cert.KernelE.main_arg1)
      ∧ r.2.mem ((c.tc : Thread Cert.KernelE.nD Cert.KernelE.τ).loc Cert.KernelE.main_arg2) = m ((c.tc : Thread Cert.KernelE.nD Cert.KernelE.τ).loc Cert.KernelE.main_arg2)
      ∧ r.2.mem ((c.tc : Thread Cert.KernelE.nD Cert.KernelE.τ).loc Cert.KernelE.main_arg3) = m ((c.tc : Thread Cert.KernelE.nD Cert.KernelE.τ).loc Cert.KernelE.main_arg3)
      ∧ r.2.mem ((c.tc : Thread Cert.KernelE.nD Cert.KernelE.τ).loc Cert.KernelE.main_arg4) = m ((c.tc : Thread Cert.KernelE.nD Cert.KernelE.τ).loc Cert.KernelE.main_arg4)
      ∧ r.2.mem ((c.tc : Thread Cert.KernelE.nD Cert.KernelE.τ).loc Cert.KernelE.main_arg5) = m ((c.tc : Thread Cert.KernelE.nD Cert.KernelE.τ).loc Cert.KernelE.main_arg5)
      ∧ r.2.mem ((c.tc : Thread Cert.KernelE.nD Cert.KernelE.τ).loc Cert.KernelE.main_arg6) = m ((c.tc : Thread Cert.KernelE.nD Cert.KernelE.τ).loc Cert.KernelE.main_arg6))
      ∧ r.2.sem = fun _ => 0)

def quiescent_KernelEIdeal [hKernelEIdeal : Cert.KernelEIdeal.Facts] [hPre_tables : Cert.Pre_tables.Facts] : Prop :=
  ∀ (m : (ℓ : Loc Cert.KernelEIdeal.nD Cert.KernelEIdeal.τ Cert.KernelEIdeal.sig) → Buf (Elt Ideal) ℓ) (g : Dev Cert.KernelEIdeal.nD → PrngReg), Pre_KernelEIdeal m →
    θ_run (Cert.KernelEIdeal.defs (F := Ideal)) (onTc (τ := Cert.KernelEIdeal.τ) (Cert.KernelEIdeal.main (F := Ideal))) ⟨m, fun _ => 0, g⟩ (fun r => (∀ c : Dev Cert.KernelEIdeal.nD,
      r.2.mem ((c.tc : Thread Cert.KernelEIdeal.nD Cert.KernelEIdeal.τ).loc Cert.KernelEIdeal.main_arg0) = m ((c.tc : Thread Cert.KernelEIdeal.nD Cert.KernelEIdeal.τ).loc Cert.KernelEIdeal.main_arg0)
      ∧ r.2.mem ((c.tc : Thread Cert.KernelEIdeal.nD Cert.KernelEIdeal.τ).loc Cert.KernelEIdeal.main_arg1) = m ((c.tc : Thread Cert.KernelEIdeal.nD Cert.KernelEIdeal.τ).loc Cert.KernelEIdeal.main_arg1)
      ∧ r.2.mem ((c.tc : Thread Cert.KernelEIdeal.nD Cert.KernelEIdeal.τ).loc Cert.KernelEIdeal.main_arg2) = m ((c.tc : Thread Cert.KernelEIdeal.nD Cert.KernelEIdeal.τ).loc Cert.KernelEIdeal.main_arg2)
      ∧ r.2.mem ((c.tc : Thread Cert.KernelEIdeal.nD Cert.KernelEIdeal.τ).loc Cert.KernelEIdeal.main_arg3) = m ((c.tc : Thread Cert.KernelEIdeal.nD Cert.KernelEIdeal.τ).loc Cert.KernelEIdeal.main_arg3)
      ∧ r.2.mem ((c.tc : Thread Cert.KernelEIdeal.nD Cert.KernelEIdeal.τ).loc Cert.KernelEIdeal.main_arg4) = m ((c.tc : Thread Cert.KernelEIdeal.nD Cert.KernelEIdeal.τ).loc Cert.KernelEIdeal.main_arg4)
      ∧ r.2.mem ((c.tc : Thread Cert.KernelEIdeal.nD Cert.KernelEIdeal.τ).loc Cert.KernelEIdeal.main_arg5) = m ((c.tc : Thread Cert.KernelEIdeal.nD Cert.KernelEIdeal.τ).loc Cert.KernelEIdeal.main_arg5)
      ∧ r.2.mem ((c.tc : Thread Cert.KernelEIdeal.nD Cert.KernelEIdeal.τ).loc Cert.KernelEIdeal.main_arg6) = m ((c.tc : Thread Cert.KernelEIdeal.nD Cert.KernelEIdeal.τ).loc Cert.KernelEIdeal.main_arg6))
      ∧ r.2.sem = fun _ => 0)

def quiescent_ReferenceEIdeal [hReferenceEIdeal : Cert.ReferenceEIdeal.Facts] : Prop :=
  ∀ (m : (ℓ : Loc Cert.ReferenceEIdeal.nD Cert.ReferenceEIdeal.τ Cert.ReferenceEIdeal.sig) → Buf (Elt Ideal) ℓ) (g : Dev Cert.ReferenceEIdeal.nD → PrngReg), Pre_ReferenceEIdeal m →
    θ_run (Cert.ReferenceEIdeal.defs (F := Ideal)) (onTc (τ := Cert.ReferenceEIdeal.τ) (Cert.ReferenceEIdeal.main (F := Ideal))) ⟨m, fun _ => 0, g⟩ (fun r => (∀ c : Dev Cert.ReferenceEIdeal.nD,
      r.2.mem ((c.tc : Thread Cert.ReferenceEIdeal.nD Cert.ReferenceEIdeal.τ).loc Cert.ReferenceEIdeal.main_arg0) = m ((c.tc : Thread Cert.ReferenceEIdeal.nD Cert.ReferenceEIdeal.τ).loc Cert.ReferenceEIdeal.main_arg0)
      ∧ r.2.mem ((c.tc : Thread Cert.ReferenceEIdeal.nD Cert.ReferenceEIdeal.τ).loc Cert.ReferenceEIdeal.main_arg1) = m ((c.tc : Thread Cert.ReferenceEIdeal.nD Cert.ReferenceEIdeal.τ).loc Cert.ReferenceEIdeal.main_arg1)
      ∧ r.2.mem ((c.tc : Thread Cert.ReferenceEIdeal.nD Cert.ReferenceEIdeal.τ).loc Cert.ReferenceEIdeal.main_arg2) = m ((c.tc : Thread Cert.ReferenceEIdeal.nD Cert.ReferenceEIdeal.τ).loc Cert.ReferenceEIdeal.main_arg2)
      ∧ r.2.mem ((c.tc : Thread Cert.ReferenceEIdeal.nD Cert.ReferenceEIdeal.τ).loc Cert.ReferenceEIdeal.main_arg3) = m ((c.tc : Thread Cert.ReferenceEIdeal.nD Cert.ReferenceEIdeal.τ).loc Cert.ReferenceEIdeal.main_arg3)
      ∧ r.2.mem ((c.tc : Thread Cert.ReferenceEIdeal.nD Cert.ReferenceEIdeal.τ).loc Cert.ReferenceEIdeal.main_arg4) = m ((c.tc : Thread Cert.ReferenceEIdeal.nD Cert.ReferenceEIdeal.τ).loc Cert.ReferenceEIdeal.main_arg4)
      ∧ r.2.mem ((c.tc : Thread Cert.ReferenceEIdeal.nD Cert.ReferenceEIdeal.τ).loc Cert.ReferenceEIdeal.main_arg5) = m ((c.tc : Thread Cert.ReferenceEIdeal.nD Cert.ReferenceEIdeal.τ).loc Cert.ReferenceEIdeal.main_arg5)
      ∧ r.2.mem ((c.tc : Thread Cert.ReferenceEIdeal.nD Cert.ReferenceEIdeal.τ).loc Cert.ReferenceEIdeal.main_arg6) = m ((c.tc : Thread Cert.ReferenceEIdeal.nD Cert.ReferenceEIdeal.τ).loc Cert.ReferenceEIdeal.main_arg6))
      ∧ r.2.sem = fun _ => 0)

def quiescent_ReferenceEIdeal_pre_tables [hReferenceEIdeal : Cert.ReferenceEIdeal.Facts] [hPre_tables : Cert.Pre_tables.Facts] : Prop :=
  ∀ (m : (ℓ : Loc Cert.ReferenceEIdeal.nD Cert.ReferenceEIdeal.τ Cert.ReferenceEIdeal.sig) → Buf (Elt Ideal) ℓ) (g : Dev Cert.ReferenceEIdeal.nD → PrngReg), Pre_ReferenceEIdeal_tables m →
    θ_run (Cert.ReferenceEIdeal.defs (F := Ideal)) (onTc (τ := Cert.ReferenceEIdeal.τ) (Cert.ReferenceEIdeal.main (F := Ideal))) ⟨m, fun _ => 0, g⟩ (fun r => (∀ c : Dev Cert.ReferenceEIdeal.nD,
      r.2.mem ((c.tc : Thread Cert.ReferenceEIdeal.nD Cert.ReferenceEIdeal.τ).loc Cert.ReferenceEIdeal.main_arg0) = m ((c.tc : Thread Cert.ReferenceEIdeal.nD Cert.ReferenceEIdeal.τ).loc Cert.ReferenceEIdeal.main_arg0)
      ∧ r.2.mem ((c.tc : Thread Cert.ReferenceEIdeal.nD Cert.ReferenceEIdeal.τ).loc Cert.ReferenceEIdeal.main_arg1) = m ((c.tc : Thread Cert.ReferenceEIdeal.nD Cert.ReferenceEIdeal.τ).loc Cert.ReferenceEIdeal.main_arg1)
      ∧ r.2.mem ((c.tc : Thread Cert.ReferenceEIdeal.nD Cert.ReferenceEIdeal.τ).loc Cert.ReferenceEIdeal.main_arg2) = m ((c.tc : Thread Cert.ReferenceEIdeal.nD Cert.ReferenceEIdeal.τ).loc Cert.ReferenceEIdeal.main_arg2)
      ∧ r.2.mem ((c.tc : Thread Cert.ReferenceEIdeal.nD Cert.ReferenceEIdeal.τ).loc Cert.ReferenceEIdeal.main_arg3) = m ((c.tc : Thread Cert.ReferenceEIdeal.nD Cert.ReferenceEIdeal.τ).loc Cert.ReferenceEIdeal.main_arg3)
      ∧ r.2.mem ((c.tc : Thread Cert.ReferenceEIdeal.nD Cert.ReferenceEIdeal.τ).loc Cert.ReferenceEIdeal.main_arg4) = m ((c.tc : Thread Cert.ReferenceEIdeal.nD Cert.ReferenceEIdeal.τ).loc Cert.ReferenceEIdeal.main_arg4)
      ∧ r.2.mem ((c.tc : Thread Cert.ReferenceEIdeal.nD Cert.ReferenceEIdeal.τ).loc Cert.ReferenceEIdeal.main_arg5) = m ((c.tc : Thread Cert.ReferenceEIdeal.nD Cert.ReferenceEIdeal.τ).loc Cert.ReferenceEIdeal.main_arg5)
      ∧ r.2.mem ((c.tc : Thread Cert.ReferenceEIdeal.nD Cert.ReferenceEIdeal.τ).loc Cert.ReferenceEIdeal.main_arg6) = m ((c.tc : Thread Cert.ReferenceEIdeal.nD Cert.ReferenceEIdeal.τ).loc Cert.ReferenceEIdeal.main_arg6))
      ∧ r.2.sem = fun _ => 0)

def preserves_Kernel_KernelIdeal : Prop :=
  True

def algebraic_KernelIdeal_ReferenceIdeal_pre_finite_inputs [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_inputs m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v79) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def preserves_KernelQ_KernelQIdeal : Prop :=
  True

def algebraic_KernelQIdeal_ReferenceQIdeal [hKernelQIdeal : Cert.KernelQIdeal.Facts] [hReferenceQIdeal : Cert.ReferenceQIdeal.Facts] : Prop :=
  ∀ (m : (ℓ : Loc Cert.KernelQIdeal.nD Cert.KernelQIdeal.τ Cert.KernelQIdeal.sig) → Buf (Elt Ideal) ℓ) (g : Dev Cert.KernelQIdeal.nD → PrngReg)
    (m' : (ℓ : Loc Cert.ReferenceQIdeal.nD Cert.ReferenceQIdeal.τ Cert.ReferenceQIdeal.sig) → Buf (Elt Ideal) ℓ) (g' : Dev Cert.ReferenceQIdeal.nD → PrngReg), Pre_KernelQIdeal m →
    (∀ c : Dev Cert.KernelQIdeal.nD,
      m' ((c.tc : Thread Cert.ReferenceQIdeal.nD Cert.ReferenceQIdeal.τ).loc Cert.ReferenceQIdeal.main_arg0) = m ((c.tc : Thread Cert.KernelQIdeal.nD Cert.KernelQIdeal.τ).loc Cert.KernelQIdeal.main_arg0)
      ∧ m' ((c.tc : Thread Cert.ReferenceQIdeal.nD Cert.ReferenceQIdeal.τ).loc Cert.ReferenceQIdeal.main_arg1) = m ((c.tc : Thread Cert.KernelQIdeal.nD Cert.KernelQIdeal.τ).loc Cert.KernelQIdeal.main_arg1)) →
    ∃ (v0 : (c : Dev Cert.KernelQIdeal.nD) → Buf (Elt Ideal) ((c.tc : Thread Cert.KernelQIdeal.nD Cert.KernelQIdeal.τ).loc Cert.KernelQIdeal.main_v0)),
      θ_run (Cert.KernelQIdeal.defs (F := Ideal)) (onTc (τ := Cert.KernelQIdeal.τ) (Cert.KernelQIdeal.main (F := Ideal))) ⟨m, fun _ => 0, g⟩ (fun r => ∀ c : Dev Cert.KernelQIdeal.nD,
          r.2.mem ((c.tc : Thread Cert.KernelQIdeal.nD Cert.KernelQIdeal.τ).loc Cert.KernelQIdeal.main_v0) = v0 c
          ∧ r.2.mem ((c.tc : Thread Cert.KernelQIdeal.nD Cert.KernelQIdeal.τ).loc Cert.KernelQIdeal.main_arg0) = m ((c.tc : Thread Cert.KernelQIdeal.nD Cert.KernelQIdeal.τ).loc Cert.KernelQIdeal.main_arg0)
          ∧ r.2.mem ((c.tc : Thread Cert.KernelQIdeal.nD Cert.KernelQIdeal.τ).loc Cert.KernelQIdeal.main_arg1) = m ((c.tc : Thread Cert.KernelQIdeal.nD Cert.KernelQIdeal.τ).loc Cert.KernelQIdeal.main_arg1))
      ∧ θ_run (Cert.ReferenceQIdeal.defs (F := Ideal)) (onTc (τ := Cert.ReferenceQIdeal.τ) (Cert.ReferenceQIdeal.main (F := Ideal))) ⟨m', fun _ => 0, g'⟩ (fun r => ∀ c : Dev Cert.ReferenceQIdeal.nD,
          r.2.mem ((c.tc : Thread Cert.ReferenceQIdeal.nD Cert.ReferenceQIdeal.τ).loc Cert.ReferenceQIdeal.main_v3) = v0 c
          ∧ r.2.mem ((c.tc : Thread Cert.ReferenceQIdeal.nD Cert.ReferenceQIdeal.τ).loc Cert.ReferenceQIdeal.main_arg0) = m' ((c.tc : Thread Cert.ReferenceQIdeal.nD Cert.ReferenceQIdeal.τ).loc Cert.ReferenceQIdeal.main_arg0)
          ∧ r.2.mem ((c.tc : Thread Cert.ReferenceQIdeal.nD Cert.ReferenceQIdeal.τ).loc Cert.ReferenceQIdeal.main_arg1) = m' ((c.tc : Thread Cert.ReferenceQIdeal.nD Cert.ReferenceQIdeal.τ).loc Cert.ReferenceQIdeal.main_arg1))

def preserves_KernelK_KernelKIdeal : Prop :=
  True

def algebraic_KernelKIdeal_ReferenceKIdeal [hKernelKIdeal : Cert.KernelKIdeal.Facts] [hReferenceKIdeal : Cert.ReferenceKIdeal.Facts] : Prop :=
  ∀ (m : (ℓ : Loc Cert.KernelKIdeal.nD Cert.KernelKIdeal.τ Cert.KernelKIdeal.sig) → Buf (Elt Ideal) ℓ) (g : Dev Cert.KernelKIdeal.nD → PrngReg)
    (m' : (ℓ : Loc Cert.ReferenceKIdeal.nD Cert.ReferenceKIdeal.τ Cert.ReferenceKIdeal.sig) → Buf (Elt Ideal) ℓ) (g' : Dev Cert.ReferenceKIdeal.nD → PrngReg), Pre_KernelKIdeal m →
    (∀ c : Dev Cert.KernelKIdeal.nD,
      m' ((c.tc : Thread Cert.ReferenceKIdeal.nD Cert.ReferenceKIdeal.τ).loc Cert.ReferenceKIdeal.main_arg0) = m ((c.tc : Thread Cert.KernelKIdeal.nD Cert.KernelKIdeal.τ).loc Cert.KernelKIdeal.main_arg0)
      ∧ m' ((c.tc : Thread Cert.ReferenceKIdeal.nD Cert.ReferenceKIdeal.τ).loc Cert.ReferenceKIdeal.main_arg1) = m ((c.tc : Thread Cert.KernelKIdeal.nD Cert.KernelKIdeal.τ).loc Cert.KernelKIdeal.main_arg1)) →
    ∃ (v0 : (c : Dev Cert.KernelKIdeal.nD) → Buf (Elt Ideal) ((c.tc : Thread Cert.KernelKIdeal.nD Cert.KernelKIdeal.τ).loc Cert.KernelKIdeal.main_v0_0)) (v1 : (c : Dev Cert.KernelKIdeal.nD) → Buf (Elt Ideal) ((c.tc : Thread Cert.KernelKIdeal.nD Cert.KernelKIdeal.τ).loc Cert.KernelKIdeal.main_v0_1)),
      θ_run (Cert.KernelKIdeal.defs (F := Ideal)) (onTc (τ := Cert.KernelKIdeal.τ) (Cert.KernelKIdeal.main (F := Ideal))) ⟨m, fun _ => 0, g⟩ (fun r => ∀ c : Dev Cert.KernelKIdeal.nD,
          r.2.mem ((c.tc : Thread Cert.KernelKIdeal.nD Cert.KernelKIdeal.τ).loc Cert.KernelKIdeal.main_v0_0) = v0 c
          ∧ r.2.mem ((c.tc : Thread Cert.KernelKIdeal.nD Cert.KernelKIdeal.τ).loc Cert.KernelKIdeal.main_v0_1) = v1 c
          ∧ r.2.mem ((c.tc : Thread Cert.KernelKIdeal.nD Cert.KernelKIdeal.τ).loc Cert.KernelKIdeal.main_arg0) = m ((c.tc : Thread Cert.KernelKIdeal.nD Cert.KernelKIdeal.τ).loc Cert.KernelKIdeal.main_arg0)
          ∧ r.2.mem ((c.tc : Thread Cert.KernelKIdeal.nD Cert.KernelKIdeal.τ).loc Cert.KernelKIdeal.main_arg1) = m ((c.tc : Thread Cert.KernelKIdeal.nD Cert.KernelKIdeal.τ).loc Cert.KernelKIdeal.main_arg1))
      ∧ θ_run (Cert.ReferenceKIdeal.defs (F := Ideal)) (onTc (τ := Cert.ReferenceKIdeal.τ) (Cert.ReferenceKIdeal.main (F := Ideal))) ⟨m', fun _ => 0, g'⟩ (fun r => ∀ c : Dev Cert.ReferenceKIdeal.nD,
          r.2.mem ((c.tc : Thread Cert.ReferenceKIdeal.nD Cert.ReferenceKIdeal.τ).loc Cert.ReferenceKIdeal.main_v2) = v0 c
          ∧ r.2.mem ((c.tc : Thread Cert.ReferenceKIdeal.nD Cert.ReferenceKIdeal.τ).loc Cert.ReferenceKIdeal.main_v3) = v1 c
          ∧ r.2.mem ((c.tc : Thread Cert.ReferenceKIdeal.nD Cert.ReferenceKIdeal.τ).loc Cert.ReferenceKIdeal.main_arg0) = m' ((c.tc : Thread Cert.ReferenceKIdeal.nD Cert.ReferenceKIdeal.τ).loc Cert.ReferenceKIdeal.main_arg0)
          ∧ r.2.mem ((c.tc : Thread Cert.ReferenceKIdeal.nD Cert.ReferenceKIdeal.τ).loc Cert.ReferenceKIdeal.main_arg1) = m' ((c.tc : Thread Cert.ReferenceKIdeal.nD Cert.ReferenceKIdeal.τ).loc Cert.ReferenceKIdeal.main_arg1))

def preserves_KernelV_KernelVIdeal : Prop :=
  True

def algebraic_KernelVIdeal_ReferenceVIdeal [hKernelVIdeal : Cert.KernelVIdeal.Facts] [hReferenceVIdeal : Cert.ReferenceVIdeal.Facts] : Prop :=
  ∀ (m : (ℓ : Loc Cert.KernelVIdeal.nD Cert.KernelVIdeal.τ Cert.KernelVIdeal.sig) → Buf (Elt Ideal) ℓ) (g : Dev Cert.KernelVIdeal.nD → PrngReg)
    (m' : (ℓ : Loc Cert.ReferenceVIdeal.nD Cert.ReferenceVIdeal.τ Cert.ReferenceVIdeal.sig) → Buf (Elt Ideal) ℓ) (g' : Dev Cert.ReferenceVIdeal.nD → PrngReg), Pre_KernelVIdeal m →
    (∀ c : Dev Cert.KernelVIdeal.nD,
      m' ((c.tc : Thread Cert.ReferenceVIdeal.nD Cert.ReferenceVIdeal.τ).loc Cert.ReferenceVIdeal.main_arg0) = m ((c.tc : Thread Cert.KernelVIdeal.nD Cert.KernelVIdeal.τ).loc Cert.KernelVIdeal.main_arg0)
      ∧ m' ((c.tc : Thread Cert.ReferenceVIdeal.nD Cert.ReferenceVIdeal.τ).loc Cert.ReferenceVIdeal.main_arg1) = m ((c.tc : Thread Cert.KernelVIdeal.nD Cert.KernelVIdeal.τ).loc Cert.KernelVIdeal.main_arg1)) →
    ∃ (v0 : (c : Dev Cert.KernelVIdeal.nD) → Buf (Elt Ideal) ((c.tc : Thread Cert.KernelVIdeal.nD Cert.KernelVIdeal.τ).loc Cert.KernelVIdeal.main_v0_0)) (v1 : (c : Dev Cert.KernelVIdeal.nD) → Buf (Elt Ideal) ((c.tc : Thread Cert.KernelVIdeal.nD Cert.KernelVIdeal.τ).loc Cert.KernelVIdeal.main_v0_1)),
      θ_run (Cert.KernelVIdeal.defs (F := Ideal)) (onTc (τ := Cert.KernelVIdeal.τ) (Cert.KernelVIdeal.main (F := Ideal))) ⟨m, fun _ => 0, g⟩ (fun r => ∀ c : Dev Cert.KernelVIdeal.nD,
          r.2.mem ((c.tc : Thread Cert.KernelVIdeal.nD Cert.KernelVIdeal.τ).loc Cert.KernelVIdeal.main_v0_0) = v0 c
          ∧ r.2.mem ((c.tc : Thread Cert.KernelVIdeal.nD Cert.KernelVIdeal.τ).loc Cert.KernelVIdeal.main_v0_1) = v1 c
          ∧ r.2.mem ((c.tc : Thread Cert.KernelVIdeal.nD Cert.KernelVIdeal.τ).loc Cert.KernelVIdeal.main_arg0) = m ((c.tc : Thread Cert.KernelVIdeal.nD Cert.KernelVIdeal.τ).loc Cert.KernelVIdeal.main_arg0)
          ∧ r.2.mem ((c.tc : Thread Cert.KernelVIdeal.nD Cert.KernelVIdeal.τ).loc Cert.KernelVIdeal.main_arg1) = m ((c.tc : Thread Cert.KernelVIdeal.nD Cert.KernelVIdeal.τ).loc Cert.KernelVIdeal.main_arg1))
      ∧ θ_run (Cert.ReferenceVIdeal.defs (F := Ideal)) (onTc (τ := Cert.ReferenceVIdeal.τ) (Cert.ReferenceVIdeal.main (F := Ideal))) ⟨m', fun _ => 0, g'⟩ (fun r => ∀ c : Dev Cert.ReferenceVIdeal.nD,
          r.2.mem ((c.tc : Thread Cert.ReferenceVIdeal.nD Cert.ReferenceVIdeal.τ).loc Cert.ReferenceVIdeal.main_v2) = v0 c
          ∧ r.2.mem ((c.tc : Thread Cert.ReferenceVIdeal.nD Cert.ReferenceVIdeal.τ).loc Cert.ReferenceVIdeal.main_v3) = v1 c
          ∧ r.2.mem ((c.tc : Thread Cert.ReferenceVIdeal.nD Cert.ReferenceVIdeal.τ).loc Cert.ReferenceVIdeal.main_arg0) = m' ((c.tc : Thread Cert.ReferenceVIdeal.nD Cert.ReferenceVIdeal.τ).loc Cert.ReferenceVIdeal.main_arg0)
          ∧ r.2.mem ((c.tc : Thread Cert.ReferenceVIdeal.nD Cert.ReferenceVIdeal.τ).loc Cert.ReferenceVIdeal.main_arg1) = m' ((c.tc : Thread Cert.ReferenceVIdeal.nD Cert.ReferenceVIdeal.τ).loc Cert.ReferenceVIdeal.main_arg1))

def preserves_KernelZ_KernelZIdeal : Prop :=
  True

def algebraic_KernelZIdeal_ReferenceZIdeal [hKernelZIdeal : Cert.KernelZIdeal.Facts] [hReferenceZIdeal : Cert.ReferenceZIdeal.Facts] : Prop :=
  ∀ (m : (ℓ : Loc Cert.KernelZIdeal.nD Cert.KernelZIdeal.τ Cert.KernelZIdeal.sig) → Buf (Elt Ideal) ℓ) (g : Dev Cert.KernelZIdeal.nD → PrngReg)
    (m' : (ℓ : Loc Cert.ReferenceZIdeal.nD Cert.ReferenceZIdeal.τ Cert.ReferenceZIdeal.sig) → Buf (Elt Ideal) ℓ) (g' : Dev Cert.ReferenceZIdeal.nD → PrngReg), Pre_KernelZIdeal m →
    (∀ c : Dev Cert.KernelZIdeal.nD,
      m' ((c.tc : Thread Cert.ReferenceZIdeal.nD Cert.ReferenceZIdeal.τ).loc Cert.ReferenceZIdeal.main_arg0) = m ((c.tc : Thread Cert.KernelZIdeal.nD Cert.KernelZIdeal.τ).loc Cert.KernelZIdeal.main_arg0)
      ∧ m' ((c.tc : Thread Cert.ReferenceZIdeal.nD Cert.ReferenceZIdeal.τ).loc Cert.ReferenceZIdeal.main_arg1) = m ((c.tc : Thread Cert.KernelZIdeal.nD Cert.KernelZIdeal.τ).loc Cert.KernelZIdeal.main_arg1)) →
    ∃ (v0 : (c : Dev Cert.KernelZIdeal.nD) → Buf (Elt Ideal) ((c.tc : Thread Cert.KernelZIdeal.nD Cert.KernelZIdeal.τ).loc Cert.KernelZIdeal.main_v0)),
      θ_run (Cert.KernelZIdeal.defs (F := Ideal)) (onTc (τ := Cert.KernelZIdeal.τ) (Cert.KernelZIdeal.main (F := Ideal))) ⟨m, fun _ => 0, g⟩ (fun r => ∀ c : Dev Cert.KernelZIdeal.nD,
          r.2.mem ((c.tc : Thread Cert.KernelZIdeal.nD Cert.KernelZIdeal.τ).loc Cert.KernelZIdeal.main_v0) = v0 c
          ∧ r.2.mem ((c.tc : Thread Cert.KernelZIdeal.nD Cert.KernelZIdeal.τ).loc Cert.KernelZIdeal.main_arg0) = m ((c.tc : Thread Cert.KernelZIdeal.nD Cert.KernelZIdeal.τ).loc Cert.KernelZIdeal.main_arg0)
          ∧ r.2.mem ((c.tc : Thread Cert.KernelZIdeal.nD Cert.KernelZIdeal.τ).loc Cert.KernelZIdeal.main_arg1) = m ((c.tc : Thread Cert.KernelZIdeal.nD Cert.KernelZIdeal.τ).loc Cert.KernelZIdeal.main_arg1))
      ∧ θ_run (Cert.ReferenceZIdeal.defs (F := Ideal)) (onTc (τ := Cert.ReferenceZIdeal.τ) (Cert.ReferenceZIdeal.main (F := Ideal))) ⟨m', fun _ => 0, g'⟩ (fun r => ∀ c : Dev Cert.ReferenceZIdeal.nD,
          r.2.mem ((c.tc : Thread Cert.ReferenceZIdeal.nD Cert.ReferenceZIdeal.τ).loc Cert.ReferenceZIdeal.main_v3) = v0 c
          ∧ r.2.mem ((c.tc : Thread Cert.ReferenceZIdeal.nD Cert.ReferenceZIdeal.τ).loc Cert.ReferenceZIdeal.main_arg0) = m' ((c.tc : Thread Cert.ReferenceZIdeal.nD Cert.ReferenceZIdeal.τ).loc Cert.ReferenceZIdeal.main_arg0)
          ∧ r.2.mem ((c.tc : Thread Cert.ReferenceZIdeal.nD Cert.ReferenceZIdeal.τ).loc Cert.ReferenceZIdeal.main_arg1) = m' ((c.tc : Thread Cert.ReferenceZIdeal.nD Cert.ReferenceZIdeal.τ).loc Cert.ReferenceZIdeal.main_arg1))

def preserves_KernelSK_KernelSKIdeal : Prop :=
  True

def algebraic_KernelSKIdeal_ReferenceSKIdeal [hKernelSKIdeal : Cert.KernelSKIdeal.Facts] [hReferenceSKIdeal : Cert.ReferenceSKIdeal.Facts] : Prop :=
  ∀ (m : (ℓ : Loc Cert.KernelSKIdeal.nD Cert.KernelSKIdeal.τ Cert.KernelSKIdeal.sig) → Buf (Elt Ideal) ℓ) (g : Dev Cert.KernelSKIdeal.nD → PrngReg)
    (m' : (ℓ : Loc Cert.ReferenceSKIdeal.nD Cert.ReferenceSKIdeal.τ Cert.ReferenceSKIdeal.sig) → Buf (Elt Ideal) ℓ) (g' : Dev Cert.ReferenceSKIdeal.nD → PrngReg), Pre_KernelSKIdeal m →
    (∀ c : Dev Cert.KernelSKIdeal.nD,
      m' ((c.tc : Thread Cert.ReferenceSKIdeal.nD Cert.ReferenceSKIdeal.τ).loc Cert.ReferenceSKIdeal.main_arg0) = m ((c.tc : Thread Cert.KernelSKIdeal.nD Cert.KernelSKIdeal.τ).loc Cert.KernelSKIdeal.main_arg0)
      ∧ m' ((c.tc : Thread Cert.ReferenceSKIdeal.nD Cert.ReferenceSKIdeal.τ).loc Cert.ReferenceSKIdeal.main_arg1) = m ((c.tc : Thread Cert.KernelSKIdeal.nD Cert.KernelSKIdeal.τ).loc Cert.KernelSKIdeal.main_arg1)) →
    ∃ (v0 : (c : Dev Cert.KernelSKIdeal.nD) → Buf (Elt Ideal) ((c.tc : Thread Cert.KernelSKIdeal.nD Cert.KernelSKIdeal.τ).loc Cert.KernelSKIdeal.main_v0_0)) (v1 : (c : Dev Cert.KernelSKIdeal.nD) → Buf (Elt Ideal) ((c.tc : Thread Cert.KernelSKIdeal.nD Cert.KernelSKIdeal.τ).loc Cert.KernelSKIdeal.main_v0_1)),
      θ_run (Cert.KernelSKIdeal.defs (F := Ideal)) (onTc (τ := Cert.KernelSKIdeal.τ) (Cert.KernelSKIdeal.main (F := Ideal))) ⟨m, fun _ => 0, g⟩ (fun r => ∀ c : Dev Cert.KernelSKIdeal.nD,
          r.2.mem ((c.tc : Thread Cert.KernelSKIdeal.nD Cert.KernelSKIdeal.τ).loc Cert.KernelSKIdeal.main_v0_0) = v0 c
          ∧ r.2.mem ((c.tc : Thread Cert.KernelSKIdeal.nD Cert.KernelSKIdeal.τ).loc Cert.KernelSKIdeal.main_v0_1) = v1 c
          ∧ r.2.mem ((c.tc : Thread Cert.KernelSKIdeal.nD Cert.KernelSKIdeal.τ).loc Cert.KernelSKIdeal.main_arg0) = m ((c.tc : Thread Cert.KernelSKIdeal.nD Cert.KernelSKIdeal.τ).loc Cert.KernelSKIdeal.main_arg0)
          ∧ r.2.mem ((c.tc : Thread Cert.KernelSKIdeal.nD Cert.KernelSKIdeal.τ).loc Cert.KernelSKIdeal.main_arg1) = m ((c.tc : Thread Cert.KernelSKIdeal.nD Cert.KernelSKIdeal.τ).loc Cert.KernelSKIdeal.main_arg1))
      ∧ θ_run (Cert.ReferenceSKIdeal.defs (F := Ideal)) (onTc (τ := Cert.ReferenceSKIdeal.τ) (Cert.ReferenceSKIdeal.main (F := Ideal))) ⟨m', fun _ => 0, g'⟩ (fun r => ∀ c : Dev Cert.ReferenceSKIdeal.nD,
          r.2.mem ((c.tc : Thread Cert.ReferenceSKIdeal.nD Cert.ReferenceSKIdeal.τ).loc Cert.ReferenceSKIdeal.main_v2) = v0 c
          ∧ r.2.mem ((c.tc : Thread Cert.ReferenceSKIdeal.nD Cert.ReferenceSKIdeal.τ).loc Cert.ReferenceSKIdeal.main_v3) = v1 c
          ∧ r.2.mem ((c.tc : Thread Cert.ReferenceSKIdeal.nD Cert.ReferenceSKIdeal.τ).loc Cert.ReferenceSKIdeal.main_arg0) = m' ((c.tc : Thread Cert.ReferenceSKIdeal.nD Cert.ReferenceSKIdeal.τ).loc Cert.ReferenceSKIdeal.main_arg0)
          ∧ r.2.mem ((c.tc : Thread Cert.ReferenceSKIdeal.nD Cert.ReferenceSKIdeal.τ).loc Cert.ReferenceSKIdeal.main_arg1) = m' ((c.tc : Thread Cert.ReferenceSKIdeal.nD Cert.ReferenceSKIdeal.τ).loc Cert.ReferenceSKIdeal.main_arg1))

def preserves_KernelSV_KernelSVIdeal : Prop :=
  True

def algebraic_KernelSVIdeal_ReferenceSVIdeal [hKernelSVIdeal : Cert.KernelSVIdeal.Facts] [hReferenceSVIdeal : Cert.ReferenceSVIdeal.Facts] : Prop :=
  ∀ (m : (ℓ : Loc Cert.KernelSVIdeal.nD Cert.KernelSVIdeal.τ Cert.KernelSVIdeal.sig) → Buf (Elt Ideal) ℓ) (g : Dev Cert.KernelSVIdeal.nD → PrngReg)
    (m' : (ℓ : Loc Cert.ReferenceSVIdeal.nD Cert.ReferenceSVIdeal.τ Cert.ReferenceSVIdeal.sig) → Buf (Elt Ideal) ℓ) (g' : Dev Cert.ReferenceSVIdeal.nD → PrngReg), Pre_KernelSVIdeal m →
    (∀ c : Dev Cert.KernelSVIdeal.nD,
      m' ((c.tc : Thread Cert.ReferenceSVIdeal.nD Cert.ReferenceSVIdeal.τ).loc Cert.ReferenceSVIdeal.main_arg0) = m ((c.tc : Thread Cert.KernelSVIdeal.nD Cert.KernelSVIdeal.τ).loc Cert.KernelSVIdeal.main_arg0)
      ∧ m' ((c.tc : Thread Cert.ReferenceSVIdeal.nD Cert.ReferenceSVIdeal.τ).loc Cert.ReferenceSVIdeal.main_arg1) = m ((c.tc : Thread Cert.KernelSVIdeal.nD Cert.KernelSVIdeal.τ).loc Cert.KernelSVIdeal.main_arg1)) →
    ∃ (v0 : (c : Dev Cert.KernelSVIdeal.nD) → Buf (Elt Ideal) ((c.tc : Thread Cert.KernelSVIdeal.nD Cert.KernelSVIdeal.τ).loc Cert.KernelSVIdeal.main_v0_0)) (v1 : (c : Dev Cert.KernelSVIdeal.nD) → Buf (Elt Ideal) ((c.tc : Thread Cert.KernelSVIdeal.nD Cert.KernelSVIdeal.τ).loc Cert.KernelSVIdeal.main_v0_1)),
      θ_run (Cert.KernelSVIdeal.defs (F := Ideal)) (onTc (τ := Cert.KernelSVIdeal.τ) (Cert.KernelSVIdeal.main (F := Ideal))) ⟨m, fun _ => 0, g⟩ (fun r => ∀ c : Dev Cert.KernelSVIdeal.nD,
          r.2.mem ((c.tc : Thread Cert.KernelSVIdeal.nD Cert.KernelSVIdeal.τ).loc Cert.KernelSVIdeal.main_v0_0) = v0 c
          ∧ r.2.mem ((c.tc : Thread Cert.KernelSVIdeal.nD Cert.KernelSVIdeal.τ).loc Cert.KernelSVIdeal.main_v0_1) = v1 c
          ∧ r.2.mem ((c.tc : Thread Cert.KernelSVIdeal.nD Cert.KernelSVIdeal.τ).loc Cert.KernelSVIdeal.main_arg0) = m ((c.tc : Thread Cert.KernelSVIdeal.nD Cert.KernelSVIdeal.τ).loc Cert.KernelSVIdeal.main_arg0)
          ∧ r.2.mem ((c.tc : Thread Cert.KernelSVIdeal.nD Cert.KernelSVIdeal.τ).loc Cert.KernelSVIdeal.main_arg1) = m ((c.tc : Thread Cert.KernelSVIdeal.nD Cert.KernelSVIdeal.τ).loc Cert.KernelSVIdeal.main_arg1))
      ∧ θ_run (Cert.ReferenceSVIdeal.defs (F := Ideal)) (onTc (τ := Cert.ReferenceSVIdeal.τ) (Cert.ReferenceSVIdeal.main (F := Ideal))) ⟨m', fun _ => 0, g'⟩ (fun r => ∀ c : Dev Cert.ReferenceSVIdeal.nD,
          r.2.mem ((c.tc : Thread Cert.ReferenceSVIdeal.nD Cert.ReferenceSVIdeal.τ).loc Cert.ReferenceSVIdeal.main_v2) = v0 c
          ∧ r.2.mem ((c.tc : Thread Cert.ReferenceSVIdeal.nD Cert.ReferenceSVIdeal.τ).loc Cert.ReferenceSVIdeal.main_v3) = v1 c
          ∧ r.2.mem ((c.tc : Thread Cert.ReferenceSVIdeal.nD Cert.ReferenceSVIdeal.τ).loc Cert.ReferenceSVIdeal.main_arg0) = m' ((c.tc : Thread Cert.ReferenceSVIdeal.nD Cert.ReferenceSVIdeal.τ).loc Cert.ReferenceSVIdeal.main_arg0)
          ∧ r.2.mem ((c.tc : Thread Cert.ReferenceSVIdeal.nD Cert.ReferenceSVIdeal.τ).loc Cert.ReferenceSVIdeal.main_arg1) = m' ((c.tc : Thread Cert.ReferenceSVIdeal.nD Cert.ReferenceSVIdeal.τ).loc Cert.ReferenceSVIdeal.main_arg1))

def preserves_KernelE_KernelEIdeal : Prop :=
  True

def algebraic_KernelEIdeal_ReferenceEIdeal [hKernelEIdeal : Cert.KernelEIdeal.Facts] [hReferenceEIdeal : Cert.ReferenceEIdeal.Facts] [hPre_tables : Cert.Pre_tables.Facts] : Prop :=
  ∀ (m : (ℓ : Loc Cert.KernelEIdeal.nD Cert.KernelEIdeal.τ Cert.KernelEIdeal.sig) → Buf (Elt Ideal) ℓ) (g : Dev Cert.KernelEIdeal.nD → PrngReg)
    (m' : (ℓ : Loc Cert.ReferenceEIdeal.nD Cert.ReferenceEIdeal.τ Cert.ReferenceEIdeal.sig) → Buf (Elt Ideal) ℓ) (g' : Dev Cert.ReferenceEIdeal.nD → PrngReg), Pre_KernelEIdeal m →
    (∀ c : Dev Cert.KernelEIdeal.nD,
      m' ((c.tc : Thread Cert.ReferenceEIdeal.nD Cert.ReferenceEIdeal.τ).loc Cert.ReferenceEIdeal.main_arg0) = m ((c.tc : Thread Cert.KernelEIdeal.nD Cert.KernelEIdeal.τ).loc Cert.KernelEIdeal.main_arg0)
      ∧ m' ((c.tc : Thread Cert.ReferenceEIdeal.nD Cert.ReferenceEIdeal.τ).loc Cert.ReferenceEIdeal.main_arg1) = m ((c.tc : Thread Cert.KernelEIdeal.nD Cert.KernelEIdeal.τ).loc Cert.KernelEIdeal.main_arg1)
      ∧ m' ((c.tc : Thread Cert.ReferenceEIdeal.nD Cert.ReferenceEIdeal.τ).loc Cert.ReferenceEIdeal.main_arg2) = m ((c.tc : Thread Cert.KernelEIdeal.nD Cert.KernelEIdeal.τ).loc Cert.KernelEIdeal.main_arg2)
      ∧ m' ((c.tc : Thread Cert.ReferenceEIdeal.nD Cert.ReferenceEIdeal.τ).loc Cert.ReferenceEIdeal.main_arg3) = m ((c.tc : Thread Cert.KernelEIdeal.nD Cert.KernelEIdeal.τ).loc Cert.KernelEIdeal.main_arg3)
      ∧ m' ((c.tc : Thread Cert.ReferenceEIdeal.nD Cert.ReferenceEIdeal.τ).loc Cert.ReferenceEIdeal.main_arg4) = m ((c.tc : Thread Cert.KernelEIdeal.nD Cert.KernelEIdeal.τ).loc Cert.KernelEIdeal.main_arg4)
      ∧ m' ((c.tc : Thread Cert.ReferenceEIdeal.nD Cert.ReferenceEIdeal.τ).loc Cert.ReferenceEIdeal.main_arg5) = m ((c.tc : Thread Cert.KernelEIdeal.nD Cert.KernelEIdeal.τ).loc Cert.KernelEIdeal.main_arg5)
      ∧ m' ((c.tc : Thread Cert.ReferenceEIdeal.nD Cert.ReferenceEIdeal.τ).loc Cert.ReferenceEIdeal.main_arg6) = m ((c.tc : Thread Cert.KernelEIdeal.nD Cert.KernelEIdeal.τ).loc Cert.KernelEIdeal.main_arg6)) →
    ∃ (v0 : (c : Dev Cert.KernelEIdeal.nD) → Buf (Elt Ideal) ((c.tc : Thread Cert.KernelEIdeal.nD Cert.KernelEIdeal.τ).loc Cert.KernelEIdeal.main_v9)),
      θ_run (Cert.KernelEIdeal.defs (F := Ideal)) (onTc (τ := Cert.KernelEIdeal.τ) (Cert.KernelEIdeal.main (F := Ideal))) ⟨m, fun _ => 0, g⟩ (fun r => ∀ c : Dev Cert.KernelEIdeal.nD,
          r.2.mem ((c.tc : Thread Cert.KernelEIdeal.nD Cert.KernelEIdeal.τ).loc Cert.KernelEIdeal.main_v9) = v0 c
          ∧ r.2.mem ((c.tc : Thread Cert.KernelEIdeal.nD Cert.KernelEIdeal.τ).loc Cert.KernelEIdeal.main_arg0) = m ((c.tc : Thread Cert.KernelEIdeal.nD Cert.KernelEIdeal.τ).loc Cert.KernelEIdeal.main_arg0)
          ∧ r.2.mem ((c.tc : Thread Cert.KernelEIdeal.nD Cert.KernelEIdeal.τ).loc Cert.KernelEIdeal.main_arg1) = m ((c.tc : Thread Cert.KernelEIdeal.nD Cert.KernelEIdeal.τ).loc Cert.KernelEIdeal.main_arg1)
          ∧ r.2.mem ((c.tc : Thread Cert.KernelEIdeal.nD Cert.KernelEIdeal.τ).loc Cert.KernelEIdeal.main_arg2) = m ((c.tc : Thread Cert.KernelEIdeal.nD Cert.KernelEIdeal.τ).loc Cert.KernelEIdeal.main_arg2)
          ∧ r.2.mem ((c.tc : Thread Cert.KernelEIdeal.nD Cert.KernelEIdeal.τ).loc Cert.KernelEIdeal.main_arg3) = m ((c.tc : Thread Cert.KernelEIdeal.nD Cert.KernelEIdeal.τ).loc Cert.KernelEIdeal.main_arg3)
          ∧ r.2.mem ((c.tc : Thread Cert.KernelEIdeal.nD Cert.KernelEIdeal.τ).loc Cert.KernelEIdeal.main_arg4) = m ((c.tc : Thread Cert.KernelEIdeal.nD Cert.KernelEIdeal.τ).loc Cert.KernelEIdeal.main_arg4)
          ∧ r.2.mem ((c.tc : Thread Cert.KernelEIdeal.nD Cert.KernelEIdeal.τ).loc Cert.KernelEIdeal.main_arg5) = m ((c.tc : Thread Cert.KernelEIdeal.nD Cert.KernelEIdeal.τ).loc Cert.KernelEIdeal.main_arg5)
          ∧ r.2.mem ((c.tc : Thread Cert.KernelEIdeal.nD Cert.KernelEIdeal.τ).loc Cert.KernelEIdeal.main_arg6) = m ((c.tc : Thread Cert.KernelEIdeal.nD Cert.KernelEIdeal.τ).loc Cert.KernelEIdeal.main_arg6))
      ∧ θ_run (Cert.ReferenceEIdeal.defs (F := Ideal)) (onTc (τ := Cert.ReferenceEIdeal.τ) (Cert.ReferenceEIdeal.main (F := Ideal))) ⟨m', fun _ => 0, g'⟩ (fun r => ∀ c : Dev Cert.ReferenceEIdeal.nD,
          r.2.mem ((c.tc : Thread Cert.ReferenceEIdeal.nD Cert.ReferenceEIdeal.τ).loc Cert.ReferenceEIdeal.main_v60) = v0 c
          ∧ r.2.mem ((c.tc : Thread Cert.ReferenceEIdeal.nD Cert.ReferenceEIdeal.τ).loc Cert.ReferenceEIdeal.main_arg0) = m' ((c.tc : Thread Cert.ReferenceEIdeal.nD Cert.ReferenceEIdeal.τ).loc Cert.ReferenceEIdeal.main_arg0)
          ∧ r.2.mem ((c.tc : Thread Cert.ReferenceEIdeal.nD Cert.ReferenceEIdeal.τ).loc Cert.ReferenceEIdeal.main_arg1) = m' ((c.tc : Thread Cert.ReferenceEIdeal.nD Cert.ReferenceEIdeal.τ).loc Cert.ReferenceEIdeal.main_arg1)
          ∧ r.2.mem ((c.tc : Thread Cert.ReferenceEIdeal.nD Cert.ReferenceEIdeal.τ).loc Cert.ReferenceEIdeal.main_arg2) = m' ((c.tc : Thread Cert.ReferenceEIdeal.nD Cert.ReferenceEIdeal.τ).loc Cert.ReferenceEIdeal.main_arg2)
          ∧ r.2.mem ((c.tc : Thread Cert.ReferenceEIdeal.nD Cert.ReferenceEIdeal.τ).loc Cert.ReferenceEIdeal.main_arg3) = m' ((c.tc : Thread Cert.ReferenceEIdeal.nD Cert.ReferenceEIdeal.τ).loc Cert.ReferenceEIdeal.main_arg3)
          ∧ r.2.mem ((c.tc : Thread Cert.ReferenceEIdeal.nD Cert.ReferenceEIdeal.τ).loc Cert.ReferenceEIdeal.main_arg4) = m' ((c.tc : Thread Cert.ReferenceEIdeal.nD Cert.ReferenceEIdeal.τ).loc Cert.ReferenceEIdeal.main_arg4)
          ∧ r.2.mem ((c.tc : Thread Cert.ReferenceEIdeal.nD Cert.ReferenceEIdeal.τ).loc Cert.ReferenceEIdeal.main_arg5) = m' ((c.tc : Thread Cert.ReferenceEIdeal.nD Cert.ReferenceEIdeal.τ).loc Cert.ReferenceEIdeal.main_arg5)
          ∧ r.2.mem ((c.tc : Thread Cert.ReferenceEIdeal.nD Cert.ReferenceEIdeal.τ).loc Cert.ReferenceEIdeal.main_arg6) = m' ((c.tc : Thread Cert.ReferenceEIdeal.nD Cert.ReferenceEIdeal.τ).loc Cert.ReferenceEIdeal.main_arg6))

def Claim : Prop :=
  ∃ (hKernel : Cert.Kernel.Facts) (hKernelIdeal : Cert.KernelIdeal.Facts) (hReferenceIdeal : Cert.ReferenceIdeal.Facts) (hKernelQ : Cert.KernelQ.Facts) (hKernelQIdeal : Cert.KernelQIdeal.Facts) (hReferenceQIdeal : Cert.ReferenceQIdeal.Facts) (hKernelK : Cert.KernelK.Facts) (hKernelKIdeal : Cert.KernelKIdeal.Facts) (hReferenceKIdeal : Cert.ReferenceKIdeal.Facts) (hKernelV : Cert.KernelV.Facts) (hKernelVIdeal : Cert.KernelVIdeal.Facts) (hReferenceVIdeal : Cert.ReferenceVIdeal.Facts) (hKernelZ : Cert.KernelZ.Facts) (hKernelZIdeal : Cert.KernelZIdeal.Facts) (hReferenceZIdeal : Cert.ReferenceZIdeal.Facts) (hKernelSK : Cert.KernelSK.Facts) (hKernelSKIdeal : Cert.KernelSKIdeal.Facts) (hReferenceSKIdeal : Cert.ReferenceSKIdeal.Facts) (hKernelSV : Cert.KernelSV.Facts) (hKernelSVIdeal : Cert.KernelSVIdeal.Facts) (hReferenceSVIdeal : Cert.ReferenceSVIdeal.Facts) (hKernelE : Cert.KernelE.Facts) (hKernelEIdeal : Cert.KernelEIdeal.Facts) (hReferenceEIdeal : Cert.ReferenceEIdeal.Facts) (hPre_finite_inputs : Cert.Pre_finite_inputs.Facts) (hPre_tables : Cert.Pre_tables.Facts),
    quiescent_Kernel (hKernel := hKernel)
    ∧ quiescent_KernelIdeal (hKernelIdeal := hKernelIdeal)
    ∧ quiescent_KernelIdeal_pre_finite_inputs (hKernelIdeal := hKernelIdeal) (hPre_finite_inputs := hPre_finite_inputs)
    ∧ quiescent_ReferenceIdeal (hReferenceIdeal := hReferenceIdeal)
    ∧ quiescent_ReferenceIdeal_pre_finite_inputs (hReferenceIdeal := hReferenceIdeal) (hPre_finite_inputs := hPre_finite_inputs)
    ∧ quiescent_KernelQ (hKernelQ := hKernelQ)
    ∧ quiescent_KernelQIdeal (hKernelQIdeal := hKernelQIdeal)
    ∧ quiescent_ReferenceQIdeal (hReferenceQIdeal := hReferenceQIdeal)
    ∧ quiescent_KernelK (hKernelK := hKernelK)
    ∧ quiescent_KernelKIdeal (hKernelKIdeal := hKernelKIdeal)
    ∧ quiescent_ReferenceKIdeal (hReferenceKIdeal := hReferenceKIdeal)
    ∧ quiescent_KernelV (hKernelV := hKernelV)
    ∧ quiescent_KernelVIdeal (hKernelVIdeal := hKernelVIdeal)
    ∧ quiescent_ReferenceVIdeal (hReferenceVIdeal := hReferenceVIdeal)
    ∧ quiescent_KernelZ (hKernelZ := hKernelZ)
    ∧ quiescent_KernelZIdeal (hKernelZIdeal := hKernelZIdeal)
    ∧ quiescent_ReferenceZIdeal (hReferenceZIdeal := hReferenceZIdeal)
    ∧ quiescent_KernelSK (hKernelSK := hKernelSK)
    ∧ quiescent_KernelSKIdeal (hKernelSKIdeal := hKernelSKIdeal)
    ∧ quiescent_ReferenceSKIdeal (hReferenceSKIdeal := hReferenceSKIdeal)
    ∧ quiescent_KernelSV (hKernelSV := hKernelSV)
    ∧ quiescent_KernelSVIdeal (hKernelSVIdeal := hKernelSVIdeal)
    ∧ quiescent_ReferenceSVIdeal (hReferenceSVIdeal := hReferenceSVIdeal)
    ∧ quiescent_KernelE (hKernelE := hKernelE) (hPre_tables := hPre_tables)
    ∧ quiescent_KernelEIdeal (hKernelEIdeal := hKernelEIdeal) (hPre_tables := hPre_tables)
    ∧ quiescent_ReferenceEIdeal (hReferenceEIdeal := hReferenceEIdeal)
    ∧ quiescent_ReferenceEIdeal_pre_tables (hReferenceEIdeal := hReferenceEIdeal) (hPre_tables := hPre_tables)
    ∧ preserves_Kernel_KernelIdeal
    ∧ algebraic_KernelIdeal_ReferenceIdeal_pre_finite_inputs (hKernelIdeal := hKernelIdeal) (hReferenceIdeal := hReferenceIdeal) (hPre_finite_inputs := hPre_finite_inputs)
    ∧ preserves_KernelQ_KernelQIdeal
    ∧ algebraic_KernelQIdeal_ReferenceQIdeal (hKernelQIdeal := hKernelQIdeal) (hReferenceQIdeal := hReferenceQIdeal)
    ∧ preserves_KernelK_KernelKIdeal
    ∧ algebraic_KernelKIdeal_ReferenceKIdeal (hKernelKIdeal := hKernelKIdeal) (hReferenceKIdeal := hReferenceKIdeal)
    ∧ preserves_KernelV_KernelVIdeal
    ∧ algebraic_KernelVIdeal_ReferenceVIdeal (hKernelVIdeal := hKernelVIdeal) (hReferenceVIdeal := hReferenceVIdeal)
    ∧ preserves_KernelZ_KernelZIdeal
    ∧ algebraic_KernelZIdeal_ReferenceZIdeal (hKernelZIdeal := hKernelZIdeal) (hReferenceZIdeal := hReferenceZIdeal)
    ∧ preserves_KernelSK_KernelSKIdeal
    ∧ algebraic_KernelSKIdeal_ReferenceSKIdeal (hKernelSKIdeal := hKernelSKIdeal) (hReferenceSKIdeal := hReferenceSKIdeal)
    ∧ preserves_KernelSV_KernelSVIdeal
    ∧ algebraic_KernelSVIdeal_ReferenceSVIdeal (hKernelSVIdeal := hKernelSVIdeal) (hReferenceSVIdeal := hReferenceSVIdeal)
    ∧ preserves_KernelE_KernelEIdeal
    ∧ algebraic_KernelEIdeal_ReferenceEIdeal (hKernelEIdeal := hKernelEIdeal) (hReferenceEIdeal := hReferenceEIdeal) (hPre_tables := hPre_tables)
-- ==== Pre_finite_inputs.lean ====
abbrev S16384x1024 : Shape := ⟨2, ![16384, 1024]⟩
abbrev S1x64 : Shape := ⟨2, ![1, 64]⟩
abbrev S128 : Shape := ⟨1, ![128]⟩
abbrev S_ : Shape := ⟨0, ![]⟩

class Facts : Prop where
  bitsLt_bf16_f32 : FTy.bits .bf16 < FTy.bits .f32
  bcast_S_S16384x1024 : S_.BroadcastsInDim S16384x1024 (![] : Fin 0 → Fin S16384x1024.rank)
  reducesTo_S16384x1024_S_d0_1 : S16384x1024.ReducesTo [0, 1] S_
  h_S_ : 0 < S_.numel
  bcast_S_S1x64 : S_.BroadcastsInDim S1x64 (![] : Fin 0 → Fin S1x64.rank)
  reducesTo_S1x64_S_d0_1 : S1x64.ReducesTo [0, 1] S_

variable [Facts]

def fn_part2 {F : FTy → Type} [FloatOps F] (main_v31 : IVec S_ 1) (main_v34 : IVec S1x64 1) : IVec S_ 1 :=
  let main_c_11 : IVec S_ 1 := constantI S_ 1 1#1
  let main_v35 : IVec S_ 1 := (fun x v => Host.reduce IntOp.andi x v reducesTo_S1x64_S_d0_1 h_S_) main_v34 main_c_11
  let main_v36 : IVec S_ 1 := andi main_v31 main_v35
  main_v36

def fn_part1 {F : FTy → Type} [FloatOps F] (main_arg4 : FVec F S1x64 .f32) (main_arg5 : FVec F S1x64 .f32) (main_arg6 : FVec F S1x64 .f32) (main_v16 : IVec S_ 1) (main_v17 : FVec F S1x64 .f32) : IVec S_ 1 :=
  let main_cst_4 : FVec F S_ .f32 := constant S_ .f32 0x7F800000#32
  let main_v18 : FVec F S1x64 .f32 := broadcastInDim S1x64 ![] bcast_S_S1x64 main_cst_4
  let main_v19 : IVec S1x64 1 := cmpf .olt main_v17 main_v18
  let main_c_5 : IVec S_ 1 := constantI S_ 1 1#1
  let main_v20 : IVec S_ 1 := (fun x v => Host.reduce IntOp.andi x v reducesTo_S1x64_S_d0_1 h_S_) main_v19 main_c_5
  let main_v21 : IVec S_ 1 := andi main_v16 main_v20
  let main_v22 : FVec F S1x64 .f32 := Host.absf main_arg4
  let main_cst_6 : FVec F S_ .f32 := constant S_ .f32 0x7F800000#32
  let main_v23 : FVec F S1x64 .f32 := broadcastInDim S1x64 ![] bcast_S_S1x64 main_cst_6
  let main_v24 : IVec S1x64 1 := cmpf .olt main_v22 main_v23
  let main_c_7 : IVec S_ 1 := constantI S_ 1 1#1
  let main_v25 : IVec S_ 1 := (fun x v => Host.reduce IntOp.andi x v reducesTo_S1x64_S_d0_1 h_S_) main_v24 main_c_7
  let main_v26 : IVec S_ 1 := andi main_v21 main_v25
  let main_v27 : FVec F S1x64 .f32 := Host.absf main_arg5
  let main_cst_8 : FVec F S_ .f32 := constant S_ .f32 0x7F800000#32
  let main_v28 : FVec F S1x64 .f32 := broadcastInDim S1x64 ![] bcast_S_S1x64 main_cst_8
  let main_v29 : IVec S1x64 1 := cmpf .olt main_v27 main_v28
  let main_c_9 : IVec S_ 1 := constantI S_ 1 1#1
  let main_v30 : IVec S_ 1 := (fun x v => Host.reduce IntOp.andi x v reducesTo_S1x64_S_d0_1 h_S_) main_v29 main_c_9
  let main_v31 : IVec S_ 1 := andi main_v26 main_v30
  let main_v32 : FVec F S1x64 .f32 := Host.absf main_arg6
  let main_cst_10 : FVec F S_ .f32 := constant S_ .f32 0x7F800000#32
  let main_v33 : FVec F S1x64 .f32 := broadcastInDim S1x64 ![] bcast_S_S1x64 main_cst_10
  let main_v34 : IVec S1x64 1 := cmpf .olt main_v32 main_v33
  fn_part2 (F := F) main_v31 main_v34

def fn {F : FTy → Type} [FloatOps F] (main_arg0 : FVec F S16384x1024 .bf16) (main_arg1 : FVec F S16384x1024 .bf16) (main_arg2 : FVec F S16384x1024 .bf16) (main_arg3 : FVec F S1x64 .f32) (main_arg4 : FVec F S1x64 .f32) (main_arg5 : FVec F S1x64 .f32) (main_arg6 : FVec F S1x64 .f32) (main_arg7 : FVec F S128 .f32) : IVec S_ 1 :=
  let main_v0 : FVec F S16384x1024 .f32 := (extf .f32 · bitsLt_bf16_f32) main_arg0
  let main_v1 : FVec F S16384x1024 .f32 := Host.absf main_v0
  let main_cst : FVec F S_ .f32 := constant S_ .f32 0x7F800000#32
  let main_v2 : FVec F S16384x1024 .f32 := broadcastInDim S16384x1024 ![] bcast_S_S16384x1024 main_cst
  let main_v3 : IVec S16384x1024 1 := cmpf .olt main_v1 main_v2
  let main_c : IVec S_ 1 := constantI S_ 1 1#1
  let main_v4 : IVec S_ 1 := (fun x v => Host.reduce IntOp.andi x v reducesTo_S16384x1024_S_d0_1 h_S_) main_v3 main_c
  let main_v5 : FVec F S16384x1024 .f32 := (extf .f32 · bitsLt_bf16_f32) main_arg1
  let main_v6 : FVec F S16384x1024 .f32 := Host.absf main_v5
  let main_cst_0 : FVec F S_ .f32 := constant S_ .f32 0x7F800000#32
  let main_v7 : FVec F S16384x1024 .f32 := broadcastInDim S16384x1024 ![] bcast_S_S16384x1024 main_cst_0
  let main_v8 : IVec S16384x1024 1 := cmpf .olt main_v6 main_v7
  let main_c_1 : IVec S_ 1 := constantI S_ 1 1#1
  let main_v9 : IVec S_ 1 := (fun x v => Host.reduce IntOp.andi x v reducesTo_S16384x1024_S_d0_1 h_S_) main_v8 main_c_1
  let main_v10 : IVec S_ 1 := andi main_v4 main_v9
  let main_v11 : FVec F S16384x1024 .f32 := (extf .f32 · bitsLt_bf16_f32) main_arg2
  let main_v12 : FVec F S16384x1024 .f32 := Host.absf main_v11
  let main_cst_2 : FVec F S_ .f32 := constant S_ .f32 0x7F800000#32
  let main_v13 : FVec F S16384x1024 .f32 := broadcastInDim S16384x1024 ![] bcast_S_S16384x1024 main_cst_2
  let main_v14 : IVec S16384x1024 1 := cmpf .olt main_v12 main_v13
  let main_c_3 : IVec S_ 1 := constantI S_ 1 1#1
  let main_v15 : IVec S_ 1 := (fun x v => Host.reduce IntOp.andi x v reducesTo_S16384x1024_S_d0_1 h_S_) main_v14 main_c_3
  let main_v16 : IVec S_ 1 := andi main_v10 main_v15
  let main_v17 : FVec F S1x64 .f32 := Host.absf main_arg3
  fn_part1 (F := F) main_arg4 main_arg5 main_arg6 main_v16 main_v17
-- ==== Pre_tables.lean ====
abbrev S73728x1024 : Shape := ⟨2, ![73728, 1024]⟩
abbrev S288 : Shape := ⟨1, ![288]⟩
abbrev S1 : Shape := ⟨1, ![1]⟩
abbrev S32x1024x2048 : Shape := ⟨3, ![32, 1024, 2048]⟩
abbrev S32x2048 : Shape := ⟨2, ![32, 2048]⟩
abbrev S32x1024x1024 : Shape := ⟨3, ![32, 1024, 1024]⟩
abbrev S32x1024 : Shape := ⟨2, ![32, 1024]⟩
abbrev S_ : Shape := ⟨0, ![]⟩

class Facts : Prop where
  bcast_S_S288 : S_.BroadcastsInDim S288 (![] : Fin 0 → Fin S288.rank)
  reducesTo_S288_S_d0 : S288.ReducesTo [0] S_
  h_S_ : 0 < S_.numel
  shapeCasts_S1_S_ : S1.ShapeCasts S_

variable [Facts]

def fn {F : FTy → Type} [FloatOps F] (main_arg0 : FVec F S73728x1024 .f32) (main_arg1 : IVec S288 32) (main_arg2 : IVec S1 32) (main_arg3 : FVec F S32x1024x2048 .f32) (main_arg4 : FVec F S32x2048 .f32) (main_arg5 : FVec F S32x1024x1024 .f32) (main_arg6 : FVec F S32x1024 .f32) : IVec S_ 1 :=
  let main_c : IVec S_ 32 := constantI S_ 32 0#32
  let main_v0 : IVec S288 32 := broadcastInDim S288 ![] bcast_S_S288 main_c
  let main_v1 : IVec S288 1 := cmpi .sge main_arg1 main_v0
  let main_c_0 : IVec S_ 32 := constantI S_ 32 32#32
  let main_v2 : IVec S288 32 := broadcastInDim S288 ![] bcast_S_S288 main_c_0
  let main_v3 : IVec S288 1 := cmpi .slt main_arg1 main_v2
  let main_v4 : IVec S288 1 := andi main_v1 main_v3
  let main_c_1 : IVec S_ 1 := constantI S_ 1 1#1
  let main_v5 : IVec S_ 1 := (fun x v => Host.reduce IntOp.andi x v reducesTo_S288_S_d0 h_S_) main_v4 main_c_1
  let main_v6 : IVec S_ 32 := shapeCast S_ main_arg2 shapeCasts_S1_S_
  let main_c_2 : IVec S_ 32 := constantI S_ 32 1#32
  let main_v7 : IVec S_ 1 := cmpi .sge main_v6 main_c_2
  let main_v8 : IVec S_ 1 := andi main_v5 main_v7
  main_v8
-- ==== Kernel.lean ====
abbrev S16384x1024 : Shape := ⟨2, ![16384, 1024]⟩
abbrev S1x64 : Shape := ⟨2, ![1, 64]⟩
abbrev S128 : Shape := ⟨1, ![128]⟩
abbrev S1x128 : Shape := ⟨2, ![1, 128]⟩
abbrev S512x128 : Shape := ⟨2, ![512, 128]⟩
abbrev S8192x128 : Shape := ⟨2, ![8192, 128]⟩
abbrev S1024x128 : Shape := ⟨2, ![1024, 128]⟩
abbrev S8192x256 : Shape := ⟨2, ![8192, 256]⟩
abbrev S1024x256 : Shape := ⟨2, ![1024, 256]⟩
abbrev S512x256 : Shape := ⟨2, ![512, 256]⟩
abbrev S128x128 : Shape := ⟨2, ![128, 128]⟩
abbrev S128x512 : Shape := ⟨2, ![128, 512]⟩
abbrev S128x1 : Shape := ⟨2, ![128, 1]⟩
abbrev S128x256 : Shape := ⟨2, ![128, 256]⟩
abbrev S1 : Shape := ⟨1, ![1]⟩
abbrev S1x1 : Shape := ⟨2, ![1, 1]⟩
abbrev S512 : Shape := ⟨1, ![512]⟩
abbrev S512x1 : Shape := ⟨2, ![512, 1]⟩

abbrev nBuf : Space → Nat
  | .hbm => 10
  | .vmem => 17
  | .smem => 0
  | _ => 0

abbrev bufTy : (tb : Table) → Fin (tcTables nBuf tb) → BufTy
  | .hbm, ⟨0, _⟩ => ⟨S16384x1024, .bf16⟩
  | .hbm, ⟨1, _⟩ => ⟨S16384x1024, .bf16⟩
  | .hbm, ⟨2, _⟩ => ⟨S16384x1024, .bf16⟩
  | .hbm, ⟨3, _⟩ => ⟨S1x64, .f32⟩
  | .hbm, ⟨4, _⟩ => ⟨S1x64, .f32⟩
  | .hbm, ⟨5, _⟩ => ⟨S1x64, .f32⟩
  | .hbm, ⟨6, _⟩ => ⟨S1x64, .f32⟩
  | .hbm, ⟨7, _⟩ => ⟨S128, .f32⟩
  | .hbm, ⟨8, _⟩ => ⟨S1x128, .f32⟩
  | .hbm, ⟨9, _⟩ => ⟨S16384x1024, .bf16⟩
  | .local _ .vmem, ⟨0, _⟩ => ⟨S1x64, .f32⟩
  | .local _ .vmem, ⟨1, _⟩ => ⟨S1x64, .f32⟩
  | .local _ .vmem, ⟨2, _⟩ => ⟨S1x64, .f32⟩
  | .local _ .vmem, ⟨3, _⟩ => ⟨S1x64, .f32⟩
  | .local _ .vmem, ⟨4, _⟩ => ⟨S512x128, .bf16⟩
  | .local _ .vmem, ⟨5, _⟩ => ⟨S512x128, .bf16⟩
  | .local _ .vmem, ⟨6, _⟩ => ⟨S8192x128, .bf16⟩
  | .local _ .vmem, ⟨7, _⟩ => ⟨S8192x128, .bf16⟩
  | .local _ .vmem, ⟨8, _⟩ => ⟨S8192x128, .bf16⟩
  | .local _ .vmem, ⟨9, _⟩ => ⟨S8192x128, .bf16⟩
  | .local _ .vmem, ⟨10, _⟩ => ⟨S1x128, .f32⟩
  | .local _ .vmem, ⟨11, _⟩ => ⟨S512x128, .bf16⟩
  | .local _ .vmem, ⟨12, _⟩ => ⟨S512x128, .bf16⟩
  | .local _ .vmem, ⟨13, _⟩ => ⟨S1024x128, .bf16⟩
  | .local _ .vmem, ⟨14, _⟩ => ⟨S8192x256, .bf16⟩
  | .local _ .vmem, ⟨15, _⟩ => ⟨S1024x128, .f32⟩
  | .local _ .vmem, ⟨16, _⟩ => ⟨S1024x256, .f32⟩
  | _, _ => ⟨S16384x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg4_1 : Ref sig .tc := ⟨.vmem, 5, rfl⟩
abbrev cc0_stg5_0 : Ref sig .tc := ⟨.vmem, 6, rfl⟩
abbrev cc0_stg5_1 : Ref sig .tc := ⟨.vmem, 7, rfl⟩
abbrev cc0_stg6_0 : Ref sig .tc := ⟨.vmem, 8, rfl⟩
abbrev cc0_stg6_1 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg8_1 : Ref sig .tc := ⟨.vmem, 12, rfl⟩
abbrev cc0_scratch0 : Ref sig .tc := ⟨.vmem, 13, rfl⟩
abbrev cc0_scratch1 : Ref sig .tc := ⟨.vmem, 14, rfl⟩
abbrev cc0_scratch2 : Ref sig .tc := ⟨.vmem, 15, rfl⟩
abbrev cc0_scratch3 : Ref sig .tc := ⟨.vmem, 16, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem4_1 : DmaSem sig := 5
abbrev cc0_sem5_0 : DmaSem sig := 6
abbrev cc0_sem5_1 : DmaSem sig := 7
abbrev cc0_sem6_0 : DmaSem sig := 8
abbrev cc0_sem6_1 : DmaSem sig := 9
abbrev cc0_sem7_0 : DmaSem sig := 10
abbrev cc0_sem8_0 : DmaSem sig := 11
abbrev cc0_sem8_1 : DmaSem sig := 12

abbrev nD : Nat := 1
abbrev τ : Topo := Topo.v7x

variable {F : FTy → Type} [FloatOps F]

abbrev grid0 : Pipeline.Grid := ⟨3, ![2, 8, 16], ![false, false, false]⟩

@[reducible] def k0_t1_loop (i : grid0.Coords) : Scf.Loop 32 :=
  let c0_i32_18 : BitVec 32 := 0#32
  let arg2 : BitVec 32 := BitVec.ofNat 32 (i 2).val
  let c0_i32_12 : BitVec 32 := 0#32
  let v29 : BitVec 1 := Scalar.cmpi .sgt arg2 c0_i32_12
  let v30 : BitVec 32 := Scalar.extui v29
  let c0_i32_13 : BitVec 32 := 0#32
  let v31 : BitVec 1 := Scalar.cmpi .slt arg2 c0_i32_13
  let v32 : BitVec 32 := Scalar.extui v31
  let v33 : BitVec 32 := Scalar.subi v30 v32
  let c4_i32 : BitVec 32 := 4#32
  let c0_i32_14 : BitVec 32 := 0#32
  let v34 : BitVec 1 := Scalar.cmpi .sgt c4_i32 c0_i32_14
  let v35 : BitVec 32 := Scalar.extui v34
  let c0_i32_15 : BitVec 32 := 0#32
  let v36 : BitVec 1 := Scalar.cmpi .slt c4_i32 c0_i32_15
  let v37 : BitVec 32 := Scalar.extui v36
  let v38 : BitVec 32 := Scalar.subi v35 v37
  let v39 : BitVec 1 := Scalar.cmpi .ne v33 v38
  let v40 : BitVec 32 := Scalar.remsi arg2 c4_i32
  let c0_i32_16 : BitVec 32 := 0#32
  let v41 : BitVec 1 := Scalar.cmpi .ne v40 c0_i32_16
  let v42 : BitVec 1 := Scalar.andi v39 v41
  let v28 : BitVec 32 := Scalar.divsi arg2 c4_i32
  let c1_i32 : BitVec 32 := 1#32
  let v43 : BitVec 32 := Scalar.subi v28 c1_i32
  let v44 : BitVec 32 := Scalar.select v42 v43 v28
  let v45 : BitVec 32 := Scalar.subi v44 c0_i32_18
  let c1_i32_19 : BitVec 32 := 1#32
  let v47 : BitVec 32 := Scalar.divsi v45 c1_i32_19
  let v48 : BitVec 32 := Scalar.muli v47 c1_i32_19
  let v49 : BitVec 32 := Scalar.addi c0_i32_18 v48
  let c1_i32_20 : BitVec 32 := 1#32
  ⟨c0_i32_18, v49, c1_i32_20⟩
def k0_mult1 (i : grid0.Coords) (k0_t1 : Fin (k0_t1_loop i).trips) : BitVec 32 :=
  let c4_i32_166 : BitVec 32 := 4#32
  let c0_i32_18 : BitVec 32 := 0#32
  let c1_i32_20 : BitVec 32 := 1#32
  let arg16 : BitVec 32 := Scf.iv c0_i32_18 c1_i32_20 k0_t1
  let v500 : BitVec 32 := Scalar.muli c4_i32_166 arg16
  let c0_i32_167 : BitVec 32 := 0#32
  let v501 : BitVec 32 := Scalar.addi v500 c0_i32_167
  let c512_i32_168 : BitVec 32 := 512#32
  let v502 : BitVec 32 := Scalar.muli v501 c512_i32_168
  v502
def k0_off1 (i : grid0.Coords) (k0_t1 : Fin (k0_t1_loop i).trips) (c0_i32_167 : BitVec 32) : Fin 2 → Nat :=
  let c4_i32_166 : BitVec 32 := 4#32
  let c0_i32_18 : BitVec 32 := 0#32
  let c1_i32_20 : BitVec 32 := 1#32
  let arg16 : BitVec 32 := Scf.iv c0_i32_18 c1_i32_20 k0_t1
  let v500 : BitVec 32 := Scalar.muli c4_i32_166 arg16
  let v501 : BitVec 32 := Scalar.addi v500 c0_i32_167
  let c512_i32_168 : BitVec 32 := 512#32
  let v502 : BitVec 32 := Scalar.muli v501 c512_i32_168
  let v503 : BitVec 32 := v502
  let v504 : Index := Scalar.indexCast v503
  let c0_169 : Index := 0#32
  ![v504.toNat, 0]
def k0_off2 (i : grid0.Coords) (k0_t1 : Fin (k0_t1_loop i).trips) (c0_i32_167 : BitVec 32) : Fin 2 → Nat :=
  let c4_i32_166 : BitVec 32 := 4#32
  let c0_i32_18 : BitVec 32 := 0#32
  let c1_i32_20 : BitVec 32 := 1#32
  let arg16 : BitVec 32 := Scf.iv c0_i32_18 c1_i32_20 k0_t1
  let v500 : BitVec 32 := Scalar.muli c4_i32_166 arg16
  let v501 : BitVec 32 := Scalar.addi v500 c0_i32_167
  let c512_i32_168 : BitVec 32 := 512#32
  let v502 : BitVec 32 := Scalar.muli v501 c512_i32_168
  let v503 : BitVec 32 := v502
  let v506 : Index := Scalar.indexCast v503
  let c0_170 : Index := 0#32
  ![v506.toNat, 0]
def k0_mult2 (i : grid0.Coords) (k0_t1 : Fin (k0_t1_loop i).trips) : BitVec 32 :=
  let c4_i32_275 : BitVec 32 := 4#32
  let c0_i32_18 : BitVec 32 := 0#32
  let c1_i32_20 : BitVec 32 := 1#32
  let arg16 : BitVec 32 := Scf.iv c0_i32_18 c1_i32_20 k0_t1
  let v836 : BitVec 32 := Scalar.muli c4_i32_275 arg16
  let c1_i32_276 : BitVec 32 := 1#32
  let v837 : BitVec 32 := Scalar.addi v836 c1_i32_276
  let c512_i32_277 : BitVec 32 := 512#32
  let v838 : BitVec 32 := Scalar.muli v837 c512_i32_277
  v838
def k0_mult3 (i : grid0.Coords) (k0_t1 : Fin (k0_t1_loop i).trips) : BitVec 32 :=
  let c4_i32_384 : BitVec 32 := 4#32
  let c0_i32_18 : BitVec 32 := 0#32
  let c1_i32_20 : BitVec 32 := 1#32
  let arg16 : BitVec 32 := Scf.iv c0_i32_18 c1_i32_20 k0_t1
  let v1172 : BitVec 32 := Scalar.muli c4_i32_384 arg16
  let c2_i32_385 : BitVec 32 := 2#32
  let v1173 : BitVec 32 := Scalar.addi v1172 c2_i32_385
  let c512_i32_386 : BitVec 32 := 512#32
  let v1174 : BitVec 32 := Scalar.muli v1173 c512_i32_386
  v1174
def k0_mult4 (i : grid0.Coords) (k0_t1 : Fin (k0_t1_loop i).trips) : BitVec 32 :=
  let c4_i32_493 : BitVec 32 := 4#32
  let c0_i32_18 : BitVec 32 := 0#32
  let c1_i32_20 : BitVec 32 := 1#32
  let arg16 : BitVec 32 := Scf.iv c0_i32_18 c1_i32_20 k0_t1
  let v1508 : BitVec 32 := Scalar.muli c4_i32_493 arg16
  let c3_i32 : BitVec 32 := 3#32
  let v1509 : BitVec 32 := Scalar.addi v1508 c3_i32
  let c512_i32_494 : BitVec 32 := 512#32
  let v1510 : BitVec 32 := Scalar.muli v1509 c512_i32_494
  v1510
@[reducible] def k0_t2_loop (i : grid0.Coords) : Scf.Loop 32 :=
  let c0_i32_18 : BitVec 32 := 0#32
  let arg2 : BitVec 32 := BitVec.ofNat 32 (i 2).val
  let c0_i32_12 : BitVec 32 := 0#32
  let v29 : BitVec 1 := Scalar.cmpi .sgt arg2 c0_i32_12
  let v30 : BitVec 32 := Scalar.extui v29
  let c0_i32_13 : BitVec 32 := 0#32
  let v31 : BitVec 1 := Scalar.cmpi .slt arg2 c0_i32_13
  let v32 : BitVec 32 := Scalar.extui v31
  let v33 : BitVec 32 := Scalar.subi v30 v32
  let c4_i32 : BitVec 32 := 4#32
  let c0_i32_14 : BitVec 32 := 0#32
  let v34 : BitVec 1 := Scalar.cmpi .sgt c4_i32 c0_i32_14
  let v35 : BitVec 32 := Scalar.extui v34
  let c0_i32_15 : BitVec 32 := 0#32
  let v36 : BitVec 1 := Scalar.cmpi .slt c4_i32 c0_i32_15
  let v37 : BitVec 32 := Scalar.extui v36
  let v38 : BitVec 32 := Scalar.subi v35 v37
  let v39 : BitVec 1 := Scalar.cmpi .ne v33 v38
  let v40 : BitVec 32 := Scalar.remsi arg2 c4_i32
  let c0_i32_16 : BitVec 32 := 0#32
  let v41 : BitVec 1 := Scalar.cmpi .ne v40 c0_i32_16
  let v42 : BitVec 1 := Scalar.andi v39 v41
  let v28 : BitVec 32 := Scalar.divsi arg2 c4_i32
  let c1_i32 : BitVec 32 := 1#32
  let v43 : BitVec 32 := Scalar.subi v28 c1_i32
  let v44 : BitVec 32 := Scalar.select v42 v43 v28
  let v45 : BitVec 32 := Scalar.subi v44 c0_i32_18
  let c1_i32_19 : BitVec 32 := 1#32
  let v47 : BitVec 32 := Scalar.divsi v45 c1_i32_19
  let v48 : BitVec 32 := Scalar.muli v47 c1_i32_19
  let v49 : BitVec 32 := Scalar.addi c0_i32_18 v48
  let v46 : BitVec 32 := Scalar.addi c0_i32_18 v45
  let c1_i32_21 : BitVec 32 := 1#32
  ⟨v49, v46, c1_i32_21⟩
def k0_mult5 (i : grid0.Coords) (k0_t2 : Fin (k0_t2_loop i).trips) : BitVec 32 :=
  let c4_i32_166 : BitVec 32 := 4#32
  let c0_i32_18 : BitVec 32 := 0#32
  let arg2 : BitVec 32 := BitVec.ofNat 32 (i 2).val
  let c0_i32_12 : BitVec 32 := 0#32
  let v29 : BitVec 1 := Scalar.cmpi .sgt arg2 c0_i32_12
  let v30 : BitVec 32 := Scalar.extui v29
  let c0_i32_13 : BitVec 32 := 0#32
  let v31 : BitVec 1 := Scalar.cmpi .slt arg2 c0_i32_13
  let v32 : BitVec 32 := Scalar.extui v31
  let v33 : BitVec 32 := Scalar.subi v30 v32
  let c4_i32 : BitVec 32 := 4#32
  let c0_i32_14 : BitVec 32 := 0#32
  let v34 : BitVec 1 := Scalar.cmpi .sgt c4_i32 c0_i32_14
  let v35 : BitVec 32 := Scalar.extui v34
  let c0_i32_15 : BitVec 32 := 0#32
  let v36 : BitVec 1 := Scalar.cmpi .slt c4_i32 c0_i32_15
  let v37 : BitVec 32 := Scalar.extui v36
  let v38 : BitVec 32 := Scalar.subi v35 v37
  let v39 : BitVec 1 := Scalar.cmpi .ne v33 v38
  let v40 : BitVec 32 := Scalar.remsi arg2 c4_i32
  let c0_i32_16 : BitVec 32 := 0#32
  let v41 : BitVec 1 := Scalar.cmpi .ne v40 c0_i32_16
  let v42 : BitVec 1 := Scalar.andi v39 v41
  let v28 : BitVec 32 := Scalar.divsi arg2 c4_i32
  let c1_i32 : BitVec 32 := 1#32
  let v43 : BitVec 32 := Scalar.subi v28 c1_i32
  let v44 : BitVec 32 := Scalar.select v42 v43 v28
  let v45 : BitVec 32 := Scalar.subi v44 c0_i32_18
  let c1_i32_19 : BitVec 32 := 1#32
  let v47 : BitVec 32 := Scalar.divsi v45 c1_i32_19
  let v48 : BitVec 32 := Scalar.muli v47 c1_i32_19
  let v49 : BitVec 32 := Scalar.addi c0_i32_18 v48
  let c1_i32_21 : BitVec 32 := 1#32
  let arg16 : BitVec 32 := Scf.iv v49 c1_i32_21 k0_t2
  let v500 : BitVec 32 := Scalar.muli c4_i32_166 arg16
  let c0_i32_167 : BitVec 32 := 0#32
  let v501 : BitVec 32 := Scalar.addi v500 c0_i32_167
  let c512_i32_168 : BitVec 32 := 512#32
  let v502 : BitVec 32 := Scalar.muli v501 c512_i32_168
  v502
def k0_off3 (i : grid0.Coords) (k0_t2 : Fin (k0_t2_loop i).trips) (c0_i32_167 : BitVec 32) : Fin 2 → Nat :=
  let c4_i32_166 : BitVec 32 := 4#32
  let c0_i32_18 : BitVec 32 := 0#32
  let arg2 : BitVec 32 := BitVec.ofNat 32 (i 2).val
  let c0_i32_12 : BitVec 32 := 0#32
  let v29 : BitVec 1 := Scalar.cmpi .sgt arg2 c0_i32_12
  let v30 : BitVec 32 := Scalar.extui v29
  let c0_i32_13 : BitVec 32 := 0#32
  let v31 : BitVec 1 := Scalar.cmpi .slt arg2 c0_i32_13
  let v32 : BitVec 32 := Scalar.extui v31
  let v33 : BitVec 32 := Scalar.subi v30 v32
  let c4_i32 : BitVec 32 := 4#32
  let c0_i32_14 : BitVec 32 := 0#32
  let v34 : BitVec 1 := Scalar.cmpi .sgt c4_i32 c0_i32_14
  let v35 : BitVec 32 := Scalar.extui v34
  let c0_i32_15 : BitVec 32 := 0#32
  let v36 : BitVec 1 := Scalar.cmpi .slt c4_i32 c0_i32_15
  let v37 : BitVec 32 := Scalar.extui v36
  let v38 : BitVec 32 := Scalar.subi v35 v37
  let v39 : BitVec 1 := Scalar.cmpi .ne v33 v38
  let v40 : BitVec 32 := Scalar.remsi arg2 c4_i32
  let c0_i32_16 : BitVec 32 := 0#32
  let v41 : BitVec 1 := Scalar.cmpi .ne v40 c0_i32_16
  let v42 : BitVec 1 := Scalar.andi v39 v41
  let v28 : BitVec 32 := Scalar.divsi arg2 c4_i32
  let c1_i32 : BitVec 32 := 1#32
  let v43 : BitVec 32 := Scalar.subi v28 c1_i32
  let v44 : BitVec 32 := Scalar.select v42 v43 v28
  let v45 : BitVec 32 := Scalar.subi v44 c0_i32_18
  let c1_i32_19 : BitVec 32 := 1#32
  let v47 : BitVec 32 := Scalar.divsi v45 c1_i32_19
  let v48 : BitVec 32 := Scalar.muli v47 c1_i32_19
  let v49 : BitVec 32 := Scalar.addi c0_i32_18 v48
  let c1_i32_21 : BitVec 32 := 1#32
  let arg16 : BitVec 32 := Scf.iv v49 c1_i32_21 k0_t2
  let v500 : BitVec 32 := Scalar.muli c4_i32_166 arg16
  let v501 : BitVec 32 := Scalar.addi v500 c0_i32_167
  let c512_i32_168 : BitVec 32 := 512#32
  let v502 : BitVec 32 := Scalar.muli v501 c512_i32_168
  let v503 : BitVec 32 := v502
  let v504 : Index := Scalar.indexCast v503
  let c0_169 : Index := 0#32
  ![v504.toNat, 0]
def k0_off4 (i : grid0.Coords) (k0_t2 : Fin (k0_t2_loop i).trips) (c0_i32_167 : BitVec 32) : Fin 2 → Nat :=
  let c4_i32_166 : BitVec 32 := 4#32
  let c0_i32_18 : BitVec 32 := 0#32
  let arg2 : BitVec 32 := BitVec.ofNat 32 (i 2).val
  let c0_i32_12 : BitVec 32 := 0#32
  let v29 : BitVec 1 := Scalar.cmpi .sgt arg2 c0_i32_12
  let v30 : BitVec 32 := Scalar.extui v29
  let c0_i32_13 : BitVec 32 := 0#32
  let v31 : BitVec 1 := Scalar.cmpi .slt arg2 c0_i32_13
  let v32 : BitVec 32 := Scalar.extui v31
  let v33 : BitVec 32 := Scalar.subi v30 v32
  let c4_i32 : BitVec 32 := 4#32
  let c0_i32_14 : BitVec 32 := 0#32
  let v34 : BitVec 1 := Scalar.cmpi .sgt c4_i32 c0_i32_14
  let v35 : BitVec 32 := Scalar.extui v34
  let c0_i32_15 : BitVec 32 := 0#32
  let v36 : BitVec 1 := Scalar.cmpi .slt c4_i32 c0_i32_15
  let v37 : BitVec 32 := Scalar.extui v36
  let v38 : BitVec 32 := Scalar.subi v35 v37
  let v39 : BitVec 1 := Scalar.cmpi .ne v33 v38
  let v40 : BitVec 32 := Scalar.remsi arg2 c4_i32
  let c0_i32_16 : BitVec 32 := 0#32
  let v41 : BitVec 1 := Scalar.cmpi .ne v40 c0_i32_16
  let v42 : BitVec 1 := Scalar.andi v39 v41
  let v28 : BitVec 32 := Scalar.divsi arg2 c4_i32
  let c1_i32 : BitVec 32 := 1#32
  let v43 : BitVec 32 := Scalar.subi v28 c1_i32
  let v44 : BitVec 32 := Scalar.select v42 v43 v28
  let v45 : BitVec 32 := Scalar.subi v44 c0_i32_18
  let c1_i32_19 : BitVec 32 := 1#32
  let v47 : BitVec 32 := Scalar.divsi v45 c1_i32_19
  let v48 : BitVec 32 := Scalar.muli v47 c1_i32_19
  let v49 : BitVec 32 := Scalar.addi c0_i32_18 v48
  let c1_i32_21 : BitVec 32 := 1#32
  let arg16 : BitVec 32 := Scf.iv v49 c1_i32_21 k0_t2
  let v500 : BitVec 32 := Scalar.muli c4_i32_166 arg16
  let v501 : BitVec 32 := Scalar.addi v500 c0_i32_167
  let c512_i32_168 : BitVec 32 := 512#32
  let v502 : BitVec 32 := Scalar.muli v501 c512_i32_168
  let v503 : BitVec 32 := v502
  let v506 : Index := Scalar.indexCast v503
  let c0_170 : Index := 0#32
  ![v506.toNat, 0]
def k0_mult6 (i : grid0.Coords) (k0_t2 : Fin (k0_t2_loop i).trips) : BitVec 32 :=
  let c4_i32_275 : BitVec 32 := 4#32
  let c0_i32_18 : BitVec 32 := 0#32
  let arg2 : BitVec 32 := BitVec.ofNat 32 (i 2).val
  let c0_i32_12 : BitVec 32 := 0#32
  let v29 : BitVec 1 := Scalar.cmpi .sgt arg2 c0_i32_12
  let v30 : BitVec 32 := Scalar.extui v29
  let c0_i32_13 : BitVec 32 := 0#32
  let v31 : BitVec 1 := Scalar.cmpi .slt arg2 c0_i32_13
  let v32 : BitVec 32 := Scalar.extui v31
  let v33 : BitVec 32 := Scalar.subi v30 v32
  let c4_i32 : BitVec 32 := 4#32
  let c0_i32_14 : BitVec 32 := 0#32
  let v34 : BitVec 1 := Scalar.cmpi .sgt c4_i32 c0_i32_14
  let v35 : BitVec 32 := Scalar.extui v34
  let c0_i32_15 : BitVec 32 := 0#32
  let v36 : BitVec 1 := Scalar.cmpi .slt c4_i32 c0_i32_15
  let v37 : BitVec 32 := Scalar.extui v36
  let v38 : BitVec 32 := Scalar.subi v35 v37
  let v39 : BitVec 1 := Scalar.cmpi .ne v33 v38
  let v40 : BitVec 32 := Scalar.remsi arg2 c4_i32
  let c0_i32_16 : BitVec 32 := 0#32
  let v41 : BitVec 1 := Scalar.cmpi .ne v40 c0_i32_16
  let v42 : BitVec 1 := Scalar.andi v39 v41
  let v28 : BitVec 32 := Scalar.divsi arg2 c4_i32
  let c1_i32 : BitVec 32 := 1#32
  let v43 : BitVec 32 := Scalar.subi v28 c1_i32
  let v44 : BitVec 32 := Scalar.select v42 v43 v28
  let v45 : BitVec 32 := Scalar.subi v44 c0_i32_18
  let c1_i32_19 : BitVec 32 := 1#32
  let v47 : BitVec 32 := Scalar.divsi v45 c1_i32_19
  let v48 : BitVec 32 := Scalar.muli v47 c1_i32_19
  let v49 : BitVec 32 := Scalar.addi c0_i32_18 v48
  let c1_i32_21 : BitVec 32 := 1#32
  let arg16 : BitVec 32 := Scf.iv v49 c1_i32_21 k0_t2
  let v836 : BitVec 32 := Scalar.muli c4_i32_275 arg16
  let c1_i32_276 : BitVec 32 := 1#32
  let v837 : BitVec 32 := Scalar.addi v836 c1_i32_276
  let c512_i32_277 : BitVec 32 := 512#32
  let v838 : BitVec 32 := Scalar.muli v837 c512_i32_277
  v838
def k0_mult7 (i : grid0.Coords) (k0_t2 : Fin (k0_t2_loop i).trips) : BitVec 32 :=
  let c4_i32_384 : BitVec 32 := 4#32
  let c0_i32_18 : BitVec 32 := 0#32
  let arg2 : BitVec 32 := BitVec.ofNat 32 (i 2).val
  let c0_i32_12 : BitVec 32 := 0#32
  let v29 : BitVec 1 := Scalar.cmpi .sgt arg2 c0_i32_12
  let v30 : BitVec 32 := Scalar.extui v29
  let c0_i32_13 : BitVec 32 := 0#32
  let v31 : BitVec 1 := Scalar.cmpi .slt arg2 c0_i32_13
  let v32 : BitVec 32 := Scalar.extui v31
  let v33 : BitVec 32 := Scalar.subi v30 v32
  let c4_i32 : BitVec 32 := 4#32
  let c0_i32_14 : BitVec 32 := 0#32
  let v34 : BitVec 1 := Scalar.cmpi .sgt c4_i32 c0_i32_14
  let v35 : BitVec 32 := Scalar.extui v34
  let c0_i32_15 : BitVec 32 := 0#32
  let v36 : BitVec 1 := Scalar.cmpi .slt c4_i32 c0_i32_15
  let v37 : BitVec 32 := Scalar.extui v36
  let v38 : BitVec 32 := Scalar.subi v35 v37
  let v39 : BitVec 1 := Scalar.cmpi .ne v33 v38
  let v40 : BitVec 32 := Scalar.remsi arg2 c4_i32
  let c0_i32_16 : BitVec 32 := 0#32
  let v41 : BitVec 1 := Scalar.cmpi .ne v40 c0_i32_16
  let v42 : BitVec 1 := Scalar.andi v39 v41
  let v28 : BitVec 32 := Scalar.divsi arg2 c4_i32
  let c1_i32 : BitVec 32 := 1#32
  let v43 : BitVec 32 := Scalar.subi v28 c1_i32
  let v44 : BitVec 32 := Scalar.select v42 v43 v28
  let v45 : BitVec 32 := Scalar.subi v44 c0_i32_18
  let c1_i32_19 : BitVec 32 := 1#32
  let v47 : BitVec 32 := Scalar.divsi v45 c1_i32_19
  let v48 : BitVec 32 := Scalar.muli v47 c1_i32_19
  let v49 : BitVec 32 := Scalar.addi c0_i32_18 v48
  let c1_i32_21 : BitVec 32 := 1#32
  let arg16 : BitVec 32 := Scf.iv v49 c1_i32_21 k0_t2
  let v1172 : BitVec 32 := Scalar.muli c4_i32_384 arg16
  let c2_i32_385 : BitVec 32 := 2#32
  let v1173 : BitVec 32 := Scalar.addi v1172 c2_i32_385
  let c512_i32_386 : BitVec 32 := 512#32
  let v1174 : BitVec 32 := Scalar.muli v1173 c512_i32_386
  v1174
def k0_mult8 (i : grid0.Coords) (k0_t2 : Fin (k0_t2_loop i).trips) : BitVec 32 :=
  let c4_i32_493 : BitVec 32 := 4#32
  let c0_i32_18 : BitVec 32 := 0#32
  let arg2 : BitVec 32 := BitVec.ofNat 32 (i 2).val
  let c0_i32_12 : BitVec 32 := 0#32
  let v29 : BitVec 1 := Scalar.cmpi .sgt arg2 c0_i32_12
  let v30 : BitVec 32 := Scalar.extui v29
  let c0_i32_13 : BitVec 32 := 0#32
  let v31 : BitVec 1 := Scalar.cmpi .slt arg2 c0_i32_13
  let v32 : BitVec 32 := Scalar.extui v31
  let v33 : BitVec 32 := Scalar.subi v30 v32
  let c4_i32 : BitVec 32 := 4#32
  let c0_i32_14 : BitVec 32 := 0#32
  let v34 : BitVec 1 := Scalar.cmpi .sgt c4_i32 c0_i32_14
  let v35 : BitVec 32 := Scalar.extui v34
  let c0_i32_15 : BitVec 32 := 0#32
  let v36 : BitVec 1 := Scalar.cmpi .slt c4_i32 c0_i32_15
  let v37 : BitVec 32 := Scalar.extui v36
  let v38 : BitVec 32 := Scalar.subi v35 v37
  let v39 : BitVec 1 := Scalar.cmpi .ne v33 v38
  let v40 : BitVec 32 := Scalar.remsi arg2 c4_i32
  let c0_i32_16 : BitVec 32 := 0#32
  let v41 : BitVec 1 := Scalar.cmpi .ne v40 c0_i32_16
  let v42 : BitVec 1 := Scalar.andi v39 v41
  let v28 : BitVec 32 := Scalar.divsi arg2 c4_i32
  let c1_i32 : BitVec 32 := 1#32
  let v43 : BitVec 32 := Scalar.subi v28 c1_i32
  let v44 : BitVec 32 := Scalar.select v42 v43 v28
  let v45 : BitVec 32 := Scalar.subi v44 c0_i32_18
  let c1_i32_19 : BitVec 32 := 1#32
  let v47 : BitVec 32 := Scalar.divsi v45 c1_i32_19
  let v48 : BitVec 32 := Scalar.muli v47 c1_i32_19
  let v49 : BitVec 32 := Scalar.addi c0_i32_18 v48
  let c1_i32_21 : BitVec 32 := 1#32
  let arg16 : BitVec 32 := Scf.iv v49 c1_i32_21 k0_t2
  let v1508 : BitVec 32 := Scalar.muli c4_i32_493 arg16
  let c3_i32 : BitVec 32 := 3#32
  let v1509 : BitVec 32 := Scalar.addi v1508 c3_i32
  let c512_i32_494 : BitVec 32 := 512#32
  let v1510 : BitVec 32 := Scalar.muli v1509 c512_i32_494
  v1510
def k0_cond2 (i : grid0.Coords) : BitVec 1 :=
  let arg2 : BitVec 32 := BitVec.ofNat 32 (i 2).val
  let c4_i32_22 : BitVec 32 := 4#32
  let c0_i32_23 : BitVec 32 := 0#32
  let v50 : BitVec 1 := Scalar.cmpi .eq c4_i32_22 c0_i32_23
  let c1_i32_24 : BitVec 32 := 1#32
  let v51 : BitVec 32 := Scalar.select v50 c1_i32_24 c4_i32_22
  let v52 : BitVec 32 := Scalar.remsi arg2 v51
  let c0_i32_26 : BitVec 32 := 0#32
  let v54 : BitVec 1 := Scalar.cmpi .slt v52 c0_i32_26
  let c0_i32_27 : BitVec 32 := 0#32
  let v55 : BitVec 1 := Scalar.cmpi .slt v51 c0_i32_27
  let v56 : BitVec 1 := Scalar.xori v54 v55
  let c0_i32_25 : BitVec 32 := 0#32
  let v53 : BitVec 1 := Scalar.cmpi .ne v52 c0_i32_25
  let v57 : BitVec 1 := Scalar.andi v56 v53
  let v58 : BitVec 32 := Scalar.addi v52 v51
  let v59 : BitVec 32 := Scalar.select v57 v58 v52
  let c2_i32 : BitVec 32 := 2#32
  let v60 : BitVec 32 := Scalar.andi v59 c2_i32
  let c0_i32_28 : BitVec 32 := 0#32
  let v61 : BitVec 1 := Scalar.cmpi .ne v60 c0_i32_28
  let v62 : BitVec 32 := Scalar.extui v61
  let c0_i32_29 : BitVec 32 := 0#32
  let v63 : BitVec 1 := Scalar.cmpi .ne v62 c0_i32_29
  v63

def k0_mult9 (i : grid0.Coords) : BitVec 32 :=
  let arg2 : BitVec 32 := BitVec.ofNat 32 (i 2).val
  let c4_i32_22 : BitVec 32 := 4#32
  let c0_i32_23 : BitVec 32 := 0#32
  let v50 : BitVec 1 := Scalar.cmpi .eq c4_i32_22 c0_i32_23
  let c1_i32_24 : BitVec 32 := 1#32
  let v51 : BitVec 32 := Scalar.select v50 c1_i32_24 c4_i32_22
  let v52 : BitVec 32 := Scalar.remsi arg2 v51
  let c0_i32_26 : BitVec 32 := 0#32
  let v54 : BitVec 1 := Scalar.cmpi .slt v52 c0_i32_26
  let c0_i32_27 : BitVec 32 := 0#32
  let v55 : BitVec 1 := Scalar.cmpi .slt v51 c0_i32_27
  let v56 : BitVec 1 := Scalar.xori v54 v55
  let c0_i32_25 : BitVec 32 := 0#32
  let v53 : BitVec 1 := Scalar.cmpi .ne v52 c0_i32_25
  let v57 : BitVec 1 := Scalar.andi v56 v53
  let v58 : BitVec 32 := Scalar.addi v52 v51
  let v59 : BitVec 32 := Scalar.select v57 v58 v52
  let c4_i32_166 : BitVec 32 := 4#32
  let c0_i32_167 : BitVec 32 := 0#32
  let v500 : BitVec 1 := Scalar.cmpi .eq c4_i32_166 c0_i32_167
  let c1_i32_168 : BitVec 32 := 1#32
  let v501 : BitVec 32 := Scalar.select v500 c1_i32_168 c4_i32_166
  let v502 : BitVec 32 := Scalar.remsi v59 v501
  let c0_i32_170 : BitVec 32 := 0#32
  let v504 : BitVec 1 := Scalar.cmpi .slt v502 c0_i32_170
  let c0_i32_171 : BitVec 32 := 0#32
  let v505 : BitVec 1 := Scalar.cmpi .slt v501 c0_i32_171
  let v506 : BitVec 1 := Scalar.xori v504 v505
  let c0_i32_169 : BitVec 32 := 0#32
  let v503 : BitVec 1 := Scalar.cmpi .ne v502 c0_i32_169
  let v507 : BitVec 1 := Scalar.andi v506 v503
  let v508 : BitVec 32 := Scalar.addi v502 v501
  let v509 : BitVec 32 := Scalar.select v507 v508 v502
  let v510 : BitVec 32 := Scalar.subi arg2 v509
  let c0_i32_172 : BitVec 32 := 0#32
  let v511 : BitVec 32 := Scalar.addi v510 c0_i32_172
  let c512_i32_173 : BitVec 32 := 512#32
  let v512 : BitVec 32 := Scalar.muli v511 c512_i32_173
  v512
def k0_off5 (i : grid0.Coords) (c0_i32_172 : BitVec 32) : Fin 2 → Nat :=
  let arg2 : BitVec 32 := BitVec.ofNat 32 (i 2).val
  let c4_i32_22 : BitVec 32 := 4#32
  let c0_i32_23 : BitVec 32 := 0#32
  let v50 : BitVec 1 := Scalar.cmpi .eq c4_i32_22 c0_i32_23
  let c1_i32_24 : BitVec 32 := 1#32
  let v51 : BitVec 32 := Scalar.select v50 c1_i32_24 c4_i32_22
  let v52 : BitVec 32 := Scalar.remsi arg2 v51
  let c0_i32_26 : BitVec 32 := 0#32
  let v54 : BitVec 1 := Scalar.cmpi .slt v52 c0_i32_26
  let c0_i32_27 : BitVec 32 := 0#32
  let v55 : BitVec 1 := Scalar.cmpi .slt v51 c0_i32_27
  let v56 : BitVec 1 := Scalar.xori v54 v55
  let c0_i32_25 : BitVec 32 := 0#32
  let v53 : BitVec 1 := Scalar.cmpi .ne v52 c0_i32_25
  let v57 : BitVec 1 := Scalar.andi v56 v53
  let v58 : BitVec 32 := Scalar.addi v52 v51
  let v59 : BitVec 32 := Scalar.select v57 v58 v52
  let c4_i32_166 : BitVec 32 := 4#32
  let c0_i32_167 : BitVec 32 := 0#32
  let v500 : BitVec 1 := Scalar.cmpi .eq c4_i32_166 c0_i32_167
  let c1_i32_168 : BitVec 32 := 1#32
  let v501 : BitVec 32 := Scalar.select v500 c1_i32_168 c4_i32_166
  let v502 : BitVec 32 := Scalar.remsi v59 v501
  let c0_i32_170 : BitVec 32 := 0#32
  let v504 : BitVec 1 := Scalar.cmpi .slt v502 c0_i32_170
  let c0_i32_171 : BitVec 32 := 0#32
  let v505 : BitVec 1 := Scalar.cmpi .slt v501 c0_i32_171
  let v506 : BitVec 1 := Scalar.xori v504 v505
  let c0_i32_169 : BitVec 32 := 0#32
  let v503 : BitVec 1 := Scalar.cmpi .ne v502 c0_i32_169
  let v507 : BitVec 1 := Scalar.andi v506 v503
  let v508 : BitVec 32 := Scalar.addi v502 v501
  let v509 : BitVec 32 := Scalar.select v507 v508 v502
  let v510 : BitVec 32 := Scalar.subi arg2 v509
  let v511 : BitVec 32 := Scalar.addi v510 c0_i32_172
  let c512_i32_173 : BitVec 32 := 512#32
  let v512 : BitVec 32 := Scalar.muli v511 c512_i32_173
  let v513 : BitVec 32 := v512
  let v514 : Index := Scalar.indexCast v513
  let c0_174 : Index := 0#32
  ![v514.toNat, 0]
def k0_off6 (i : grid0.Coords) (c0_i32_172 : BitVec 32) : Fin 2 → Nat :=
  let arg2 : BitVec 32 := BitVec.ofNat 32 (i 2).val
  let c4_i32_22 : BitVec 32 := 4#32
  let c0_i32_23 : BitVec 32 := 0#32
  let v50 : BitVec 1 := Scalar.cmpi .eq c4_i32_22 c0_i32_23
  let c1_i32_24 : BitVec 32 := 1#32
  let v51 : BitVec 32 := Scalar.select v50 c1_i32_24 c4_i32_22
  let v52 : BitVec 32 := Scalar.remsi arg2 v51
  let c0_i32_26 : BitVec 32 := 0#32
  let v54 : BitVec 1 := Scalar.cmpi .slt v52 c0_i32_26
  let c0_i32_27 : BitVec 32 := 0#32
  let v55 : BitVec 1 := Scalar.cmpi .slt v51 c0_i32_27
  let v56 : BitVec 1 := Scalar.xori v54 v55
  let c0_i32_25 : BitVec 32 := 0#32
  let v53 : BitVec 1 := Scalar.cmpi .ne v52 c0_i32_25
  let v57 : BitVec 1 := Scalar.andi v56 v53
  let v58 : BitVec 32 := Scalar.addi v52 v51
  let v59 : BitVec 32 := Scalar.select v57 v58 v52
  let c4_i32_166 : BitVec 32 := 4#32
  let c0_i32_167 : BitVec 32 := 0#32
  let v500 : BitVec 1 := Scalar.cmpi .eq c4_i32_166 c0_i32_167
  let c1_i32_168 : BitVec 32 := 1#32
  let v501 : BitVec 32 := Scalar.select v500 c1_i32_168 c4_i32_166
  let v502 : BitVec 32 := Scalar.remsi v59 v501
  let c0_i32_170 : BitVec 32 := 0#32
  let v504 : BitVec 1 := Scalar.cmpi .slt v502 c0_i32_170
  let c0_i32_171 : BitVec 32 := 0#32
  let v505 : BitVec 1 := Scalar.cmpi .slt v501 c0_i32_171
  let v506 : BitVec 1 := Scalar.xori v504 v505
  let c0_i32_169 : BitVec 32 := 0#32
  let v503 : BitVec 1 := Scalar.cmpi .ne v502 c0_i32_169
  let v507 : BitVec 1 := Scalar.andi v506 v503
  let v508 : BitVec 32 := Scalar.addi v502 v501
  let v509 : BitVec 32 := Scalar.select v507 v508 v502
  let v510 : BitVec 32 := Scalar.subi arg2 v509
  let v511 : BitVec 32 := Scalar.addi v510 c0_i32_172
  let c512_i32_173 : BitVec 32 := 512#32
  let v512 : BitVec 32 := Scalar.muli v511 c512_i32_173
  let v513 : BitVec 32 := v512
  let v516 : Index := Scalar.indexCast v513
  let c0_175 : Index := 0#32
  ![v516.toNat, 0]
def k0_mult10 (i : grid0.Coords) : BitVec 32 :=
  let arg2 : BitVec 32 := BitVec.ofNat 32 (i 2).val
  let c4_i32_22 : BitVec 32 := 4#32
  let c0_i32_23 : BitVec 32 := 0#32
  let v50 : BitVec 1 := Scalar.cmpi .eq c4_i32_22 c0_i32_23
  let c1_i32_24 : BitVec 32 := 1#32
  let v51 : BitVec 32 := Scalar.select v50 c1_i32_24 c4_i32_22
  let v52 : BitVec 32 := Scalar.remsi arg2 v51
  let c0_i32_26 : BitVec 32 := 0#32
  let v54 : BitVec 1 := Scalar.cmpi .slt v52 c0_i32_26
  let c0_i32_27 : BitVec 32 := 0#32
  let v55 : BitVec 1 := Scalar.cmpi .slt v51 c0_i32_27
  let v56 : BitVec 1 := Scalar.xori v54 v55
  let c0_i32_25 : BitVec 32 := 0#32
  let v53 : BitVec 1 := Scalar.cmpi .ne v52 c0_i32_25
  let v57 : BitVec 1 := Scalar.andi v56 v53
  let v58 : BitVec 32 := Scalar.addi v52 v51
  let v59 : BitVec 32 := Scalar.select v57 v58 v52
  let c4_i32_166 : BitVec 32 := 4#32
  let c0_i32_167 : BitVec 32 := 0#32
  let v500 : BitVec 1 := Scalar.cmpi .eq c4_i32_166 c0_i32_167
  let c1_i32_168 : BitVec 32 := 1#32
  let v501 : BitVec 32 := Scalar.select v500 c1_i32_168 c4_i32_166
  let v502 : BitVec 32 := Scalar.remsi v59 v501
  let c0_i32_170 : BitVec 32 := 0#32
  let v504 : BitVec 1 := Scalar.cmpi .slt v502 c0_i32_170
  let c0_i32_171 : BitVec 32 := 0#32
  let v505 : BitVec 1 := Scalar.cmpi .slt v501 c0_i32_171
  let v506 : BitVec 1 := Scalar.xori v504 v505
  let c0_i32_169 : BitVec 32 := 0#32
  let v503 : BitVec 1 := Scalar.cmpi .ne v502 c0_i32_169
  let v507 : BitVec 1 := Scalar.andi v506 v503
  let v508 : BitVec 32 := Scalar.addi v502 v501
  let v509 : BitVec 32 := Scalar.select v507 v508 v502
  let v510 : BitVec 32 := Scalar.subi arg2 v509
  let c1_i32_280 : BitVec 32 := 1#32
  let v846 : BitVec 32 := Scalar.addi v510 c1_i32_280
  let c512_i32_281 : BitVec 32 := 512#32
  let v847 : BitVec 32 := Scalar.muli v846 c512_i32_281
  v847
def k0_cond3 (i : grid0.Coords) : BitVec 1 :=
  let arg2 : BitVec 32 := BitVec.ofNat 32 (i 2).val
  let c4_i32_22 : BitVec 32 := 4#32
  let c0_i32_23 : BitVec 32 := 0#32
  let v50 : BitVec 1 := Scalar.cmpi .eq c4_i32_22 c0_i32_23
  let c1_i32_24 : BitVec 32 := 1#32
  let v51 : BitVec 32 := Scalar.select v50 c1_i32_24 c4_i32_22
  let v52 : BitVec 32 := Scalar.remsi arg2 v51
  let c0_i32_26 : BitVec 32 := 0#32
  let v54 : BitVec 1 := Scalar.cmpi .slt v52 c0_i32_26
  let c0_i32_27 : BitVec 32 := 0#32
  let v55 : BitVec 1 := Scalar.cmpi .slt v51 c0_i32_27
  let v56 : BitVec 1 := Scalar.xori v54 v55
  let c0_i32_25 : BitVec 32 := 0#32
  let v53 : BitVec 1 := Scalar.cmpi .ne v52 c0_i32_25
  let v57 : BitVec 1 := Scalar.andi v56 v53
  let v58 : BitVec 32 := Scalar.addi v52 v51
  let v59 : BitVec 32 := Scalar.select v57 v58 v52
  let c1_i32_30 : BitVec 32 := 1#32
  let v64 : BitVec 32 := Scalar.andi v59 c1_i32_30
  let c0_i32_31 : BitVec 32 := 0#32
  let v65 : BitVec 1 := Scalar.cmpi .ne v64 c0_i32_31
  let v66 : BitVec 32 := Scalar.extui v65
  let c0_i32_32 : BitVec 32 := 0#32
  let v67 : BitVec 1 := Scalar.cmpi .ne v66 c0_i32_32
  v67

def k0_mult11 (i : grid0.Coords) : BitVec 32 :=
  let arg2 : BitVec 32 := BitVec.ofNat 32 (i 2).val
  let c4_i32_22 : BitVec 32 := 4#32
  let c0_i32_23 : BitVec 32 := 0#32
  let v50 : BitVec 1 := Scalar.cmpi .eq c4_i32_22 c0_i32_23
  let c1_i32_24 : BitVec 32 := 1#32
  let v51 : BitVec 32 := Scalar.select v50 c1_i32_24 c4_i32_22
  let v52 : BitVec 32 := Scalar.remsi arg2 v51
  let c0_i32_26 : BitVec 32 := 0#32
  let v54 : BitVec 1 := Scalar.cmpi .slt v52 c0_i32_26
  let c0_i32_27 : BitVec 32 := 0#32
  let v55 : BitVec 1 := Scalar.cmpi .slt v51 c0_i32_27
  let v56 : BitVec 1 := Scalar.xori v54 v55
  let c0_i32_25 : BitVec 32 := 0#32
  let v53 : BitVec 1 := Scalar.cmpi .ne v52 c0_i32_25
  let v57 : BitVec 1 := Scalar.andi v56 v53
  let v58 : BitVec 32 := Scalar.addi v52 v51
  let v59 : BitVec 32 := Scalar.select v57 v58 v52
  let c2_i32_166 : BitVec 32 := 2#32
  let c0_i32_167 : BitVec 32 := 0#32
  let v500 : BitVec 1 := Scalar.cmpi .eq c2_i32_166 c0_i32_167
  let c1_i32_168 : BitVec 32 := 1#32
  let v501 : BitVec 32 := Scalar.select v500 c1_i32_168 c2_i32_166
  let v502 : BitVec 32 := Scalar.remsi v59 v501
  let c0_i32_170 : BitVec 32 := 0#32
  let v504 : BitVec 1 := Scalar.cmpi .slt v502 c0_i32_170
  let c0_i32_171 : BitVec 32 := 0#32
  let v505 : BitVec 1 := Scalar.cmpi .slt v501 c0_i32_171
  let v506 : BitVec 1 := Scalar.xori v504 v505
  let c0_i32_169 : BitVec 32 := 0#32
  let v503 : BitVec 1 := Scalar.cmpi .ne v502 c0_i32_169
  let v507 : BitVec 1 := Scalar.andi v506 v503
  let v508 : BitVec 32 := Scalar.addi v502 v501
  let v509 : BitVec 32 := Scalar.select v507 v508 v502
  let v510 : BitVec 32 := Scalar.subi arg2 v509
  let c0_i32_172 : BitVec 32 := 0#32
  let v511 : BitVec 32 := Scalar.addi v510 c0_i32_172
  let c512_i32_173 : BitVec 32 := 512#32
  let v512 : BitVec 32 := Scalar.muli v511 c512_i32_173
  v512
def k0_off7 (i : grid0.Coords) : Fin 2 → Nat :=
  let arg2 : BitVec 32 := BitVec.ofNat 32 (i 2).val
  let c4_i32_22 : BitVec 32 := 4#32
  let c0_i32_23 : BitVec 32 := 0#32
  let v50 : BitVec 1 := Scalar.cmpi .eq c4_i32_22 c0_i32_23
  let c1_i32_24 : BitVec 32 := 1#32
  let v51 : BitVec 32 := Scalar.select v50 c1_i32_24 c4_i32_22
  let v52 : BitVec 32 := Scalar.remsi arg2 v51
  let c0_i32_26 : BitVec 32 := 0#32
  let v54 : BitVec 1 := Scalar.cmpi .slt v52 c0_i32_26
  let c0_i32_27 : BitVec 32 := 0#32
  let v55 : BitVec 1 := Scalar.cmpi .slt v51 c0_i32_27
  let v56 : BitVec 1 := Scalar.xori v54 v55
  let c0_i32_25 : BitVec 32 := 0#32
  let v53 : BitVec 1 := Scalar.cmpi .ne v52 c0_i32_25
  let v57 : BitVec 1 := Scalar.andi v56 v53
  let v58 : BitVec 32 := Scalar.addi v52 v51
  let v59 : BitVec 32 := Scalar.select v57 v58 v52
  let c2_i32_166 : BitVec 32 := 2#32
  let c0_i32_167 : BitVec 32 := 0#32
  let v500 : BitVec 1 := Scalar.cmpi .eq c2_i32_166 c0_i32_167
  let c1_i32_168 : BitVec 32 := 1#32
  let v501 : BitVec 32 := Scalar.select v500 c1_i32_168 c2_i32_166
  let v502 : BitVec 32 := Scalar.remsi v59 v501
  let c0_i32_170 : BitVec 32 := 0#32
  let v504 : BitVec 1 := Scalar.cmpi .slt v502 c0_i32_170
  let c0_i32_171 : BitVec 32 := 0#32
  let v505 : BitVec 1 := Scalar.cmpi .slt v501 c0_i32_171
  let v506 : BitVec 1 := Scalar.xori v504 v505
  let c0_i32_169 : BitVec 32 := 0#32
  let v503 : BitVec 1 := Scalar.cmpi .ne v502 c0_i32_169
  let v507 : BitVec 1 := Scalar.andi v506 v503
  let v508 : BitVec 32 := Scalar.addi v502 v501
  let v509 : BitVec 32 := Scalar.select v507 v508 v502
  let v510 : BitVec 32 := Scalar.subi arg2 v509
  let c0_i32_172 : BitVec 32 := 0#32
  let v511 : BitVec 32 := Scalar.addi v510 c0_i32_172
  let c512_i32_173 : BitVec 32 := 512#32
  let v512 : BitVec 32 := Scalar.muli v511 c512_i32_173
  let v513 : BitVec 32 := v512
  let v514 : Index := Scalar.indexCast v513
  let c0_174 : Index := 0#32
  ![v514.toNat, 0]
def k0_off8 (i : grid0.Coords) : Fin 2 → Nat :=
  let arg2 : BitVec 32 := BitVec.ofNat 32 (i 2).val
  let c4_i32_22 : BitVec 32 := 4#32
  let c0_i32_23 : BitVec 32 := 0#32
  let v50 : BitVec 1 := Scalar.cmpi .eq c4_i32_22 c0_i32_23
  let c1_i32_24 : BitVec 32 := 1#32
  let v51 : BitVec 32 := Scalar.select v50 c1_i32_24 c4_i32_22
  let v52 : BitVec 32 := Scalar.remsi arg2 v51
  let c0_i32_26 : BitVec 32 := 0#32
  let v54 : BitVec 1 := Scalar.cmpi .slt v52 c0_i32_26
  let c0_i32_27 : BitVec 32 := 0#32
  let v55 : BitVec 1 := Scalar.cmpi .slt v51 c0_i32_27
  let v56 : BitVec 1 := Scalar.xori v54 v55
  let c0_i32_25 : BitVec 32 := 0#32
  let v53 : BitVec 1 := Scalar.cmpi .ne v52 c0_i32_25
  let v57 : BitVec 1 := Scalar.andi v56 v53
  let v58 : BitVec 32 := Scalar.addi v52 v51
  let v59 : BitVec 32 := Scalar.select v57 v58 v52
  let c2_i32_166 : BitVec 32 := 2#32
  let c0_i32_167 : BitVec 32 := 0#32
  let v500 : BitVec 1 := Scalar.cmpi .eq c2_i32_166 c0_i32_167
  let c1_i32_168 : BitVec 32 := 1#32
  let v501 : BitVec 32 := Scalar.select v500 c1_i32_168 c2_i32_166
  let v502 : BitVec 32 := Scalar.remsi v59 v501
  let c0_i32_170 : BitVec 32 := 0#32
  let v504 : BitVec 1 := Scalar.cmpi .slt v502 c0_i32_170
  let c0_i32_171 : BitVec 32 := 0#32
  let v505 : BitVec 1 := Scalar.cmpi .slt v501 c0_i32_171
  let v506 : BitVec 1 := Scalar.xori v504 v505
  let c0_i32_169 : BitVec 32 := 0#32
  let v503 : BitVec 1 := Scalar.cmpi .ne v502 c0_i32_169
  let v507 : BitVec 1 := Scalar.andi v506 v503
  let v508 : BitVec 32 := Scalar.addi v502 v501
  let v509 : BitVec 32 := Scalar.select v507 v508 v502
  let v510 : BitVec 32 := Scalar.subi arg2 v509
  let c0_i32_172 : BitVec 32 := 0#32
  let v511 : BitVec 32 := Scalar.addi v510 c0_i32_172
  let c512_i32_173 : BitVec 32 := 512#32
  let v512 : BitVec 32 := Scalar.muli v511 c512_i32_173
  let v513 : BitVec 32 := v512
  let v516 : Index := Scalar.indexCast v513
  let c0_175 : Index := 0#32
  ![v516.toNat, 0]
def k0_mult12 (i : grid0.Coords) : BitVec 32 :=
  let arg2 : BitVec 32 := BitVec.ofNat 32 (i 2).val
  let c512_i32 : BitVec 32 := 512#32
  let v68 : BitVec 32 := Scalar.muli arg2 c512_i32
  v68
def k0_off9 (i : grid0.Coords) : Fin 2 → Nat :=
  let arg2 : BitVec 32 := BitVec.ofNat 32 (i 2).val
  let c512_i32 : BitVec 32 := 512#32
  let v68 : BitVec 32 := Scalar.muli arg2 c512_i32
  let v69 : BitVec 32 := v68
  let v70 : Index := Scalar.indexCast v69
  let c0_33 : Index := 0#32
  ![v70.toNat, 0]
def k0_off10 (i : grid0.Coords) : Fin 2 → Nat :=
  let arg2 : BitVec 32 := BitVec.ofNat 32 (i 2).val
  let c512_i32 : BitVec 32 := 512#32
  let v68 : BitVec 32 := Scalar.muli arg2 c512_i32
  let v69 : BitVec 32 := v68
  let v72 : Index := Scalar.indexCast v69
  let c0_34 : Index := 0#32
  ![v72.toNat, 0]
def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c16_i32 : BitVec 32 := 16#32
  let v0 : BitVec 32 := Scalar.muli arg0 c16_i32
  let v1 : BitVec 32 := Scalar.addi v0 arg2
  let c0_i32 : BitVec 32 := 0#32
  ![v1.toNat, arg1.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_6 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_7 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c16_i32 : BitVec 32 := 16#32
  let v0 : BitVec 32 := Scalar.muli arg0 c16_i32
  let v1 : BitVec 32 := Scalar.addi v0 arg2
  let c0_i32 : BitVec 32 := 0#32
  ![v1.toNat, arg1.toNat]

abbrev stage0_0 : Fin 1 → Memref sig .tc .vmem S1x64 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false, false]

abbrev stage0_1 : Fin 1 → Memref sig .tc .vmem S1x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false, false]

abbrev stage0_2 : Fin 1 → Memref sig .tc .vmem S1x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false, false]

abbrev stage0_3 : Fin 1 → Memref sig .tc .vmem S1x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false, false]

abbrev stage0_4 : Fin 2 → Memref sig .tc .vmem S512x128 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, true]

abbrev stage0_5 : Fin 2 → Memref sig .tc .vmem S8192x128 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, false]

abbrev stage0_6 : Fin 2 → Memref sig .tc .vmem S8192x128 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true, false]

abbrev stage0_7 : Fin 1 → Memref sig .tc .vmem S1x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false, false]

abbrev stage0_8 : Fin 2 → Memref sig .tc .vmem S512x128 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true, true]
-- ==== ReferenceIdeal.lean ====
abbrev S16384x1024 : Shape := ⟨2, ![16384, 1024]⟩
abbrev S1x64 : Shape := ⟨2, ![1, 64]⟩
abbrev S128 : Shape := ⟨1, ![128]⟩
abbrev S2x8192x8x128 : Shape := ⟨4, ![2, 8192, 8, 128]⟩
abbrev S64 : Shape := ⟨1, ![64]⟩
abbrev S_ : Shape := ⟨0, ![]⟩
abbrev S8192 : Shape := ⟨1, ![8192]⟩
abbrev S1x8192 : Shape := ⟨2, ![1, 8192]⟩
abbrev S8192x1 : Shape := ⟨2, ![8192, 1]⟩
abbrev S8192x8192 : Shape := ⟨2, ![8192, 8192]⟩
abbrev S2x8192x8x64 : Shape := ⟨4, ![2, 8192, 8, 64]⟩
abbrev S2x8x8192x8192 : Shape := ⟨4, ![2, 8, 8192, 8192]⟩
abbrev S2x8x8192 : Shape := ⟨3, ![2, 8, 8192]⟩
abbrev S2x8x8192x1 : Shape := ⟨4, ![2, 8, 8192, 1]⟩
abbrev S2x8x128x8192 : Shape := ⟨4, ![2, 8, 128, 8192]⟩
abbrev S2x8192x8 : Shape := ⟨3, ![2, 8192, 8]⟩
abbrev S2x8192x8x1 : Shape := ⟨4, ![2, 8192, 8, 1]⟩
abbrev S1x1x1x128 : Shape := ⟨4, ![1, 1, 1, 128]⟩

abbrev nBuf : Space → Nat
  | .hbm => 111
  | .vmem => 0
  | .smem => 0
  | _ => 0

abbrev bufTy : (tb : Table) → Fin (tcTables nBuf tb) → BufTy
  | .hbm, ⟨0, _⟩ => ⟨S16384x1024, .bf16⟩
  | .hbm, ⟨1, _⟩ => ⟨S16384x1024, .bf16⟩
  | .hbm, ⟨2, _⟩ => ⟨S16384x1024, .bf16⟩
  | .hbm, ⟨3, _⟩ => ⟨S1x64, .f32⟩
  | .hbm, ⟨4, _⟩ => ⟨S1x64, .f32⟩
  | .hbm, ⟨5, _⟩ => ⟨S1x64, .f32⟩
  | .hbm, ⟨6, _⟩ => ⟨S1x64, .f32⟩
  | .hbm, ⟨7, _⟩ => ⟨S128, .f32⟩
  | .hbm, ⟨8, _⟩ => ⟨S16384x1024, .f32⟩
  | .hbm, ⟨9, _⟩ => ⟨S2x8192x8x128, .f32⟩
  | .hbm, ⟨10, _⟩ => ⟨S16384x1024, .f32⟩
  | .hbm, ⟨11, _⟩ => ⟨S2x8192x8x128, .f32⟩
  | .hbm, ⟨12, _⟩ => ⟨S16384x1024, .f32⟩
  | .hbm, ⟨13, _⟩ => ⟨S2x8192x8x128, .f32⟩
  | .hbm, ⟨14, _⟩ => ⟨S64, .f32⟩
  | .hbm, ⟨15, _⟩ => ⟨S64, .f32⟩
  | .hbm, ⟨16, _⟩ => ⟨S64, .f32⟩
  | .hbm, ⟨17, _⟩ => ⟨S_, .f32⟩
  | .hbm, ⟨18, _⟩ => ⟨S_, .f32⟩
  | .hbm, ⟨19, _⟩ => ⟨S_, .f32⟩
  | .hbm, ⟨20, _⟩ => ⟨S64, .f32⟩
  | .hbm, ⟨21, _⟩ => ⟨S64, .f32⟩
  | .hbm, ⟨22, _⟩ => ⟨S64, .f32⟩
  | .hbm, ⟨23, _⟩ => ⟨S_, .f32⟩
  | .hbm, ⟨24, _⟩ => ⟨S_, .f32⟩
  | .hbm, ⟨25, _⟩ => ⟨S_, .f32⟩
  | .hbm, ⟨26, _⟩ => ⟨S_, .f32⟩
  | .hbm, ⟨27, _⟩ => ⟨S_, .f32⟩
  | .hbm, ⟨28, _⟩ => ⟨S_, .f32⟩
  | .hbm, ⟨29, _⟩ => ⟨S8192, .i32⟩
  | .hbm, ⟨30, _⟩ => ⟨S1x8192, .i32⟩
  | .hbm, ⟨31, _⟩ => ⟨S8192x1, .i32⟩
  | .hbm, ⟨32, _⟩ => ⟨S8192x8192, .i32⟩
  | .hbm, ⟨33, _⟩ => ⟨S8192x8192, .i32⟩
  | .hbm, ⟨34, _⟩ => ⟨S8192x8192, .i1⟩
  | .hbm, ⟨35, _⟩ => ⟨S2x8192x8x64, .f32⟩
  | .hbm, ⟨36, _⟩ => ⟨S2x8192x8x64, .f32⟩
  | .hbm, ⟨37, _⟩ => ⟨S2x8x8192x8192, .f32⟩
  | .hbm, ⟨38, _⟩ => ⟨S_, .f32⟩
  | .hbm, ⟨39, _⟩ => ⟨S2x8x8192x8192, .f32⟩
  | .hbm, ⟨40, _⟩ => ⟨S2x8x8192x8192, .f32⟩
  | .hbm, ⟨41, _⟩ => ⟨S2x8192x8x64, .f32⟩
  | .hbm, ⟨42, _⟩ => ⟨S2x8192x8x64, .f32⟩
  | .hbm, ⟨43, _⟩ => ⟨S2x8x8192x8192, .f32⟩
  | .hbm, ⟨44, _⟩ => ⟨S_, .f32⟩
  | .hbm, ⟨45, _⟩ => ⟨S2x8x8192x8192, .f32⟩
  | .hbm, ⟨46, _⟩ => ⟨S2x8x8192x8192, .f32⟩
  | .hbm, ⟨47, _⟩ => ⟨S_, .f32⟩
  | .hbm, ⟨48, _⟩ => ⟨S_, .f32⟩
  | .hbm, ⟨49, _⟩ => ⟨S2x8x8192x8192, .i1⟩
  | .hbm, ⟨50, _⟩ => ⟨S2x8x8192x8192, .f32⟩
  | .hbm, ⟨51, _⟩ => ⟨S2x8x8192x8192, .f32⟩
  | .hbm, ⟨52, _⟩ => ⟨S_, .f32⟩
  | .hbm, ⟨53, _⟩ => ⟨S2x8x8192, .f32⟩
  | .hbm, ⟨54, _⟩ => ⟨S_, .f32⟩
  | .hbm, ⟨55, _⟩ => ⟨S2x8x8192, .f32⟩
  | .hbm, ⟨56, _⟩ => ⟨S2x8x8192, .f32⟩
  | .hbm, ⟨57, _⟩ => ⟨S2x8x8192x1, .f32⟩
  | .hbm, ⟨58, _⟩ => ⟨S2x8x8192x8192, .f32⟩
  | .hbm, ⟨59, _⟩ => ⟨S2x8x8192x8192, .f32⟩
  | .hbm, ⟨60, _⟩ => ⟨S2x8x8192x8192, .f32⟩
  | .hbm, ⟨61, _⟩ => ⟨S_, .f32⟩
  | .hbm, ⟨62, _⟩ => ⟨S2x8x8192, .f32⟩
  | .hbm, ⟨63, _⟩ => ⟨S2x8x8192x1, .f32⟩
  | .hbm, ⟨64, _⟩ => ⟨S2x8x8192x8192, .f32⟩
  | .hbm, ⟨65, _⟩ => ⟨S2x8x8192x8192, .f32⟩
  | .hbm, ⟨66, _⟩ => ⟨S_, .f32⟩
  | .hbm, ⟨67, _⟩ => ⟨S_, .f32⟩
  | .hbm, ⟨68, _⟩ => ⟨S2x8x8192x8192, .i1⟩
  | .hbm, ⟨69, _⟩ => ⟨S2x8x8192x8192, .f32⟩
  | .hbm, ⟨70, _⟩ => ⟨S2x8x8192x8192, .f32⟩
  | .hbm, ⟨71, _⟩ => ⟨S_, .f32⟩
  | .hbm, ⟨72, _⟩ => ⟨S2x8x8192, .f32⟩
  | .hbm, ⟨73, _⟩ => ⟨S_, .f32⟩
  | .hbm, ⟨74, _⟩ => ⟨S2x8x8192, .f32⟩
  | .hbm, ⟨75, _⟩ => ⟨S2x8x8192, .f32⟩
  | .hbm, ⟨76, _⟩ => ⟨S2x8x8192x1, .f32⟩
  | .hbm, ⟨77, _⟩ => ⟨S2x8x8192x8192, .f32⟩
  | .hbm, ⟨78, _⟩ => ⟨S2x8x8192x8192, .f32⟩
  | .hbm, ⟨79, _⟩ => ⟨S2x8x8192x8192, .f32⟩
  | .hbm, ⟨80, _⟩ => ⟨S_, .f32⟩
  | .hbm, ⟨81, _⟩ => ⟨S2x8x8192, .f32⟩
  | .hbm, ⟨82, _⟩ => ⟨S2x8x8192x1, .f32⟩
  | .hbm, ⟨83, _⟩ => ⟨S2x8x8192x8192, .f32⟩
  | .hbm, ⟨84, _⟩ => ⟨S2x8x8192x8192, .f32⟩
  | .hbm, ⟨85, _⟩ => ⟨S2x8x8192x8192, .f32⟩
  | .hbm, ⟨86, _⟩ => ⟨S2x8x8192x8192, .f32⟩
  | .hbm, ⟨87, _⟩ => ⟨S2x8x8192x8192, .f32⟩
  | .hbm, ⟨88, _⟩ => ⟨S2x8x128x8192, .f32⟩
  | .hbm, ⟨89, _⟩ => ⟨S2x8192x8x128, .f32⟩
  | .hbm, ⟨90, _⟩ => ⟨S2x8192x8x128, .f32⟩
  | .hbm, ⟨91, _⟩ => ⟨S_, .f32⟩
  | .hbm, ⟨92, _⟩ => ⟨S2x8192x8, .f32⟩
  | .hbm, ⟨93, _⟩ => ⟨S2x8192x8x1, .f32⟩
  | .hbm, ⟨94, _⟩ => ⟨S_, .f32⟩
  | .hbm, ⟨95, _⟩ => ⟨S2x8192x8x1, .f32⟩
  | .hbm, ⟨96, _⟩ => ⟨S2x8192x8x1, .f32⟩
  | .hbm, ⟨97, _⟩ => ⟨S_, .f32⟩
  | .hbm, ⟨98, _⟩ => ⟨S2x8192x8x1, .f32⟩
  | .hbm, ⟨99, _⟩ => ⟨S2x8192x8x1, .f32⟩
  | .hbm, ⟨100, _⟩ => ⟨S2x8192x8x1, .f32⟩
  | .hbm, ⟨101, _⟩ => ⟨S2x8192x8x128, .f32⟩
  | .hbm, ⟨102, _⟩ => ⟨S2x8192x8x128, .f32⟩
  | .hbm, ⟨103, _⟩ => ⟨S1x1x1x128, .f32⟩
  | .hbm, ⟨104, _⟩ => ⟨S2x8192x8x128, .f32⟩
  | .hbm, ⟨105, _⟩ => ⟨S2x8192x8x128, .f32⟩
  | .hbm, ⟨106, _⟩ => ⟨S_, .f32⟩
  | .hbm, ⟨107, _⟩ => ⟨S2x8192x8x128, .f32⟩
  | .hbm, ⟨108, _⟩ => ⟨S2x8192x8x128, .f32⟩
  | .hbm, ⟨109, _⟩ => ⟨S16384x1024, .f32⟩
  | .hbm, ⟨110, _⟩ => ⟨S16384x1024, .bf16⟩
  | _, _ => ⟨S16384x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst_0 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_cst_1 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_cst_2 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_cst_3 : Ref sig .tc := ⟨.hbm, 44, rfl⟩
abbrev main_v32 : Ref sig .tc := ⟨.hbm, 45, rfl⟩
abbrev main_v33 : Ref sig .tc := ⟨.hbm, 46, rfl⟩
abbrev main_cst_4 : Ref sig .tc := ⟨.hbm, 47, rfl⟩
abbrev main_call0_v0 : Ref sig .tc := ⟨.hbm, 48, rfl⟩
abbrev main_call0_v1 : Ref sig .tc := ⟨.hbm, 49, rfl⟩
abbrev main_call0_v2 : Ref sig .tc := ⟨.hbm, 50, rfl⟩
abbrev main_v34 : Ref sig .tc := ⟨.hbm, 51, rfl⟩
abbrev main_cst_5 : Ref sig .tc := ⟨.hbm, 52, rfl⟩
abbrev main_v35 : Ref sig .tc := ⟨.hbm, 53, rfl⟩
abbrev main_cst_6 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_cst_7 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_cst_8 : Ref sig .tc := ⟨.hbm, 66, rfl⟩
abbrev main_call1_v0 : Ref sig .tc := ⟨.hbm, 67, rfl⟩
abbrev main_call1_v1 : Ref sig .tc := ⟨.hbm, 68, rfl⟩
abbrev main_call1_v2 : Ref sig .tc := ⟨.hbm, 69, rfl⟩
abbrev main_v46 : Ref sig .tc := ⟨.hbm, 70, rfl⟩
abbrev main_cst_9 : Ref sig .tc := ⟨.hbm, 71, rfl⟩
abbrev main_v47 : Ref sig .tc := ⟨.hbm, 72, rfl⟩
abbrev main_cst_10 : Ref sig .tc := ⟨.hbm, 73, rfl⟩
abbrev main_v48 : Ref sig .tc := ⟨.hbm, 74, rfl⟩
abbrev main_v49 : Ref sig .tc := ⟨.hbm, 75, rfl⟩
abbrev main_v50 : Ref sig .tc := ⟨.hbm, 76, rfl⟩
abbrev main_v51 : Ref sig .tc := ⟨.hbm, 77, rfl⟩
abbrev main_v52 : Ref sig .tc := ⟨.hbm, 78, rfl⟩
abbrev main_v53 : Ref sig .tc := ⟨.hbm, 79, rfl⟩
abbrev main_cst_11 : Ref sig .tc := ⟨.hbm, 80, rfl⟩
abbrev main_v54 : Ref sig .tc := ⟨.hbm, 81, rfl⟩
abbrev main_v55 : Ref sig .tc := ⟨.hbm, 82, rfl⟩
abbrev main_v56 : Ref sig .tc := ⟨.hbm, 83, rfl⟩
abbrev main_v57 : Ref sig .tc := ⟨.hbm, 84, rfl⟩
abbrev main_v58 : Ref sig .tc := ⟨.hbm, 85, rfl⟩
abbrev main_v59 : Ref sig .tc := ⟨.hbm, 86, rfl⟩
abbrev main_v60 : Ref sig .tc := ⟨.hbm, 87, rfl⟩
abbrev main_v61 : Ref sig .tc := ⟨.hbm, 88, rfl⟩
abbrev main_v62 : Ref sig .tc := ⟨.hbm, 89, rfl⟩
abbrev main_v63 : Ref sig .tc := ⟨.hbm, 90, rfl⟩
abbrev main_cst_12 : Ref sig .tc := ⟨.hbm, 91, rfl⟩
abbrev main_v64 : Ref sig .tc := ⟨.hbm, 92, rfl⟩
abbrev main_v65 : Ref sig .tc := ⟨.hbm, 93, rfl⟩
abbrev main_cst_13 : Ref sig .tc := ⟨.hbm, 94, rfl⟩
abbrev main_v66 : Ref sig .tc := ⟨.hbm, 95, rfl⟩
abbrev main_v67 : Ref sig .tc := ⟨.hbm, 96, rfl⟩
abbrev main_cst_14 : Ref sig .tc := ⟨.hbm, 97, rfl⟩
abbrev main_v68 : Ref sig .tc := ⟨.hbm, 98, rfl⟩
abbrev main_v69 : Ref sig .tc := ⟨.hbm, 99, rfl⟩
abbrev main_v70 : Ref sig .tc := ⟨.hbm, 100, rfl⟩
abbrev main_v71 : Ref sig .tc := ⟨.hbm, 101, rfl⟩
abbrev main_v72 : Ref sig .tc := ⟨.hbm, 102, rfl⟩
abbrev main_v73 : Ref sig .tc := ⟨.hbm, 103, rfl⟩
abbrev main_v74 : Ref sig .tc := ⟨.hbm, 104, rfl⟩
abbrev main_v75 : Ref sig .tc := ⟨.hbm, 105, rfl⟩
abbrev main_cst_15 : Ref sig .tc := ⟨.hbm, 106, rfl⟩
abbrev main_v76 : Ref sig .tc := ⟨.hbm, 107, rfl⟩
abbrev main_v77 : Ref sig .tc := ⟨.hbm, 108, rfl⟩
abbrev main_v78 : Ref sig .tc := ⟨.hbm, 109, rfl⟩
abbrev main_v79 : Ref sig .tc := ⟨.hbm, 110, rfl⟩

abbrev nD : Nat := 1
abbrev τ : Topo := Topo.v7x

variable {F : FTy → Type} [FloatOps F]
-- ==== KernelQ.lean ====
abbrev S16384x1024 : Shape := ⟨2, ![16384, 1024]⟩
abbrev S1024x11264 : Shape := ⟨2, ![1024, 11264]⟩
abbrev S512x1024 : Shape := ⟨2, ![512, 1024]⟩
abbrev S1024x1024 : Shape := ⟨2, ![1024, 1024]⟩

abbrev nBuf : Space → Nat
  | .hbm => 3
  | .vmem => 6
  | .smem => 0
  | _ => 0

abbrev bufTy : (tb : Table) → Fin (tcTables nBuf tb) → BufTy
  | .hbm, ⟨0, _⟩ => ⟨S16384x1024, .bf16⟩
  | .hbm, ⟨1, _⟩ => ⟨S1024x11264, .f32⟩
  | .hbm, ⟨2, _⟩ => ⟨S16384x1024, .bf16⟩
  | .local _ .vmem, ⟨0, _⟩ => ⟨S512x1024, .bf16⟩
  | .local _ .vmem, ⟨1, _⟩ => ⟨S512x1024, .bf16⟩
  | .local _ .vmem, ⟨2, _⟩ => ⟨S1024x1024, .f32⟩
  | .local _ .vmem, ⟨3, _⟩ => ⟨S512x1024, .bf16⟩
  | .local _ .vmem, ⟨4, _⟩ => ⟨S512x1024, .bf16⟩
  | .local _ .vmem, ⟨5, _⟩ => ⟨S1024x1024, .bf16⟩
  | _, _ => ⟨S16384x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![1, 32], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi arg0 c0_i32
  let c0_i32_0 : BitVec 32 := 0#32
  let c0_i32_1 : BitVec 32 := 0#32
  ![c0_i32_0.toNat, v0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 1 → Memref sig .tc .vmem S1024x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, false]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== ReferenceQIdeal.lean ====
abbrev S16384x1024 : Shape := ⟨2, ![16384, 1024]⟩
abbrev S1024x11264 : Shape := ⟨2, ![1024, 11264]⟩
abbrev S16384x11264 : Shape := ⟨2, ![16384, 11264]⟩

abbrev nBuf : Space → Nat
  | .hbm => 6
  | .vmem => 0
  | .smem => 0
  | _ => 0

abbrev bufTy : (tb : Table) → Fin (tcTables nBuf tb) → BufTy
  | .hbm, ⟨0, _⟩ => ⟨S16384x1024, .bf16⟩
  | .hbm, ⟨1, _⟩ => ⟨S1024x11264, .f32⟩
  | .hbm, ⟨2, _⟩ => ⟨S16384x1024, .f32⟩
  | .hbm, ⟨3, _⟩ => ⟨S16384x11264, .f32⟩
  | .hbm, ⟨4, _⟩ => ⟨S16384x1024, .f32⟩
  | .hbm, ⟨5, _⟩ => ⟨S16384x1024, .bf16⟩
  | _, _ => ⟨S16384x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== KernelK.lean ====
abbrev S16384x1024 : Shape := ⟨2, ![16384, 1024]⟩
abbrev S1024x11264 : Shape := ⟨2, ![1024, 11264]⟩
abbrev S512x1024 : Shape := ⟨2, ![512, 1024]⟩
abbrev S1024x1024 : Shape := ⟨2, ![1024, 1024]⟩

abbrev nBuf : Space → Nat
  | .hbm => 4
  | .vmem => 8
  | .smem => 0
  | _ => 0

abbrev bufTy : (tb : Table) → Fin (tcTables nBuf tb) → BufTy
  | .hbm, ⟨0, _⟩ => ⟨S16384x1024, .bf16⟩
  | .hbm, ⟨1, _⟩ => ⟨S1024x11264, .f32⟩
  | .hbm, ⟨2, _⟩ => ⟨S16384x1024, .f32⟩
  | .hbm, ⟨3, _⟩ => ⟨S16384x1024, .bf16⟩
  | .local _ .vmem, ⟨0, _⟩ => ⟨S512x1024, .bf16⟩
  | .local _ .vmem, ⟨1, _⟩ => ⟨S512x1024, .bf16⟩
  | .local _ .vmem, ⟨2, _⟩ => ⟨S1024x1024, .f32⟩
  | .local _ .vmem, ⟨3, _⟩ => ⟨S512x1024, .f32⟩
  | .local _ .vmem, ⟨4, _⟩ => ⟨S512x1024, .f32⟩
  | .local _ .vmem, ⟨5, _⟩ => ⟨S512x1024, .bf16⟩
  | .local _ .vmem, ⟨6, _⟩ => ⟨S512x1024, .bf16⟩
  | .local _ .vmem, ⟨7, _⟩ => ⟨S1024x1024, .bf16⟩
  | _, _ => ⟨S16384x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0_0 : Ref sig .tc := ⟨.hbm, 2, rfl⟩
abbrev main_v0_1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_scratch0 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨2, ![1, 32], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.addi arg0 c1_i32
  let c0_i32 : BitVec 32 := 0#32
  let c0_i32_0 : BitVec 32 := 0#32
  ![c0_i32.toNat, v0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 1 → Memref sig .tc .vmem S1024x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S512x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== ReferenceKIdeal.lean ====
abbrev S16384x1024 : Shape := ⟨2, ![16384, 1024]⟩
abbrev S1024x11264 : Shape := ⟨2, ![1024, 11264]⟩
abbrev S16384x11264 : Shape := ⟨2, ![16384, 11264]⟩

abbrev nBuf : Space → Nat
  | .hbm => 6
  | .vmem => 0
  | .smem => 0
  | _ => 0

abbrev bufTy : (tb : Table) → Fin (tcTables nBuf tb) → BufTy
  | .hbm, ⟨0, _⟩ => ⟨S16384x1024, .bf16⟩
  | .hbm, ⟨1, _⟩ => ⟨S1024x11264, .f32⟩
  | .hbm, ⟨2, _⟩ => ⟨S16384x1024, .f32⟩
  | .hbm, ⟨3, _⟩ => ⟨S16384x11264, .f32⟩
  | .hbm, ⟨4, _⟩ => ⟨S16384x1024, .f32⟩
  | .hbm, ⟨5, _⟩ => ⟨S16384x1024, .bf16⟩
  | _, _ => ⟨S16384x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== KernelV.lean ====
abbrev S16384x1024 : Shape := ⟨2, ![16384, 1024]⟩
abbrev S1024x11264 : Shape := ⟨2, ![1024, 11264]⟩
abbrev S512x1024 : Shape := ⟨2, ![512, 1024]⟩
abbrev S1024x1024 : Shape := ⟨2, ![1024, 1024]⟩

abbrev nBuf : Space → Nat
  | .hbm => 4
  | .vmem => 8
  | .smem => 0
  | _ => 0

abbrev bufTy : (tb : Table) → Fin (tcTables nBuf tb) → BufTy
  | .hbm, ⟨0, _⟩ => ⟨S16384x1024, .bf16⟩
  | .hbm, ⟨1, _⟩ => ⟨S1024x11264, .f32⟩
  | .hbm, ⟨2, _⟩ => ⟨S16384x1024, .f32⟩
  | .hbm, ⟨3, _⟩ => ⟨S16384x1024, .bf16⟩
  | .local _ .vmem, ⟨0, _⟩ => ⟨S512x1024, .bf16⟩
  | .local _ .vmem, ⟨1, _⟩ => ⟨S512x1024, .bf16⟩
  | .local _ .vmem, ⟨2, _⟩ => ⟨S1024x1024, .f32⟩
  | .local _ .vmem, ⟨3, _⟩ => ⟨S512x1024, .f32⟩
  | .local _ .vmem, ⟨4, _⟩ => ⟨S512x1024, .f32⟩
  | .local _ .vmem, ⟨5, _⟩ => ⟨S512x1024, .bf16⟩
  | .local _ .vmem, ⟨6, _⟩ => ⟨S512x1024, .bf16⟩
  | .local _ .vmem, ⟨7, _⟩ => ⟨S1024x1024, .bf16⟩
  | _, _ => ⟨S16384x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0_0 : Ref sig .tc := ⟨.hbm, 2, rfl⟩
abbrev main_v0_1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_scratch0 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨2, ![1, 32], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.addi arg0 c2_i32
  let c0_i32 : BitVec 32 := 0#32
  let c0_i32_0 : BitVec 32 := 0#32
  ![c0_i32.toNat, v0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 1 → Memref sig .tc .vmem S1024x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S512x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== ReferenceVIdeal.lean ====
abbrev S16384x1024 : Shape := ⟨2, ![16384, 1024]⟩
abbrev S1024x11264 : Shape := ⟨2, ![1024, 11264]⟩
abbrev S16384x11264 : Shape := ⟨2, ![16384, 11264]⟩

abbrev nBuf : Space → Nat
  | .hbm => 6
  | .vmem => 0
  | .smem => 0
  | _ => 0

abbrev bufTy : (tb : Table) → Fin (tcTables nBuf tb) → BufTy
  | .hbm, ⟨0, _⟩ => ⟨S16384x1024, .bf16⟩
  | .hbm, ⟨1, _⟩ => ⟨S1024x11264, .f32⟩
  | .hbm, ⟨2, _⟩ => ⟨S16384x1024, .f32⟩
  | .hbm, ⟨3, _⟩ => ⟨S16384x11264, .f32⟩
  | .hbm, ⟨4, _⟩ => ⟨S16384x1024, .f32⟩
  | .hbm, ⟨5, _⟩ => ⟨S16384x1024, .bf16⟩
  | _, _ => ⟨S16384x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== KernelZ.lean ====
abbrev S16384x1024 : Shape := ⟨2, ![16384, 1024]⟩
abbrev S1024x11264 : Shape := ⟨2, ![1024, 11264]⟩
abbrev S16384x8192 : Shape := ⟨2, ![16384, 8192]⟩
abbrev S512x1024 : Shape := ⟨2, ![512, 1024]⟩
abbrev S1024x1024 : Shape := ⟨2, ![1024, 1024]⟩

abbrev nBuf : Space → Nat
  | .hbm => 3
  | .vmem => 7
  | .smem => 0
  | _ => 0

abbrev bufTy : (tb : Table) → Fin (tcTables nBuf tb) → BufTy
  | .hbm, ⟨0, _⟩ => ⟨S16384x1024, .bf16⟩
  | .hbm, ⟨1, _⟩ => ⟨S1024x11264, .f32⟩
  | .hbm, ⟨2, _⟩ => ⟨S16384x8192, .bf16⟩
  | .local _ .vmem, ⟨0, _⟩ => ⟨S512x1024, .bf16⟩
  | .local _ .vmem, ⟨1, _⟩ => ⟨S512x1024, .bf16⟩
  | .local _ .vmem, ⟨2, _⟩ => ⟨S1024x1024, .f32⟩
  | .local _ .vmem, ⟨3, _⟩ => ⟨S1024x1024, .f32⟩
  | .local _ .vmem, ⟨4, _⟩ => ⟨S512x1024, .bf16⟩
  | .local _ .vmem, ⟨5, _⟩ => ⟨S512x1024, .bf16⟩
  | .local _ .vmem, ⟨6, _⟩ => ⟨S1024x1024, .bf16⟩
  | _, _ => ⟨S16384x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![8, 32], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c3_i32 : BitVec 32 := 3#32
  let v0 : BitVec 32 := Scalar.addi arg0 c3_i32
  let c0_i32 : BitVec 32 := 0#32
  let c0_i32_0 : BitVec 32 := 0#32
  ![c0_i32.toNat, v0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1024x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== ReferenceZIdeal.lean ====
abbrev S16384x1024 : Shape := ⟨2, ![16384, 1024]⟩
abbrev S1024x11264 : Shape := ⟨2, ![1024, 11264]⟩
abbrev S16384x11264 : Shape := ⟨2, ![16384, 11264]⟩
abbrev S16384x8192 : Shape := ⟨2, ![16384, 8192]⟩

abbrev nBuf : Space → Nat
  | .hbm => 6
  | .vmem => 0
  | .smem => 0
  | _ => 0

abbrev bufTy : (tb : Table) → Fin (tcTables nBuf tb) → BufTy
  | .hbm, ⟨0, _⟩ => ⟨S16384x1024, .bf16⟩
  | .hbm, ⟨1, _⟩ => ⟨S1024x11264, .f32⟩
  | .hbm, ⟨2, _⟩ => ⟨S16384x1024, .f32⟩
  | .hbm, ⟨3, _⟩ => ⟨S16384x11264, .f32⟩
  | .hbm, ⟨4, _⟩ => ⟨S16384x8192, .f32⟩
  | .hbm, ⟨5, _⟩ => ⟨S16384x8192, .bf16⟩
  | _, _ => ⟨S16384x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== KernelSK.lean ====
abbrev S128x1024 : Shape := ⟨2, ![128, 1024]⟩
abbrev S1024x11264 : Shape := ⟨2, ![1024, 11264]⟩
abbrev S1024x1024 : Shape := ⟨2, ![1024, 1024]⟩

abbrev nBuf : Space → Nat
  | .hbm => 4
  | .vmem => 5
  | .smem => 0
  | _ => 0

abbrev bufTy : (tb : Table) → Fin (tcTables nBuf tb) → BufTy
  | .hbm, ⟨0, _⟩ => ⟨S128x1024, .bf16⟩
  | .hbm, ⟨1, _⟩ => ⟨S1024x11264, .f32⟩
  | .hbm, ⟨2, _⟩ => ⟨S128x1024, .f32⟩
  | .hbm, ⟨3, _⟩ => ⟨S128x1024, .bf16⟩
  | .local _ .vmem, ⟨0, _⟩ => ⟨S128x1024, .bf16⟩
  | .local _ .vmem, ⟨1, _⟩ => ⟨S1024x1024, .f32⟩
  | .local _ .vmem, ⟨2, _⟩ => ⟨S128x1024, .f32⟩
  | .local _ .vmem, ⟨3, _⟩ => ⟨S128x1024, .bf16⟩
  | .local _ .vmem, ⟨4, _⟩ => ⟨S1024x1024, .bf16⟩
  | _, _ => ⟨S128x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0_0 : Ref sig .tc := ⟨.hbm, 2, rfl⟩
abbrev main_v0_1 : Ref sig .tc := ⟨.hbm, 3, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_scratch0 : Ref sig .tc := ⟨.vmem, 4, rfl⟩
abbrev cc0_sem0_0 : DmaSem sig := 0
abbrev cc0_sem1_0 : DmaSem sig := 1
abbrev cc0_sem2_0 : DmaSem sig := 2
abbrev cc0_sem3_0 : DmaSem sig := 3

abbrev nD : Nat := 1
abbrev τ : Topo := Topo.v7x

variable {F : FTy → Type} [FloatOps F]

abbrev grid0 : Pipeline.Grid := ⟨2, ![1, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.addi arg0 c1_i32
  let c0_i32 : BitVec 32 := 0#32
  let c0_i32_0 : BitVec 32 := 0#32
  ![c0_i32.toNat, v0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 1 → Memref sig .tc .vmem S128x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, true]

abbrev stage0_1 : Fin 1 → Memref sig .tc .vmem S1024x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, false]

abbrev stage0_2 : Fin 1 → Memref sig .tc .vmem S128x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true]

abbrev stage0_3 : Fin 1 → Memref sig .tc .vmem S128x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true, true]
-- ==== ReferenceSKIdeal.lean ====
abbrev S128x1024 : Shape := ⟨2, ![128, 1024]⟩
abbrev S1024x11264 : Shape := ⟨2, ![1024, 11264]⟩
abbrev S128x11264 : Shape := ⟨2, ![128, 11264]⟩

abbrev nBuf : Space → Nat
  | .hbm => 6
  | .vmem => 0
  | .smem => 0
  | _ => 0

abbrev bufTy : (tb : Table) → Fin (tcTables nBuf tb) → BufTy
  | .hbm, ⟨0, _⟩ => ⟨S128x1024, .bf16⟩
  | .hbm, ⟨1, _⟩ => ⟨S1024x11264, .f32⟩
  | .hbm, ⟨2, _⟩ => ⟨S128x1024, .f32⟩
  | .hbm, ⟨3, _⟩ => ⟨S128x11264, .f32⟩
  | .hbm, ⟨4, _⟩ => ⟨S128x1024, .f32⟩
  | .hbm, ⟨5, _⟩ => ⟨S128x1024, .bf16⟩
  | _, _ => ⟨S128x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== KernelSV.lean ====
abbrev S128x1024 : Shape := ⟨2, ![128, 1024]⟩
abbrev S1024x11264 : Shape := ⟨2, ![1024, 11264]⟩
abbrev S1024x1024 : Shape := ⟨2, ![1024, 1024]⟩

abbrev nBuf : Space → Nat
  | .hbm => 4
  | .vmem => 5
  | .smem => 0
  | _ => 0

abbrev bufTy : (tb : Table) → Fin (tcTables nBuf tb) → BufTy
  | .hbm, ⟨0, _⟩ => ⟨S128x1024, .bf16⟩
  | .hbm, ⟨1, _⟩ => ⟨S1024x11264, .f32⟩
  | .hbm, ⟨2, _⟩ => ⟨S128x1024, .f32⟩
  | .hbm, ⟨3, _⟩ => ⟨S128x1024, .bf16⟩
  | .local _ .vmem, ⟨0, _⟩ => ⟨S128x1024, .bf16⟩
  | .local _ .vmem, ⟨1, _⟩ => ⟨S1024x1024, .f32⟩
  | .local _ .vmem, ⟨2, _⟩ => ⟨S128x1024, .f32⟩
  | .local _ .vmem, ⟨3, _⟩ => ⟨S128x1024, .bf16⟩
  | .local _ .vmem, ⟨4, _⟩ => ⟨S1024x1024, .bf16⟩
  | _, _ => ⟨S128x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0_0 : Ref sig .tc := ⟨.hbm, 2, rfl⟩
abbrev main_v0_1 : Ref sig .tc := ⟨.hbm, 3, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_scratch0 : Ref sig .tc := ⟨.vmem, 4, rfl⟩
abbrev cc0_sem0_0 : DmaSem sig := 0
abbrev cc0_sem1_0 : DmaSem sig := 1
abbrev cc0_sem2_0 : DmaSem sig := 2
abbrev cc0_sem3_0 : DmaSem sig := 3

abbrev nD : Nat := 1
abbrev τ : Topo := Topo.v7x

variable {F : FTy → Type} [FloatOps F]

abbrev grid0 : Pipeline.Grid := ⟨2, ![1, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.addi arg0 c2_i32
  let c0_i32 : BitVec 32 := 0#32
  let c0_i32_0 : BitVec 32 := 0#32
  ![c0_i32.toNat, v0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 1 → Memref sig .tc .vmem S128x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, true]

abbrev stage0_1 : Fin 1 → Memref sig .tc .vmem S1024x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, false]

abbrev stage0_2 : Fin 1 → Memref sig .tc .vmem S128x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true]

abbrev stage0_3 : Fin 1 → Memref sig .tc .vmem S128x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true, true]
-- ==== ReferenceSVIdeal.lean ====
abbrev S128x1024 : Shape := ⟨2, ![128, 1024]⟩
abbrev S1024x11264 : Shape := ⟨2, ![1024, 11264]⟩
abbrev S128x11264 : Shape := ⟨2, ![128, 11264]⟩

abbrev nBuf : Space → Nat
  | .hbm => 6
  | .vmem => 0
  | .smem => 0
  | _ => 0

abbrev bufTy : (tb : Table) → Fin (tcTables nBuf tb) → BufTy
  | .hbm, ⟨0, _⟩ => ⟨S128x1024, .bf16⟩
  | .hbm, ⟨1, _⟩ => ⟨S1024x11264, .f32⟩
  | .hbm, ⟨2, _⟩ => ⟨S128x1024, .f32⟩
  | .hbm, ⟨3, _⟩ => ⟨S128x11264, .f32⟩
  | .hbm, ⟨4, _⟩ => ⟨S128x1024, .f32⟩
  | .hbm, ⟨5, _⟩ => ⟨S128x1024, .bf16⟩
  | _, _ => ⟨S128x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== KernelE.lean ====
abbrev S73728x1024 : Shape := ⟨2, ![73728, 1024]⟩
abbrev S288 : Shape := ⟨1, ![288]⟩
abbrev S1 : Shape := ⟨1, ![1]⟩
abbrev S32x1024x2048 : Shape := ⟨3, ![32, 1024, 2048]⟩
abbrev S32x2048 : Shape := ⟨2, ![32, 2048]⟩
abbrev S32x1024x1024 : Shape := ⟨3, ![32, 1024, 1024]⟩
abbrev S32x1024 : Shape := ⟨2, ![32, 1024]⟩
abbrev S32x1024x1024x2 : Shape := ⟨4, ![32, 1024, 1024, 2]⟩
abbrev S32x2x1024x1024 : Shape := ⟨4, ![32, 2, 1024, 1024]⟩
abbrev S32x1024x2 : Shape := ⟨3, ![32, 1024, 2]⟩
abbrev S32x2x1024 : Shape := ⟨3, ![32, 2, 1024]⟩
abbrev S32x2x1x1024 : Shape := ⟨4, ![32, 2, 1, 1024]⟩
abbrev S32x1x1024 : Shape := ⟨3, ![32, 1, 1024]⟩
abbrev S256x1024 : Shape := ⟨2, ![256, 1024]⟩
abbrev S1x1x1024x1024 : Shape := ⟨4, ![1, 1, 1024, 1024]⟩
abbrev S1x1x1x1024 : Shape := ⟨4, ![1, 1, 1, 1024]⟩
abbrev S1x1024x1024 : Shape := ⟨3, ![1, 1024, 1024]⟩
abbrev S1x1x1024 : Shape := ⟨3, ![1, 1, 1024]⟩
abbrev S1024x1024 : Shape := ⟨2, ![1024, 1024]⟩
abbrev S1x1024 : Shape := ⟨2, ![1, 1024]⟩

abbrev nBuf : Space → Nat
  | .hbm => 15
  | .vmem => 16
  | .smem => 2
  | _ => 0

abbrev bufTy : (tb : Table) → Fin (tcTables nBuf tb) → BufTy
  | .hbm, ⟨0, _⟩ => ⟨S73728x1024, .f32⟩
  | .hbm, ⟨1, _⟩ => ⟨S32x1024x2048, .f32⟩
  | .hbm, ⟨2, _⟩ => ⟨S32x2048, .f32⟩
  | .hbm, ⟨3, _⟩ => ⟨S32x1024x1024, .f32⟩
  | .hbm, ⟨4, _⟩ => ⟨S32x1024, .f32⟩
  | .hbm, ⟨5, _⟩ => ⟨S32x1024x1024x2, .f32⟩
  | .hbm, ⟨6, _⟩ => ⟨S32x2x1024x1024, .f32⟩
  | .hbm, ⟨7, _⟩ => ⟨S32x2x1024x1024, .bf16⟩
  | .hbm, ⟨8, _⟩ => ⟨S32x1024x2, .f32⟩
  | .hbm, ⟨9, _⟩ => ⟨S32x2x1024, .f32⟩
  | .hbm, ⟨10, _⟩ => ⟨S32x1024x1024, .bf16⟩
  | .hbm, ⟨11, _⟩ => ⟨S32x2x1x1024, .f32⟩
  | .hbm, ⟨12, _⟩ => ⟨S32x2x1x1024, .f32⟩
  | .hbm, ⟨13, _⟩ => ⟨S32x1x1024, .f32⟩
  | .hbm, ⟨14, _⟩ => ⟨S73728x1024, .f32⟩
  | .local _ .vmem, ⟨0, _⟩ => ⟨S256x1024, .f32⟩
  | .local _ .vmem, ⟨1, _⟩ => ⟨S256x1024, .f32⟩
  | .local _ .vmem, ⟨2, _⟩ => ⟨S1x1x1024x1024, .bf16⟩
  | .local _ .vmem, ⟨3, _⟩ => ⟨S1x1x1024x1024, .bf16⟩
  | .local _ .vmem, ⟨4, _⟩ => ⟨S1x1x1024x1024, .bf16⟩
  | .local _ .vmem, ⟨5, _⟩ => ⟨S1x1x1024x1024, .bf16⟩
  | .local _ .vmem, ⟨6, _⟩ => ⟨S1x1x1x1024, .f32⟩
  | .local _ .vmem, ⟨7, _⟩ => ⟨S1x1x1x1024, .f32⟩
  | .local _ .vmem, ⟨8, _⟩ => ⟨S1x1x1x1024, .f32⟩
  | .local _ .vmem, ⟨9, _⟩ => ⟨S1x1x1x1024, .f32⟩
  | .local _ .vmem, ⟨10, _⟩ => ⟨S1x1024x1024, .bf16⟩
  | .local _ .vmem, ⟨11, _⟩ => ⟨S1x1024x1024, .bf16⟩
  | .local _ .vmem, ⟨12, _⟩ => ⟨S1x1x1024, .f32⟩
  | .local _ .vmem, ⟨13, _⟩ => ⟨S1x1x1024, .f32⟩
  | .local _ .vmem, ⟨14, _⟩ => ⟨S256x1024, .f32⟩
  | .local _ .vmem, ⟨15, _⟩ => ⟨S256x1024, .f32⟩
  | .local _ .smem, ⟨0, _⟩ => ⟨S288, .i32⟩
  | .local _ .smem, ⟨1, _⟩ => ⟨S1, .i32⟩
  | _, _ => ⟨S73728x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg3 : Ref sig .tc := ⟨.hbm, 1, rfl⟩
abbrev main_arg4 : Ref sig .tc := ⟨.hbm, 2, rfl⟩
abbrev main_arg5 : Ref sig .tc := ⟨.hbm, 3, rfl⟩
abbrev main_arg6 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_arg1 : Ref sig .tc := ⟨.smem, 0, rfl⟩
abbrev main_arg2 : Ref sig .tc := ⟨.smem, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![288], ![false]⟩

abbrev pre0 : Pipeline.Prefetch sig := ⟨2, ![main_arg1.idx, main_arg2.idx], fun | 0 => main_arg1.names | 1 => main_arg2.names | ⟨_ + 2, h⟩ => absurd h (Nat.not_lt.2 (Nat.le_add_left _ _)), fun | 0 => rfl | 1 => rfl | ⟨_ + 2, h⟩ => absurd h (Nat.not_lt.2 (Nat.le_add_left _ _))⟩

def k0_off1 (i : grid0.Coords) : Fin 1 → Nat :=
  let arg0 : BitVec 32 := BitVec.ofNat 32 (i 0).val
  let v0 : Index := Scalar.indexCast arg0
  ![v0.toNat]
def k0_cond1 (i : grid0.Coords) (v0 : BitVec 32) : BitVec 1 :=
  let arg0 : BitVec 32 := BitVec.ofNat 32 (i 0).val
  let v1 : BitVec 1 := Scalar.cmpi .slt arg0 v0
  let v2 : BitVec 32 := Scalar.extui v1
  let c0_i32 : BitVec 32 := 0#32
  let v3 : BitVec 1 := Scalar.cmpi .ne v2 c0_i32
  v3

def k0_cond2 (i : grid0.Coords) (v4 : BitVec 32) : BitVec 1 :=
  let arg0 : BitVec 32 := BitVec.ofNat 32 (i 0).val
  let v5 : BitVec 1 := Scalar.cmpi .sge arg0 v4
  let v6 : BitVec 32 := Scalar.extui v5
  let c0_i32_1 : BitVec 32 := 0#32
  let v7 : BitVec 1 := Scalar.cmpi .ne v6 c0_i32_1
  v7

def cc0_transform_0 (inb_S1_S1_0 : ∀ a, (![0] : Fin 1 → Nat) a + S1.size a ≤ S1.size a) (numel1_S1 : S1.numel = 1) (pf : pre0.Contents (Elt F)) (i : grid0.Coords) : Fin 2 → Nat :=
  let arg0 : BitVec 32 := BitVec.ofNat 32 (i 0).val
  let c0 : Index := 0#32
  let v0 : BitVec 32 := pf.at 1 (Rect.unit (s := S1) ![0] S1.size inb_S1_S1_0) numel1_S1
  let c1_i32 : BitVec 32 := 1#32
  let v1 : BitVec 32 := Scalar.subi v0 c1_i32
  let v2 : BitVec 32 := Scalar.minsi arg0 v1
  let c0_i32 : BitVec 32 := 0#32
  let c0_i32_0 : BitVec 32 := 0#32
  ![v2.toNat, c0_i32.toNat]

def cc0_transform_1 (k0_off1_inb : ∀ i : grid0.Coords, ∀ a, (k0_off1 i) a + S1.size a ≤ S288.size a) (numel1_S1 : S1.numel = 1) (pf : pre0.Contents (Elt F)) (i : grid0.Coords) : Fin 4 → Nat :=
  let arg0 : BitVec 32 := BitVec.ofNat 32 (i 0).val
  let v0 : Index := Scalar.indexCast arg0
  let v1 : BitVec 32 := pf.at 0 (Rect.unit (s := S288) ![v0.toNat] S1.size (k0_off1_inb i)) numel1_S1
  let c0_i32 : BitVec 32 := 0#32
  let c0_i32_0 : BitVec 32 := 0#32
  let c0_i32_1 : BitVec 32 := 0#32
  let c0_i32_2 : BitVec 32 := 0#32
  ![v1.toNat, c0_i32.toNat, c0_i32_0.toNat, c0_i32_1.toNat]

def cc0_transform_2 (k0_off1_inb : ∀ i : grid0.Coords, ∀ a, (k0_off1 i) a + S1.size a ≤ S288.size a) (numel1_S1 : S1.numel = 1) (pf : pre0.Contents (Elt F)) (i : grid0.Coords) : Fin 4 → Nat :=
  let arg0 : BitVec 32 := BitVec.ofNat 32 (i 0).val
  let v0 : Index := Scalar.indexCast arg0
  let v1 : BitVec 32 := pf.at 0 (Rect.unit (s := S288) ![v0.toNat] S1.size (k0_off1_inb i)) numel1_S1
  let c1_i32 : BitVec 32 := 1#32
  let c0_i32 : BitVec 32 := 0#32
  let c0_i32_0 : BitVec 32 := 0#32
  let c0_i32_1 : BitVec 32 := 0#32
  ![v1.toNat, c1_i32.toNat, c0_i32.toNat, c0_i32_0.toNat]

def cc0_transform_3 (k0_off1_inb : ∀ i : grid0.Coords, ∀ a, (k0_off1 i) a + S1.size a ≤ S288.size a) (numel1_S1 : S1.numel = 1) (pf : pre0.Contents (Elt F)) (i : grid0.Coords) : Fin 4 → Nat :=
  let arg0 : BitVec 32 := BitVec.ofNat 32 (i 0).val
  let v0 : Index := Scalar.indexCast arg0
  let v1 : BitVec 32 := pf.at 0 (Rect.unit (s := S288) ![v0.toNat] S1.size (k0_off1_inb i)) numel1_S1
  let c0_i32 : BitVec 32 := 0#32
  let c0_i32_0 : BitVec 32 := 0#32
  let c0_i32_1 : BitVec 32 := 0#32
  let c0_i32_2 : BitVec 32 := 0#32
  ![v1.toNat, c0_i32.toNat, c0_i32_0.toNat, c0_i32_1.toNat]

def cc0_transform_4 (k0_off1_inb : ∀ i : grid0.Coords, ∀ a, (k0_off1 i) a + S1.size a ≤ S288.size a) (numel1_S1 : S1.numel = 1) (pf : pre0.Contents (Elt F)) (i : grid0.Coords) : Fin 4 → Nat :=
  let arg0 : BitVec 32 := BitVec.ofNat 32 (i 0).val
  let v0 : Index := Scalar.indexCast arg0
  let v1 : BitVec 32 := pf.at 0 (Rect.unit (s := S288) ![v0.toNat] S1.size (k0_off1_inb i)) numel1_S1
  let c1_i32 : BitVec 32 := 1#32
  let c0_i32 : BitVec 32 := 0#32
  let c0_i32_0 : BitVec 32 := 0#32
  let c0_i32_1 : BitVec 32 := 0#32
  ![v1.toNat, c1_i32.toNat, c0_i32.toNat, c0_i32_0.toNat]

def cc0_transform_5 (k0_off1_inb : ∀ i : grid0.Coords, ∀ a, (k0_off1 i) a + S1.size a ≤ S288.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 0 (Rect.unit (s := S288) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_6 (k0_off1_inb : ∀ i : grid0.Coords, ∀ a, (k0_off1 i) a + S1.size a ≤ S288.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 0 (Rect.unit (s := S288) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x1x1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1x1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x1x1x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x1x1x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x1024x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x1x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== ReferenceEIdeal.lean ====
abbrev S73728x1024 : Shape := ⟨2, ![73728, 1024]⟩
abbrev S288 : Shape := ⟨1, ![288]⟩
abbrev S1 : Shape := ⟨1, ![1]⟩
abbrev S32x1024x2048 : Shape := ⟨3, ![32, 1024, 2048]⟩
abbrev S32x2048 : Shape := ⟨2, ![32, 2048]⟩
abbrev S32x1024x1024 : Shape := ⟨3, ![32, 1024, 1024]⟩
abbrev S32x1024 : Shape := ⟨2, ![32, 1024]⟩
abbrev S288x256x1024 : Shape := ⟨3, ![288, 256, 1024]⟩
abbrev S_ : Shape := ⟨0, ![]⟩
abbrev S288x1 : Shape := ⟨2, ![288, 1]⟩
abbrev S288x1024x2048 : Shape := ⟨3, ![288, 1024, 2048]⟩
abbrev S288x256x2048 : Shape := ⟨3, ![288, 256, 2048]⟩
abbrev S288x2048 : Shape := ⟨2, ![288, 2048]⟩
abbrev S288x1x2048 : Shape := ⟨3, ![288, 1, 2048]⟩
abbrev S288x1024x1024 : Shape := ⟨3, ![288, 1024, 1024]⟩
abbrev S288x1024 : Shape := ⟨2, ![288, 1024]⟩
abbrev S288x1x1024 : Shape := ⟨3, ![288, 1, 1024]⟩
abbrev S288x1x1 : Shape := ⟨3, ![288, 1, 1]⟩

abbrev nBuf : Space → Nat
  | .hbm => 92
  | .vmem => 0
  | .smem => 0
  | _ => 0

abbrev bufTy : (tb : Table) → Fin (tcTables nBuf tb) → BufTy
  | .hbm, ⟨0, _⟩ => ⟨S73728x1024, .f32⟩
  | .hbm, ⟨1, _⟩ => ⟨S288, .i32⟩
  | .hbm, ⟨2, _⟩ => ⟨S1, .i32⟩
  | .hbm, ⟨3, _⟩ => ⟨S32x1024x2048, .f32⟩
  | .hbm, ⟨4, _⟩ => ⟨S32x2048, .f32⟩
  | .hbm, ⟨5, _⟩ => ⟨S32x1024x1024, .f32⟩
  | .hbm, ⟨6, _⟩ => ⟨S32x1024, .f32⟩
  | .hbm, ⟨7, _⟩ => ⟨S288x256x1024, .f32⟩
  | .hbm, ⟨8, _⟩ => ⟨S_, .i32⟩
  | .hbm, ⟨9, _⟩ => ⟨S288, .i32⟩
  | .hbm, ⟨10, _⟩ => ⟨S288, .i1⟩
  | .hbm, ⟨11, _⟩ => ⟨S_, .i32⟩
  | .hbm, ⟨12, _⟩ => ⟨S288, .i32⟩
  | .hbm, ⟨13, _⟩ => ⟨S288, .i32⟩
  | .hbm, ⟨14, _⟩ => ⟨S288, .i32⟩
  | .hbm, ⟨15, _⟩ => ⟨S288x1, .i32⟩
  | .hbm, ⟨16, _⟩ => ⟨S288x1024x2048, .f32⟩
  | .hbm, ⟨17, _⟩ => ⟨S288x256x2048, .f32⟩
  | .hbm, ⟨18, _⟩ => ⟨S_, .i32⟩
  | .hbm, ⟨19, _⟩ => ⟨S288, .i32⟩
  | .hbm, ⟨20, _⟩ => ⟨S288, .i1⟩
  | .hbm, ⟨21, _⟩ => ⟨S_, .i32⟩
  | .hbm, ⟨22, _⟩ => ⟨S288, .i32⟩
  | .hbm, ⟨23, _⟩ => ⟨S288, .i32⟩
  | .hbm, ⟨24, _⟩ => ⟨S288, .i32⟩
  | .hbm, ⟨25, _⟩ => ⟨S288x1, .i32⟩
  | .hbm, ⟨26, _⟩ => ⟨S288x2048, .f32⟩
  | .hbm, ⟨27, _⟩ => ⟨S288x1x2048, .f32⟩
  | .hbm, ⟨28, _⟩ => ⟨S288x256x2048, .f32⟩
  | .hbm, ⟨29, _⟩ => ⟨S288x256x2048, .f32⟩
  | .hbm, ⟨30, _⟩ => ⟨S288x256x1024, .f32⟩
  | .hbm, ⟨31, _⟩ => ⟨S_, .f32⟩
  | .hbm, ⟨32, _⟩ => ⟨S288x256x1024, .f32⟩
  | .hbm, ⟨33, _⟩ => ⟨S288x256x1024, .f32⟩
  | .hbm, ⟨34, _⟩ => ⟨S288x256x1024, .f32⟩
  | .hbm, ⟨35, _⟩ => ⟨S_, .f32⟩
  | .hbm, ⟨36, _⟩ => ⟨S_, .f32⟩
  | .hbm, ⟨37, _⟩ => ⟨S_, .f32⟩
  | .hbm, ⟨38, _⟩ => ⟨S288x256x1024, .f32⟩
  | .hbm, ⟨39, _⟩ => ⟨S288x256x1024, .f32⟩
  | .hbm, ⟨40, _⟩ => ⟨S_, .f32⟩
  | .hbm, ⟨41, _⟩ => ⟨S288x256x1024, .f32⟩
  | .hbm, ⟨42, _⟩ => ⟨S288x256x1024, .f32⟩
  | .hbm, ⟨43, _⟩ => ⟨S_, .f32⟩
  | .hbm, ⟨44, _⟩ => ⟨S288x256x1024, .f32⟩
  | .hbm, ⟨45, _⟩ => ⟨S288x256x1024, .f32⟩
  | .hbm, ⟨46, _⟩ => ⟨S288x256x1024, .f32⟩
  | .hbm, ⟨47, _⟩ => ⟨S288x256x1024, .f32⟩
  | .hbm, ⟨48, _⟩ => ⟨S_, .f32⟩
  | .hbm, ⟨49, _⟩ => ⟨S288x256x1024, .f32⟩
  | .hbm, ⟨50, _⟩ => ⟨S288x256x1024, .f32⟩
  | .hbm, ⟨51, _⟩ => ⟨S_, .f32⟩
  | .hbm, ⟨52, _⟩ => ⟨S288x256x1024, .f32⟩
  | .hbm, ⟨53, _⟩ => ⟨S288x256x1024, .f32⟩
  | .hbm, ⟨54, _⟩ => ⟨S288x256x1024, .f32⟩
  | .hbm, ⟨55, _⟩ => ⟨S_, .f32⟩
  | .hbm, ⟨56, _⟩ => ⟨S288x256x1024, .f32⟩
  | .hbm, ⟨57, _⟩ => ⟨S288x256x1024, .f32⟩
  | .hbm, ⟨58, _⟩ => ⟨S288x256x1024, .f32⟩
  | .hbm, ⟨59, _⟩ => ⟨S_, .i32⟩
  | .hbm, ⟨60, _⟩ => ⟨S288, .i32⟩
  | .hbm, ⟨61, _⟩ => ⟨S288, .i1⟩
  | .hbm, ⟨62, _⟩ => ⟨S_, .i32⟩
  | .hbm, ⟨63, _⟩ => ⟨S288, .i32⟩
  | .hbm, ⟨64, _⟩ => ⟨S288, .i32⟩
  | .hbm, ⟨65, _⟩ => ⟨S288, .i32⟩
  | .hbm, ⟨66, _⟩ => ⟨S288x1, .i32⟩
  | .hbm, ⟨67, _⟩ => ⟨S288x1024x1024, .f32⟩
  | .hbm, ⟨68, _⟩ => ⟨S288x256x1024, .f32⟩
  | .hbm, ⟨69, _⟩ => ⟨S_, .i32⟩
  | .hbm, ⟨70, _⟩ => ⟨S288, .i32⟩
  | .hbm, ⟨71, _⟩ => ⟨S288, .i1⟩
  | .hbm, ⟨72, _⟩ => ⟨S_, .i32⟩
  | .hbm, ⟨73, _⟩ => ⟨S288, .i32⟩
  | .hbm, ⟨74, _⟩ => ⟨S288, .i32⟩
  | .hbm, ⟨75, _⟩ => ⟨S288, .i32⟩
  | .hbm, ⟨76, _⟩ => ⟨S288x1, .i32⟩
  | .hbm, ⟨77, _⟩ => ⟨S288x1024, .f32⟩
  | .hbm, ⟨78, _⟩ => ⟨S288x1x1024, .f32⟩
  | .hbm, ⟨79, _⟩ => ⟨S288x256x1024, .f32⟩
  | .hbm, ⟨80, _⟩ => ⟨S288x256x1024, .f32⟩
  | .hbm, ⟨81, _⟩ => ⟨S288, .i32⟩
  | .hbm, ⟨82, _⟩ => ⟨S_, .i32⟩
  | .hbm, ⟨83, _⟩ => ⟨S288, .i32⟩
  | .hbm, ⟨84, _⟩ => ⟨S288, .i1⟩
  | .hbm, ⟨85, _⟩ => ⟨S288x1x1, .i1⟩
  | .hbm, ⟨86, _⟩ => ⟨S_, .f32⟩
  | .hbm, ⟨87, _⟩ => ⟨S_, .f32⟩
  | .hbm, ⟨88, _⟩ => ⟨S288x256x1024, .i1⟩
  | .hbm, ⟨89, _⟩ => ⟨S288x256x1024, .f32⟩
  | .hbm, ⟨90, _⟩ => ⟨S288x256x1024, .f32⟩
  | .hbm, ⟨91, _⟩ => ⟨S73728x1024, .f32⟩
  | _, _ => ⟨S73728x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_c : Ref sig .tc := ⟨.hbm, 8, rfl⟩
abbrev main_v1 : Ref sig .tc := ⟨.hbm, 9, rfl⟩
abbrev main_v2 : Ref sig .tc := ⟨.hbm, 10, rfl⟩
abbrev main_c_0 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_c_1 : Ref sig .tc := ⟨.hbm, 18, rfl⟩
abbrev main_v9 : Ref sig .tc := ⟨.hbm, 19, rfl⟩
abbrev main_v10 : Ref sig .tc := ⟨.hbm, 20, rfl⟩
abbrev main_c_2 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_cst : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_cst_3 : Ref sig .tc := ⟨.hbm, 35, rfl⟩
abbrev main_cst_4 : Ref sig .tc := ⟨.hbm, 36, rfl⟩
abbrev main_call0_v0 : Ref sig .tc := ⟨.hbm, 37, rfl⟩
abbrev main_call0_v1 : Ref sig .tc := ⟨.hbm, 38, rfl⟩
abbrev main_call0_v2 : Ref sig .tc := ⟨.hbm, 39, rfl⟩
abbrev main_call0_v3 : Ref sig .tc := ⟨.hbm, 40, rfl⟩
abbrev main_call0_v4 : Ref sig .tc := ⟨.hbm, 41, rfl⟩
abbrev main_v23 : Ref sig .tc := ⟨.hbm, 42, rfl⟩
abbrev main_cst_5 : Ref sig .tc := ⟨.hbm, 43, rfl⟩
abbrev main_v24 : Ref sig .tc := ⟨.hbm, 44, rfl⟩
abbrev main_v25 : Ref sig .tc := ⟨.hbm, 45, rfl⟩
abbrev main_v26 : Ref sig .tc := ⟨.hbm, 46, rfl⟩
abbrev main_v27 : Ref sig .tc := ⟨.hbm, 47, rfl⟩
abbrev main_cst_6 : Ref sig .tc := ⟨.hbm, 48, rfl⟩
abbrev main_v28 : Ref sig .tc := ⟨.hbm, 49, rfl⟩
abbrev main_v29 : Ref sig .tc := ⟨.hbm, 50, rfl⟩
abbrev main_cst_7 : Ref sig .tc := ⟨.hbm, 51, rfl⟩
abbrev main_v30 : Ref sig .tc := ⟨.hbm, 52, rfl⟩
abbrev main_v31 : Ref sig .tc := ⟨.hbm, 53, rfl⟩
abbrev main_v32 : Ref sig .tc := ⟨.hbm, 54, rfl⟩
abbrev main_cst_8 : Ref sig .tc := ⟨.hbm, 55, rfl⟩
abbrev main_v33 : Ref sig .tc := ⟨.hbm, 56, rfl⟩
abbrev main_v34 : Ref sig .tc := ⟨.hbm, 57, rfl⟩
abbrev main_v35 : Ref sig .tc := ⟨.hbm, 58, rfl⟩
abbrev main_c_9 : Ref sig .tc := ⟨.hbm, 59, rfl⟩
abbrev main_v36 : Ref sig .tc := ⟨.hbm, 60, rfl⟩
abbrev main_v37 : Ref sig .tc := ⟨.hbm, 61, rfl⟩
abbrev main_c_10 : Ref sig .tc := ⟨.hbm, 62, rfl⟩
abbrev main_v38 : Ref sig .tc := ⟨.hbm, 63, rfl⟩
abbrev main_v39 : Ref sig .tc := ⟨.hbm, 64, rfl⟩
abbrev main_v40 : Ref sig .tc := ⟨.hbm, 65, rfl⟩
abbrev main_v41 : Ref sig .tc := ⟨.hbm, 66, rfl⟩
abbrev main_v42 : Ref sig .tc := ⟨.hbm, 67, rfl⟩
abbrev main_v43 : Ref sig .tc := ⟨.hbm, 68, rfl⟩
abbrev main_c_11 : Ref sig .tc := ⟨.hbm, 69, rfl⟩
abbrev main_v44 : Ref sig .tc := ⟨.hbm, 70, rfl⟩
abbrev main_v45 : Ref sig .tc := ⟨.hbm, 71, rfl⟩
abbrev main_c_12 : Ref sig .tc := ⟨.hbm, 72, rfl⟩
abbrev main_v46 : Ref sig .tc := ⟨.hbm, 73, rfl⟩
abbrev main_v47 : Ref sig .tc := ⟨.hbm, 74, rfl⟩
abbrev main_v48 : Ref sig .tc := ⟨.hbm, 75, rfl⟩
abbrev main_v49 : Ref sig .tc := ⟨.hbm, 76, rfl⟩
abbrev main_v50 : Ref sig .tc := ⟨.hbm, 77, rfl⟩
abbrev main_v51 : Ref sig .tc := ⟨.hbm, 78, rfl⟩
abbrev main_v52 : Ref sig .tc := ⟨.hbm, 79, rfl⟩
abbrev main_v53 : Ref sig .tc := ⟨.hbm, 80, rfl⟩
abbrev main_v54 : Ref sig .tc := ⟨.hbm, 81, rfl⟩
abbrev main_v55 : Ref sig .tc := ⟨.hbm, 82, rfl⟩
abbrev main_v56 : Ref sig .tc := ⟨.hbm, 83, rfl⟩
abbrev main_v57 : Ref sig .tc := ⟨.hbm, 84, rfl⟩
abbrev main_v58 : Ref sig .tc := ⟨.hbm, 85, rfl⟩
abbrev main_cst_13 : Ref sig .tc := ⟨.hbm, 86, rfl⟩
abbrev main_call1_v0 : Ref sig .tc := ⟨.hbm, 87, rfl⟩
abbrev main_call1_v1 : Ref sig .tc := ⟨.hbm, 88, rfl⟩
abbrev main_call1_v2 : Ref sig .tc := ⟨.hbm, 89, rfl⟩
abbrev main_v59 : Ref sig .tc := ⟨.hbm, 90, rfl⟩
abbrev main_v60 : Ref sig .tc := ⟨.hbm, 91, rfl⟩

abbrev nD : Nat := 1
abbrev τ : Topo := Topo.v7x

variable {F : FTy → Type} [FloatOps F]
-- ==== Proof.Short.lean ====
/-
  The kernel's body written shortly. The printed body repeats one computation for every block of 128 rows of every
  step over the keys; here that computation is one function (`rowBlock`), a step is eight of them (`keyStep`), and
  the body is the sequence of its steps (`body`). `body_eq` says that the printed body is this program.
-/
module

public import proofs.«01_k».proof.KernelIdeal
public import Idealize.ShloMosaic.Lib.Tactic.ProgEq
public import Idealize.ShloMosaic.Lib.Tactic

@[expose] public section

set_option maxRecDepth 16384

noncomputable section

namespace Cert.KernelIdeal.Short

open Idealize.ShloMosaic Idealize.SL.Sem Cert.KernelIdeal
open Facts₀ Facts

variable {F : FTy → Type} [FloatOps F] [Facts]

/-! ## What one block of rows computes -/

/-- The products of 128 rows of queries with 512 keys. -/
def scores (q : Vec F S128x128 .bf16) (k : Vec F S512x128 .bf16) : FVec F S128x512 .f32 :=
  matmul dot_S128x128_S512x128_S128x512_1_1_0_0_n_n none q k (constant S128x512 .f32 0x00000000#32)

/-- The scores of a block that starts at row `r` of the diagonal, a key after its query masked by `−∞`. -/
def masked (r : BitVec 32) (s : FVec F S128x512 .f32) : FVec F S128x512 .f32 :=
  select (cmpi .sle (iota .tc S128x512 32 [1] iota_S128x512_d1_w32)
      (addi (iota .tc S128x512 32 [0] iota_S128x512_d0_w32) (broadcast S128x512 r)))
    s (broadcast S128x512 (Scalar.ofBits .f32 0xFF800000#32))

def chunk0 (s : FVec F S128x512 .f32) : FVec F S128x128 .f32 := extractStridedSlice S128x128 ![0, 0] s slices_S128x512_o0_0_S128x128
def chunk1 (s : FVec F S128x512 .f32) : FVec F S128x128 .f32 := extractStridedSlice S128x128 ![0, 128] s slices_S128x512_o0_128_S128x128
def chunk2 (s : FVec F S128x512 .f32) : FVec F S128x128 .f32 := extractStridedSlice S128x128 ![0, 256] s slices_S128x512_o0_256_S128x128
def chunk3 (s : FVec F S128x512 .f32) : FVec F S128x128 .f32 := extractStridedSlice S128x128 ![0, 384] s slices_S128x512_o0_384_S128x128

/-- The new running maximum of 128 rows, from the old one and the scores. -/
def newMax (s : FVec F S128x512 .f32) (m : Vec F S128x128 .f32) : FVec F S128x128 .f32 :=
  maximumf m (broadcastTo S128x128 (shapeCast S128x1 (shapeCast S128x1
    (multiReduction .maximumf [1] S128 (maximumf (maximumf (maximumf (chunk0 s) (chunk1 s)) (chunk2 s)) (chunk3 s))
      0xFF800000#32 reduces_S128x128_S128 (.inl rfl) rfl)
    shapeCasts_S128_S128x1) shapeCasts_S128x1_S128x1) broadcasts_S128x1_S128x128)

/-- The weights of 128 rows: the exponentials of the scores less the maximum `m`. -/
def weights (s : FVec F S128x512 .f32) (m : FVec F S128x128 .f32) : FVec F S128x512 .bf16 :=
  concatenate S128x512 1 [⟨S128x128, truncf .bf16 (exp (subf (chunk0 s) m)) bitsLt_bf16_f32⟩,
    ⟨S128x128, truncf .bf16 (exp (subf (chunk1 s) m)) bitsLt_bf16_f32⟩,
    ⟨S128x128, truncf .bf16 (exp (subf (chunk2 s) m)) bitsLt_bf16_f32⟩,
    ⟨S128x128, truncf .bf16 (exp (subf (chunk3 s) m)) bitsLt_bf16_f32⟩]
    concatenates_S128x128_S128x128_S128x128_S128x128_S128x512_d1

/-- The new accumulator of 128 rows. -/
def newAcc (s : FVec F S128x512 .f32) (m : Vec F S128x128 .f32) (a : Vec F S128x256 .f32) (v : Vec F S512x256 .bf16) :
    FVec F S128x256 .f32 :=
  addf (mulf (concatenate S128x256 1 [⟨S128x128, exp (subf m (newMax s m))⟩, ⟨S128x128, exp (subf m (newMax s m))⟩]
      concatenates_S128x128_S128x128_S128x256_d1) a)
    (matmul dot_S128x512_S512x256_S128x256_1_0_0_1_n_n none (weights s (newMax s m)) v (constant S128x256 .f32 0x00000000#32))

/-! ## The programs -/

/-- One block of 128 rows, from row `o` of the scratch buffers, against 512 keys `k` and values `v`. -/
def rowBlock (arg12 : Memref sig .tc .vmem S1024x128 .bf16) (arg14 : Memref sig .tc .vmem S1024x128 .f32)
    (arg15 : Memref sig .tc .vmem S1024x256 .f32) (o : Nat)
    (h1 : ∀ a, (![o, 0] : Fin 2 → Nat) a + S128x128.size a ≤ S1024x128.size a)
    (h2 : ∀ a, (![o, 0] : Fin 2 → Nat) a + S128x256.size a ≤ S1024x256.size a)
    (mk : FVec F S128x512 .f32 → FVec F S128x512 .f32) (k : Vec F S512x128 .bf16) (v : Vec F S512x256 .bf16) : Prog (TpuEff nD τ sig (Elt F) Λ₀ .tc) PUnit := do
  let q : Vec F S128x128 .bf16 ← Prog.lift (.load arg12 (Rect.unit (s := S1024x128) ![o, 0] S128x128.size h1).toLoadRect (View.loadsAt_vmem h_S128x128))
  let m : Vec F S128x128 .f32 ← Prog.lift (.load arg14 (Rect.unit (s := S1024x128) ![o, 0] S128x128.size h1).toLoadRect (View.loadsAt_vmem h_S128x128))
  let a : Vec F S128x256 .f32 ← Prog.lift (.load arg15 (Rect.unit (s := S1024x256) ![o, 0] S128x256.size h2).toLoadRect (View.loadsAt_vmem h_S128x256))
  let _ : Vec F S128x256 .f32 ← Prog.lift (.load arg15 (Rect.unit (s := S1024x256) ![o, 0] S128x256.size h2).toLoadRect (View.loadsAt_vmem h_S128x256))
  Prog.lift (.store arg15 (Rect.unit (s := S1024x256) ![o, 0] S128x256.size h2) (shapeCast S128x256 (newAcc (mk (scores q k)) m a v) shapeCasts_S128x256_S128x256) Finset.univ (View.stores_vmem_bits_univ h_S128x256 rfl) (.inl rfl))
  let _ : Vec F S128x128 .f32 ← Prog.lift (.load arg14 (Rect.unit (s := S1024x128) ![o, 0] S128x128.size h1).toLoadRect (View.loadsAt_vmem h_S128x128))
  Prog.lift (.store arg14 (Rect.unit (s := S1024x128) ![o, 0] S128x128.size h1) (shapeCast S128x128 (newMax (mk (scores q k)) m) shapeCasts_S128x128_S128x128) Finset.univ (View.stores_vmem_bits_univ h_S128x128 rfl) (.inl rfl))

/-- A step: the 512 keys and values at the offsets `ok`, `ov`, against all eight blocks of rows. -/
def keyStep (arg8 : Memref sig .tc .vmem S8192x128 .bf16) (arg12 : Memref sig .tc .vmem S1024x128 .bf16)
    (arg13 : Memref sig .tc .vmem S8192x256 .bf16) (arg14 : Memref sig .tc .vmem S1024x128 .f32)
    (arg15 : Memref sig .tc .vmem S1024x256 .f32) (mk : BitVec 32 → FVec F S128x512 .f32 → FVec F S128x512 .f32)
    (ok ov : Fin 2 → Nat) (hk : ∀ a, ok a + S512x128.size a ≤ S8192x128.size a)
    (hv : ∀ a, ov a + S512x256.size a ≤ S8192x256.size a) : Prog (TpuEff nD τ sig (Elt F) Λ₀ .tc) PUnit := do
  let k : Vec F S512x128 .bf16 ← Prog.lift (.load arg8 (Rect.unit (s := S8192x128) ok S512x128.size hk).toLoadRect (View.loadsAt_vmem h_S512x128))
  let v : Vec F S512x256 .bf16 ← Prog.lift (.load arg13 (Rect.unit (s := S8192x256) ov S512x256.size hv).toLoadRect (View.loadsAt_vmem h_S512x256))
  rowBlock arg12 arg14 arg15 0 inb_S1024x128_S128x128_0_0 inb_S1024x256_S128x256_0_0 (mk 0#32) k v
  rowBlock arg12 arg14 arg15 128 inb_S1024x128_S128x128_128_0 inb_S1024x256_S128x256_128_0 (mk 128#32) k v
  rowBlock arg12 arg14 arg15 256 inb_S1024x128_S128x128_256_0 inb_S1024x256_S128x256_256_0 (mk 256#32) k v
  rowBlock arg12 arg14 arg15 384 inb_S1024x128_S128x128_384_0 inb_S1024x256_S128x256_384_0 (mk 384#32) k v
  rowBlock arg12 arg14 arg15 512 inb_S1024x128_S128x128_512_0 inb_S1024x256_S128x256_512_0 (mk 0#32) k v
  rowBlock arg12 arg14 arg15 640 inb_S1024x128_S128x128_640_0 inb_S1024x256_S128x256_640_0 (mk 128#32) k v
  rowBlock arg12 arg14 arg15 768 inb_S1024x128_S128x128_768_0 inb_S1024x256_S128x256_768_0 (mk 256#32) k v
  rowBlock arg12 arg14 arg15 896 inb_S1024x128_S128x128_896_0 inb_S1024x256_S128x256_896_0 (mk 384#32) k v

/-- No mask. -/
def free (_ : BitVec 32) (s : FVec F S128x512 .f32) : FVec F S128x512 .f32 := s

/-- The queries of a point, scaled, the lower half of their lanes over the upper half, each with zero elsewhere. -/
def queries (q : Vec F S512x128 .bf16) : FVec F S1024x128 .bf16 :=
  truncf .bf16 (concatenate S1024x128 0
    [⟨S512x128, select (cmpi .slt (iota .tc S512x128 32 [1] iota_S512x128_d1_w32) (broadcast S512x128 64#32))
        (mulf (extf .f32 q bitsLt_bf16_f32) (broadcast S512x128 (Scalar.ofBits .f32 0x3E000000#32)))
        (broadcast S512x128 (Scalar.ofBits .f32 0x00000000#32))⟩,
     ⟨S512x128, select (cmpi .sge (iota .tc S512x128 32 [1] iota_S512x128_d1_w32) (broadcast S512x128 64#32))
        (mulf (extf .f32 q bitsLt_bf16_f32) (broadcast S512x128 (Scalar.ofBits .f32 0x3E000000#32)))
        (broadcast S512x128 (Scalar.ofBits .f32 0x00000000#32))⟩]
    concatenates_S512x128_S512x128_S1024x128_d0) bitsLt_bf16_f32

/-- The sum of the products of two rows of 64. -/
def dot64 (a b : Vec F S1x64 .f32) : FVec F S1x1 .f32 :=
  shapeCast S1x1 (multiReduction .add [1] S1 (mulf a b) 0x00000000#32 reduces_S1x64_S1 (.inl rfl) rfl) shapeCasts_S1_S1x1

/-- The weight of the second softmax. -/
def lam (a b c d : Vec F S1x64 .f32) : FVec F S1x1 .f32 :=
  addf (subf (exp (dot64 a b)) (exp (dot64 c d))) (broadcast S1x1 (Scalar.ofBits .f32 0x3E4CCCCD#32))

/-- The accumulator divided by the sums of the weights. -/
def quotient (x : Vec F S1024x256 .f32) : FVec F S1024x128 .f32 :=
  divf (extractStridedSlice S1024x128 ![0, 0] x slices_S1024x256_o0_0_S1024x128)
    (extractStridedSlice S1024x128 ![0, 128] x slices_S1024x256_o0_128_S1024x128)

/-- The first softmax's values less `l` times the second's. -/
def difference (x : Vec F S1024x256 .f32) (l : FVec F S1x1 .f32) : FVec F S512x128 .f32 :=
  subf (extractStridedSlice S512x128 ![0, 0] (quotient x) slices_S1024x128_o0_0_S512x128)
    (mulf (broadcastTo S512x128 l broadcasts_S1x1_S512x128)
      (extractStridedSlice S512x128 ![512, 0] (quotient x) slices_S1024x128_o512_0_S512x128))

/-- A block divided by the roots of its rows' mean squares. -/
def normed (d : FVec F S512x128 .f32) : FVec F S512x128 .f32 :=
  mulf d (broadcastTo S512x128 (rsqrt (addf (divf (shapeCast S512x1
      (multiReduction .add [1] S512 (mulf d d) 0x00000000#32 reduces_S512x128_S512 (.inl rfl) rfl) shapeCasts_S512_S512x1)
    (broadcast S512x1 (Scalar.ofBits .f32 0x43000000#32))) (broadcast S512x1 (Scalar.ofBits .f32 0x3727C5AC#32))))
    broadcasts_S512x1_S512x128)

/-- What a point writes, from the accumulator, the weight of the second softmax and the scales. -/
def result (x : Vec F S1024x256 .f32) (l : FVec F S1x1 .f32) (w : Vec F S1x128 .f32) : FVec F S512x128 .bf16 :=
  truncf .bf16 (mulf (mulf (normed (difference x l))
      (broadcastTo S512x128 (shapeCast S1x128 w shapeCasts_S1x128_S1x128) broadcasts_S1x128_S512x128))
    (broadcast S512x128 (Scalar.ofBits .f32 0x3F4CCCCD#32))) bitsLt_bf16_f32

/-- The head's values beside a column of ones, written at the head's first point. -/
def fill (arg9 : Memref sig .tc .vmem S8192x128 .bf16) (arg13 : Memref sig .tc .vmem S8192x256 .bf16) (harg13 : arg13.IsWhole) :
    Prog (TpuEff nD τ sig (Elt F) Λ₀ .tc) PUnit := do
  let v : Vec F S8192x128 .bf16 ← Prog.lift (.load arg9 (Rect.unit (s := S8192x128) ![0, 0] S8192x128.size inb_S8192x128_S8192x128_0_0).toLoadRect (View.loadsAt_vmem h_S8192x128))
  let _ : Vec F S8192x128 .bf16 ← Prog.lift (.load arg13 (Rect.unit (s := S8192x256) ![0, 0] S8192x128.size inb_S8192x256_S8192x128_0_0).toLoadRect (View.loadsAt_vmem h_S8192x128))
  Prog.lift (.store arg13 (Rect.unit (s := S8192x256) ![0, 0] S8192x128.size inb_S8192x256_S8192x128_0_0) (shapeCast S8192x128 v shapeCasts_S8192x128_S8192x128) Finset.univ (View.stores_vmem h_S8192x128 (harg13.storeExact_slice rfl _ packedbf16_S8192x256_S8192x128_0_0) (fun _ => rfl)) (.inl rfl))
  let _ : Vec F S8192x128 .bf16 ← Prog.lift (.load arg13 (Rect.unit (s := S8192x256) ![0, 128] S8192x128.size inb_S8192x256_S8192x128_0_128).toLoadRect (View.loadsAt_vmem h_S8192x128))
  Prog.lift (.store arg13 (Rect.unit (s := S8192x256) ![0, 128] S8192x128.size inb_S8192x256_S8192x128_0_128) (shapeCast S8192x128 (broadcast S8192x128 (Scalar.ofBits .bf16 0x3F80#16)) shapeCasts_S8192x128_S8192x128) Finset.univ (View.stores_vmem h_S8192x128 (harg13.storeExact_slice rfl _ packedbf16_S8192x256_S8192x128_0_128) (fun _ => rfl)) (.inl rfl))

/-- The scratch buffers of a point at its start: the queries, maxima of `−∞`, an accumulator of zeros. -/
def start (arg7 : Memref sig .tc .vmem S512x128 .bf16) (arg12 : Memref sig .tc .vmem S1024x128 .bf16) (harg12 : arg12.IsWhole)
    (arg14 : Memref sig .tc .vmem S1024x128 .f32) (arg15 : Memref sig .tc .vmem S1024x256 .f32) : Prog (TpuEff nD τ sig (Elt F) Λ₀ .tc) PUnit := do
  let q : Vec F S512x128 .bf16 ← Prog.lift (.load arg7 (Rect.unit (s := S512x128) ![0, 0] S512x128.size inb_S512x128_S512x128_0_0).toLoadRect (View.loadsAt_vmem h_S512x128))
  let _ : Vec F S1024x128 .bf16 ← Prog.lift (.load arg12 (Rect.unit (s := S1024x128) ![0, 0] S1024x128.size inb_S1024x128_S1024x128_0_0).toLoadRect (View.loadsAt_vmem h_S1024x128))
  Prog.lift (.store arg12 (Rect.unit (s := S1024x128) ![0, 0] S1024x128.size inb_S1024x128_S1024x128_0_0) (shapeCast S1024x128 (queries q) shapeCasts_S1024x128_S1024x128) Finset.univ (View.stores_vmem h_S1024x128 (harg12.storeExact_slice rfl _ packedbf16_S1024x128_S1024x128_0_0) (fun _ => rfl)) (.inl rfl))
  let _ : Vec F S1024x128 .f32 ← Prog.lift (.load arg14 (Rect.unit (s := S1024x128) ![0, 0] S1024x128.size inb_S1024x128_S1024x128_0_0).toLoadRect (View.loadsAt_vmem h_S1024x128))
  Prog.lift (.store arg14 (Rect.unit (s := S1024x128) ![0, 0] S1024x128.size inb_S1024x128_S1024x128_0_0) (shapeCast S1024x128 (broadcast S1024x128 (Scalar.ofBits .f32 0xFF800000#32)) shapeCasts_S1024x128_S1024x128) Finset.univ (View.stores_vmem_bits_univ h_S1024x128 rfl) (.inl rfl))
  let _ : Vec F S1024x256 .f32 ← Prog.lift (.load arg15 (Rect.unit (s := S1024x256) ![0, 0] S1024x256.size inb_S1024x256_S1024x256_0_0).toLoadRect (View.loadsAt_vmem h_S1024x256))
  Prog.lift (.store arg15 (Rect.unit (s := S1024x256) ![0, 0] S1024x256.size inb_S1024x256_S1024x256_0_0) (shapeCast S1024x256 (broadcast S1024x256 (Scalar.ofBits .f32 0x00000000#32)) shapeCasts_S1024x256_S1024x256) Finset.univ (View.stores_vmem_bits_univ h_S1024x256 rfl) (.inl rfl))

/-- The end of a point: the result from the accumulator. -/
def finish (arg3 arg4 arg5 arg6 : Memref sig .tc .vmem S1x64 .f32) (arg10 : Memref sig .tc .vmem S1x128 .f32)
    (arg11 : Memref sig .tc .vmem S512x128 .bf16) (harg11 : arg11.IsWhole) (arg15 : Memref sig .tc .vmem S1024x256 .f32) : Prog (TpuEff nD τ sig (Elt F) Λ₀ .tc) PUnit := do
  let a : Vec F S1x64 .f32 ← Prog.lift (.load arg3 (Rect.unit (s := S1x64) ![0, 0] S1x64.size inb_S1x64_S1x64_0_0).toLoadRect (View.loadsAt_vmem h_S1x64))
  let b : Vec F S1x64 .f32 ← Prog.lift (.load arg4 (Rect.unit (s := S1x64) ![0, 0] S1x64.size inb_S1x64_S1x64_0_0).toLoadRect (View.loadsAt_vmem h_S1x64))
  let c : Vec F S1x64 .f32 ← Prog.lift (.load arg5 (Rect.unit (s := S1x64) ![0, 0] S1x64.size inb_S1x64_S1x64_0_0).toLoadRect (View.loadsAt_vmem h_S1x64))
  let d : Vec F S1x64 .f32 ← Prog.lift (.load arg6 (Rect.unit (s := S1x64) ![0, 0] S1x64.size inb_S1x64_S1x64_0_0).toLoadRect (View.loadsAt_vmem h_S1x64))
  let x : Vec F S1024x256 .f32 ← Prog.lift (.load arg15 (Rect.unit (s := S1024x256) ![0, 0] S1024x256.size inb_S1024x256_S1024x256_0_0).toLoadRect (View.loadsAt_vmem h_S1024x256))
  let w : Vec F S1x128 .f32 ← Prog.lift (.load arg10 (Rect.unit (s := S1x128) ![0, 0] S1x128.size inb_S1x128_S1x128_0_0).toLoadRect (View.loadsAt_vmem h_S1x128))
  let _ : Vec F S512x128 .bf16 ← Prog.lift (.load arg11 (Rect.unit (s := S512x128) ![0, 0] S512x128.size inb_S512x128_S512x128_0_0).toLoadRect (View.loadsAt_vmem h_S512x128))
  Prog.lift (.store arg11 (Rect.unit (s := S512x128) ![0, 0] S512x128.size inb_S512x128_S512x128_0_0) (result x (lam a b c d) w) Finset.univ (View.stores_vmem h_S512x128 (harg11.storeExact_slice rfl _ packedbf16_S512x128_S512x128_0_0) (fun _ => rfl)) (.inl rfl))

/-- The whole body. -/
def body (i : grid0.Coords) (arg3 : Memref sig .tc .vmem S1x64 .f32) (harg3 : arg3.IsWhole) (arg4 : Memref sig .tc .vmem S1x64 .f32) (harg4 : arg4.IsWhole) (arg5 : Memref sig .tc .vmem S1x64 .f32) (harg5 : arg5.IsWhole) (arg6 : Memref sig .tc .vmem S1x64 .f32) (harg6 : arg6.IsWhole) (arg7 : Memref sig .tc .vmem S512x128 .bf16) (harg7 : arg7.IsWhole) (arg8 : Memref sig .tc .vmem S8192x128 .bf16) (harg8 : arg8.IsWhole) (arg9 : Memref sig .tc .vmem S8192x128 .bf16) (harg9 : arg9.IsWhole) (arg10 : Memref sig .tc .vmem S1x128 .f32) (harg10 : arg10.IsWhole) (arg11 : Memref sig .tc .vmem S512x128 .bf16) (harg11 : arg11.IsWhole) (arg12 : Memref sig .tc .vmem S1024x128 .bf16) (harg12 : arg12.IsWhole) (arg13 : Memref sig .tc .vmem S8192x256 .bf16) (harg13 : arg13.IsWhole) (arg14 : Memref sig .tc .vmem S1024x128 .f32) (harg14 : arg14.IsWhole) (arg15 : Memref sig .tc .vmem S1024x256 .f32) (harg15 : arg15.IsWhole) : Prog (TpuEff nD τ sig (Elt F) Λ₀ .tc) PUnit := do
  if k0_h1 : Scalar.cmpi .ne (Scalar.extui (Scalar.cmpi .eq (BitVec.ofNat 32 (i 2).val) 0#32) : BitVec 32) 0#32 = 1#1 then do
    fill arg9 arg13 harg13
    pure ⟨⟩
  else do
    pure ⟨⟩
  start arg7 arg12 harg12 arg14 arg15
  Scf.Loop.for (k0_t1_loop i) (k0_t1_ok i) ⟨⟩ fun k0_t1 _ => do
    keyStep arg8 arg12 arg13 arg14 arg15 free (k0_off1 i k0_t1 0#32) (k0_off2 i k0_t1 0#32) (k0_off1_inb i k0_t1 0) (k0_off2_inb i k0_t1 0)
    keyStep arg8 arg12 arg13 arg14 arg15 free (k0_off1 i k0_t1 1#32) (k0_off2 i k0_t1 1#32) (k0_off1_inb i k0_t1 1) (k0_off2_inb i k0_t1 1)
    keyStep arg8 arg12 arg13 arg14 arg15 free (k0_off1 i k0_t1 2#32) (k0_off2 i k0_t1 2#32) (k0_off1_inb i k0_t1 2) (k0_off2_inb i k0_t1 2)
    keyStep arg8 arg12 arg13 arg14 arg15 free (k0_off1 i k0_t1 3#32) (k0_off2 i k0_t1 3#32) (k0_off1_inb i k0_t1 3) (k0_off2_inb i k0_t1 3)
    pure ⟨⟩
  Scf.Loop.for (k0_t2_loop i) (k0_t2_ok i) ⟨⟩ fun k0_t2 _ => do
    keyStep arg8 arg12 arg13 arg14 arg15 free (k0_off3 i k0_t2 0#32) (k0_off4 i k0_t2 0#32) (k0_off3_inb i k0_t2 0) (k0_off4_inb i k0_t2 0)
    keyStep arg8 arg12 arg13 arg14 arg15 free (k0_off3 i k0_t2 1#32) (k0_off4 i k0_t2 1#32) (k0_off3_inb i k0_t2 1) (k0_off4_inb i k0_t2 1)
    keyStep arg8 arg12 arg13 arg14 arg15 free (k0_off3 i k0_t2 2#32) (k0_off4 i k0_t2 2#32) (k0_off3_inb i k0_t2 2) (k0_off4_inb i k0_t2 2)
    keyStep arg8 arg12 arg13 arg14 arg15 free (k0_off3 i k0_t2 3#32) (k0_off4 i k0_t2 3#32) (k0_off3_inb i k0_t2 3) (k0_off4_inb i k0_t2 3)
    pure ⟨⟩
  if k0_h2 : k0_cond2 i = 1#1 then do
    keyStep arg8 arg12 arg13 arg14 arg15 free (k0_off5 i 0#32) (k0_off6 i 0#32) (k0_off5_inb i k0_h2 0) (k0_off6_inb i k0_h2 0)
    keyStep arg8 arg12 arg13 arg14 arg15 free (k0_off5 i 1#32) (k0_off6 i 1#32) (k0_off5_inb i k0_h2 1) (k0_off6_inb i k0_h2 1)
    pure ⟨⟩
  else do
    pure ⟨⟩
  if k0_h3 : k0_cond3 i = 1#1 then do
    keyStep arg8 arg12 arg13 arg14 arg15 free (k0_off7 i) (k0_off8 i) (k0_off7_inb i k0_h3) (k0_off8_inb i k0_h3)
    pure ⟨⟩
  else do
    pure ⟨⟩
  keyStep arg8 arg12 arg13 arg14 arg15 masked (k0_off9 i) (k0_off10 i) (k0_off9_inb i) (k0_off10_inb i)
  finish arg3 arg4 arg5 arg6 arg10 arg11 harg11 arg15
  pure ⟨⟩
-- ==== Proof.Rows.lean ====
/-
  What one block of rows computes, element by element: the scores, the running maximum, the accumulator.
-/
module

public import proofs.«01_k».proof.Proof.Short
public import Idealize.ShloMosaic.PureOps.Ideal
public import Idealize.ShloMosaic.Lib.Pointwise
public import Idealize.ShloMosaic.Lib.Memref

@[expose] public section

set_option maxRecDepth 16384

noncomputable section

namespace Cert.KernelIdeal.Short

open Idealize.ShloMosaic Idealize.ShloMosaic.TcCoe
open Cert.KernelIdeal Facts₀ Facts

variable [Facts]

/-- `−∞`, as the kernel writes it. -/
abbrev low : EReal := Ideal.ofBits .f32 0xFF800000#32

/-- A row's maximum over 512 scores and an old maximum. -/
def rowMax (S : Fin 512 → EReal) (m : EReal) : EReal :=
  max m (Finset.univ.fold max low fun x : Fin 128 =>
    max (max (max (S ⟨x.val, by omega⟩) (S ⟨128 + x.val, by omega⟩)) (S ⟨256 + x.val, by omega⟩)) (S ⟨384 + x.val, by omega⟩))

/-- A row's accumulator in one lane, from the old maximum `m` there, the new maxima `n` of the 128 lanes. -/
def rowAcc (S : Fin 512 → EReal) (m n : EReal) (ns : Fin 128 → EReal) (v : Fin 512 → EReal) (a : EReal) : EReal :=
  Ideal.exp (m - n) * a + ∑ j : Fin 512, Ideal.exp (S j - ns ⟨j.val % 128, Nat.mod_lt _ (by omega)⟩) * v j

theorem scores_at (q : FVec Ideal S128x128 .bf16) (k : FVec Ideal S512x128 .bf16) (r : Fin 128) (j : Fin 512) :
    scores (F := Ideal) q k (ix2 r j) = ∑ d : Fin 128, q (ix2 r d) * k (ix2 j d) := by
  pointwise [scores]

theorem newMax_at (s : FVec Ideal S128x512 .f32) (m : FVec Ideal S128x128 .f32) (r l : Fin 128) :
    newMax s m (ix2 r l) = rowMax (fun j => s (ix2 r j)) (m (ix2 r l)) := by
  pointwise [newMax, rowMax, chunk0, chunk1, chunk2, chunk3]

theorem masked_at (b : BitVec 32) (hb : b.toNat ≤ 384) (s : FVec Ideal S128x512 .f32) (r : Fin 128) (j : Fin 512) :
    masked b s (ix2 r j) = if j.val ≤ r.val + b.toNat then s (ix2 r j) else low := by
  have h : IntOp.cmpi CmpIPredicate.sle (BitVec.ofNat 32 j.val) (IntOp.addi (BitVec.ofNat 32 r.val) b)
      = BitVec.ofBool (decide (j.val ≤ r.val + b.toNat)) := by
    have e1 : (BitVec.ofNat 32 j.val).toInt = (j.val : Int) := by
      rw [BitVec.toInt_eq_toNat_of_lt] <;> simp <;> omega
    have e2 : (BitVec.ofNat 32 r.val + b).toInt = ((r.val + b.toNat : Nat) : Int) := by
      have : (BitVec.ofNat 32 r.val + b).toNat = r.val + b.toNat := by
        rw [BitVec.toNat_add, BitVec.toNat_ofNat]; omega
      rw [BitVec.toInt_eq_toNat_of_lt] <;> omega
    show BitVec.ofBool (BitVec.sle _ (_ + _)) = _
    rw [BitVec.sle_eq_decide, e1, e2]
    congr 1
    simp only [Nat.cast_le]
  pointwise [masked]
  rw [h]
  by_cases hc : j.val ≤ r.val + b.toNat
  · simp [hc, Scalar.select]
  · simp [hc, Scalar.select]

theorem newAcc_at (s : FVec Ideal S128x512 .f32) (m : FVec Ideal S128x128 .f32) (a : FVec Ideal S128x256 .f32)
    (v : FVec Ideal S512x256 .bf16) (r : Fin 128) (l : Fin 256) :
    newAcc s m a v (ix2 r l) = rowAcc (fun j => s (ix2 r j)) (m (ix2 r ⟨l.val % 128, Nat.mod_lt _ (by omega)⟩))
      (newMax s m (ix2 r ⟨l.val % 128, Nat.mod_lt _ (by omega)⟩)) (fun x => newMax s m (ix2 r x))
      (fun j => v (ix2 j l)) (a (ix2 r l)) := by
  have e : ∀ (p q : Nat) (hp : p < 128) (hq : q < 128), p = q → (ix2 r ⟨p, hp⟩ : S128x128.Idx) = ix2 r ⟨q, hq⟩ := by
    rintro p _ hp hq rfl; rfl
  have e' : ∀ (p : Nat) (hp : p < 512) (q : Fin 512), p = q.val → (ix2 r ⟨p, hp⟩ : S128x512.Idx) = ix2 r q := by
    rintro p hp q rfl; rfl
  pointwise [newAcc, rowAcc, weights, chunk0, chunk1, chunk2, chunk3]
  refine congrArg₂ (· + ·) (congrArg (· * a (ix2 r l)) ?_) (Finset.sum_congr rfl fun x _ => congrArg (· * v (ix2 x l)) ?_)
  · have E : ∀ {p q : S128x128.Idx}, p = q → Ideal.exp (m p - newMax s m p) = Ideal.exp (m q - newMax s m q) := by
      rintro p _ rfl; rfl
    split
    · exact E (e _ _ _ _ (by omega))
    · exact E (e _ _ _ _ (by omega))
  · have E : ∀ {p q : S128x128.Idx} {p' q' : S128x512.Idx}, p' = q' → p = q →
        Ideal.exp (s p' - newMax s m p) = Ideal.exp (s q' - newMax s m q) := by rintro p _ p' _ rfl rfl; rfl
    split
    · exact E rfl (e _ _ _ _ (by omega))
    · split
      · exact E (e' _ _ _ (by omega)) (e _ _ _ _ (by omega))
      · split
        · exact E (e' _ _ _ (by omega)) (e _ _ _ _ (by omega))
        · exact E (e' _ _ _ (by omega)) (e _ _ _ _ (by omega))

/-! ## All rows -/

/-- The maxima of all rows after a step with scores `S`. -/
def stepM (S : Fin 1024 → Fin 512 → EReal) (M : FVec Ideal S1024x128 .f32) : FVec Ideal S1024x128 .f32 :=
  fun i => rowMax (S (i 0)) (M i)

/-- The accumulator of all rows after a step with scores `S` and values `v`. -/
def stepA (S : Fin 1024 → Fin 512 → EReal) (v : FVec Ideal S512x256 .bf16) (M : FVec Ideal S1024x128 .f32)
    (A : FVec Ideal S1024x256 .f32) : FVec Ideal S1024x256 .f32 :=
  fun i => rowAcc (S (i 0)) (M (ix2 (i 0) ⟨(i 1).val % 128, Nat.mod_lt _ (by omega)⟩))
    (stepM S M (ix2 (i 0) ⟨(i 1).val % 128, Nat.mod_lt _ (by omega)⟩)) (fun x => stepM S M (ix2 (i 0) x))
    (fun j => v (ix2 j (i 1))) (A i)

/-- `X` with its rows below `o` taken from `G`. -/
def upto {n : Nat} (o : Nat) (G X : (⟨2, ![1024, n]⟩ : Shape).Idx → EReal) : (⟨2, ![1024, n]⟩ : Shape).Idx → EReal :=
  fun i => if (i 0).val < o then G i else X i

theorem upto_zero {n : Nat} (G X : (⟨2, ![1024, n]⟩ : Shape).Idx → EReal) : upto 0 G X = X :=
  funext fun i => if_neg (Nat.not_lt_zero _)

theorem upto_all {n : Nat} (G X : (⟨2, ![1024, n]⟩ : Shape).Idx → EReal) : upto 1024 G X = G :=
  funext fun i => if_pos (i 0).isLt

/-- Replacing the block of rows from `o` by what `G` has there. -/
theorem upto_overlay {n : Nat} (o : Nat) (h : ∀ a, (![o, 0] : Fin 2 → Nat) a + (⟨2, ![128, n]⟩ : Shape).size a ≤ (⟨2, ![1024, n]⟩ : Shape).size a)
    (G X : (⟨2, ![1024, n]⟩ : Shape).Idx → EReal) (W : (⟨2, ![128, n]⟩ : Shape).Idx → EReal)
    (hW : ∀ i, W i = G ((Rect.unit (s := ⟨2, ![1024, n]⟩) ![o, 0] (⟨2, ![128, n]⟩ : Shape).size h).emb i)) :
    (Rect.unit (s := ⟨2, ![1024, n]⟩) ![o, 0] (⟨2, ![128, n]⟩ : Shape).size h).overlay (upto o G X) W = upto (o + 128) G X := by
  funext j
  by_cases hj : j ∈ (Rect.unit (s := ⟨2, ![1024, n]⟩) ![o, 0] (⟨2, ![128, n]⟩ : Shape).size h).set
  · obtain ⟨i, rfl⟩ := LoadRect.exists_idx_of_mem _ hj
    refine (Rect.overlay_emb _ _ _ i).trans ((hW i).trans (if_pos ?_).symm)
    have := (i 0).isLt
    show o + 1 * (i 0).val < o + 128
    simp at this
    omega
  · rw [Rect.overlay_of_not_mem _ _ _ hj]
    unfold upto
    have : ¬ (o ≤ (j 0).val ∧ (j 0).val < o + 128) := fun hc => hj (by
      refine (LoadRect.mem_set _).2 fun a => ?_
      fin_cases a
      · exact ⟨(j 0).val - o, by simp; omega, by simp [Rect.unit]; omega⟩
      · exact ⟨(j 1).val, (j 1).isLt, by simp [Rect.unit]⟩)
    by_cases h1 : (j 0).val < o
    · rw [if_pos h1, if_pos (by omega)]
    · rw [if_neg h1, if_neg (by omega)]

end Cert.KernelIdeal.Short

end
-- ==== Proof.Soft.lean ====
/-
  Softmax in extended reals, its scores real or masked: a running maximum and running sums, a block of keys at a time, and
  the softmax of a whole row.
-/
module

public import proofs.«01_k».proof.Proof.Rows

@[expose] public section

set_option maxRecDepth 16384

noncomputable section

namespace Cert.KernelIdeal.Short

open Idealize.ShloMosaic

/-! ## Extended reals -/

theorem low_eq : low = ⊥ := by simp [low, Ideal.ofBits, Ideal.ieee]

theorem coe_sum {ι : Type} (s : Finset ι) (f : ι → ℝ) : ((∑ i ∈ s, f i : ℝ) : EReal) = ∑ i ∈ s, (f i : EReal) := by
  classical
  induction s using Finset.induction_on with
  | empty => simp
  | insert a s h ih => rw [Finset.sum_insert h, Finset.sum_insert h, EReal.coe_add, ih]

/-- A maximum over finitely many values that are real or masked is real or masked. -/
theorem fold_max_ne_top {ι : Type} (s : Finset ι) (f : ι → EReal) (h : ∀ i ∈ s, f i ≠ ⊤) : s.fold max low f ≠ ⊤ := by
  classical
  induction s using Finset.induction_on with
  | empty => rw [Finset.fold_empty, low_eq]; exact bot_ne_top
  | insert a s ha ih =>
    rw [Finset.fold_insert ha]
    have h1 := h a (Finset.mem_insert_self _ _)
    have h2 := ih fun i hi => h i (Finset.mem_insert_of_mem hi)
    exact (max_lt (lt_top_iff_ne_top.2 h1) (lt_top_iff_ne_top.2 h2)).ne

theorem le_fold_max {ι : Type} (s : Finset ι) (f : ι → EReal) (b : EReal) {i : ι} (h : i ∈ s) : f i ≤ s.fold max b f := by
  classical
  rw [Finset.le_fold_max]
  exact Or.inr ⟨i, h, le_rfl⟩

theorem real_of {x : EReal} (ht : x ≠ ⊤) (hb : x ≠ ⊥) : ∃ r : ℝ, x = r := ⟨x.toReal, (EReal.coe_toReal ht hb).symm⟩

/-- A score that is real where `p` holds and masked elsewhere. -/
def score (p : Prop) [Decidable p] (σ : ℝ) : EReal := if p then (σ : EReal) else ⊥

theorem score_ne_top (p : Prop) [Decidable p] (σ : ℝ) : score p σ ≠ ⊤ := by
  unfold score; split
  · exact EReal.coe_ne_top _
  · exact bot_ne_top

/-- The exponential of a score less a real. -/
theorem exp_score (p : Prop) [Decidable p] (σ μ : ℝ) :
    Ideal.exp (score p σ - (μ : EReal)) = ((if p then Real.exp (σ - μ) else 0 : ℝ) : EReal) := by
  unfold score; split
  · rw [← EReal.coe_sub, Ideal.exp_coe]
  · rw [EReal.bot_sub, Ideal.exp_bot]; rfl

/-! ## The running maximum and the running sums of a row -/

/-- What a row holds after some keys: nothing yet, or a real maximum and every lane's sum, scaled by it. -/
def State (M : EReal) (A : Fin 256 → EReal) (T : Fin 256 → ℝ) : Prop :=
  (M = ⊥ ∧ ∀ e, A e = 0 ∧ T e = 0) ∨ ∃ μ : ℝ, M = μ ∧ ∀ e, A e = ((Real.exp (-μ) * T e : ℝ) : EReal)

theorem rowMax_real (p : Fin 512 → Prop) [DecidablePred p] (σ : Fin 512 → ℝ) (m : EReal) (hm : m ≠ ⊤) (hp : p 0) :
    ∃ ν : ℝ, rowMax (fun j => score (p j) (σ j)) m = ν := by
  have h : ∀ j, score (p j) (σ j) ≠ ⊤ := fun j => score_ne_top _ _
  refine real_of ?_ ?_
  · unfold rowMax
    refine (max_lt (lt_top_iff_ne_top.2 hm) (lt_top_iff_ne_top.2 (fold_max_ne_top _ _ fun x _ => ?_))).ne
    exact (max_lt (max_lt (max_lt (lt_top_iff_ne_top.2 (h _)) (lt_top_iff_ne_top.2 (h _))) (lt_top_iff_ne_top.2 (h _)))
      (lt_top_iff_ne_top.2 (h _))).ne
  · have h0 : ((σ 0 : ℝ) : EReal) ≤ rowMax (fun j => score (p j) (σ j)) m := by
      unfold rowMax
      refine le_trans ?_ (le_trans (le_fold_max Finset.univ _ _ (Finset.mem_univ (0 : Fin 128))) (le_max_right _ _))
      refine le_trans ?_ (le_max_left _ _)
      refine le_trans ?_ (le_max_left _ _)
      refine le_trans ?_ (le_max_left _ _)
      exact (show score (p 0) (σ 0) = ((σ 0 : ℝ) : EReal) from if_pos hp).ge
    intro hb
    rw [hb] at h0
    exact absurd (le_bot_iff.1 h0) (EReal.coe_ne_bot _)

/-- One more block of keys. -/
theorem state_step (p : Fin 512 → Prop) [DecidablePred p] (σ : Fin 512 → ℝ) (hp : p 0) (M : EReal) (A : Fin 256 → EReal)
    (T : Fin 256 → ℝ) (v : Fin 256 → Fin 512 → ℝ) (h : State M A T) :
    State (rowMax (fun j => score (p j) (σ j)) M)
      (fun e => rowAcc (fun j => score (p j) (σ j)) M (rowMax (fun j => score (p j) (σ j)) M)
        (fun _ => rowMax (fun j => score (p j) (σ j)) M) (fun j => (v e j : EReal)) (A e))
      (fun e => T e + ∑ j, if p j then Real.exp (σ j) * v e j else 0) := by
  have hm : M ≠ ⊤ := by
    rcases h with ⟨h, _⟩ | ⟨μ, h, _⟩ <;> rw [h]
    · exact bot_ne_top
    · exact EReal.coe_ne_top _
  obtain ⟨ν, hν⟩ := rowMax_real p σ M hm hp
  refine Or.inr ⟨ν, hν, fun e => ?_⟩
  rw [hν]
  unfold rowAcc
  simp only [exp_score]
  have hs : ∑ j, ((if p j then Real.exp (σ j - ν) else 0 : ℝ) : EReal) * (v e j : EReal)
      = ((Real.exp (-ν) * ∑ j, if p j then Real.exp (σ j) * v e j else 0 : ℝ) : EReal) := by
    rw [Finset.mul_sum, coe_sum]
    refine Finset.sum_congr rfl fun j _ => ?_
    rw [← EReal.coe_mul]
    congr 1
    split
    · rw [sub_eq_add_neg, Real.exp_add]; ring
    · ring
  rw [hs]
  rcases h with ⟨h, hA⟩ | ⟨μ, h, hA⟩
  · rw [h, (hA e).1, (hA e).2, mul_zero, zero_add, zero_add]
  · rw [h, hA e, ← EReal.coe_sub, Ideal.exp_coe, ← EReal.coe_mul, ← EReal.coe_add]
    congr 1
    rw [mul_add, ← mul_assoc, ← Real.exp_add]
    congr 3
    ring

/-- A lane's sum over the sum of a lane of ones. -/
theorem state_div {M : EReal} {A : Fin 256 → EReal} {T : Fin 256 → ℝ} (h : State M A T) (d z : Fin 256) (hz : 0 < T z) :
    Ideal.div (A d) (A z) = ((T d / T z : ℝ) : EReal) := by
  rcases h with ⟨_, hA⟩ | ⟨μ, _, hA⟩
  · exact absurd (hA z).2 hz.ne'
  · have he := Real.exp_pos (-μ)
    rw [hA d, hA z, Ideal.div_coe (mul_pos he hz).ne', ← EReal.coe_mul]
    congr 1
    field_simp

/-! ## The softmax of a whole row -/

/-- The weighted mean of the values of the keys up to `p`. -/
def soft (σ v : ℕ → ℝ) (p : ℕ) : ℝ :=
  (∑ j ∈ Finset.range (p + 1), Real.exp (σ j) * v j) / ∑ j ∈ Finset.range (p + 1), Real.exp (σ j)

theorem soft_pos (σ : ℕ → ℝ) (p : ℕ) : 0 < ∑ j ∈ Finset.range (p + 1), Real.exp (σ j) :=
  Finset.sum_pos (fun j _ => Real.exp_pos _) ⟨0, Finset.mem_range.2 (Nat.succ_pos _)⟩

/-- A sum over the keys up to `p`, the rest of them left out. -/
theorem sum_upto {N : ℕ} (p : ℕ) (hp : p < N) (f : ℕ → ℝ) :
    (∑ j : Fin N, if j.val ≤ p then f j.val else 0) = ∑ j ∈ Finset.range (p + 1), f j := by
  rw [Fin.sum_univ_eq_sum_range (fun j => if j ≤ p then f j else 0) N, ← Finset.sum_filter]
  congr 1
  ext j
  simp only [Finset.mem_filter, Finset.mem_range]
  omega

/-- The weights of a masked row, as the reference takes them. -/
def weight {N : ℕ} (s : Fin N → EReal) (j : Fin N) : EReal :=
  Ideal.div (Ideal.exp (s j - max low (Finset.univ.fold max low s)))
    (Ideal.ofBits .f32 0x00000000#32 + ∑ k, Ideal.exp (s k - max low (Finset.univ.fold max low s)))

theorem zero_eq : Ideal.ofBits .f32 0x00000000#32 = 0 := by simp [Ideal.ofBits, Ideal.ieee]

theorem weight_eq {N : ℕ} (p : ℕ) (hp : p < N) (σ : ℕ → ℝ) (j : Fin N) :
    weight (fun j : Fin N => score (j.val ≤ p) (σ j.val)) j
      = ((if j.val ≤ p then Real.exp (σ j.val) / ∑ k ∈ Finset.range (p + 1), Real.exp (σ k) else 0 : ℝ) : EReal) := by
  obtain ⟨μ, hμ⟩ : ∃ μ : ℝ, max low (Finset.univ.fold max low fun j : Fin N => score (j.val ≤ p) (σ j.val)) = μ := by
    refine real_of ?_ ?_
    · refine (max_lt ?_ (lt_top_iff_ne_top.2 (fold_max_ne_top _ _ fun x _ => score_ne_top _ _))).ne
      rw [low_eq]; exact bot_lt_top
    · have h0 : ((σ 0 : ℝ) : EReal) ≤ max low (Finset.univ.fold max low fun j : Fin N => score (j.val ≤ p) (σ j.val)) := by
        refine le_trans ?_ (le_trans (le_fold_max Finset.univ _ _ (Finset.mem_univ (⟨0, by omega⟩ : Fin N))) (le_max_right _ _))
        exact (show score (0 ≤ p) (σ 0) = ((σ 0 : ℝ) : EReal) from if_pos (Nat.zero_le _)).ge
      intro hb
      rw [hb] at h0
      exact absurd (le_bot_iff.1 h0) (EReal.coe_ne_bot _)
  have hS := soft_pos σ p
  unfold weight
  rw [hμ]
  simp only [exp_score]
  rw [← coe_sum, zero_eq, zero_add, sum_upto p hp fun k => Real.exp (σ k - μ)]
  have hE : ∑ k ∈ Finset.range (p + 1), Real.exp (σ k - μ) = Real.exp (-μ) * ∑ k ∈ Finset.range (p + 1), Real.exp (σ k) := by
    rw [Finset.mul_sum]
    refine Finset.sum_congr rfl fun k _ => ?_
    rw [sub_eq_add_neg, Real.exp_add]; ring
  have he := Real.exp_pos (-μ)
  rw [hE, Ideal.div_coe (mul_pos he hS).ne', ← EReal.coe_mul]
  congr 1
  split
  · rw [sub_eq_add_neg, Real.exp_add]
    field_simp
  · ring

/-- The difference of two such rows of weights, against the values. -/
theorem sum_weights {N : ℕ} (p : ℕ) (hp : p < N) (σ τ v : ℕ → ℝ) (l : ℝ) :
    ∑ j : Fin N, (v j.val : EReal) * (weight (fun j : Fin N => score (j.val ≤ p) (σ j.val)) j
        - (l : EReal) * weight (fun j : Fin N => score (j.val ≤ p) (τ j.val)) j)
      = ((soft σ v p - l * soft τ v p : ℝ) : EReal) := by
  have h : ∀ j : Fin N, (v j.val : EReal) * (weight (fun j : Fin N => score (j.val ≤ p) (σ j.val)) j
        - (l : EReal) * weight (fun j : Fin N => score (j.val ≤ p) (τ j.val)) j)
      = ((if j.val ≤ p then v j.val * (Real.exp (σ j.val) / ∑ k ∈ Finset.range (p + 1), Real.exp (σ k)
          - l * (Real.exp (τ j.val) / ∑ k ∈ Finset.range (p + 1), Real.exp (τ k))) else 0 : ℝ) : EReal) := fun j => by
    rw [weight_eq p hp, weight_eq p hp, ← EReal.coe_mul, ← EReal.coe_sub, ← EReal.coe_mul]
    congr 1
    split <;> ring
  rw [Finset.sum_congr rfl fun j _ => h j, ← coe_sum,
    sum_upto p hp fun j => v j * (Real.exp (σ j) / ∑ k ∈ Finset.range (p + 1), Real.exp (σ k)
          - l * (Real.exp (τ j) / ∑ k ∈ Finset.range (p + 1), Real.exp (τ k)))]
  congr 1
  unfold soft
  rw [Finset.sum_div, Finset.sum_div, Finset.mul_sum, ← Finset.sum_sub_distrib]
  exact Finset.sum_congr rfl fun j _ => by ring

end Cert.KernelIdeal.Short

end
-- ==== Proof.Common.lean ====
/-
  What the kernel and the reference both compute from finite queries, keys and values, as one formula.
-/
module

public import proofs.«01_k».proof.Proof.Soft
public import Idealize.ShloMosaic.Lib.Pipeline.ValueKit

@[expose] public section

noncomputable section

namespace Cert.Attention

open Idealize.ShloMosaic Cert.KernelIdeal.Short

/-- Token rows by feature columns. -/
abbrev Tokens : Shape := ⟨2, ![16384, 1024]⟩

/-- The score of query `p` with key `j` in batch `b` and head `h`, over 64 lanes from lane `o`. -/
def gsc (q k : Tokens.Idx → ℝ) (b : Fin 2) (p : Fin 8192) (h : Fin 8) (o j : ℕ) : ℝ :=
  (∑ d : Fin 64, q (ix2 ⟨b.val * 8192 + p.val, by omega⟩ ⟨h.val * 128 + (o + d.val) % 128, by omega⟩)
    * k (ix2 ⟨b.val * 8192 + j % 8192, by omega⟩ ⟨h.val * 128 + (o + d.val) % 128, by omega⟩)) * (1 / 8)

/-- The difference of the two attentions of query `p`, in lane `d`. -/
def diff (q k v : Tokens.Idx → ℝ) (l : ℝ) (b : Fin 2) (p : Fin 8192) (h : Fin 8) (d : Fin 128) : ℝ :=
  soft (gsc q k b p h 0) (fun j => v (ix2 ⟨b.val * 8192 + j % 8192, by omega⟩ ⟨h.val * 128 + d.val, by omega⟩)) p.val
    - l * soft (gsc q k b p h 64) (fun j => v (ix2 ⟨b.val * 8192 + j % 8192, by omega⟩ ⟨h.val * 128 + d.val, by omega⟩)) p.val

/-- A row divided by the root of its mean square, scaled. -/
def scaled (D w : Fin 128 → EReal) (d : Fin 128) : EReal :=
  D d * Ideal.rsqrt (Ideal.div (∑ e, D e * D e) (Ideal.ofBits .f32 0x43000000#32) + Ideal.ofBits .f32 0x3727C5AC#32) * w d
    * Ideal.ofBits .f32 0x3F4CCCCD#32

/-- `λ`, from its four vectors. -/
def lamOf (a b c e : Fin 64 → EReal) : EReal :=
  Ideal.exp (∑ d, a d * b d) - Ideal.exp (∑ d, c d * e d) + Ideal.ofBits .f32 0x3E4CCCCD#32

theorem eighth_eq : Ideal.ofBits .f32 0x3E000000#32 = ((1 / 8 : ℝ) : EReal) := by
  simp [Ideal.ofBits, Ideal.ieee, -EReal.coe_mul]
  norm_num

theorem lamOf_real (a b c e : Fin 64 → ℝ) :
    ∃ l : ℝ, lamOf (fun d => a d) (fun d => b d) (fun d => c d) (fun d => e d) = l := by
  unfold lamOf
  simp only [← EReal.coe_mul, ← coe_sum, Ideal.exp_coe]
  obtain ⟨z, hz⟩ : ∃ z : ℝ, Ideal.ofBits .f32 0x3E4CCCCD#32 = z := by
    simp [Ideal.ofBits, Ideal.ieee, -EReal.coe_mul]
  rw [hz]
  exact ⟨Real.exp (∑ d, a d * b d) - Real.exp (∑ d, c d * e d) + z, by push_cast; rfl⟩

end Cert.Attention

end
-- ==== Proof.Finite.lean ====
/-
  The precondition read: the queries, the keys, the values and the four vectors behind `λ` hold real numbers.
-/
module

public import proofs.«01_k».proof.Pre_finite_inputs
public import proofs.«01_k».proof.Proof.Gen.Pre_finite_inputs
public import proofs.«01_k».proof.Proof.Common
public import Idealize.ShloMosaic.Lib.ReduceAll
public import Idealize.ShloMosaic.Lib.Pipeline.ValueKit

@[expose] public section

set_option maxRecDepth 16384

noncomputable section

namespace Cert.Pre_finite_inputs.Read

open Idealize.ShloMosaic Cert.Pre_finite_inputs Cert.Pre_finite_inputs.Gen Cert.KernelIdeal.Short

theorem infinity_eq : Ideal.ofBits .f32 0x7F800000#32 = ⊤ := by simp [Ideal.ofBits, Ideal.ieee]

theorem andi_one {x y : IVec S_ 1} (h : andi x y ix0 = 1#1) : x ix0 = 1#1 ∧ y ix0 = 1#1 := by
  have k : ∀ a b : BitVec 1, IntOp.andi a b = 1#1 → a = 1#1 ∧ b = 1#1 := by decide
  exact k _ _ h

/-- An extended real whose absolute value is below infinity is real. -/
theorem real_of_abs {x : EReal} (h : FloatOps.cmpf (F := Ideal) (φ := .f32) .olt (FloatOps.hostAbsf (F := Ideal) (φ := .f32) x) (Ideal.ofBits .f32 0x7F800000#32) = 1#1) :
    ∃ r : ℝ, x = r := by
  rw [infinity_eq] at h
  have h' : max x (-x) < ⊤ := by
    by_contra hn
    have e : FloatOps.cmpf (F := Ideal) (φ := .f32) .olt (FloatOps.hostAbsf (F := Ideal) (φ := .f32) x) ⊤ = BitVec.ofBool (decide (max x (-x) < ⊤)) := rfl
    rw [e, decide_eq_false hn] at h
    exact absurd h (by decide)
  refine real_of (fun e => ?_) fun e => ?_
  · subst e; simp at h'
  · subst e; simp at h'

/-- `jnp.all(jnp.abs(x) < inf)` over an array makes it real. -/
theorem real_of_all {s : Shape} (bc : S_.BroadcastsInDim s (![] : Fin 0 → Fin s.rank)) (axes : List (Fin s.rank)) (hr : s.ReducesTo axes S_) (hu : 0 < S_.numel)
    (x : FVec Ideal s .f32)
    (h : Host.reduce IntOp.andi (cmpf .olt (Host.absf x) (broadcastInDim s ![] bc (constant S_ .f32 0x7F800000#32))) (constantI S_ 1 1#1) hr hu ix0 = 1#1) :
    ∃ r : s.Idx → ℝ, ∀ i, x i = ((r i : ℝ) : EReal) := by
  haveI : Subsingleton S_.Idx := ⟨fun a b => funext fun i => i.elim0⟩
  refine Classical.skolem.1 fun i => real_of_abs ?_
  exact Host.reduce_andi_all _ _ hr hu ix0 h i

theorem read (q k v : FVec Ideal S16384x1024 .bf16) (a b d e : FVec Ideal S1x64 .f32) (w : FVec Ideal S128 .f32)
    (h : fn (F := Ideal) q k v a b d e w = fun _ => 1#1) :
    (∃ r : S16384x1024.Idx → ℝ, ∀ i, q i = ((r i : ℝ) : EReal)) ∧ (∃ r : S16384x1024.Idx → ℝ, ∀ i, k i = ((r i : ℝ) : EReal))
      ∧ (∃ r : S16384x1024.Idx → ℝ, ∀ i, v i = ((r i : ℝ) : EReal)) ∧ (∃ r : S1x64.Idx → ℝ, ∀ i, a i = ((r i : ℝ) : EReal))
      ∧ (∃ r : S1x64.Idx → ℝ, ∀ i, b i = ((r i : ℝ) : EReal)) ∧ (∃ r : S1x64.Idx → ℝ, ∀ i, d i = ((r i : ℝ) : EReal))
      ∧ (∃ r : S1x64.Idx → ℝ, ∀ i, e i = ((r i : ℝ) : EReal)) := by
  have h0 := congrFun h ix0
  dsimp only [fn, fn_part1, fn_part2] at h0
  obtain ⟨h0, he⟩ := andi_one h0
  obtain ⟨h0, hd⟩ := andi_one h0
  obtain ⟨h0, hb⟩ := andi_one h0
  obtain ⟨h0, ha⟩ := andi_one h0
  obtain ⟨h0, hv⟩ := andi_one h0
  obtain ⟨hq, hk⟩ := andi_one h0
  exact ⟨real_of_all _ _ _ _ (extf .f32 q bitsLt_bf16_f32) hq, real_of_all _ _ _ _ (extf .f32 k bitsLt_bf16_f32) hk,
    real_of_all _ _ _ _ (extf .f32 v bitsLt_bf16_f32) hv, real_of_all _ _ _ _ a ha,
    real_of_all _ _ _ _ b hb, real_of_all _ _ _ _ d hd, real_of_all _ _ _ _ e he⟩

end Cert.Pre_finite_inputs.Read

end
-- ==== Proof.Steps.lean ====
/-
  Loads and stores of a memref held at an array of values: what a load returns and what a store leaves are functions
  of the array. `rowBlock_spec` is what one block of rows does to the scratch buffers, `keyStep_spec` what a step does.
-/
module

public import proofs.«01_k».proof.Proof.Rows
public import proofs.«01_k».proof.Proof.Gen.KernelIdeal.Launch
public import Idealize.ShloMosaic.PureOps.Ideal
public import Idealize.ShloMosaic.Lib.Pipeline.Kit
public import Idealize.ShloMosaic.Lib.Pipeline.Value
public import Idealize.ShloMosaic.Lib.Tactic

@[expose] public section

set_option maxRecDepth 16384

noncomputable section

namespace Cert.KernelIdeal.Short

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.KernelIdeal Facts₀ Facts

local notation "𝕄" => MT nD τ sig Unit (Elt Ideal) ℕ (UR sig nD τ) ℕ

variable [Facts] (c : Dev nD) (E : Set ℕ)

/-- A program of core `c` meets `Q`. -/
abbrev Meets {α : Type} (p : Prog (TpuEff nD τ sig (Elt Ideal) Λ₀ .tc) α) (Q : α → sProp 𝕄) : sProp 𝕄 :=
  wp frame (wpE (defs₀ (F := Ideal)) Variants.none (c : Thread nD τ) none) E p Q

/-- One program after another. -/
theorem Meets.seq {α β : Type} {p : Prog (TpuEff nD τ sig (Elt Ideal) Λ₀ .tc) α} {k : α → Prog (TpuEff nD τ sig (Elt Ideal) Λ₀ .tc) β}
    {P R : sProp 𝕄} {Q : β → sProp 𝕄} (h : P ⊢ Meets c E p (fun _ => R)) (hk : ∀ a, R ⊢ Meets c E (k a) Q) :
    P ⊢ Meets c E (p >>= k) Q := by
  unfold Meets
  rw [wp_bind]
  exact h.trans (wp_mono _ _ _ fun a => hk a)

/-- What a program does not touch stays. -/
theorem Meets.keep {α : Type} {p : Prog (TpuEff nD τ sig (Elt Ideal) Λ₀ .tc) α} {P R : sProp 𝕄} (X : sProp 𝕄)
    (h : P ⊢ Meets c E p (fun _ => R)) : iprop(X ∗ P) ⊢ Meets c E p (fun _ => iprop(X ∗ R)) :=
  (sep_mono_right h).trans (wp_frame_l _ _ _)

section Access

variable {s : Shape} {e : EltTy} (m : Memref sig .tc .vmem s e) (r : Rect s)

/-- A load returns the array's part. -/
theorem load_step {α : Type} (q : PosShare TreeShare) (X : s.Idx → Elt Ideal e) (hl : m.view.LoadsAt r.toLoadRect)
    (k : (r.shape.Idx → Elt Ideal e) → Prog (TpuEff nD τ sig (Elt Ideal) Λ₀ .tc) α) (Q : α → sProp 𝕄) :
    owns (c : Thread nD τ) m q X
      ⊢ iprop((owns (c : Thread nD τ) m q X -∗ Meets c E (k (fun i => X (r.emb i))) Q)
        -∗ Meets c E (.op (.load m r.toLoadRect hl) k) Q) := by
  unfold owns
  iintro ⟨%f, %hf, H⟩ HK
  subst hf
  iapply (wp_load_rect Variants.none (c : Thread nD τ) none E (m := m) (r := r) (m.view.set_slice_subset r)) $$ H
  iintro H
  iapply HK
  iexists f
  isplitr; · ipureintro; rfl
  iexact H

/-- A store of a whole rectangle leaves the array with that part replaced. -/
theorem store_step {α : Type} (X : s.Idx → Elt Ideal e) (w : r.shape.Idx → Elt Ideal e)
    (hx : (m.access r).Stores Finset.univ) (hm : Finset.univ = Finset.univ ∨ ∀ a, r.stride a = 1)
    (k : PUnit → Prog (TpuEff nD τ sig (Elt Ideal) Λ₀ .tc) α) (Q : α → sProp 𝕄) :
    owns (c : Thread nD τ) m fullShare X
      ⊢ iprop((owns (c : Thread nD τ) m fullShare (r.overlay X w) -∗ Meets c E (k ⟨⟩) Q)
        -∗ Meets c E (.op (.store m r w Finset.univ hx hm) k) Q) := by
  unfold owns
  iintro ⟨%f, %hf, H⟩ HK
  subst hf
  iapply (wp_store Variants.none (c : Thread nD τ) none E (m := m) (r := r) (w := w) (Mk := Finset.univ)
    (((m.access r).setOn_subset_set _).trans (m.view.set_slice_subset r))) $$ H
  iintro H
  iapply HK
  iexists _
  isplitr; swap; · iexact H
  ipureintro
  funext j
  by_cases hj : j ∈ r.set
  · obtain ⟨i, rfl⟩ := r.exists_idx_of_mem hj
    exact (View.read_slice_write_emb (v := m.view) (Val := Elt Ideal) r f w (Finset.mem_univ i)).trans
      (Rect.overlay_emb r _ _ i).symm
  · rw [Rect.overlay_of_not_mem _ _ _ hj]
    exact View.read_slice_write_of_not_mem (v := m.view) (Val := Elt Ideal) r f w Finset.univ (by rwa [Rect.map_emb_univ])

/-- A load at a known part. -/
theorem load_at {α : Type} (q : PosShare TreeShare) (X : s.Idx → Elt Ideal e) (x : r.shape.Idx → Elt Ideal e)
    (hX : (fun i => X (r.emb i)) = x) (hl : m.view.LoadsAt r.toLoadRect)
    (k : (r.shape.Idx → Elt Ideal e) → Prog (TpuEff nD τ sig (Elt Ideal) Λ₀ .tc) α) (Q : α → sProp 𝕄) :
    owns (c : Thread nD τ) m q X
      ⊢ iprop((owns (c : Thread nD τ) m q X -∗ Meets c E (k x) Q) -∗ Meets c E (.op (.load m r.toLoadRect hl) k) Q) :=
  hX ▸ load_step c E m r q X hl k Q

/-- A store with a known outcome. -/
theorem store_at {α : Type} (X Y : s.Idx → Elt Ideal e) (w : r.shape.Idx → Elt Ideal e) (hY : r.overlay X w = Y)
    (hx : (m.access r).Stores Finset.univ) (hm : Finset.univ = Finset.univ ∨ ∀ a, r.stride a = 1)
    (k : PUnit → Prog (TpuEff nD τ sig (Elt Ideal) Λ₀ .tc) α) (Q : α → sProp 𝕄) :
    owns (c : Thread nD τ) m fullShare X
      ⊢ iprop((owns (c : Thread nD τ) m fullShare Y -∗ Meets c E (k ⟨⟩) Q)
        -∗ Meets c E (.op (.store m r w Finset.univ hx hm) k) Q) :=
  hY ▸ store_step c E m r X w hx hm k Q

end Access

/-! ## A block of rows and a step -/

/-- The rows from `o` of a scratch buffer of 128 lanes. -/
abbrev rows1 (o : Nat) (h1 : ∀ a, (![o, 0] : Fin 2 → Nat) a + S128x128.size a ≤ S1024x128.size a) : Rect S1024x128 :=
  Rect.unit (s := S1024x128) ![o, 0] S128x128.size h1
/-- The rows from `o` of the accumulator. -/
abbrev rows2 (o : Nat) (h2 : ∀ a, (![o, 0] : Fin 2 → Nat) a + S128x256.size a ≤ S1024x256.size a) : Rect S1024x256 :=
  Rect.unit (s := S1024x256) ![o, 0] S128x256.size h2

section Block

variable (arg12 : Memref sig .tc .vmem S1024x128 .bf16) (arg14 : Memref sig .tc .vmem S1024x128 .f32)
  (arg15 : Memref sig .tc .vmem S1024x256 .f32)

/-- The scratch buffers of a point: the queries, the maxima, the accumulator. -/
def scratch (Q : S1024x128.Idx → Elt Ideal .bf16) (M : S1024x128.Idx → Elt Ideal .f32) (A : S1024x256.Idx → Elt Ideal .f32) :
    sProp 𝕄 :=
  iprop(owns (c : Thread nD τ) arg12 fullShare Q ∗ owns (c : Thread nD τ) arg14 fullShare M ∗ owns (c : Thread nD τ) arg15 fullShare A)

/-- A block of rows changes its rows of the maxima and of the accumulator. -/
theorem rowBlock_spec (o : Nat) (h1 h2) (mk : FVec Ideal S128x512 .f32 → FVec Ideal S128x512 .f32)
    (k : Vec Ideal S512x128 .bf16) (v : Vec Ideal S512x256 .bf16) (Q M A)
    (q : FVec Ideal S128x128 .bf16) (hq : (fun i => Q ((rows1 o h1).emb i)) = q)
    (m : FVec Ideal S128x128 .f32) (hm : (fun i => M ((rows1 o h1).emb i)) = m)
    (a : FVec Ideal S128x256 .f32) (ha : (fun i => A ((rows2 o h2).emb i)) = a) :
    scratch c arg12 arg14 arg15 Q M A ⊢ Meets c E (rowBlock arg12 arg14 arg15 o h1 h2 mk k v)
      (fun _ => scratch c arg12 arg14 arg15 Q ((rows1 o h1).overlay M (newMax (mk (scores q k)) m))
        ((rows2 o h2).overlay A (newAcc (mk (scores q k)) m a v))) := by
  subst hq hm ha
  unfold scratch
  iintro ⟨HQ, HM, HA⟩
  unfold rowBlock
  simp only [Prog.bind_lift, bind_assoc]
  iapply (load_step c E arg12 (rows1 o h1)) $$ HQ; iintro HQ
  iapply (load_step c E arg14 (rows1 o h1)) $$ HM; iintro HM
  iapply (load_step c E arg15 (rows2 o h2)) $$ HA; iintro HA
  iapply (load_step c E arg15 (rows2 o h2)) $$ HA; iintro HA
  iapply (store_step c E arg15 (rows2 o h2)) $$ HA; iintro HA
  iapply (load_step c E arg14 (rows1 o h1)) $$ HM; iintro HM
  iapply (store_step c E arg14 (rows1 o h1)) $$ HM; iintro HM
  iapply (le_wp_ret _ _)
  simp only [shapeCast_self]
  isplitl [HQ]; · iexact HQ
  isplitl [HM]; · iexact HM
  iexact HA

/-- A block of rows takes the rows below `o` done to the rows below `o + 128` done. -/
theorem rowBlock_upto (o : Nat) (ho : o + 128 ≤ 1024) (h1 h2) (mk : FVec Ideal S128x512 .f32 → FVec Ideal S128x512 .f32)
    (k : Vec Ideal S512x128 .bf16) (v : Vec Ideal S512x256 .bf16) (Q : FVec Ideal S1024x128 .bf16)
    (M : FVec Ideal S1024x128 .f32) (A : FVec Ideal S1024x256 .f32) (S : Fin 1024 → Fin 512 → EReal)
    (hS : ∀ (x : Fin 128) (j : Fin 512), mk (scores (fun i => Q ((rows1 o h1).emb i)) k) (ix2 x j) = S ⟨o + x.val, by omega⟩ j) :
    scratch c arg12 arg14 arg15 Q (upto o (stepM S M) M) (upto o (stepA S v M A) A)
      ⊢ Meets c E (rowBlock arg12 arg14 arg15 o h1 h2 mk k v)
        (fun _ => scratch c arg12 arg14 arg15 Q (upto (o + 128) (stepM S M) M) (upto (o + 128) (stepA S v M A) A)) := by
  have key := rowBlock_spec c E arg12 arg14 arg15 o h1 h2 mk k v Q (upto o (stepM S M) M) (upto o (stepA S v M A) A) _ rfl
    (fun i => M ((rows1 o h1).emb i)) (funext fun i => if_neg (show ¬ (o + 1 * (i 0).val < o) by omega))
    (fun i => A ((rows2 o h2).emb i)) (funext fun i => if_neg (show ¬ (o + 1 * (i 0).val < o) by omega))
  have hM : ∀ (x l : Fin 128) (z : S1024x128.Idx), z = ix2 ⟨o + x.val, by omega⟩ l →
      newMax (mk (scores (fun i => Q ((rows1 o h1).emb i)) k)) (fun i => M ((rows1 o h1).emb i)) (ix2 x l) = stepM S M z := by
    rintro x l _ rfl
    rw [newMax_at]
    show rowMax _ _ = rowMax _ _
    refine congrArg₂ rowMax (funext fun j => hS x j) (congrArg M ?_)
    funext a; fin_cases a
    · exact Fin.ext (by show o + 1 * x.val = o + x.val; omega)
    · exact Fin.ext (by show 0 + 1 * l.val = l.val; omega)
  rw [upto_overlay o h1 (stepM S M) M, upto_overlay o h2 (stepA S v M A) A] at key
  · exact key
  · intro i
    obtain ⟨x, l, rfl⟩ : ∃ (x : Fin 128) (l : Fin 256), i = ix2 x l := ⟨i 0, i 1, eq_ix2 i⟩
    have hz : (rows2 o h2).emb (ix2 x l) = ix2 ⟨o + x.val, by omega⟩ l := by
      funext a; fin_cases a
      · exact Fin.ext (by show o + 1 * x.val = o + x.val; omega)
      · exact Fin.ext (by show 0 + 1 * l.val = l.val; omega)
    rw [newAcc_at]
    refine Eq.trans ?_ (congrArg (stepA S v M A) hz).symm
    have hm : (rows1 o h1).emb (ix2 x ⟨l.val % 128, Nat.mod_lt _ (by omega)⟩) = ix2 ⟨o + x.val, by omega⟩ ⟨l.val % 128, Nat.mod_lt _ (by omega)⟩ := by
      funext a; fin_cases a
      · exact Fin.ext (by show o + 1 * x.val = o + x.val; omega)
      · exact Fin.ext (by show 0 + 1 * (l.val % 128) = l.val % 128; omega)
    show rowAcc _ _ _ _ _ _ = rowAcc _ _ _ _ _ _
    rw [hM x _ _ rfl, hm, hz, show (fun y => newMax (mk (scores (fun i => Q ((rows1 o h1).emb i)) k))
      (fun i => M ((rows1 o h1).emb i)) (ix2 x y)) = fun y => stepM S M (ix2 ⟨o + x.val, by omega⟩ y) from
      funext fun y => hM x y _ rfl, show (fun j => mk (scores (fun i => Q ((rows1 o h1).emb i)) k) (ix2 x j)) =
        S ⟨o + x.val, by omega⟩ from funext fun j => hS x j]
    rfl
  · intro i
    obtain ⟨x, l, rfl⟩ : ∃ (x l : Fin 128), i = ix2 x l := ⟨i 0, i 1, eq_ix2 i⟩
    refine hM x l _ ?_
    funext a; fin_cases a
    · exact Fin.ext (by show o + 1 * x.val = o + x.val; omega)
    · exact Fin.ext (by show 0 + 1 * l.val = l.val; omega)

/-- A step takes the maxima and the accumulator of all rows through 512 keys. -/
theorem keyStep_spec (arg8 : Memref sig .tc .vmem S8192x128 .bf16) (arg13 : Memref sig .tc .vmem S8192x256 .bf16)
    (mk : BitVec 32 → FVec Ideal S128x512 .f32 → FVec Ideal S128x512 .f32) (ok ov : Fin 2 → Nat) (hk hv)
    (q8 q13 : PosShare TreeShare) (K : FVec Ideal S8192x128 .bf16) (Vx : FVec Ideal S8192x256 .bf16)
    (k : FVec Ideal S512x128 .bf16) (v : FVec Ideal S512x256 .bf16)
    (hK : (fun i => K ((Rect.unit (s := S8192x128) ok S512x128.size hk).emb i)) = k)
    (hV : (fun i => Vx ((Rect.unit (s := S8192x256) ov S512x256.size hv).emb i)) = v)
    (Q : FVec Ideal S1024x128 .bf16) (M : FVec Ideal S1024x128 .f32) (A : FVec Ideal S1024x256 .f32)
    (S : Fin 1024 → Fin 512 → EReal)
    (hS : ∀ (o : Nat) (ho : o + 128 ≤ 1024) (h1) (x : Fin 128) (j : Fin 512), o % 128 = 0 →
      mk (BitVec.ofNat 32 (o % 512)) (scores (fun i => Q ((rows1 o h1).emb i)) k) (ix2 x j) = S ⟨o + x.val, by omega⟩ j) :
    iprop(owns (c : Thread nD τ) arg8 q8 K ∗ owns (c : Thread nD τ) arg13 q13 Vx ∗ scratch c arg12 arg14 arg15 Q M A)
      ⊢ Meets c E (keyStep arg8 arg12 arg13 arg14 arg15 mk ok ov hk hv)
        (fun _ => iprop(owns (c : Thread nD τ) arg8 q8 K ∗ owns (c : Thread nD τ) arg13 q13 Vx ∗
          scratch c arg12 arg14 arg15 Q (stepM S M) (stepA S v M A))) := by
  have blk := fun (o : Nat) (ho : o + 128 ≤ 1024) (hm : o % 128 = 0) (h1) (h2) =>
    rowBlock_upto c E arg12 arg14 arg15 o ho h1 h2 (mk (BitVec.ofNat 32 (o % 512))) k v Q M A S (fun x j => hS o ho h1 x j hm)
  have all : scratch c arg12 arg14 arg15 Q M A ⊢ Meets c E (do
      rowBlock arg12 arg14 arg15 0 inb_S1024x128_S128x128_0_0 inb_S1024x256_S128x256_0_0 (mk 0#32) k v
      rowBlock arg12 arg14 arg15 128 inb_S1024x128_S128x128_128_0 inb_S1024x256_S128x256_128_0 (mk 128#32) k v
      rowBlock arg12 arg14 arg15 256 inb_S1024x128_S128x128_256_0 inb_S1024x256_S128x256_256_0 (mk 256#32) k v
      rowBlock arg12 arg14 arg15 384 inb_S1024x128_S128x128_384_0 inb_S1024x256_S128x256_384_0 (mk 384#32) k v
      rowBlock arg12 arg14 arg15 512 inb_S1024x128_S128x128_512_0 inb_S1024x256_S128x256_512_0 (mk 0#32) k v
      rowBlock arg12 arg14 arg15 640 inb_S1024x128_S128x128_640_0 inb_S1024x256_S128x256_640_0 (mk 128#32) k v
      rowBlock arg12 arg14 arg15 768 inb_S1024x128_S128x128_768_0 inb_S1024x256_S128x256_768_0 (mk 256#32) k v
      rowBlock arg12 arg14 arg15 896 inb_S1024x128_S128x128_896_0 inb_S1024x256_S128x256_896_0 (mk 384#32) k v)
      (fun _ => scratch c arg12 arg14 arg15 Q (stepM S M) (stepA S v M A)) := by
    have b0 := blk 0 (by omega) rfl inb_S1024x128_S128x128_0_0 inb_S1024x256_S128x256_0_0
    have b7 := blk 896 (by omega) rfl inb_S1024x128_S128x128_896_0 inb_S1024x256_S128x256_896_0
    rw [upto_zero, upto_zero] at b0
    rw [show 896 + 128 = 1024 from rfl, upto_all, upto_all] at b7
    exact Meets.seq c E b0 fun _ => Meets.seq c E (blk 128 (by omega) rfl _ _) fun _ =>
      Meets.seq c E (blk 256 (by omega) rfl _ _) fun _ => Meets.seq c E (blk 384 (by omega) rfl _ _) fun _ =>
      Meets.seq c E (blk 512 (by omega) rfl _ _) fun _ => Meets.seq c E (blk 640 (by omega) rfl _ _) fun _ =>
      Meets.seq c E (blk 768 (by omega) rfl _ _) fun _ => b7
  iintro ⟨HK, HV, HS⟩
  unfold keyStep
  simp only [Prog.bind_lift, bind_assoc]
  iapply (load_step c E arg8 (Rect.unit (s := S8192x128) ok S512x128.size hk)) $$ HK; iintro HK
  iapply (load_step c E arg13 (Rect.unit (s := S8192x256) ov S512x256.size hv)) $$ HV; iintro HV
  rw [hK, hV]
  iapply (Meets.keep c E (owns (c : Thread nD τ) arg8 q8 K) (Meets.keep c E (owns (c : Thread nD τ) arg13 q13 Vx) all))
  isplitl [HK]; · iexact HK
  isplitl [HV]; · iexact HV
  iexact HS

end Block

end Cert.KernelIdeal.Short

end
-- ==== Proof.Point.lean ====
/-
  What one grid point does: it goes through the blocks of keys up to its own, the last one masked, and writes the
  result from the accumulator. `body_spec` says it of the whole body.
-/
module

public import proofs.«01_k».proof.Proof.Steps

@[expose] public section

set_option maxRecDepth 16384

noncomputable section

namespace Cert.KernelIdeal.Short

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.KernelIdeal Facts₀ Facts

local notation "𝕄" => MT nD τ sig Unit (Elt Ideal) ℕ (UR sig nD τ) ℕ

variable [Facts]

/-! ## The values -/

/-- The `t`-th block of 512 keys. -/
def kblk (K : FVec Ideal S8192x128 .bf16) (t : Nat) : FVec Ideal S512x128 .bf16 :=
  fun i => K (ix2 ⟨(512 * t + (i 0).val) % 8192, Nat.mod_lt _ (by omega)⟩ (i 1))

/-- The `t`-th block of 512 extended values. -/
def vblk (V : FVec Ideal S8192x256 .bf16) (t : Nat) : FVec Ideal S512x256 .bf16 :=
  fun i => V (ix2 ⟨(512 * t + (i 0).val) % 8192, Nat.mod_lt _ (by omega)⟩ (i 1))

/-- The scores of all rows against a block of keys. -/
def freeS (Q : FVec Ideal S1024x128 .bf16) (k : FVec Ideal S512x128 .bf16) (R : Fin 1024) (j : Fin 512) : EReal :=
  ∑ d : Fin 128, Q (ix2 R d) * k (ix2 j d)

/-- The scores on the diagonal block, later keys masked. -/
def maskS (Q : FVec Ideal S1024x128 .bf16) (k : FVec Ideal S512x128 .bf16) (R : Fin 1024) (j : Fin 512) : EReal :=
  if j.val ≤ R.val % 512 then freeS Q k R j else low

/-- The maxima and the accumulator after `t` blocks of keys. -/
def after (Q : FVec Ideal S1024x128 .bf16) (K : FVec Ideal S8192x128 .bf16) (V : FVec Ideal S8192x256 .bf16) :
    Nat → FVec Ideal S1024x128 .f32 × FVec Ideal S1024x256 .f32
  | 0 => (fun _ => low, fun _ => Ideal.ofBits .f32 0x00000000#32)
  | t + 1 => (stepM (freeS Q (kblk K t)) (after Q K V t).1,
      stepA (freeS Q (kblk K t)) (vblk V t) (after Q K V t).1 (after Q K V t).2)

/-- The accumulator after the diagonal block. -/
def total (Q : FVec Ideal S1024x128 .bf16) (K : FVec Ideal S8192x128 .bf16) (V : FVec Ideal S8192x256 .bf16) (n : Nat) :
    FVec Ideal S1024x256 .f32 :=
  stepA (maskS Q (kblk K n)) (vblk V n) (after Q K V n).1 (after Q K V n).2

/-- Values beside ones. -/
def extended (v : FVec Ideal S8192x128 .bf16) : FVec Ideal S8192x256 .bf16 :=
  fun i => if h : (i 1).val < 128 then v (ix2 (i 0) ⟨(i 1).val, h⟩) else Ideal.ofBits .bf16 0x3F80#16

/-! ## Whole arrays -/

theorem emb_whole {n m : Nat} (h : ∀ a, (![0, 0] : Fin 2 → Nat) a + (⟨2, ![n, m]⟩ : Shape).size a ≤ (⟨2, ![n, m]⟩ : Shape).size a)
    (i : (⟨2, ![n, m]⟩ : Shape).Idx) : (Rect.unit (s := ⟨2, ![n, m]⟩) ![0, 0] (⟨2, ![n, m]⟩ : Shape).size h).emb i = i := by
  funext a; fin_cases a
  · exact Fin.ext (by show 0 + 1 * (i 0).val = (i 0).val; omega)
  · exact Fin.ext (by show 0 + 1 * (i 1).val = (i 1).val; omega)

theorem overlay_whole {n m : Nat} {α : Type} (h : ∀ a, (![0, 0] : Fin 2 → Nat) a + (⟨2, ![n, m]⟩ : Shape).size a ≤ (⟨2, ![n, m]⟩ : Shape).size a)
    (X W : (⟨2, ![n, m]⟩ : Shape).Idx → α) :
    (Rect.unit (s := ⟨2, ![n, m]⟩) ![0, 0] (⟨2, ![n, m]⟩ : Shape).size h).overlay X W = W := by
  funext i
  exact (congrArg _ (emb_whole h i).symm).trans
    (Rect.overlay_emb (Rect.unit (s := ⟨2, ![n, m]⟩) ![0, 0] (⟨2, ![n, m]⟩ : Shape).size h) X W i)

theorem read_whole {n m : Nat} {α : Type} (h : ∀ a, (![0, 0] : Fin 2 → Nat) a + (⟨2, ![n, m]⟩ : Shape).size a ≤ (⟨2, ![n, m]⟩ : Shape).size a)
    (X : (⟨2, ![n, m]⟩ : Shape).Idx → α) :
    (fun i => X ((Rect.unit (s := ⟨2, ![n, m]⟩) ![0, 0] (⟨2, ![n, m]⟩ : Shape).size h).emb i)) = X :=
  funext fun i => congrArg X (emb_whole h i)

theorem extended_overlay (h1 h2) (X : FVec Ideal S8192x256 .bf16) (v : FVec Ideal S8192x128 .bf16) :
    (Rect.unit (s := S8192x256) ![0, 128] S8192x128.size h2).overlay
      ((Rect.unit (s := S8192x256) ![0, 0] S8192x128.size h1).overlay X v) (fun _ => Ideal.ofBits .bf16 0x3F80#16) = extended v := by
  funext i
  by_cases hi : (i 1).val < 128
  · rw [Rect.overlay_of_not_mem]
    · have e : (Rect.unit (s := S8192x256) ![0, 0] S8192x128.size h1).emb (ix2 (i 0) ⟨(i 1).val, hi⟩) = i := by
        funext a; fin_cases a
        · exact Fin.ext (by show 0 + 1 * (i 0).val = (i 0).val; omega)
        · exact Fin.ext (by show 0 + 1 * (i 1).val = (i 1).val; omega)
      exact ((congrArg _ e.symm).trans (Rect.overlay_emb _ _ _ _)).trans (show extended v i = _ from dif_pos hi).symm
    · intro hm
      obtain ⟨y, hy⟩ := LoadRect.exists_idx_of_mem _ hm
      have := congrArg (fun z : S8192x256.Idx => (z 1).val) hy
      have h3 : 128 + 1 * (y 1).val = (i 1).val := this
      omega
  · have hlt : (i 1).val < 256 := (i 1).isLt
    have e : (Rect.unit (s := S8192x256) ![0, 128] S8192x128.size h2).emb (ix2 (i 0) ⟨(i 1).val - 128, by omega⟩) = i := by
      funext a; fin_cases a
      · exact Fin.ext (by show 0 + 1 * (i 0).val = (i 0).val; omega)
      · exact Fin.ext (by show 128 + 1 * ((i 1).val - 128) = (i 1).val; omega)
    exact ((congrArg _ e.symm).trans (Rect.overlay_emb _ _ _ _)).trans (show extended v i = _ from dif_neg hi).symm

/-! ## The steps -/

variable (c : Dev nD) (E : Set ℕ)

/-- A program, then what follows it. -/
theorem Meets.cps {α : Type} {p : Prog (TpuEff nD τ sig (Elt Ideal) Λ₀ .tc) PUnit} {P R : sProp 𝕄}
    (h : P ⊢ Meets c E p (fun _ => R)) (k : PUnit → Prog (TpuEff nD τ sig (Elt Ideal) Λ₀ .tc) α) (Q : α → sProp 𝕄) :
    P ⊢ iprop((R -∗ Meets c E (k ⟨⟩) Q) -∗ Meets c E (p >>= k) Q) := by
  refine BI.wand_intro ?_
  unfold Meets
  rw [wp_bind]
  refine (sep_mono_left h).trans ((wp_frame_r _ _ _).trans (wp_mono _ _ _ fun a => ?_))
  exact wand_elim_right

section Body

variable (arg8 : Memref sig .tc .vmem S8192x128 .bf16) (arg12 : Memref sig .tc .vmem S1024x128 .bf16)
  (arg13 : Memref sig .tc .vmem S8192x256 .bf16) (arg14 : Memref sig .tc .vmem S1024x128 .f32)
  (arg15 : Memref sig .tc .vmem S1024x256 .f32)
  (q8 q13 : PosShare TreeShare) (K : FVec Ideal S8192x128 .bf16) (V : FVec Ideal S8192x256 .bf16)
  (Q : FVec Ideal S1024x128 .bf16)

/-- Keys, extended values and the scratch buffers with the maxima `M` and the accumulator `A`. -/
def holds (M : FVec Ideal S1024x128 .f32) (A : FVec Ideal S1024x256 .f32) : sProp 𝕄 :=
  iprop(owns (c : Thread nD τ) arg8 q8 K ∗ owns (c : Thread nD τ) arg13 q13 V ∗ scratch c arg12 arg14 arg15 Q M A)

/-- The same after `t` blocks of keys. -/
abbrev reached (t : Nat) : sProp 𝕄 :=
  holds c arg8 arg12 arg13 arg14 arg15 q8 q13 K V Q (after Q K V t).1 (after Q K V t).2

theorem kblk_eq (ok : Fin 2 → Nat) (t : Nat) (ht : t < 16) (e : ok = ![512 * t, 0]) (h) :
    (fun i => K ((Rect.unit (s := S8192x128) ok S512x128.size h).emb i)) = kblk K t := by
  subst e
  funext i
  refine congrArg K ?_
  have h0 : (i 0).val < 512 := (i 0).isLt
  funext a; fin_cases a
  · exact Fin.ext (by show 512 * t + 1 * (i 0).val = (512 * t + (i 0).val) % 8192; omega)
  · exact Fin.ext (by show 0 + 1 * (i 1).val = (i 1).val; omega)

theorem vblk_eq (ov : Fin 2 → Nat) (t : Nat) (ht : t < 16) (e : ov = ![512 * t, 0]) (h) :
    (fun i => V ((Rect.unit (s := S8192x256) ov S512x256.size h).emb i)) = vblk V t := by
  subst e
  funext i
  refine congrArg V ?_
  have h0 : (i 0).val < 512 := (i 0).isLt
  funext a; fin_cases a
  · exact Fin.ext (by show 512 * t + 1 * (i 0).val = (512 * t + (i 0).val) % 8192; omega)
  · exact Fin.ext (by show 0 + 1 * (i 1).val = (i 1).val; omega)

theorem scores_rows (k : FVec Ideal S512x128 .bf16) (o : Nat) (ho : o + 128 ≤ 1024) (h1) (x : Fin 128) (j : Fin 512) :
    scores (F := Ideal) (fun i => Q ((rows1 o h1).emb i)) k (ix2 x j) = freeS Q k ⟨o + x.val, by omega⟩ j := by
  refine (scores_at _ _ _ _).trans (Finset.sum_congr rfl fun d _ => congrArg (· * k (ix2 j d)) (congrArg Q ?_))
  funext a; fin_cases a
  · exact Fin.ext (by show o + 1 * x.val = o + x.val; omega)
  · exact Fin.ext (by show 0 + 1 * d.val = d.val; omega)

/-- A step below the diagonal. -/
theorem free_step (t : Nat) (ht : t < 16) (ok ov : Fin 2 → Nat) (hk hv) (e1 : ok = ![512 * t, 0]) (e2 : ov = ![512 * t, 0]) :
    reached c arg8 arg12 arg13 arg14 arg15 q8 q13 K V Q t
      ⊢ Meets c E (keyStep (F := Ideal) arg8 arg12 arg13 arg14 arg15 free ok ov hk hv)
        (fun _ => reached c arg8 arg12 arg13 arg14 arg15 q8 q13 K V Q (t + 1)) :=
  keyStep_spec c E arg12 arg14 arg15 arg8 arg13 free ok ov hk hv q8 q13 K V (kblk K t) (vblk V t)
    (kblk_eq K ok t ht e1 hk) (vblk_eq V ov t ht e2 hv) Q _ _ (freeS Q (kblk K t))
    (fun o ho h1 x j _ => scores_rows Q _ o ho h1 x j)

/-- The step on the diagonal. -/
theorem mask_step (t : Nat) (ht : t < 16) (ok ov : Fin 2 → Nat) (hk hv) (e1 : ok = ![512 * t, 0]) (e2 : ov = ![512 * t, 0]) :
    reached c arg8 arg12 arg13 arg14 arg15 q8 q13 K V Q t
      ⊢ Meets c E (keyStep (F := Ideal) arg8 arg12 arg13 arg14 arg15 masked ok ov hk hv)
        (fun _ => holds c arg8 arg12 arg13 arg14 arg15 q8 q13 K V Q (stepM (maskS Q (kblk K t)) (after Q K V t).1) (total Q K V t)) :=
  keyStep_spec c E arg12 arg14 arg15 arg8 arg13 masked ok ov hk hv q8 q13 K V (kblk K t) (vblk V t)
    (kblk_eq K ok t ht e1 hk) (vblk_eq V ov t ht e2 hv) Q _ _ (maskS Q (kblk K t))
    (fun o ho h1 x j hm => by
      have hb : (BitVec.ofNat 32 (o % 512)).toNat = o % 512 := by rw [BitVec.toNat_ofNat]; omega
      rw [masked_at _ (by omega), hb, scores_rows Q _ o ho h1 x j]
      unfold maskS
      have : (o + x.val) % 512 = x.val + o % 512 := by have := x.isLt; omega
      simp only [this])

/-! ## The offsets and the conditions of a point -/

theorem off1_eq : ∀ (i : grid0.Coords) (k : Fin (k0_t1_loop i).trips) (r : Fin 4),
    k0_off1 i k (BitVec.ofNat 32 r.val) = ![512 * (4 * k.val + r.val), 0]
      ∧ k0_off2 i k (BitVec.ofNat 32 r.val) = ![512 * (4 * k.val + r.val), 0] := by decide +kernel
theorem trips1_eq : ∀ i : grid0.Coords, (k0_t1_loop i).trips = (i 2).val / 4 := by decide +kernel
theorem trips2_eq : ∀ i : grid0.Coords, (k0_t2_loop i).trips = 0 := by decide +kernel
theorem off5_eq : ∀ (i : grid0.Coords) (r : Fin 2), k0_cond2 i = 1#1 →
    k0_off5 i (BitVec.ofNat 32 r.val) = ![512 * (4 * ((i 2).val / 4) + r.val), 0]
      ∧ k0_off6 i (BitVec.ofNat 32 r.val) = ![512 * (4 * ((i 2).val / 4) + r.val), 0] := by decide +kernel
theorem off7_eq : ∀ (i : grid0.Coords), k0_cond3 i = 1#1 →
    k0_off7 i = ![512 * ((i 2).val - 1), 0] ∧ k0_off8 i = ![512 * ((i 2).val - 1), 0] := by decide +kernel
theorem off9_eq : ∀ (i : grid0.Coords), k0_off9 i = ![512 * (i 2).val, 0] ∧ k0_off10 i = ![512 * (i 2).val, 0] := by decide +kernel
theorem cond2_eq : ∀ i : grid0.Coords, k0_cond2 i = 1#1 ↔ 2 ≤ (i 2).val % 4 := by decide +kernel
theorem cond3_eq : ∀ i : grid0.Coords, k0_cond3 i = 1#1 ↔ (i 2).val % 2 = 1 := by decide +kernel
theorem first_eq : ∀ i : grid0.Coords,
    Scalar.cmpi .ne (Scalar.extui (Scalar.cmpi .eq (BitVec.ofNat 32 (i 2).val) 0#32) : BitVec 32) 0#32 = 1#1 ↔ (i 2).val = 0 := by
  decide +kernel

end Body

end Cert.KernelIdeal.Short

end
-- ==== Proof.Body.lean ====
/-
  The body of a grid point, from the loads of its blocks to the store of its result.
-/
module

public import proofs.«01_k».proof.Proof.Point

@[expose] public section

set_option maxRecDepth 16384

noncomputable section

namespace Cert.KernelIdeal.Short

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.KernelIdeal Facts₀ Facts

local notation "𝕄" => MT nD τ sig Unit (Elt Ideal) ℕ (UR sig nD τ) ℕ

variable [Facts] (c : Dev nD) (E : Set ℕ)

/-- Nothing left to do. -/
theorem Meets.done {α : Type} (a : α) (P : sProp 𝕄) : P ⊢ Meets c E (pure a) (fun _ => P) :=
  le_wp_ret frame (wpE (defs₀ (F := Ideal)) Variants.none (c : Thread nD τ) none) E a (fun _ => P)

/-- What the point of query block `n` writes. -/
def outcome (n : Nat) (a b d e : FVec Ideal S1x64 .f32) (X : FVec Ideal S512x128 .bf16) (K : FVec Ideal S8192x128 .bf16)
    (V : FVec Ideal S8192x256 .bf16) (w : FVec Ideal S1x128 .f32) : FVec Ideal S512x128 .bf16 :=
  result (total (queries X) K V n) (lam a b d e) w

/-- A load of a whole array. -/
theorem load_all {n m : Nat} {e : EltTy} (r : Memref sig .tc .vmem ⟨2, ![n, m]⟩ e) {α : Type} (q : PosShare TreeShare)
    (X : (⟨2, ![n, m]⟩ : Shape).Idx → Elt Ideal e)
    (h : ∀ a, (![0, 0] : Fin 2 → Nat) a + (⟨2, ![n, m]⟩ : Shape).size a ≤ (⟨2, ![n, m]⟩ : Shape).size a) (hl)
    (k : ((⟨2, ![n, m]⟩ : Shape).Idx → Elt Ideal e) → Prog (TpuEff nD τ sig (Elt Ideal) Λ₀ .tc) α) (Q : α → sProp 𝕄) :
    owns (c : Thread nD τ) r q X
      ⊢ iprop((owns (c : Thread nD τ) r q X -∗ Meets c E (k X) Q)
        -∗ Meets c E (.op (.load r (Rect.unit (s := ⟨2, ![n, m]⟩) ![0, 0] (⟨2, ![n, m]⟩ : Shape).size h).toLoadRect hl) k) Q) :=
  load_at c E r _ q X X (read_whole h X) hl k Q

/-- A store of a whole array. -/
theorem store_all {n m : Nat} {e : EltTy} (r : Memref sig .tc .vmem ⟨2, ![n, m]⟩ e) {α : Type}
    (X W : (⟨2, ![n, m]⟩ : Shape).Idx → Elt Ideal e)
    (h : ∀ a, (![0, 0] : Fin 2 → Nat) a + (⟨2, ![n, m]⟩ : Shape).size a ≤ (⟨2, ![n, m]⟩ : Shape).size a)
    (hx : (r.access (Rect.unit (s := ⟨2, ![n, m]⟩) ![0, 0] (⟨2, ![n, m]⟩ : Shape).size h)).Stores Finset.univ)
    (hm : (Finset.univ : Finset (Rect.unit (s := ⟨2, ![n, m]⟩) ![0, 0] (⟨2, ![n, m]⟩ : Shape).size h).shape.Idx) = Finset.univ
      ∨ ∀ a, (Rect.unit (s := ⟨2, ![n, m]⟩) ![0, 0] (⟨2, ![n, m]⟩ : Shape).size h).stride a = 1)
    (k : PUnit → Prog (TpuEff nD τ sig (Elt Ideal) Λ₀ .tc) α) (Q : α → sProp 𝕄) :
    owns (c : Thread nD τ) r fullShare X
      ⊢ iprop((owns (c : Thread nD τ) r fullShare W -∗ Meets c E (k ⟨⟩) Q)
        -∗ Meets c E (.op (.store r (Rect.unit (s := ⟨2, ![n, m]⟩) ![0, 0] (⟨2, ![n, m]⟩ : Shape).size h) W Finset.univ hx hm) k) Q) :=
  store_at c E r (Rect.unit (s := ⟨2, ![n, m]⟩) ![0, 0] (⟨2, ![n, m]⟩ : Shape).size h) X W W (overlay_whole h X W) hx hm k Q

section Pieces

variable (arg3 arg4 arg5 arg6 : Memref sig .tc .vmem S1x64 .f32) (arg7 : Memref sig .tc .vmem S512x128 .bf16)
  (arg8 arg9 : Memref sig .tc .vmem S8192x128 .bf16) (arg10 : Memref sig .tc .vmem S1x128 .f32)
  (arg11 : Memref sig .tc .vmem S512x128 .bf16) (harg11 : arg11.IsWhole)
  (arg12 : Memref sig .tc .vmem S1024x128 .bf16) (harg12 : arg12.IsWhole)
  (arg13 : Memref sig .tc .vmem S8192x256 .bf16) (harg13 : arg13.IsWhole) (arg14 : Memref sig .tc .vmem S1024x128 .f32)
  (arg15 : Memref sig .tc .vmem S1024x256 .f32)
  (q3 q4 q5 q6 q7 q8 q9 q10 : PosShare TreeShare)

theorem fill_spec (v : FVec Ideal S8192x128 .bf16) (V : FVec Ideal S8192x256 .bf16) :
    iprop(owns (c : Thread nD τ) arg9 q9 v ∗ owns (c : Thread nD τ) arg13 fullShare V)
      ⊢ Meets c E (fill (F := Ideal) arg9 arg13 harg13)
        (fun _ => iprop(owns (c : Thread nD τ) arg9 q9 v ∗ owns (c : Thread nD τ) arg13 fullShare (extended v))) := by
  iintro ⟨HK, HV⟩
  unfold fill
  simp only [Prog.bind_lift, bind_assoc]
  iapply (load_all c E arg9) $$ HK; iintro HK
  iapply (load_step c E arg13 (Rect.unit (s := S8192x256) ![0, 0] S8192x128.size inb_S8192x256_S8192x128_0_0)) $$ HV; iintro HV
  iapply (store_step c E arg13 (Rect.unit (s := S8192x256) ![0, 0] S8192x128.size inb_S8192x256_S8192x128_0_0)) $$ HV; iintro HV
  iapply (load_step c E arg13 (Rect.unit (s := S8192x256) ![0, 128] S8192x128.size inb_S8192x256_S8192x128_0_128)) $$ HV; iintro HV
  iapply (store_step c E arg13 (Rect.unit (s := S8192x256) ![0, 128] S8192x128.size inb_S8192x256_S8192x128_0_128)) $$ HV; iintro HV
  iapply (le_wp_ret _ _)
  simp only [shapeCast_self]
  rw [← extended_overlay inb_S8192x256_S8192x128_0_0 inb_S8192x256_S8192x128_0_128 V v]
  isplitl [HK]; · iexact HK
  iexact HV

theorem start_spec (X : FVec Ideal S512x128 .bf16) (Q : FVec Ideal S1024x128 .bf16) (M : FVec Ideal S1024x128 .f32)
    (A : FVec Ideal S1024x256 .f32) (K : FVec Ideal S8192x128 .bf16) (V : FVec Ideal S8192x256 .bf16) :
    iprop(owns (c : Thread nD τ) arg7 q7 X ∗ scratch c arg12 arg14 arg15 Q M A)
      ⊢ Meets c E (start (F := Ideal) arg7 arg12 harg12 arg14 arg15)
        (fun _ => iprop(owns (c : Thread nD τ) arg7 q7 X ∗
          scratch c arg12 arg14 arg15 (queries (F := Ideal) X) (after (queries X) K V 0).1 (after (queries X) K V 0).2)) := by
  unfold scratch
  iintro ⟨HX, HQ, HM, HA⟩
  unfold start
  simp only [Prog.bind_lift, bind_assoc]
  iapply (load_all c E arg7) $$ HX; iintro HX
  iapply (load_all c E arg12) $$ HQ; iintro HQ
  iapply (store_all c E arg12) $$ HQ; iintro HQ
  iapply (load_all c E arg14) $$ HM; iintro HM
  iapply (store_all c E arg14) $$ HM; iintro HM
  iapply (load_all c E arg15) $$ HA; iintro HA
  iapply (store_all c E arg15) $$ HA; iintro HA
  iapply (le_wp_ret _ _)
  simp only [shapeCast_self]
  isplitl [HX]; · iexact HX
  isplitl [HQ]; · iexact HQ
  isplitl [HM]; · iexact HM
  iexact HA

/-- The blocks a point reads at its end. -/
def operands (a b d e : FVec Ideal S1x64 .f32) (w : FVec Ideal S1x128 .f32) : sProp 𝕄 :=
  iprop(owns (c : Thread nD τ) arg3 q3 a ∗ owns (c : Thread nD τ) arg4 q4 b ∗ owns (c : Thread nD τ) arg5 q5 d ∗
    owns (c : Thread nD τ) arg6 q6 e ∗ owns (c : Thread nD τ) arg10 q10 w)

theorem finish_spec (a b d e : FVec Ideal S1x64 .f32) (w : FVec Ideal S1x128 .f32) (O : FVec Ideal S512x128 .bf16)
    (A : FVec Ideal S1024x256 .f32) :
    iprop(operands c arg3 arg4 arg5 arg6 arg10 q3 q4 q5 q6 q10 a b d e w ∗ owns (c : Thread nD τ) arg15 fullShare A ∗
        owns (c : Thread nD τ) arg11 fullShare O)
      ⊢ Meets c E (finish (F := Ideal) arg3 arg4 arg5 arg6 arg10 arg11 harg11 arg15)
        (fun _ => iprop(operands c arg3 arg4 arg5 arg6 arg10 q3 q4 q5 q6 q10 a b d e w ∗ owns (c : Thread nD τ) arg15 fullShare A ∗
          owns (c : Thread nD τ) arg11 fullShare (result (F := Ideal) A (lam a b d e) w))) := by
  unfold operands
  iintro ⟨⟨H3, H4, H5, H6, H10⟩, HA, HO⟩
  unfold finish
  simp only [Prog.bind_lift, bind_assoc]
  iapply (load_all c E arg3) $$ H3; iintro H3
  iapply (load_all c E arg4) $$ H4; iintro H4
  iapply (load_all c E arg5) $$ H5; iintro H5
  iapply (load_all c E arg6) $$ H6; iintro H6
  iapply (load_all c E arg15) $$ HA; iintro HA
  iapply (load_all c E arg10) $$ H10; iintro H10
  iapply (load_all c E arg11) $$ HO; iintro HO
  iapply (store_all c E arg11) $$ HO; iintro HO
  iapply (le_wp_ret _ _)
  isplitl [H3 H4 H5 H6 H10]
  · isplitl [H3]; · iexact H3
    isplitl [H4]; · iexact H4
    isplitl [H5]; · iexact H5
    isplitl [H6]; · iexact H6
    iexact H10
  isplitl [HA]; · iexact HA
  iexact HO

/-- The steps of the loop over four blocks of keys at a time. -/
theorem loop_spec (i : grid0.Coords) (q13 : PosShare TreeShare) (K : FVec Ideal S8192x128 .bf16)
    (V : FVec Ideal S8192x256 .bf16) (Q : FVec Ideal S1024x128 .bf16) (t : Fin (k0_t1_loop i).trips) (u : PUnit) :
    reached c arg8 arg12 arg13 arg14 arg15 q8 q13 K V Q (4 * t.val) ⊢ Meets c E (do
      keyStep (F := Ideal) arg8 arg12 arg13 arg14 arg15 free (k0_off1 i t 0#32) (k0_off2 i t 0#32) (k0_off1_inb i t 0) (k0_off2_inb i t 0)
      keyStep arg8 arg12 arg13 arg14 arg15 free (k0_off1 i t 1#32) (k0_off2 i t 1#32) (k0_off1_inb i t 1) (k0_off2_inb i t 1)
      keyStep arg8 arg12 arg13 arg14 arg15 free (k0_off1 i t 2#32) (k0_off2 i t 2#32) (k0_off1_inb i t 2) (k0_off2_inb i t 2)
      keyStep arg8 arg12 arg13 arg14 arg15 free (k0_off1 i t 3#32) (k0_off2 i t 3#32) (k0_off1_inb i t 3) (k0_off2_inb i t 3)
      pure ⟨⟩) (fun _ : PUnit => reached c arg8 arg12 arg13 arg14 arg15 q8 q13 K V Q (4 * (t.val + 1))) := by
  have hi : (i 2).val < 16 := (i 2).isLt
  have ht : t.val < (i 2).val / 4 := by exact lt_of_lt_of_eq t.isLt (trips1_eq i)
  have s := fun r : Fin 4 => free_step c E arg8 arg12 arg13 arg14 arg15 q8 q13 K V Q (4 * t.val + r.val) (by omega)
    (k0_off1 i t (BitVec.ofNat 32 r.val)) (k0_off2 i t (BitVec.ofNat 32 r.val)) (k0_off1_inb i t r) (k0_off2_inb i t r)
    (off1_eq i t r).1 (off1_eq i t r).2
  exact Meets.seq c E (s 0) fun _ => Meets.seq c E (s 1) fun _ => Meets.seq c E (s 2) fun _ =>
    Meets.seq c E (s 3) fun _ => Meets.done c E _ _

/-- The extended values after the first branch. -/
def valuesAt (i : grid0.Coords) (v : FVec Ideal S8192x128 .bf16) (V : FVec Ideal S8192x256 .bf16) : FVec Ideal S8192x256 .bf16 :=
  if (i 2).val = 0 then extended v else V

/-- The head's extended values, written where the query block is the first. -/
def headPart (i : grid0.Coords) : Prog (TpuEff nD τ sig (Elt Ideal) Λ₀ .tc) PUnit :=
  if k0_h1 : Scalar.cmpi .ne (Scalar.extui (Scalar.cmpi .eq (BitVec.ofNat 32 (i 2).val) 0#32) : BitVec 32) 0#32 = 1#1 then do
    fill (F := Ideal) arg9 arg13 harg13
    pure ⟨⟩
  else pure ⟨⟩

/-- The blocks of keys four at a time. -/
def loopPart (i : grid0.Coords) : Prog (TpuEff nD τ sig (Elt Ideal) Λ₀ .tc) PUnit :=
  Scf.Loop.for (k0_t1_loop i) (k0_t1_ok i) ⟨⟩ fun k0_t1 _ => do
    keyStep (F := Ideal) arg8 arg12 arg13 arg14 arg15 free (k0_off1 i k0_t1 0#32) (k0_off2 i k0_t1 0#32) (k0_off1_inb i k0_t1 0) (k0_off2_inb i k0_t1 0)
    keyStep arg8 arg12 arg13 arg14 arg15 free (k0_off1 i k0_t1 1#32) (k0_off2 i k0_t1 1#32) (k0_off1_inb i k0_t1 1) (k0_off2_inb i k0_t1 1)
    keyStep arg8 arg12 arg13 arg14 arg15 free (k0_off1 i k0_t1 2#32) (k0_off2 i k0_t1 2#32) (k0_off1_inb i k0_t1 2) (k0_off2_inb i k0_t1 2)
    keyStep arg8 arg12 arg13 arg14 arg15 free (k0_off1 i k0_t1 3#32) (k0_off2 i k0_t1 3#32) (k0_off1_inb i k0_t1 3) (k0_off2_inb i k0_t1 3)
    pure ⟨⟩

/-- The loop that never runs. -/
def emptyPart (i : grid0.Coords) : Prog (TpuEff nD τ sig (Elt Ideal) Λ₀ .tc) PUnit :=
  Scf.Loop.for (k0_t2_loop i) (k0_t2_ok i) ⟨⟩ fun k0_t2 _ => do
    keyStep (F := Ideal) arg8 arg12 arg13 arg14 arg15 free (k0_off3 i k0_t2 0#32) (k0_off4 i k0_t2 0#32) (k0_off3_inb i k0_t2 0) (k0_off4_inb i k0_t2 0)
    keyStep arg8 arg12 arg13 arg14 arg15 free (k0_off3 i k0_t2 1#32) (k0_off4 i k0_t2 1#32) (k0_off3_inb i k0_t2 1) (k0_off4_inb i k0_t2 1)
    keyStep arg8 arg12 arg13 arg14 arg15 free (k0_off3 i k0_t2 2#32) (k0_off4 i k0_t2 2#32) (k0_off3_inb i k0_t2 2) (k0_off4_inb i k0_t2 2)
    keyStep arg8 arg12 arg13 arg14 arg15 free (k0_off3 i k0_t2 3#32) (k0_off4 i k0_t2 3#32) (k0_off3_inb i k0_t2 3) (k0_off4_inb i k0_t2 3)
    pure ⟨⟩

/-- Two blocks of keys left over. -/
def twoPart (i : grid0.Coords) : Prog (TpuEff nD τ sig (Elt Ideal) Λ₀ .tc) PUnit :=
  if k0_h2 : k0_cond2 i = 1#1 then do
    keyStep (F := Ideal) arg8 arg12 arg13 arg14 arg15 free (k0_off5 i 0#32) (k0_off6 i 0#32) (k0_off5_inb i k0_h2 0) (k0_off6_inb i k0_h2 0)
    keyStep arg8 arg12 arg13 arg14 arg15 free (k0_off5 i 1#32) (k0_off6 i 1#32) (k0_off5_inb i k0_h2 1) (k0_off6_inb i k0_h2 1)
    pure ⟨⟩
  else pure ⟨⟩

/-- One block of keys left over. -/
def onePart (i : grid0.Coords) : Prog (TpuEff nD τ sig (Elt Ideal) Λ₀ .tc) PUnit :=
  if k0_h3 : k0_cond3 i = 1#1 then do
    keyStep (F := Ideal) arg8 arg12 arg13 arg14 arg15 free (k0_off7 i) (k0_off8 i) (k0_off7_inb i k0_h3) (k0_off8_inb i k0_h3)
    pure ⟨⟩
  else pure ⟨⟩

theorem body_parts (i : grid0.Coords) (harg3 : arg3.IsWhole) (harg4 : arg4.IsWhole) (harg5 : arg5.IsWhole) (harg6 : arg6.IsWhole) (harg7 : arg7.IsWhole) (harg8 : arg8.IsWhole) (harg9 : arg9.IsWhole) (harg10 : arg10.IsWhole) (harg14 : arg14.IsWhole) (harg15 : arg15.IsWhole) :
    body (F := Ideal) i arg3 harg3 arg4 harg4 arg5 harg5 arg6 harg6 arg7 harg7 arg8 harg8 arg9 harg9
          arg10 harg10 arg11 harg11 arg12 harg12 arg13 harg13 arg14 harg14 arg15 harg15
      = (headPart arg9 arg13 harg13 i >>= fun _ => start arg7 arg12 harg12 arg14 arg15 >>= fun _ =>
        loopPart arg8 arg12 arg13 arg14 arg15 i >>= fun _ => emptyPart arg8 arg12 arg13 arg14 arg15 i >>= fun _ =>
        twoPart arg8 arg12 arg13 arg14 arg15 i >>= fun _ => onePart arg8 arg12 arg13 arg14 arg15 i >>= fun _ =>
        keyStep arg8 arg12 arg13 arg14 arg15 masked (k0_off9 i) (k0_off10 i) (k0_off9_inb i) (k0_off10_inb i) >>= fun _ =>
        finish arg3 arg4 arg5 arg6 arg10 arg11 harg11 arg15 >>= fun _ => pure ⟨⟩) := by
  unfold body headPart loopPart emptyPart twoPart onePart
  by_cases h1 : Scalar.cmpi .ne (Scalar.extui (Scalar.cmpi .eq (BitVec.ofNat 32 (i 2).val) 0#32) : BitVec 32) 0#32 = 1#1 <;>
  by_cases h2 : k0_cond2 i = 1#1 <;>
  by_cases h3 : k0_cond3 i = 1#1 <;>
  simp only [h1, h2, h3, dite_true, dite_false, bind_assoc, pure_bind, bind_pure]

theorem head_spec (i : grid0.Coords) (v : FVec Ideal S8192x128 .bf16) (V : FVec Ideal S8192x256 .bf16) :
    iprop(owns (c : Thread nD τ) arg9 q9 v ∗ owns (c : Thread nD τ) arg13 fullShare V)
      ⊢ Meets c E (headPart arg9 arg13 harg13 i)
        (fun _ => iprop(owns (c : Thread nD τ) arg9 q9 v ∗ owns (c : Thread nD τ) arg13 fullShare (valuesAt i v V))) := by
  unfold headPart
  split
  · rename_i h
    rw [show valuesAt i v V = extended v from if_pos ((first_eq i).1 h)]
    exact Meets.seq c E (fill_spec c E arg9 arg13 harg13 q9 v V) fun _ => Meets.done c E _ _
  · rename_i h
    rw [show valuesAt i v V = V from if_neg fun h' => h ((first_eq i).2 h')]
    exact Meets.done c E _ _

section Keys

variable (i : grid0.Coords) (q13 : PosShare TreeShare) (K : FVec Ideal S8192x128 .bf16)
    (V : FVec Ideal S8192x256 .bf16) (Q : FVec Ideal S1024x128 .bf16)

theorem loopPart_spec :
    reached c arg8 arg12 arg13 arg14 arg15 q8 q13 K V Q 0 ⊢ Meets c E (loopPart arg8 arg12 arg13 arg14 arg15 i)
      (fun _ => reached c arg8 arg12 arg13 arg14 arg15 q8 q13 K V Q (4 * ((i 2).val / 4))) := by
  have h := Scf.wp_for frame (wpE (defs₀ (F := Ideal)) Variants.none (c : Thread nD τ) none) E _ _ _ (k0_t1_ok i) PUnit.unit
    _ (fun t _ => reached c arg8 arg12 arg13 arg14 arg15 q8 q13 K V Q (4 * t))
    (fun t u => loop_spec c E arg8 arg12 arg13 arg14 arg15 q8 i q13 K V Q t u)
    (Q := fun _ => reached c arg8 arg12 arg13 arg14 arg15 q8 q13 K V Q (4 * ((i 2).val / 4)))
  iintro H
  iapply h
  isplitl [H]; · iexact H
  iintro %u H
  rw [show Scf.trips _ _ _ = (i 2).val / 4 from trips1_eq i]
  iexact H

theorem emptyPart_spec (P : sProp 𝕄) : P ⊢ Meets c E (emptyPart arg8 arg12 arg13 arg14 arg15 i) (fun _ => P) := by
  iintro H
  iapply (Scf.wp_for frame (wpE (defs₀ (F := Ideal)) Variants.none (c : Thread nD τ) none) E _ _ _ (k0_t2_ok i) PUnit.unit
    _ (fun _ _ => P) (fun t _ => absurd (lt_of_lt_of_eq t.isLt (trips2_eq i)) (Nat.not_lt_zero _)))
  isplitl [H]; · iexact H
  iintro %u H
  iexact H

theorem twoPart_spec :
    reached c arg8 arg12 arg13 arg14 arg15 q8 q13 K V Q (4 * ((i 2).val / 4)) ⊢ Meets c E (twoPart arg8 arg12 arg13 arg14 arg15 i)
      (fun _ => reached c arg8 arg12 arg13 arg14 arg15 q8 q13 K V Q (2 * ((i 2).val / 2))) := by
  have hi : (i 2).val < 16 := (i 2).isLt
  unfold twoPart
  split
  · rename_i h
    have h' := (cond2_eq i).1 h
    have s := fun r : Fin 2 => free_step c E arg8 arg12 arg13 arg14 arg15 q8 q13 K V Q (4 * ((i 2).val / 4) + r.val) (by omega)
      (k0_off5 i (BitVec.ofNat 32 r.val)) (k0_off6 i (BitVec.ofNat 32 r.val)) (k0_off5_inb i h r) (k0_off6_inb i h r)
      (off5_eq i r h).1 (off5_eq i r h).2
    rw [show 2 * ((i 2).val / 2) = 4 * ((i 2).val / 4) + 1 + 1 by omega]
    exact Meets.seq c E (s 0) fun _ => Meets.seq c E (s 1) fun _ => Meets.done c E _ _
  · rename_i h
    have h' : ¬ 2 ≤ (i 2).val % 4 := fun h' => h ((cond2_eq i).2 h')
    rw [show 2 * ((i 2).val / 2) = 4 * ((i 2).val / 4) by omega]
    exact Meets.done c E _ _

theorem onePart_spec :
    reached c arg8 arg12 arg13 arg14 arg15 q8 q13 K V Q (2 * ((i 2).val / 2)) ⊢ Meets c E (onePart arg8 arg12 arg13 arg14 arg15 i)
      (fun _ => reached c arg8 arg12 arg13 arg14 arg15 q8 q13 K V Q (i 2).val) := by
  have hi : (i 2).val < 16 := (i 2).isLt
  unfold onePart
  split
  · rename_i h
    have h' := (cond3_eq i).1 h
    have e : (i 2).val - 1 = 2 * ((i 2).val / 2) := by omega
    have s := free_step c E arg8 arg12 arg13 arg14 arg15 q8 q13 K V Q (2 * ((i 2).val / 2)) (by omega)
      (k0_off7 i) (k0_off8 i) (k0_off7_inb i h) (k0_off8_inb i h) (e ▸ (off7_eq i h).1) (e ▸ (off7_eq i h).2)
    rw [show 2 * ((i 2).val / 2) + 1 = (i 2).val by omega] at s
    exact Meets.seq c E s fun _ => Meets.done c E _ _
  · rename_i h
    have h' : ¬ (i 2).val % 2 = 1 := fun h' => h ((cond3_eq i).2 h')
    rw [show 2 * ((i 2).val / 2) = (i 2).val by omega]
    exact Meets.done c E _ _

theorem diagonal_spec :
    reached c arg8 arg12 arg13 arg14 arg15 q8 q13 K V Q (i 2).val
      ⊢ Meets c E (keyStep (F := Ideal) arg8 arg12 arg13 arg14 arg15 masked (k0_off9 i) (k0_off10 i) (k0_off9_inb i) (k0_off10_inb i))
        (fun _ => holds c arg8 arg12 arg13 arg14 arg15 q8 q13 K V Q
          (stepM (maskS Q (kblk K (i 2).val)) (after Q K V (i 2).val).1) (total Q K V (i 2).val)) :=
  mask_step c E arg8 arg12 arg13 arg14 arg15 q8 q13 K V Q (i 2).val (i 2).isLt _ _ _ _ (off9_eq i).1 (off9_eq i).2

end Keys

theorem body_spec (i : grid0.Coords) (harg3 : arg3.IsWhole) (harg4 : arg4.IsWhole) (harg5 : arg5.IsWhole) (harg6 : arg6.IsWhole) (harg7 : arg7.IsWhole) (harg8 : arg8.IsWhole) (harg9 : arg9.IsWhole) (harg10 : arg10.IsWhole) (harg14 : arg14.IsWhole) (harg15 : arg15.IsWhole)
    (a b d e : FVec Ideal S1x64 .f32) (X : FVec Ideal S512x128 .bf16) (K v : FVec Ideal S8192x128 .bf16)
    (w : FVec Ideal S1x128 .f32) (O : FVec Ideal S512x128 .bf16)
    (Q : FVec Ideal S1024x128 .bf16) (V : FVec Ideal S8192x256 .bf16) (M : FVec Ideal S1024x128 .f32) (A : FVec Ideal S1024x256 .f32) :
    iprop(operands c arg3 arg4 arg5 arg6 arg10 q3 q4 q5 q6 q10 a b d e w ∗ owns (c : Thread nD τ) arg7 q7 X ∗
        owns (c : Thread nD τ) arg8 q8 K ∗ owns (c : Thread nD τ) arg9 q9 v ∗ owns (c : Thread nD τ) arg11 fullShare O ∗
        owns (c : Thread nD τ) arg13 fullShare V ∗ scratch c arg12 arg14 arg15 Q M A)
      ⊢ Meets c E (body (F := Ideal) i arg3 harg3 arg4 harg4 arg5 harg5 arg6 harg6 arg7 harg7 arg8 harg8 arg9 harg9
          arg10 harg10 arg11 harg11 arg12 harg12 arg13 harg13 arg14 harg14 arg15 harg15)
        (fun _ => iprop(operands c arg3 arg4 arg5 arg6 arg10 q3 q4 q5 q6 q10 a b d e w ∗ owns (c : Thread nD τ) arg7 q7 X ∗
          owns (c : Thread nD τ) arg8 q8 K ∗ owns (c : Thread nD τ) arg9 q9 v ∗
          owns (c : Thread nD τ) arg11 fullShare (outcome (i 2).val a b d e X K (valuesAt i v V) w) ∗
          owns (c : Thread nD τ) arg13 fullShare (valuesAt i v V) ∗
          ∃ (Q' : FVec Ideal S1024x128 .bf16) (M' : FVec Ideal S1024x128 .f32) (A' : FVec Ideal S1024x256 .f32),
            scratch c arg12 arg14 arg15 Q' M' A')) := by
  rw [body_parts]
  iintro ⟨HP, HX, HK, Hv, HO, HV, HS⟩
  iapply (Meets.cps c E (head_spec c E arg9 arg13 harg13 q9 i v V)) $$ [Hv HV]
  · isplitl [Hv]; · iexact Hv
    iexact HV
  iintro ⟨Hv, HV⟩
  generalize valuesAt i v V = V'
  iapply (Meets.cps c E (start_spec c E arg7 arg12 harg12 arg14 arg15 q7 X Q M A K V')) $$ [HX HS]
  · isplitl [HX]; · iexact HX
    iexact HS
  iintro ⟨HX, HS⟩
  iapply (Meets.cps c E (loopPart_spec c E arg8 arg12 arg13 arg14 arg15 q8 i fullShare K V' (queries X))) $$ [HK HV HS]
  · unfold reached holds
    isplitl [HK]; · iexact HK
    isplitl [HV]; · iexact HV
    iexact HS
  iintro H
  iapply (Meets.cps c E (emptyPart_spec c E arg8 arg12 arg13 arg14 arg15 i _)) $$ H
  iintro H
  iapply (Meets.cps c E (twoPart_spec c E arg8 arg12 arg13 arg14 arg15 q8 i fullShare K V' (queries X))) $$ H
  iintro H
  iapply (Meets.cps c E (onePart_spec c E arg8 arg12 arg13 arg14 arg15 q8 i fullShare K V' (queries X))) $$ H
  iintro H
  iapply (Meets.cps c E (diagonal_spec c E arg8 arg12 arg13 arg14 arg15 q8 i fullShare K V' (queries X))) $$ H
  unfold holds scratch
  iintro ⟨HK, HV, HQ, HM, HA⟩
  iapply (Meets.cps c E (finish_spec c E arg3 arg4 arg5 arg6 arg10 arg11 harg11 arg15 q3 q4 q5 q6 q10 a b d e w O
    (total (queries X) K V' (i 2).val))) $$ [HP HA HO]
  · isplitl [HP]; · iexact HP
    isplitl [HA]; · iexact HA
    iexact HO
  iintro ⟨HP, HA, HO⟩
  iapply (le_wp_ret _ _)
  isplitl [HP]; · iexact HP
  isplitl [HX]; · iexact HX
  isplitl [HK]; · iexact HK
  isplitl [Hv]; · iexact Hv
  isplitl [HO]; · iexact HO
  isplitl [HV]; · iexact HV
  iexists _; iexists _; iexists _
  isplitl [HQ]; · iexact HQ
  isplitl [HM]; · iexact HM
  iexact HA

end Pieces

end Cert.KernelIdeal.Short

end
-- ==== Proof.ShortEq.lean ====
/-
  The printed body is the short one (`Short.body`): `body_eq`, for values that are extended reals.
-/
module

public import proofs.«01_k».proof.Proof.Short
public import Idealize.ShloMosaic.PureOps.Ideal

@[expose] public section

set_option maxRecDepth 16384

open Idealize.ShloMosaic Idealize.SL.Sem Cert.KernelIdeal
open scoped Idealize.ShloMosaic.ProgEq

prog_eq Cert.KernelIdeal.Short.body_eq : Cert.KernelIdeal.cc0_diff_attn_prompt Cert.KernelIdeal.Short.body from Cert.KernelIdeal to Cert.KernelIdeal at (Idealize.ShloMosaic.Ideal) inferInstance by
  intros; rfl
-- ==== Proof.Run.lean ====
/-
  The launch, with what every point leaves: the result's block, and the head's extended values carried from point to point.
-/
module

public import proofs.«01_k».proof.Proof.Body
public import proofs.«01_k».proof.Proof.ShortEq
public import proofs.«01_k».proof.Proof.Gen.KernelIdeal.Frame

@[expose] public section

set_option maxRecDepth 16384

noncomputable section

namespace Cert.KernelIdeal.Own

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen
open Cert.KernelIdeal.Short

local notation "𝕄" => MT nD τ sig Unit (Elt Ideal) ℕ (UR sig nD τ) ℕ

variable (m : (ℓ : Loc nD τ sig) → Buf (Elt Ideal) ℓ) (ρ : Dev nD → PrngReg)

/-- What a program ends with, weakened. -/
theorem Meets.weaken (c : Dev nD) (E : Set ℕ) {p : Prog (TpuEff nD τ sig (Elt Ideal) Λ₀ .tc) PUnit} {P R : sProp 𝕄}
    (h : P ⊢ Meets c E p (fun _ => R)) (Q : sProp 𝕄) : P ⊢ iprop((R -∗ Q) -∗ Meets c E p (fun _ => Q)) := by
  refine BI.wand_intro ?_
  unfold Meets
  exact (sep_mono_left h).trans ((wp_frame_r _ _ _).trans (wp_mono _ _ _ fun a => wand_elim_right))

/-- The extended values held after point `n`. -/
def carried (c : Dev nD) : (n : ℕ) → n < cfg0.N → FVec Ideal S8192x256 .bf16
  | 0, hn => extended (iblk m c 6 ⟨0, hn⟩)
  | n + 1, hn => valuesAt (grid0.coords ⟨n + 1, hn⟩) (iblk m c 6 ⟨n + 1, hn⟩) (carried c n (Nat.lt_of_succ_lt hn))

/-- The block a point writes. -/
def written (c : Dev nD) (t : Fin cfg0.N) : FVec Ideal S512x128 .bf16 :=
  outcome (grid0.coords t 2).val (iblk m c 0 t) (iblk m c 1 t) (iblk m c 2 t) (iblk m c 3 t) (iblk m c 4 t) (iblk m c 5 t)
    (carried m c t.val t.isLt) (iblk m c 7 t)

/-- A point's scratch arrays, the extended values known, the others at anything. -/
def rest (c : Dev nD) (V : FVec Ideal S8192x256 .bf16) : sProp 𝕄 :=
  iprop(iprop((∃ d, owns (c : Thread nD τ) scM0_0 fullShare d) ∗ owns (c : Thread nD τ) scM0_1 fullShare V ∗
    (∃ d, owns (c : Thread nD τ) scM0_2 fullShare d) ∗ (∃ d, owns (c : Thread nD τ) scM0_3 fullShare d)) ∗ (∃ r, prngReg c r))

/-- What holds before point `n`. -/
def before (c : Dev nD) : (n : ℕ) → n ≤ cfg0.N → sProp 𝕄
  | 0, _ => Pipeline.ΦA spec0 c
  | n + 1, hn => rest c (carried m c n hn)

def dats (_ : Fin 1) (c : Dev nD) : Dat τ (Elt Ideal) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => written m c t
  Φ t := before m c t.val (Nat.le_of_lt_succ t.isLt)
  q _ := fullShare
  owed _ := 0

theorem A_eq (c : Dev nD) (w : Fin cfg0.W) : (dats m 0 c).A w = V m c (Pipeline.arrRef spec0 w) := by
  dsimp only [dats]

theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = iblk m c 3 t := by dsimp only [dats]
theorem after_4 (c : Dev nD) (t : Fin cfg0.N) : (dats m 0 c).after 4 t = iblk m c 4 t := by dsimp only [dats]
theorem after_5 (c : Dev nD) (t : Fin cfg0.N) : (dats m 0 c).after 5 t = iblk m c 5 t := by dsimp only [dats]
theorem after_6 (c : Dev nD) (t : Fin cfg0.N) : (dats m 0 c).after 6 t = iblk m c 6 t := by dsimp only [dats]
theorem after_7 (c : Dev nD) (t : Fin cfg0.N) : (dats m 0 c).after 7 t = iblk m c 7 t := by dsimp only [dats]
theorem after_8 (c : Dev nD) (t : Fin cfg0.N) : (dats m 0 c).after 8 t = written m c t := by dsimp only [dats]

/-- The scratch before a point, each array held at some contents; those the first branch keeps are the right ones. -/
theorem before_open (c : Dev nD) (t : Fin cfg0.N) :
    (dats m 0 c).Φ t.castSucc ⊢ iprop(∃ U : FVec Ideal S8192x256 .bf16,
      ⌜valuesAt (grid0.coords t) (iblk m c 6 t) U = carried m c t.val t.isLt⌝ ∗ rest c U) := by
  rw [show (dats m 0 c).Φ t.castSucc = before m c t.val (Nat.le_of_lt t.isLt) by
    dsimp only [dats]; exact Pipeline.Dat.Φ_castSucc (before m c) t]
  obtain ⟨n, hn⟩ := t
  cases n with
  | zero =>
    rw [show before m c 0 (Nat.le_of_lt hn) = Pipeline.ΦA spec0 c from rfl, Gen.PhiA0_eq]
    iintro ⟨⟨H0, ⟨%d, H1⟩, H2, H3⟩, Hr⟩
    iexists d
    isplitr
    · ipureintro
      exact if_pos (by decide +kernel : (grid0.coords ⟨0, by decide +kernel⟩ 2).val = 0)
    unfold rest
    isplitl [H0 H1 H2 H3]
    · isplitl [H0]; · iexact H0
      isplitl [H1]; · iexact H1
      isplitl [H2]; · iexact H2
      iexact H3
    iexact Hr
  | succ n =>
    iintro H
    iexists (carried m c n (Nat.lt_of_succ_lt hn))
    isplitr
    · ipureintro; rfl
    iapply (show before m c (n + 1) (Nat.le_of_lt hn) ⊢ rest c (carried m c n (Nat.lt_of_succ_lt hn)) from .rfl)
    iexact H

def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d))
    ∗ (∃ d, owns (c : Thread nD τ) (ms0_8 t) fullShare ((dats m 0 c).before 8 t d)))

def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t)
    ∗ owns (c : Thread nD τ) (ms0_5 t) fullShare ((dats m 0 c).after 5 t)
    ∗ owns (c : Thread nD τ) (ms0_6 t) fullShare ((dats m 0 c).after 6 t)
    ∗ owns (c : Thread nD τ) (ms0_7 t) fullShare ((dats m 0 c).after 7 t)
    ∗ owns (c : Thread nD τ) (ms0_8 t) fullShare ((dats m 0 c).after 8 t))

theorem sound_body (c : Dev nD) (t : Fin cfg0.N) :
    bodyPre m c t ⊢ wp frame (wpE (defs₀ (F := Ideal)) Variants.none c none) Set.univ (bodyAt0 t) (fun _ => bodyPost m c t) := by
  unfold bodyPre bodyPost bodyAt0
  rw [Short.body_eq]
  simp only [fun d => Gen.before0_0_of m (dats m 0 c) (A_eq m c 0) (after_0 m c) t d,
    fun d => Gen.before0_1_of m (dats m 0 c) (A_eq m c 1) (after_1 m c) t d,
    fun d => Gen.before0_2_of m (dats m 0 c) (A_eq m c 2) (after_2 m c) t d,
    fun d => Gen.before0_3_of m (dats m 0 c) (A_eq m c 3) (after_3 m c) t d,
    fun d => Gen.before0_4_of m (dats m 0 c) (A_eq m c 4) (after_4 m c) t d,
    fun d => Gen.before0_5_of m (dats m 0 c) (A_eq m c 5) (after_5 m c) t d,
    fun d => Gen.before0_6_of m (dats m 0 c) (A_eq m c 6) (after_6 m c) t d,
    fun d => Gen.before0_7_of m (dats m 0 c) (A_eq m c 7) (after_7 m c) t d]
  rw [show (dats m 0 c).owesAt () t.succ = (dats m 0 c).owesAt () t.castSucc from rfl,
    after_0, after_1, after_2, after_3, after_4, after_5, after_6, after_7, after_8,
    show (dats m 0 c).Φ t.succ = rest c (carried m c t.val t.isLt) from rfl]
  unfold written
  iintro ⟨HΦ, Howes, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
  ihave HΦ := (before_open m c t) $$ HΦ
  icases HΦ with ⟨%U, %hU, HΦ⟩
  rw [← hU]
  unfold rest
  icases HΦ with ⟨⟨⟨%s0, S0⟩, S1, ⟨%s2, S2⟩, ⟨%s3, S3⟩⟩, Hr⟩
  iapply (Meets.weaken c Set.univ (Short.body_spec c Set.univ (ms0_0 t) (ms0_1 t) (ms0_2 t) (ms0_3 t) (ms0_4 t) (ms0_5 t) (ms0_6 t) (ms0_7 t)
    (ms0_8 t) (hs0_8 t) scM0_0 (Memref.isWhole_whole _) scM0_1 (Memref.isWhole_whole _) scM0_2 scM0_3
    fullShare fullShare fullShare fullShare fullShare fullShare fullShare fullShare (grid0.coords t)
    (hs0_0 t) (hs0_1 t) (hs0_2 t) (hs0_3 t) (hs0_4 t) (hs0_5 t) (hs0_6 t) (hs0_7 t) (Memref.isWhole_whole _) (Memref.isWhole_whole _)
    (iblk m c 0 t) (iblk m c 1 t) (iblk m c 2 t) (iblk m c 3 t) (iblk m c 4 t) (iblk m c 5 t) (iblk m c 6 t) (iblk m c 7 t)
    ((dats m 0 c).before 8 t d8) s0 U s2 s3)) $$ [H0 H1 H2 H3 H4 H5 H6 H7 H8 S0 S1 S2 S3]
  · unfold operands scratch
    isplitl [H0 H1 H2 H3 H7]
    · isplitl [H0]; · iexact H0
      isplitl [H1]; · iexact H1
      isplitl [H2]; · iexact H2
      isplitl [H3]; · iexact H3
      iexact H7
    isplitl [H4]; · iexact H4
    isplitl [H5]; · iexact H5
    isplitl [H6]; · iexact H6
    isplitl [H8]; · iexact H8
    isplitl [S1]; · iexact S1
    isplitl [S0]; · iexact S0
    isplitl [S2]; · iexact S2
    iexact S3
  unfold operands scratch
  iintro ⟨⟨H0, H1, H2, H3, H7⟩, H4, H5, H6, H8, S1, %Q', %M', %A', S0, S2, S3⟩
  isplitl [S0 S1 S2 S3 Hr]
  · isplitl [S0 S1 S2 S3]
    · isplitl [S0]; · iexists _; iexact S0
      isplitl [S1]; · iexact S1
      isplitl [S2]; · iexists _; iexact S2
      iexists _; iexact S3
    iexact Hr
  isplitl [Howes]; · iexact Howes
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  iexact H8

theorem body_obligation (c : Dev nD) : BodyObligation (dats m 0 c) (defs₀ (F := Ideal)) Variants.none () Set.univ := fun t => by
  rw [bigSep_W0, bigSep_W0, defs₀_row]
  exact triple_restated (sound_body m c t) rfl .rfl fun _ => .rfl

theorem hin (c : Dev nD) : Pipeline.ΦA spec0 c ⊢ (dats m 0 c).Φ 0 := by
  rw [show (dats m 0 c).Φ 0 = Pipeline.ΦA spec0 c from rfl]

theorem hout (c : Dev nD) : (dats m 0 c).Φ (Fin.last cfg0.N) ⊢ Pipeline.ΦA spec0 c := by
  have hN : cfg0.N = 255 + 1 := N_0
  rw [show (dats m 0 c).Φ (Fin.last cfg0.N) = before m c cfg0.N (Nat.le_refl _) from rfl]
  rw [show before m c cfg0.N (Nat.le_refl _) = before m c (255 + 1) (by decide +kernel) by congr 1]
  rw [show before m c (255 + 1) (by decide +kernel) = rest c (carried m c 255 (by decide +kernel)) from rfl, PhiA0_eq]
  unfold rest
  iintro ⟨⟨HS0, HS1, HS2, HS3⟩, Hg⟩
  isplitl [HS0 HS1 HS2 HS3]
  · isplitl [HS0]
    · iexact HS0
    isplitl [HS1]
    · iexists _; iexact HS1
    isplitl [HS2]
    · iexact HS2
    iexact HS3
  iexact Hg

set_option backward.isDefEq.respectTransparency.types false in
/-- The launch runs, every array of the pipeline as the points leave it. -/
theorem run : θ_run defs (onTc (τ := τ) (main (F := Ideal))) (s₀ m ρ)
    (fun r => (Pipeline.FramePost cfgs (dats m) 0 (V m)) r ∧ r.2.sem = fun _ => 0) :=
  Pipeline.θ_run_frame_track (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hin := hin m) (hout := hout m)

end Cert.KernelIdeal.Own

end
-- ==== Proof.Value.lean ====
/-
  What a point writes when its queries, keys and values are real: the difference of two causal softmaxes against the values,
  divided by the root of its mean square.
-/
module

public import proofs.«01_k».proof.Proof.Body
public import proofs.«01_k».proof.Proof.Common

@[expose] public section

set_option maxRecDepth 16384

noncomputable section

namespace Cert.KernelIdeal.Short

open Idealize.ShloMosaic Idealize.ShloMosaic.TcCoe
open Cert.KernelIdeal Facts₀ Facts Cert.Attention

variable [Facts]

/-! ## The scores -/

/-- A row of queries against key `j`, on the 64 lanes from `o`. -/
def sc (x : S512x128.Idx → ℝ) (k : S8192x128.Idx → ℝ) (o : ℕ) (r : Fin 512) (j : ℕ) : ℝ :=
  (∑ d : Fin 64, x (ix2 r ⟨(o + d.val) % 128, Nat.mod_lt _ (by omega)⟩)
    * k (ix2 ⟨j % 8192, Nat.mod_lt _ (by omega)⟩ ⟨(o + d.val) % 128, Nat.mod_lt _ (by omega)⟩)) * (1 / 8)

theorem lanes_lt (d : Fin 128) : IntOp.cmpi .slt (BitVec.ofNat 32 d.val) 64#32 = BitVec.ofBool (decide (d.val < 64)) := by
  revert d; decide

theorem lanes_ge (d : Fin 128) : IntOp.cmpi .sge (BitVec.ofNat 32 d.val) 64#32 = BitVec.ofBool (decide (64 ≤ d.val)) := by
  revert d; decide

theorem queries_at (X : FVec Ideal S512x128 .bf16) (R : Fin 1024) (d : Fin 128) :
    queries X (ix2 R d) = if (R.val < 512 ∧ d.val < 64) ∨ (512 ≤ R.val ∧ 64 ≤ d.val)
      then X (ix2 ⟨R.val % 512, Nat.mod_lt _ (by omega)⟩ d) * ((1 / 8 : ℝ) : EReal) else 0 := by
  pointwise [queries]
  simp only [eighth_eq, zero_eq, lanes_lt, lanes_ge]
  have e : ∀ (a : ℕ) (h : a < 512), a = R.val % 512 → (ix2 ⟨a, h⟩ d : S512x128.Idx) = ix2 ⟨R.val % 512, Nat.mod_lt _ (by omega)⟩ d := by
    rintro a h rfl; rfl
  have hR := R.isLt
  split
  · rename_i h
    rw [e _ _ (by omega)]
    by_cases hd : d.val < 64
    · rw [if_pos (Or.inl ⟨h, hd⟩)]; simp [hd, Scalar.select]
    · rw [if_neg (by omega)]; simp [hd, Scalar.select]
  · rename_i h
    rw [e _ _ (by omega)]
    by_cases hd : 64 ≤ d.val
    · rw [if_pos (Or.inr ⟨by omega, hd⟩)]; simp [hd, Scalar.select]
    · rw [if_neg (by omega)]; simp [hd, Scalar.select]

/-- The lanes a row of the stacked queries uses. -/
def half (R : ℕ) : ℕ := if R < 512 then 0 else 64

theorem split_sum (f : Fin 128 → EReal) :
    ∑ d, f d = ∑ d : Fin 64, f (Fin.castAdd 64 d) + ∑ d : Fin 64, f (Fin.natAdd 64 d) :=
  Fin.sum_univ_add (a := 64) (b := 64) f

theorem freeS_real (x : S512x128.Idx → ℝ) (k : S8192x128.Idx → ℝ) (X : FVec Ideal S512x128 .bf16) (K : FVec Ideal S8192x128 .bf16)
    (hX : ∀ i, X i = ((x i : ℝ) : EReal)) (hK : ∀ i, K i = ((k i : ℝ) : EReal)) (t : ℕ) (R : Fin 1024) (j : Fin 512) :
    freeS (queries X) (kblk K t) R j
      = ((sc x k (half R.val) ⟨R.val % 512, Nat.mod_lt _ (by omega)⟩ (512 * t + j.val) : ℝ) : EReal) := by
  unfold freeS sc half
  rw [split_sum, Finset.sum_mul, coe_sum]
  have hR := R.isLt
  have ex : ∀ (d e : Fin 128), d = e → ((x (ix2 ⟨R.val % 512, Nat.mod_lt _ (by omega)⟩ d) : ℝ) : EReal) * ((1 / 8 : ℝ) : EReal)
      * ((k (ix2 ⟨(512 * t + j.val) % 8192, Nat.mod_lt _ (by omega)⟩ d) : ℝ) : EReal)
      = ((x (ix2 ⟨R.val % 512, Nat.mod_lt _ (by omega)⟩ e)
        * k (ix2 ⟨(512 * t + j.val) % 8192, Nat.mod_lt _ (by omega)⟩ e) * (1 / 8) : ℝ) : EReal) := by
    rintro d _ rfl
    rw [← EReal.coe_mul, ← EReal.coe_mul]
    congr 1; ring
  have kb : ∀ d : Fin 128, kblk K t (ix2 j d) = ((k (ix2 ⟨(512 * t + j.val) % 8192, Nat.mod_lt _ (by omega)⟩ d) : ℝ) : EReal) :=
    fun d => hK _
  by_cases h : R.val < 512
  · have z : ∀ d : Fin 64, queries X (ix2 R (Fin.natAdd 64 d)) * kblk K t (ix2 j (Fin.natAdd 64 d)) = 0 := fun d => by
      rw [queries_at, if_neg (by rw [Fin.val_natAdd]; omega), zero_mul]
    have z2 : ∀ d : Fin 64, queries X (ix2 R (Fin.castAdd 64 d)) * kblk K t (ix2 j (Fin.castAdd 64 d))
        = ((x (ix2 ⟨R.val % 512, Nat.mod_lt _ (by omega)⟩ ⟨(0 + d.val) % 128, Nat.mod_lt _ (by omega)⟩)
          * k (ix2 ⟨(512 * t + j.val) % 8192, Nat.mod_lt _ (by omega)⟩ ⟨(0 + d.val) % 128, Nat.mod_lt _ (by omega)⟩) * (1 / 8) : ℝ) : EReal) := fun d => by
      rw [queries_at, if_pos (Or.inl ⟨h, d.isLt⟩), hX, kb]
      exact ex _ _ (Fin.ext (by show d.val = (0 + d.val) % 128; have := d.isLt; omega))
    rw [Finset.sum_eq_zero (fun d _ => z d), add_zero, if_pos h]
    exact Finset.sum_congr rfl fun d _ => z2 d
  · have z : ∀ d : Fin 64, queries X (ix2 R (Fin.castAdd 64 d)) * kblk K t (ix2 j (Fin.castAdd 64 d)) = 0 := fun d => by
      rw [queries_at, if_neg (by rw [Fin.val_castAdd]; have := d.isLt; omega), zero_mul]
    have z2 : ∀ d : Fin 64, queries X (ix2 R (Fin.natAdd 64 d)) * kblk K t (ix2 j (Fin.natAdd 64 d))
        = ((x (ix2 ⟨R.val % 512, Nat.mod_lt _ (by omega)⟩ ⟨(64 + d.val) % 128, Nat.mod_lt _ (by omega)⟩)
          * k (ix2 ⟨(512 * t + j.val) % 8192, Nat.mod_lt _ (by omega)⟩ ⟨(64 + d.val) % 128, Nat.mod_lt _ (by omega)⟩) * (1 / 8) : ℝ) : EReal) := fun d => by
      rw [queries_at, if_pos (Or.inr ⟨by omega, by rw [Fin.val_natAdd]; omega⟩), hX, kb]
      exact ex _ _ (Fin.ext (by show 64 + d.val = (64 + d.val) % 128; have := d.isLt; omega))
    rw [Finset.sum_eq_zero (fun d _ => z d), zero_add, if_neg h]
    exact Finset.sum_congr rfl fun d _ => z2 d

/-! ## The state of every row after some blocks of keys -/

/-- The extended values of key `j` in lane `e`. -/
def val (v : S8192x128.Idx → ℝ) (e : Fin 256) (j : ℕ) : ℝ :=
  if h : e.val < 128 then v (ix2 ⟨j % 8192, Nat.mod_lt _ (by omega)⟩ ⟨e.val, h⟩) else 1

theorem vblk_real (v : S8192x128.Idx → ℝ) (W : FVec Ideal S8192x128 .bf16) (hW : ∀ i, W i = ((v i : ℝ) : EReal)) (t : ℕ)
    (j : Fin 512) (e : Fin 256) : vblk (extended W) t (ix2 j e) = ((val v e (512 * t + j.val) : ℝ) : EReal) := by
  unfold vblk extended val
  by_cases h : e.val < 128
  · rw [dif_pos h]
    exact (dif_pos h).trans (hW _)
  · rw [dif_neg h]
    exact (dif_neg h).trans Ideal.ofBits_one_bf16

section Row

variable (x : S512x128.Idx → ℝ) (k v : S8192x128.Idx → ℝ) (X : FVec Ideal S512x128 .bf16) (K W : FVec Ideal S8192x128 .bf16)
  (hX : ∀ i, X i = ((x i : ℝ) : EReal)) (hK : ∀ i, K i = ((k i : ℝ) : EReal)) (hW : ∀ i, W i = ((v i : ℝ) : EReal))
  (R : Fin 1024)

/-- The scores of row `R`. -/
def rowSc (j : ℕ) : ℝ := sc x k (half R.val) ⟨R.val % 512, Nat.mod_lt _ (by omega)⟩ j

theorem after_lane (Q : FVec Ideal S1024x128 .bf16) (V : FVec Ideal S8192x256 .bf16) (t : ℕ) (l : Fin 128) :
    (after Q K V t).1 (ix2 R l) = (after Q K V t).1 (ix2 R 0) := by
  induction t with
  | zero => rfl
  | succ t ih =>
    show rowMax (freeS Q (kblk K t) R) ((after Q K V t).1 (ix2 R l)) = rowMax (freeS Q (kblk K t) R) ((after Q K V t).1 (ix2 R 0))
    rw [ih]

/-- A step at one row, all lanes of its maximum equal. -/
theorem step_row (S : Fin 1024 → Fin 512 → EReal) (B : FVec Ideal S512x256 .bf16) (M : FVec Ideal S1024x128 .f32)
    (A : FVec Ideal S1024x256 .f32) (hM : ∀ l, M (ix2 R l) = M (ix2 R 0)) (p : Fin 512 → Prop) [DecidablePred p] (σ : Fin 512 → ℝ)
    (hp : p 0) (hS : ∀ j, S R j = score (p j) (σ j)) (u : Fin 256 → Fin 512 → ℝ) (hB : ∀ e j, B (ix2 j e) = ((u e j : ℝ) : EReal))
    (T : Fin 256 → ℝ) (h : State (M (ix2 R 0)) (fun e => A (ix2 R e)) T) :
    State (stepM S M (ix2 R 0)) (fun e => stepA S B M A (ix2 R e))
      (fun e => T e + ∑ j, if p j then Real.exp (σ j) * u e j else 0) := by
  have hS' : S R = fun j => score (p j) (σ j) := funext hS
  have eM : ∀ l, stepM S M (ix2 R l) = rowMax (fun j => score (p j) (σ j)) (M (ix2 R 0)) := fun l => by
    show rowMax (S R) (M (ix2 R l)) = _
    rw [hM, hS']
  have eA : ∀ e, stepA S B M A (ix2 R e) = rowAcc (fun j => score (p j) (σ j)) (M (ix2 R 0))
      (rowMax (fun j => score (p j) (σ j)) (M (ix2 R 0))) (fun _ => rowMax (fun j => score (p j) (σ j)) (M (ix2 R 0)))
      (fun j => ((u e j : ℝ) : EReal)) (A (ix2 R e)) := fun e => by
    show rowAcc (S R) (M (ix2 R _)) (stepM S M (ix2 R _)) (fun l => stepM S M (ix2 R l)) (fun j => B (ix2 j e)) (A (ix2 R e)) = _
    rw [hM, eM, hS']
    simp only [eM, hB]
  rw [eM]
  simp only [eA]
  exact state_step p σ hp _ _ T u h

include hX hK hW in
theorem after_state (t : ℕ) :
    State ((after (queries X) K (extended W) t).1 (ix2 R 0)) (fun e => (after (queries X) K (extended W) t).2 (ix2 R e))
      (fun e => ∑ j ∈ Finset.range (512 * t), Real.exp (rowSc x k R j) * val v e j) := by
  induction t with
  | zero => exact Or.inl ⟨low_eq, fun e => ⟨zero_eq, by simp⟩⟩
  | succ t ih =>
    have h := step_row R (freeS (queries X) (kblk K t)) (vblk (extended W) t) _ _ (after_lane K R (queries X) (extended W) t)
      (fun _ => True) (fun j => rowSc x k R (512 * t + j.val)) trivial
      (fun j => (freeS_real x k X K hX hK t R j).trans (if_pos trivial).symm)
      (fun e j => val v e (512 * t + j.val)) (fun e j => vblk_real v W hW t j e) _ ih
    have e : (fun e => (∑ j ∈ Finset.range (512 * t), Real.exp (rowSc x k R j) * val v e j) + ∑ j : Fin 512, if True then Real.exp (rowSc x k R (512 * t + j.val)) * val v e (512 * t + j.val) else 0)
        = fun e => ∑ j ∈ Finset.range (512 * (t + 1)), Real.exp (rowSc x k R j) * val v e j := by
      funext e
      simp only [if_true]
      rw [Fin.sum_univ_eq_sum_range (fun j => Real.exp (rowSc x k R (512 * t + j)) * val v e (512 * t + j)) 512,
        show 512 * (t + 1) = 512 * t + 512 by ring, Finset.sum_range_add]
    rw [e] at h
    exact h

include hX hK hW in
theorem total_state (n : ℕ) :
    ∃ M, State M (fun e => total (queries X) K (extended W) n (ix2 R e))
      (fun e => ∑ j ∈ Finset.range (512 * n + R.val % 512 + 1), Real.exp (rowSc x k R j) * val v e j) := by
  have h := step_row R (maskS (queries X) (kblk K n)) (vblk (extended W) n) _ _ (after_lane K R (queries X) (extended W) n)
      (fun j => j.val ≤ R.val % 512) (fun j => rowSc x k R (512 * n + j.val)) (Nat.zero_le _)
      (fun j => by
        unfold maskS score
        rw [freeS_real x k X K hX hK n R j, low_eq]; rfl)
      (fun e j => val v e (512 * n + j.val)) (fun e j => vblk_real v W hW n j e) _ (after_state x k v X K W hX hK hW R n)
  have e : (fun e => (∑ j ∈ Finset.range (512 * n), Real.exp (rowSc x k R j) * val v e j)
        + ∑ j : Fin 512, if j.val ≤ R.val % 512 then Real.exp (rowSc x k R (512 * n + j.val)) * val v e (512 * n + j.val) else 0)
      = fun e => ∑ j ∈ Finset.range (512 * n + R.val % 512 + 1), Real.exp (rowSc x k R j) * val v e j := by
    funext e
    rw [sum_upto (R.val % 512) (Nat.mod_lt _ (by omega)) fun j => Real.exp (rowSc x k R (512 * n + j)) * val v e (512 * n + j),
      add_assoc, Finset.sum_range_add (fun j => Real.exp (rowSc x k R j) * val v e j) (512 * n) (R.val % 512 + 1)]
  rw [e] at h
  exact ⟨_, h⟩

include hX hK hW in
/-- A row's accumulator over its sum of weights is the row's softmax against the values. -/
theorem total_div (n : ℕ) (d : Fin 128) :
    Ideal.div (total (queries X) K (extended W) n (ix2 R ⟨d.val, by omega⟩)) (total (queries X) K (extended W) n (ix2 R ⟨128 + d.val, by omega⟩))
      = ((soft (rowSc x k R) (fun j => v (ix2 ⟨j % 8192, Nat.mod_lt _ (by omega)⟩ d)) (512 * n + R.val % 512) : ℝ) : EReal) := by
  obtain ⟨M, h⟩ := total_state x k v X K W hX hK hW R n
  have hd := d.isLt
  have e1 : ∀ j, val v ⟨128 + d.val, by omega⟩ j = 1 := fun j => dif_neg (by simp)
  have e2 : ∀ j, val v ⟨d.val, by omega⟩ j = v (ix2 ⟨j % 8192, Nat.mod_lt _ (by omega)⟩ d) := fun j => dif_pos hd
  refine (state_div h ⟨d.val, by omega⟩ ⟨128 + d.val, by omega⟩ ?_).trans ?_
  · simp only [e1, mul_one]
    exact soft_pos _ _
  · simp only [e1, e2, mul_one]
    rfl

end Row

/-! ## What is written -/

theorem result_at (A : FVec Ideal S1024x256 .f32) (l : FVec Ideal S1x1 .f32) (w : FVec Ideal S1x128 .f32) (r : Fin 512) (d : Fin 128) :
    result (F := Ideal) A l w (ix2 r d) = scaled (fun d =>
        Ideal.div (A (ix2 ⟨r.val, by omega⟩ ⟨d.val, by omega⟩)) (A (ix2 ⟨r.val, by omega⟩ ⟨128 + d.val, by omega⟩))
        - l (ix2 0 0) * Ideal.div (A (ix2 ⟨512 + r.val, by omega⟩ ⟨d.val, by omega⟩)) (A (ix2 ⟨512 + r.val, by omega⟩ ⟨128 + d.val, by omega⟩)))
      (fun d => w (ix2 0 d)) d := by
  pointwise [result, normed, difference, quotient, scaled]

theorem lam_at (a b c e : FVec Ideal S1x64 .f32) :
    lam (F := Ideal) a b c e (ix2 0 0) = lamOf (fun i => a (ix2 0 i)) (fun i => b (ix2 0 i)) (fun i => c (ix2 0 i)) (fun i => e (ix2 0 i)) := by
  pointwise [lam, dot64, lamOf]

end Cert.KernelIdeal.Short

end
-- ==== Proof.Blocks.lean ====
/-
  The blocks the points read, as elements of the arguments, and the block a point writes.
-/
module

public import proofs.«01_k».proof.Proof.Run
public import proofs.«01_k».proof.Proof.Value

@[expose] public section

set_option maxRecDepth 16384

noncomputable section

namespace Cert.KernelIdeal.Own

open Idealize.ShloMosaic Idealize.ShloMosaic.TcCoe Idealize.SL.Sem
open Idealize.ShloMosaic.Pipeline (Dat)
open Cert.KernelIdeal Cert.KernelIdeal.Gen
open Cert.KernelIdeal.Short Cert.Attention

variable (m : (ℓ : Loc nD τ sig) → Buf (Elt Ideal) ℓ)

theorem idx : ∀ t : Fin cfg0.N, win0_0.index t = ![0, 0] ∧ win0_1.index t = ![0, 0] ∧ win0_2.index t = ![0, 0] ∧ win0_3.index t = ![0, 0]
    ∧ win0_4.index t = ![t.val / 128 * 16 + t.val % 16, t.val / 16 % 8] ∧ win0_5.index t = ![t.val / 128, t.val / 16 % 8]
    ∧ win0_6.index t = ![t.val / 128, t.val / 16 % 8] ∧ win0_7.index t = ![0, 0]
    ∧ win0_8.index t = ![t.val / 128 * 16 + t.val % 16, t.val / 16 % 8] :=
  (by decide +kernel : ∀ t : Fin grid0.N, _)

theorem lt_N (t : Fin cfg0.N) : t.val < 256 := t.isLt

theorem lam_blk0 (c : Dev nD) (t : Fin cfg0.N) (d : Fin 64) :
    iblk m c 0 t (ix2 0 d) = m ((c : Thread nD τ).loc main_arg3) (ix2 0 d) := by
  blk_point [iblk, V, idx t]

theorem lam_blk1 (c : Dev nD) (t : Fin cfg0.N) (d : Fin 64) :
    iblk m c 1 t (ix2 0 d) = m ((c : Thread nD τ).loc main_arg4) (ix2 0 d) := by
  blk_point [iblk, V, idx t]

theorem lam_blk2 (c : Dev nD) (t : Fin cfg0.N) (d : Fin 64) :
    iblk m c 2 t (ix2 0 d) = m ((c : Thread nD τ).loc main_arg5) (ix2 0 d) := by
  blk_point [iblk, V, idx t]

theorem lam_blk3 (c : Dev nD) (t : Fin cfg0.N) (d : Fin 64) :
    iblk m c 3 t (ix2 0 d) = m ((c : Thread nD τ).loc main_arg6) (ix2 0 d) := by
  blk_point [iblk, V, idx t]

theorem q_blk (c : Dev nD) (t : Fin cfg0.N) (r : Fin 512) (d : Fin 128) :
    iblk m c 4 t (ix2 r d) = m ((c : Thread nD τ).loc main_arg0)
      (ix2 ⟨(t.val / 128 * 16 + t.val % 16) * 512 + r.val, by have := lt_N t; omega⟩ ⟨t.val / 16 % 8 * 128 + d.val, by omega⟩) := by
  blk_point [iblk, V, idx t]

theorem k_blk (c : Dev nD) (t : Fin cfg0.N) (j : Fin 8192) (d : Fin 128) :
    iblk m c 5 t (ix2 j d) = m ((c : Thread nD τ).loc main_arg1)
      (ix2 ⟨t.val / 128 * 8192 + j.val, by have := lt_N t; omega⟩ ⟨t.val / 16 % 8 * 128 + d.val, by omega⟩) := by
  blk_point [iblk, V, idx t]

theorem w_blk (c : Dev nD) (t : Fin cfg0.N) (d : Fin 128) :
    iblk m c 7 t (ix2 0 d) = m ((c : Thread nD τ).loc main_arg7) (ix1 d) := by
  blk_point [iblk, V, idx t]

theorem v_blk (c : Dev nD) (t : Fin cfg0.N) (j : Fin 8192) (d : Fin 128) :
    iblk m c 6 t (ix2 j d) = m ((c : Thread nD τ).loc main_arg2)
      (ix2 ⟨t.val / 128 * 8192 + j.val, by have := lt_N t; omega⟩ ⟨t.val / 16 % 8 * 128 + d.val, by omega⟩) := by
  blk_point [iblk, V, idx t]

theorem coords2 (t : Fin cfg0.N) : (grid0.coords t 2).val = t.val % 16 :=
  (by decide +kernel : ∀ t : Fin grid0.N, (grid0.coords t 2).val = t.val % 16) t

/-- The values a point holds are its head's. -/
theorem carried_eq (c : Dev nD) : ∀ (n : ℕ) (hn : n < cfg0.N), carried m c n hn = extended (iblk m c 6 ⟨n, hn⟩)
  | 0, hn => rfl
  | n + 1, hn => by
    show valuesAt (grid0.coords ⟨n + 1, hn⟩) (iblk m c 6 ⟨n + 1, hn⟩) (carried m c n (Nat.lt_of_succ_lt hn)) = _
    unfold valuesAt
    split
    · rfl
    · rename_i h
      rw [coords2] at h
      have h : (n + 1) % 16 ≠ 0 := h
      rw [carried_eq c n (Nat.lt_of_succ_lt hn)]
      congr 1
      funext i
      obtain ⟨j, d, rfl⟩ : ∃ (j : Fin 8192) (d : Fin 128), i = ix2 j d := ⟨i 0, i 1, eq_ix2 i⟩
      rw [v_blk, v_blk]
      have e1 : (⟨n / 128 * 8192 + j.val, by have := lt_N ⟨n + 1, hn⟩; have : n + 1 < 256 := this; omega⟩ : Fin 16384)
          = ⟨(n + 1) / 128 * 8192 + j.val, by have : n + 1 < 256 := lt_N ⟨n + 1, hn⟩; omega⟩ := Fin.ext (by
        show n / 128 * 8192 + j.val = (n + 1) / 128 * 8192 + j.val
        omega)
      have e2 : (⟨n / 16 % 8 * 128 + d.val, by omega⟩ : Fin 1024) = ⟨(n + 1) / 16 % 8 * 128 + d.val, by omega⟩ := Fin.ext (by
        show n / 16 % 8 * 128 + d.val = (n + 1) / 16 % 8 * 128 + d.val
        omega)
      exact congrArg _ (congr (congrArg ix2 e1) e2)

section Finite

variable (c : Dev nD) (qr kr vr : Tokens.Idx → ℝ)
  (hq : ∀ i, m ((c : Thread nD τ).loc main_arg0) i = ((qr i : ℝ) : EReal))
  (hk : ∀ i, m ((c : Thread nD τ).loc main_arg1) i = ((kr i : ℝ) : EReal))
  (hv : ∀ i, m ((c : Thread nD τ).loc main_arg2) i = ((vr i : ℝ) : EReal))

/-- A point's block of queries. -/
def qreal (t : Fin cfg0.N) : S512x128.Idx → ℝ := fun i =>
  qr (ix2 ⟨(t.val / 128 * 16 + t.val % 16) * 512 + (i 0).val, by have := lt_N t; have := (i 0).isLt; show _ < 16384; change (i 0).val < 512 at this; omega⟩
    ⟨t.val / 16 % 8 * 128 + (i 1).val, by have := (i 1).isLt; show _ < 1024; change (i 1).val < 128 at this; omega⟩)

/-- A head's keys or values. -/
def kreal (x : Tokens.Idx → ℝ) (t : Fin cfg0.N) : S8192x128.Idx → ℝ := fun i =>
  x (ix2 ⟨t.val / 128 * 8192 + (i 0).val, by have := lt_N t; have := (i 0).isLt; show _ < 16384; change (i 0).val < 8192 at this; omega⟩
    ⟨t.val / 16 % 8 * 128 + (i 1).val, by have := (i 1).isLt; show _ < 1024; change (i 1).val < 128 at this; omega⟩)

/-- A row's scores are its query's. -/
theorem rowSc_eq (t : Fin cfg0.N) (R : Fin 1024) (r : Fin 512) (o : ℕ) (hR : R.val % 512 = r.val) (ho : half R.val = o) :
    rowSc (qreal qr t) (kreal kr t) R = gsc qr kr ⟨t.val / 128, by have := lt_N t; omega⟩
      ⟨t.val % 16 * 512 + r.val, by omega⟩ ⟨t.val / 16 % 8, by omega⟩ o := by
  subst ho
  funext j
  unfold rowSc sc gsc qreal kreal
  congr 1
  refine Finset.sum_congr rfl fun d _ => ?_
  have e : (⟨(t.val / 128 * 16 + t.val % 16) * 512 + R.val % 512, by have := lt_N t; omega⟩ : Fin 16384)
      = ⟨t.val / 128 * 8192 + (t.val % 16 * 512 + r.val), by have := lt_N t; omega⟩ := Fin.ext (by
    show (t.val / 128 * 16 + t.val % 16) * 512 + R.val % 512 = t.val / 128 * 8192 + (t.val % 16 * 512 + r.val)
    omega)
  exact congrArg (· * _) (congrArg (fun a => qr (ix2 a _)) e)

include hq hk hv in
/-- What a point writes, at an index of its block. -/
theorem written_at (t : Fin cfg0.N) (l : ℝ)
    (hl : lamOf (fun i => m ((c : Thread nD τ).loc main_arg3) (ix2 0 i)) (fun i => m ((c : Thread nD τ).loc main_arg4) (ix2 0 i))
      (fun i => m ((c : Thread nD τ).loc main_arg5) (ix2 0 i)) (fun i => m ((c : Thread nD τ).loc main_arg6) (ix2 0 i)) = l)
    (r : Fin 512) (d : Fin 128) :
    written m c t (ix2 r d) = scaled
      (fun d => ((diff qr kr vr l ⟨t.val / 128, by have := lt_N t; omega⟩ ⟨t.val % 16 * 512 + r.val, by omega⟩ ⟨t.val / 16 % 8, by omega⟩ d : ℝ) : EReal))
      (fun d => m ((c : Thread nD τ).loc main_arg7) (ix1 d)) d := by
  unfold written outcome
  rw [coords2, carried_eq, result_at]
  have hX : ∀ i, iblk m c 4 t i = ((qreal qr t i : ℝ) : EReal) := fun i => by
    obtain ⟨a, b, rfl⟩ : ∃ (a : Fin 512) (b : Fin 128), i = ix2 a b := ⟨i 0, i 1, eq_ix2 i⟩
    rw [q_blk, hq]; rfl
  have hK : ∀ i, iblk m c 5 t i = ((kreal kr t i : ℝ) : EReal) := fun i => by
    obtain ⟨a, b, rfl⟩ : ∃ (a : Fin 8192) (b : Fin 128), i = ix2 a b := ⟨i 0, i 1, eq_ix2 i⟩
    rw [k_blk, hk]; rfl
  have hW : ∀ i, iblk m c 6 t i = ((kreal vr t i : ℝ) : EReal) := fun i => by
    obtain ⟨a, b, rfl⟩ : ∃ (a : Fin 8192) (b : Fin 128), i = ix2 a b := ⟨i 0, i 1, eq_ix2 i⟩
    rw [v_blk, hv]; rfl
  have hlam : lam (iblk m c 0 t) (iblk m c 1 t) (iblk m c 2 t) (iblk m c 3 t) (ix2 0 0) = l := by
    rw [lam_at]
    simp only [lam_blk0, lam_blk1, lam_blk2, lam_blk3]
    exact hl
  have hr := r.isLt
  have e1 := rowSc_eq qr kr t ⟨r.val, by omega⟩ r 0 (Nat.mod_eq_of_lt hr) (if_pos hr)
  have e2 := rowSc_eq qr kr t ⟨512 + r.val, by omega⟩ r 64 (by show (512 + r.val) % 512 = r.val; omega) (if_neg (by show ¬ 512 + r.val < 512; omega))
  have n1 : 512 * (t.val % 16) + r.val % 512 = t.val % 16 * 512 + r.val := by omega
  have n2 : 512 * (t.val % 16) + (512 + r.val) % 512 = t.val % 16 * 512 + r.val := by omega
  congr 1
  · funext d
    rw [hlam, total_div _ _ _ _ _ _ hX hK hW ⟨r.val, by omega⟩, total_div _ _ _ _ _ _ hX hK hW ⟨512 + r.val, by omega⟩, e1, e2,
      ← EReal.coe_mul, ← EReal.coe_sub]
    show ((soft _ _ (512 * (t.val % 16) + r.val % 512) - l * soft _ _ (512 * (t.val % 16) + (512 + r.val) % 512) : ℝ) : EReal) = _
    rw [n1, n2]
    rfl
  · funext d
    exact w_blk m c t d

end Finite

end Cert.KernelIdeal.Own

end
-- ==== Proof.Ref.lean ====
/-
  The reference read at an index: its operations grouped into stages, each stage at an index, and the whole for
  finite arguments.
-/
module

public import proofs.«01_k».proof.Proof.Gen.ReferenceIdeal.Run
public import proofs.«01_k».proof.Proof.Common
public import Idealize.ShloMosaic.Lib.Pipeline.ValueKit

@[expose] public section

set_option maxRecDepth 16384

noncomputable section

namespace Cert.ReferenceIdeal.Stages

open Idealize.ShloMosaic Idealize.ShloMosaic.TcCoe Idealize.SL.Sem Idealize.ShloMosaic.StableHlo
open Cert.ReferenceIdeal Cert.ReferenceIdeal.Gen Cert.Attention
open Cert.KernelIdeal.Short (low low_eq zero_eq weight score coe_sum sum_weights soft)

/-- An argument as one array per batch and head. -/
def heads (x : FVec Ideal S16384x1024 .bf16) : FVec Ideal S2x8192x8x128 .f32 :=
  shapeCast S2x8192x8x128 (extf .f32 x bitsLt_bf16_f32) shapeCasts_S16384x1024_S2x8192x8x128

/-- `λ`. -/
def lambda (a b d e : FVec Ideal S1x64 .f32) : FVec Ideal S_ .f32 :=
  addf (subf
      (Host.exp (Host.reduceAdd (mulf (shapeCast S64 a shapeCasts_S1x64_S64) (shapeCast S64 b shapeCasts_S1x64_S64)) (constant S_ .f32 0x00000000#32) reducesTo_S64_S_d0 h_S_))
      (Host.exp (Host.reduceAdd (mulf (shapeCast S64 d shapeCasts_S1x64_S64) (shapeCast S64 e shapeCasts_S1x64_S64)) (constant S_ .f32 0x00000000#32) reducesTo_S64_S_d0 h_S_)))
    (constant S_ .f32 0x3E4CCCCD#32)

/-- Scaled products of two arrays of half heads. -/
def products (q k : FVec Ideal S2x8192x8x64 .f32) : FVec Ideal S2x8x8192x8192 .f32 :=
  mulf (Host.dotGeneral dot_S2x8192x8x64_S2x8192x8x64_S2x8x8192x8192_3_3_1_1_02_02 none q k)
    (broadcastInDim S2x8x8192x8192 ![] bcast_S_S2x8x8192x8192 (constant S_ .f32 0x3E000000#32))

/-- A key after its query masked. -/
def causal (s : FVec Ideal S2x8x8192x8192 .f32) : FVec Ideal S2x8x8192x8192 .f32 :=
  select (broadcastInDim S2x8x8192x8192 ![2, 3] bcast_S8192x8192_S2x8x8192x8192_2_3
      (cmpi .sle (broadcastInDim S8192x8192 ![0, 1] bcast_S1x8192_S8192x8192_0_1 (broadcastInDim S1x8192 ![1] bcast_S8192_S1x8192_1 (iotaInDim S8192 32 0)))
        (broadcastInDim S8192x8192 ![0, 1] bcast_S8192x1_S8192x8192_0_1 (broadcastInDim S8192x1 ![0] bcast_S8192_S8192x1_0 (iotaInDim S8192 32 0)))))
    s (broadcastInDim S2x8x8192x8192 ![] bcast_S_S2x8x8192x8192 (id (constant S_ .f32 0xFF800000#32)))

/-- The exponentials of the rows less their maxima `M`. -/
def less (s : FVec Ideal S2x8x8192x8192 .f32) (M : FVec Ideal S2x8x8192 .f32) : FVec Ideal S2x8x8192x8192 .f32 :=
  Host.exp (subf s (broadcastInDim S2x8x8192x8192 ![0, 1, 2, 3] bcast_S2x8x8192x1_S2x8x8192x8192_0_1_2_3
    (broadcastInDim S2x8x8192x1 ![0, 1, 2] bcast_S2x8x8192_S2x8x8192x1_0_1_2
      (maximumf (broadcastInDim S2x8x8192 ![] bcast_S_S2x8x8192 (constant S_ .f32 0xFF800000#32)) M))))

/-- The maximum of every row. -/
def highest (s : FVec Ideal S2x8x8192x8192 .f32) : FVec Ideal S2x8x8192 .f32 :=
  Host.reduce FloatOps.maximumf s (constant S_ .f32 0xFF800000#32) reducesTo_S2x8x8192x8192_S2x8x8192_d3 h_S_

/-- The exponentials of a row less its maximum. -/
def exps (s : FVec Ideal S2x8x8192x8192 .f32) : FVec Ideal S2x8x8192x8192 .f32 := less s (highest s)

/-- A row over its sum. -/
def shares (e : FVec Ideal S2x8x8192x8192 .f32) : FVec Ideal S2x8x8192x8192 .f32 :=
  Host.divf e (broadcastInDim S2x8x8192x8192 ![0, 1, 2, 3] bcast_S2x8x8192x1_S2x8x8192x8192_0_1_2_3
    (broadcastInDim S2x8x8192x1 ![0, 1, 2] bcast_S2x8x8192_S2x8x8192x1_0_1_2
      (Host.reduceAdd e (constant S_ .f32 0x00000000#32) reducesTo_S2x8x8192x8192_S2x8x8192_d3 h_S_)))

/-- The values weighted by the difference of two softmaxes. -/
def attended (v : FVec Ideal S2x8192x8x128 .f32) (l : FVec Ideal S_ .f32) (s t : FVec Ideal S2x8x8192x8192 .f32) : FVec Ideal S2x8192x8x128 .f32 :=
  transpose S2x8192x8x128 [0, 3, 1, 2]
    (Host.dotGeneral dot_S2x8192x8x128_S2x8x8192x8192_S2x8x128x8192_1_3_3_2_02_01 none v
      (subf (shares (exps s)) (mulf (broadcastInDim S2x8x8192x8192 ![] bcast_S_S2x8x8192x8192 l) (shares (exps t)))))
    transposes_S2x8x128x8192_S2x8192x8x128_0_3_1_2

/-- The sub-layer norm of every head. -/
def normed (o : FVec Ideal S2x8192x8x128 .f32) (w : FVec Ideal S128 .f32) : FVec Ideal S2x8192x8x128 .f32 :=
  mulf (mulf (mulf o (broadcastInDim S2x8192x8x128 ![0, 1, 2, 3] bcast_S2x8192x8x1_S2x8192x8x128_0_1_2_3
      (Host.rsqrt (addf (Host.divf (broadcastInDim S2x8192x8x1 ![0, 1, 2] bcast_S2x8192x8_S2x8192x8x1_0_1_2
            (Host.reduceAdd (mulf o o) (constant S_ .f32 0x00000000#32) reducesTo_S2x8192x8x128_S2x8192x8_d3 h_S_))
          (broadcastInDim S2x8192x8x1 ![] bcast_S_S2x8192x8x1 (constant S_ .f32 0x43000000#32)))
        (broadcastInDim S2x8192x8x1 ![] bcast_S_S2x8192x8x1 (constant S_ .f32 0x3727C5AC#32))))))
    (broadcastInDim S2x8192x8x128 ![0, 1, 2, 3] bcast_S1x1x1x128_S2x8192x8x128_0_1_2_3 (broadcastInDim S1x1x1x128 ![3] bcast_S128_S1x1x1x128_3 w)))
    (broadcastInDim S2x8192x8x128 ![] bcast_S_S2x8192x8x128 (constant S_ .f32 0x3F4CCCCD#32))

def lower (x : FVec Ideal S2x8192x8x128 .f32) : FVec Ideal S2x8192x8x64 .f32 :=
  extractStridedSlice S2x8192x8x64 ![0, 0, 0, 0] x slices_S2x8192x8x128_S2x8192x8x64_0_0_0_0
def upper (x : FVec Ideal S2x8192x8x128 .f32) : FVec Ideal S2x8192x8x64 .f32 :=
  extractStridedSlice S2x8192x8x64 ![0, 0, 0, 64] x slices_S2x8192x8x128_S2x8192x8x64_0_0_0_64

/-- The reference's result. -/
def attention (q k v : FVec Ideal S16384x1024 .bf16) (a b d e : FVec Ideal S1x64 .f32) (w : FVec Ideal S128 .f32) : FVec Ideal S16384x1024 .bf16 :=
  truncf .bf16 (shapeCast S16384x1024 (normed (attended (heads v) (lambda a b d e)
      (causal (products (lower (heads q)) (lower (heads k)))) (causal (products (upper (heads q)) (upper (heads k))))) w)
    shapeCasts_S2x8192x8x128_S16384x1024) bitsLt_bf16_f32

theorem res_eq (m : (ℓ : Loc nD τ sig) → Buf (Elt Ideal) ℓ) (c : Dev nD) :
    Value.res_out0 m c = attention (m ((c.tc : Thread nD τ).loc main_arg0)) (m ((c.tc : Thread nD τ).loc main_arg1))
      (m ((c.tc : Thread nD τ).loc main_arg2)) (m ((c.tc : Thread nD τ).loc main_arg3)) (m ((c.tc : Thread nD τ).loc main_arg4))
      (m ((c.tc : Thread nD τ).loc main_arg5)) (m ((c.tc : Thread nD τ).loc main_arg6)) (m ((c.tc : Thread nD τ).loc main_arg7)) := by
  unfold Value.res_out0 Value.res_main_v79
  rfl

/-! ## The stages at an index -/

theorem heads_at (x : FVec Ideal S16384x1024 .bf16) (b : Fin 2) (p : Fin 8192) (h : Fin 8) (d : Fin 128) :
    heads x (ix4 b p h d) = x (ix2 ⟨b.val * 8192 + p.val, by omega⟩ ⟨h.val * 128 + d.val, by omega⟩) := by
  pointwise [heads]

theorem products_lower_at (q k : FVec Ideal S2x8192x8x128 .f32) (b : Fin 2) (h : Fin 8) (p j : Fin 8192) :
    products (lower q) (lower k) (ix4 b h p j)
      = (∑ d : Fin 64, q (ix4 b p h ⟨d.val, by omega⟩) * k (ix4 b j h ⟨d.val, by omega⟩)) * Ideal.ofBits .f32 0x3E000000#32 := by
  pointwise [products, lower]

theorem products_upper_at (q k : FVec Ideal S2x8192x8x128 .f32) (b : Fin 2) (h : Fin 8) (p j : Fin 8192) :
    products (upper q) (upper k) (ix4 b h p j)
      = (∑ d : Fin 64, q (ix4 b p h ⟨64 + d.val, by omega⟩) * k (ix4 b j h ⟨64 + d.val, by omega⟩)) * Ideal.ofBits .f32 0x3E000000#32 := by
  pointwise [products, upper]

theorem causal_at (s : FVec Ideal S2x8x8192x8192 .f32) (b : Fin 2) (h : Fin 8) (p j : Fin 8192) :
    causal s (ix4 b h p j) = if j.val ≤ p.val then s (ix4 b h p j) else ⊥ := by
  have e : IntOp.cmpi CmpIPredicate.sle (BitVec.ofNat 32 j.val) (BitVec.ofNat 32 p.val) = BitVec.ofBool (decide (j.val ≤ p.val)) := by
    have e1 : ∀ a : Fin 8192, (BitVec.ofNat 32 a.val).toInt = (a.val : Int) := fun a => by
      rw [BitVec.toInt_eq_toNat_of_lt] <;> simp <;> omega
    show BitVec.ofBool (BitVec.sle _ _) = _
    rw [BitVec.sle_eq_decide, e1, e1]
    congr 1
    simp only [Nat.cast_le]
  have e2 : (id (constant S_ FTy.f32 4286578688#32) : FVec Ideal S_ .f32) ix0 = ⊥ := low_eq
  pointwise [causal]
  rw [e, e2]
  by_cases hc : j.val ≤ p.val
  · simp [hc, Scalar.select]
  · simp [hc, Scalar.select]

theorem highest_at (s : FVec Ideal S2x8x8192x8192 .f32) (b : Fin 2) (h : Fin 8) (p : Fin 8192) :
    highest s (ix3 b h p) = Finset.univ.fold max low fun k : Fin 8192 => s (ix4 b h p k) := by
  unfold highest
  simp only [pointwise]

theorem less_at (s : FVec Ideal S2x8x8192x8192 .f32) (M : FVec Ideal S2x8x8192 .f32) (b : Fin 2) (h : Fin 8) (p j : Fin 8192) :
    less s M (ix4 b h p j) = Ideal.exp (s (ix4 b h p j) - max (Ideal.ofBits .f32 0xFF800000#32) (M (ix3 b h p))) := by
  pointwise [less]

theorem exps_at (s : FVec Ideal S2x8x8192x8192 .f32) (b : Fin 2) (h : Fin 8) (p j : Fin 8192) :
    exps s (ix4 b h p j) = Ideal.exp (s (ix4 b h p j) - max low (Finset.univ.fold max low fun k : Fin 8192 => s (ix4 b h p k))) := by
  unfold exps
  rw [less_at, highest_at]

theorem shares_at (e : FVec Ideal S2x8x8192x8192 .f32) (b : Fin 2) (h : Fin 8) (p j : Fin 8192) :
    shares e (ix4 b h p j) = Ideal.div (e (ix4 b h p j)) (Ideal.ofBits .f32 0x00000000#32 + ∑ k : Fin 8192, e (ix4 b h p k)) := by
  pointwise [shares]

theorem shares_exps_at (s : FVec Ideal S2x8x8192x8192 .f32) (b : Fin 2) (h : Fin 8) (p j : Fin 8192) :
    shares (exps s) (ix4 b h p j) = weight (fun k => s (ix4 b h p k)) j := by
  rw [shares_at]
  simp only [exps_at]
  rfl

theorem attended_at (v : FVec Ideal S2x8192x8x128 .f32) (l : FVec Ideal S_ .f32) (s t : FVec Ideal S2x8x8192x8192 .f32)
    (b : Fin 2) (p : Fin 8192) (h : Fin 8) (d : Fin 128) :
    attended v l s t (ix4 b p h d) = ∑ j : Fin 8192, v (ix4 b j h d)
      * (weight (fun k => s (ix4 b h p k)) j - l ix0 * weight (fun k => t (ix4 b h p k)) j) := by
  pointwise [attended]
  simp only [shares_exps_at]

theorem normed_at (o : FVec Ideal S2x8192x8x128 .f32) (w : FVec Ideal S128 .f32) (b : Fin 2) (p : Fin 8192) (h : Fin 8) (d : Fin 128) :
    normed o w (ix4 b p h d) = scaled (fun d => o (ix4 b p h d)) (fun d => w (ix1 d)) d := by
  pointwise [normed, scaled]

theorem lambda_at (a b d e : FVec Ideal S1x64 .f32) :
    lambda a b d e ix0 = lamOf (fun i => a (ix2 0 i)) (fun i => b (ix2 0 i)) (fun i => d (ix2 0 i)) (fun i => e (ix2 0 i)) := by
  pointwise [lambda, lamOf]

theorem attention_at' (q k v : FVec Ideal S16384x1024 .bf16) (a b d e : FVec Ideal S1x64 .f32) (w : FVec Ideal S128 .f32)
    (B : Fin 2) (p : Fin 8192) (h : Fin 8) (x : Fin 128) :
    attention q k v a b d e w (ix2 ⟨B.val * 8192 + p.val, by omega⟩ ⟨h.val * 128 + x.val, by omega⟩)
      = normed (attended (heads v) (lambda a b d e)
      (causal (products (lower (heads q)) (lower (heads k)))) (causal (products (upper (heads q)) (upper (heads k))))) w (ix4 B p h x) := by
  unfold attention
  generalize normed _ _ = y
  pointwise

/-! ## For finite arguments -/

section Finite

variable (q k v : FVec Ideal S16384x1024 .bf16) (qr kr vr : Tokens.Idx → ℝ)
  (hq : ∀ i, q i = ((qr i : ℝ) : EReal)) (hk : ∀ i, k i = ((kr i : ℝ) : EReal)) (hv : ∀ i, v i = ((vr i : ℝ) : EReal))

include hq hk in
theorem lower_score (b : Fin 2) (h : Fin 8) (p j : Fin 8192) :
    causal (products (lower (heads q)) (lower (heads k))) (ix4 b h p j) = score (j.val ≤ p.val) (gsc qr kr b p h 0 j.val) := by
  rw [causal_at, products_lower_at]
  unfold score gsc
  congr 1
  simp only [heads_at, hq, hk, eighth_eq, ← EReal.coe_mul, ← coe_sum]
  congr 2
  refine Finset.sum_congr rfl fun d _ => ?_
  have e : (⟨h.val * 128 + d.val, by omega⟩ : Fin 1024) = ⟨h.val * 128 + (0 + d.val) % 128, by omega⟩ := Fin.ext (by
    show h.val * 128 + d.val = h.val * 128 + (0 + d.val) % 128
    omega)
  have e' : (⟨b.val * 8192 + j.val, by omega⟩ : Fin 16384) = ⟨b.val * 8192 + j.val % 8192, by omega⟩ := Fin.ext (by
    show b.val * 8192 + j.val = b.val * 8192 + j.val % 8192
    omega)
  rw [e, e']

include hq hk in
theorem upper_score (b : Fin 2) (h : Fin 8) (p j : Fin 8192) :
    causal (products (upper (heads q)) (upper (heads k))) (ix4 b h p j) = score (j.val ≤ p.val) (gsc qr kr b p h 64 j.val) := by
  rw [causal_at, products_upper_at]
  unfold score gsc
  congr 1
  simp only [heads_at, hq, hk, eighth_eq, ← EReal.coe_mul, ← coe_sum]
  congr 2
  refine Finset.sum_congr rfl fun d _ => ?_
  have e : (⟨h.val * 128 + (64 + d.val), by omega⟩ : Fin 1024) = ⟨h.val * 128 + (64 + d.val) % 128, by omega⟩ := Fin.ext (by
    show h.val * 128 + (64 + d.val) = h.val * 128 + (64 + d.val) % 128
    omega)
  have e' : (⟨b.val * 8192 + j.val, by omega⟩ : Fin 16384) = ⟨b.val * 8192 + j.val % 8192, by omega⟩ := Fin.ext (by
    show b.val * 8192 + j.val = b.val * 8192 + j.val % 8192
    omega)
  rw [e, e']

include hq hk hv in
theorem attended_real (L : FVec Ideal S_ .f32) (l : ℝ) (hL : L ix0 = l) (b : Fin 2) (p : Fin 8192) (h : Fin 8) (d : Fin 128) :
    attended (heads v) L (causal (products (lower (heads q)) (lower (heads k)))) (causal (products (upper (heads q)) (upper (heads k))))
      (ix4 b p h d) = ((diff qr kr vr l b p h d : ℝ) : EReal) := by
  rw [attended_at, hL]
  have e1 : (fun j => causal (products (lower (heads q)) (lower (heads k))) (ix4 b h p j))
      = fun j : Fin 8192 => score (j.val ≤ p.val) (gsc qr kr b p h 0 j.val) := funext (lower_score q k qr kr hq hk b h p)
  have e2 : (fun j => causal (products (upper (heads q)) (upper (heads k))) (ix4 b h p j))
      = fun j : Fin 8192 => score (j.val ≤ p.val) (gsc qr kr b p h 64 j.val) := funext (upper_score q k qr kr hq hk b h p)
  have e3 : ∀ j : Fin 8192, heads v (ix4 b j h d)
      = (((fun j : ℕ => vr (ix2 ⟨b.val * 8192 + j % 8192, by omega⟩ ⟨h.val * 128 + d.val, by omega⟩)) j.val : ℝ) : EReal) := fun j => by
    rw [heads_at, hv]
    have e' : (⟨b.val * 8192 + j.val, by omega⟩ : Fin 16384) = ⟨b.val * 8192 + j.val % 8192, by omega⟩ := Fin.ext (by
      show b.val * 8192 + j.val = b.val * 8192 + j.val % 8192
      omega)
    rw [e']
  rw [e1, e2, Finset.sum_congr rfl fun j _ => congrArg (· * _) (e3 j)]
  exact sum_weights p.val p.isLt (gsc qr kr b p h 0) (gsc qr kr b p h 64)
    (fun j : ℕ => vr (ix2 ⟨b.val * 8192 + j % 8192, by omega⟩ ⟨h.val * 128 + d.val, by omega⟩)) l

include hq hk hv in
/-- The reference at an index. -/
theorem attention_at (a b d e : FVec Ideal S1x64 .f32) (w : FVec Ideal S128 .f32) (l : ℝ)
    (hl : lamOf (fun i => a (ix2 0 i)) (fun i => b (ix2 0 i)) (fun i => d (ix2 0 i)) (fun i => e (ix2 0 i)) = l)
    (B : Fin 2) (p : Fin 8192) (h : Fin 8) (x : Fin 128) :
    attention q k v a b d e w (ix2 ⟨B.val * 8192 + p.val, by omega⟩ ⟨h.val * 128 + x.val, by omega⟩)
      = scaled (fun x => ((diff qr kr vr l B p h x : ℝ) : EReal)) (fun x => w (ix1 x)) x := by
  rw [attention_at', normed_at]
  congr 1
  exact funext fun x => attended_real q k v qr kr vr hq hk hv _ l ((lambda_at a b d e).trans hl) B p h x

end Finite

end Cert.ReferenceIdeal.Stages

end
-- ==== Proof.Final.lean ====
/-
  The result array after the launch is the reference's, for finite arguments.
-/
module

public import proofs.«01_k».proof.Proof.Blocks
public import proofs.«01_k».proof.Proof.Ref
public import proofs.«01_k».proof.Proof.Finite

@[expose] public section

set_option maxRecDepth 16384

noncomputable section

namespace Cert.KernelIdeal.Own

open Idealize.ShloMosaic Idealize.ShloMosaic.TcCoe Idealize.SL.Sem
open Idealize.ShloMosaic.Pipeline (Dat)
open Cert.KernelIdeal Cert.KernelIdeal.Gen
open Cert.KernelIdeal.Short Cert.Attention
open Cert.ReferenceIdeal.Stages (attention attention_at)

variable (m : (ℓ : Loc nD τ sig) → Buf (Elt Ideal) ℓ)

/-- Where an index of a point's block sits in the result. -/
theorem emb_eq (t : Fin cfg0.N) (r : Fin 512) (d : Fin 128) :
    (win0_8.blk t).view.emb (ix2 r d : S512x128.Idx)
      = (ix2 ⟨t.val / 128 * 8192 + (t.val % 16 * 512 + r.val), by have := lt_N t; omega⟩ ⟨t.val / 16 % 8 * 128 + d.val, by omega⟩ : S16384x1024.Idx) := by
  funext a
  fin_cases a
  · apply Fin.ext
    blk_simp [idx t]
    exact (by omega : (t.val / 128 * 16 + t.val % 16) * 512 + r.val = t.val / 128 * 8192 + (t.val % 16 * 512 + r.val))
  · apply Fin.ext
    blk_simp [idx t]
    rfl

theorem final (c : Dev nD) (qr kr vr : Tokens.Idx → ℝ)
    (hq : ∀ i, m ((c : Thread nD τ).loc main_arg0) i = ((qr i : ℝ) : EReal))
    (hk : ∀ i, m ((c : Thread nD τ).loc main_arg1) i = ((kr i : ℝ) : EReal))
    (hv : ∀ i, m ((c : Thread nD τ).loc main_arg2) i = ((vr i : ℝ) : EReal)) (l : ℝ)
    (hl : lamOf (fun i => m ((c : Thread nD τ).loc main_arg3) (ix2 0 i)) (fun i => m ((c : Thread nD τ).loc main_arg4) (ix2 0 i))
      (fun i => m ((c : Thread nD τ).loc main_arg5) (ix2 0 i)) (fun i => m ((c : Thread nD τ).loc main_arg6) (ix2 0 i)) = l) :
    (dats m 0 c).arrAt 8 (cfgs 0).N
      = attention (m ((c : Thread nD τ).loc main_arg0)) (m ((c : Thread nD τ).loc main_arg1)) (m ((c : Thread nD τ).loc main_arg2))
        (m ((c : Thread nD τ).loc main_arg3)) (m ((c : Thread nD τ).loc main_arg4)) (m ((c : Thread nD τ).loc main_arg5))
        (m ((c : Thread nD τ).loc main_arg6)) (m ((c : Thread nD τ).loc main_arg7)) := by
  refine (dats m 0 c).arrAt_eq_of_covers 8 _ (by decide +kernel) fun t _ y => ?_
  blk_simp
  rw [after_8]
  obtain ⟨r, d, rfl⟩ : ∃ (r : Fin 512) (d : Fin 128), y = (ix2 r d : S512x128.Idx) := ⟨(y : S512x128.Idx) 0, (y : S512x128.Idx) 1, eq_ix2 (y : S512x128.Idx)⟩
  rw [emb_eq t r d]
  exact (written_at m c qr kr vr hq hk hv t l hl r d).trans
    (attention_at _ _ _ qr kr vr hq hk hv _ _ _ _ _ l hl ⟨t.val / 128, by have := lt_N t; omega⟩ ⟨t.val % 16 * 512 + r.val, by omega⟩
      ⟨t.val / 16 % 8, by omega⟩ d).symm

/-- What the run leaves: the array of written blocks, and the arguments as they were. -/
theorem ran (ρ : Dev nD → PrngReg) : θ_run defs (onTc (τ := τ) (main (F := Ideal))) ⟨m, fun _ => 0, ρ⟩ (fun r => ∀ c : Dev nD,
      r.2.mem ((c.tc : Thread nD τ).loc main_v1) = (dats m 0 c).arrAt 8 (cfgs 0).N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) := by
  refine (θ_run defs _ _).mono (fun r h c => ?_) (run m ρ)
  have k : ∀ w : Fin cfg0.W, (cfg0.win w).isOut = false → r.2.mem (c.tc.loc (Pipeline.arrRef spec0 w)) = V m c (Pipeline.arrRef spec0 w) :=
    fun w hw => ((h.1 c).1 w).trans (((dats m 0 c).arrAt_in w hw _).trans (A_eq m c w))
  exact ⟨(h.1 c).1 8, (k 4 rfl).trans (V_main_arg0 m c), (k 5 rfl).trans (V_main_arg1 m c), (k 6 rfl).trans (V_main_arg2 m c),
    (k 0 rfl).trans (V_main_arg3 m c), (k 1 rfl).trans (V_main_arg4 m c), (k 2 rfl).trans (V_main_arg5 m c), (k 3 rfl).trans (V_main_arg6 m c),
    ((h.1 c).2 main_arg7 (Pipeline.mem_restRefs_of main_arg7 (by decide) (by decide))).trans (V_main_arg7 m c)⟩

end Cert.KernelIdeal.Own

end
-- ==== Proof.Columns.lean ====
/-
  The projections' common mathematics: the product of the activations with columns of the weights, and a buffer that is
  set at the first point of every sweep and kept at the others.
-/
module

public import Idealize.ShloMosaic.Lib.Pipeline.ValueKit

@[expose] public section

noncomputable section

namespace Cert.Projection

open Idealize.ShloMosaic

/-- Rows of activations, and the weights of all the projections side by side. -/
abbrev Rows (n : ℕ) : Shape := ⟨2, ![n, 1024]⟩
abbrev Weights : Shape := ⟨2, ![1024, 11264]⟩

/-- A row of activations with a column of the weights. -/
def product {n : ℕ} (h : (Rows n).Idx → EReal) (w : Weights.Idx → EReal) (r : Fin n) (d : Fin 11264) : EReal :=
  ∑ k : Fin 1024, h (ix2 r k) * w (ix2 k d)

/-- A sum over one block of rows and one block of columns, when the blocks are read off the arrays. -/
theorem product_of_blocks {n : ℕ} {h : (Rows n).Idx → EReal} {w : Weights.Idx → EReal} {r : Fin n} {d : Fin 11264}
    {x v : Fin 1024 → EReal} (hx : ∀ k, x k = h (ix2 r k)) (hv : ∀ k, v k = w (ix2 k d)) :
    ∑ k, x k * v k = product h w r d :=
  Finset.sum_congr rfl fun k _ => by rw [hx, hv]

/-- A buffer that is set to the point's block where a sweep of `J` points begins and kept elsewhere, while the block stays
    the same, holds the point's block everywhere. -/
theorem held {ι : Type} {N : ℕ} (J : ℕ) (s : (n : ℕ) → n < N → ι → EReal) (b : Fin N → ι → EReal)
    (set : ∀ t : Fin N, t.val % J = 0 → s t.val t.isLt = b t)
    (keep : ∀ t : Fin N, ¬t.val % J = 0 → s t.val t.isLt = s (t.val - 1) (Nat.lt_of_le_of_lt (Nat.sub_le _ _) t.isLt))
    (same : ∀ t : Fin N, ¬t.val % J = 0 → b ⟨t.val - 1, Nat.lt_of_le_of_lt (Nat.sub_le _ _) t.isLt⟩ = b t) :
    ∀ (n : ℕ) (hn : n < N), s n hn = b ⟨n, hn⟩ := by
  intro n
  induction n with
  | zero => exact fun hn => set ⟨0, hn⟩ (Nat.zero_mod J)
  | succ n ih =>
    intro hn
    by_cases h0 : (n + 1) % J = 0
    · exact set ⟨n + 1, hn⟩ h0
    · exact (keep ⟨n + 1, hn⟩ h0).trans ((ih (Nat.lt_of_succ_lt hn)).trans (same ⟨n + 1, hn⟩ h0))

end Cert.Projection

end
-- ==== Proof.ProjZ.lean ====
/-
  The remaining channels' projection: every block of the result is the block of the product of the activations with
  those channels' columns of the weights.
-/
module

public import proofs.«01_k».proof.Defs
public import proofs.«01_k».proof.Proof.Columns
public import proofs.«01_k».proof.Proof.Gen.KernelZ
public import proofs.«01_k».proof.Proof.Gen.KernelZ.Frame
public import proofs.«01_k».proof.Proof.Gen.KernelZIdeal
public import proofs.«01_k».proof.Proof.Gen.KernelZIdeal.Frame
public import proofs.«01_k».proof.Proof.Gen.KernelZIdeal.Value
public import proofs.«01_k».proof.Proof.Gen.ReferenceZIdeal
public import proofs.«01_k».proof.Proof.Gen.ReferenceZIdeal.Run

@[expose] public section

set_option maxRecDepth 16384

noncomputable section

namespace Cert.KernelZIdeal.Own

open Idealize.ShloMosaic Idealize.ShloMosaic.TcCoe Idealize.SL.Sem
open Cert.KernelZIdeal Cert.KernelZIdeal.Gen Cert.Projection

variable (m : (ℓ : Loc nD τ sig) → Buf (Elt Ideal) ℓ)

theorem idx : ∀ t : Fin cfg0.N, win0_0.index t = ![t.val % 32, 0] ∧ win0_1.index t = ![0, t.val / 32 + 3]
    ∧ win0_2.index t = ![t.val % 32, t.val / 32] :=
  (by decide +kernel : ∀ t : Fin grid0.N, _)

/-- What the body computes of a block of activations and the weights it holds. -/
theorem product_at (x : Vec Ideal S512x1024 .bf16) (w : Vec Ideal S1024x1024 .bf16) (r : Fin 512) (d : Fin 1024) :
    k0_pay2 x w (ix2 r d) = ∑ k : Fin 1024, x (ix2 r k) * w (ix2 k d) := by
  pointwise [k0_pay2]

theorem rounded_at (w : Vec Ideal S1024x1024 .f32) (j : S1024x1024.Idx) : k0_pay1 w j = w j := by
  pointwise [k0_pay1]

/-- The weights the body holds are its columns. -/
theorem held_at (c : Dev nD) (n : ℕ) (hn : n < cfg0.N) : (outsAt0 m c n hn).2 = iblk m c 1 ⟨n, hn⟩ := by
  refine held 32 (fun n hn => (outsAt0 m c n hn).2) (fun t => iblk m c 1 t) (fun t h0 => ?_) (fun t h0 => ?_) (fun t h0 => ?_) n hn
  · funext j
    show (outsAt0 m c t.val t.isLt).2 j = _
    rw [outsAt0_A m c t h0]
    frame_out
    exact rounded_at _ j
  · show (outsAt0 m c t.val t.isLt).2 = _
    rw [outsAt0_B m c t h0]
    rfl
  · funext j
    have e : (t.val - 1) / 32 = t.val / 32 := by omega
    blk_point [iblk, V, idx t, idx ⟨t.val - 1, Nat.lt_of_le_of_lt (Nat.sub_le _ _) t.isLt⟩]

theorem rows_at (c : Dev nD) (t : Fin cfg0.N) (r : Fin 512) (k : Fin 1024) :
    iblk m c 0 t (ix2 r k) = m ((c : Thread nD τ).loc main_arg0) (ix2 ⟨t.val % 32 * 512 + r.val, by omega⟩ k) := by
  blk_point [iblk, V, idx t]

theorem columns_at (c : Dev nD) (t : Fin cfg0.N) (k d : Fin 1024) :
    iblk m c 1 t (ix2 k d) = m ((c : Thread nD τ).loc main_arg1) (ix2 k ⟨3072 + (t.val / 32 * 1024 + d.val), by have : t.val < 256 := t.isLt; omega⟩) := by
  have ht : t.val < 256 := t.isLt
  blk_point [iblk, V, idx t]

/-- The channels, from the arguments. -/
def channels (h : FVec Ideal S16384x1024 .bf16) (w : FVec Ideal S1024x11264 .f32) (i : S16384x8192.Idx) : EReal :=
  product h w (i 0) ⟨3072 + (i 1).val, by have : (i 1).val < 8192 := (i 1).isLt; omega⟩

/-- The block a point leaves. -/
theorem point_at (c : Dev nD) (t : Fin cfg0.N) (r : Fin 512) (d : Fin 1024) :
    (outsAt0 m c t.val t.isLt).1 (ix2 r d : S512x1024.Idx)
        = channels (m ((c : Thread nD τ).loc main_arg0)) (m ((c : Thread nD τ).loc main_arg1)) (ix2 ⟨t.val % 32 * 512 + r.val, by omega⟩ ⟨t.val / 32 * 1024 + d.val, by have : t.val < 256 := t.isLt; omega⟩) := by
  have hx := rows_at m c t r
  have hw := fun k => columns_at m c t k d
  by_cases h0 : t.val % 32 = 0
  · rw [outsAt0_A m c t h0]
    frame_out
    exact (product_at _ _ r d).trans (product_of_blocks hx fun k => (rounded_at _ _).trans (hw k))
  · have hf : ∀ k, (outsAt0 m c (t.val - 1) (Nat.lt_of_le_of_lt (Nat.sub_le _ _) t.isLt)).2 (ix2 k d)
        = m ((c : Thread nD τ).loc main_arg1) (ix2 k ⟨3072 + (t.val / 32 * 1024 + d.val), by have : t.val < 256 := t.isLt; omega⟩) := fun k => by
      have e := held_at m c t.val t.isLt
      rw [outsAt0_B m c t h0] at e
      exact (congrFun e (ix2 k d)).trans (hw k)
    rw [outsAt0_B m c t h0]
    frame_out
    exact (product_at _ _ r d).trans (product_of_blocks hx fun k => (congrFun (Memref.IsWhole.read_unread _ _) _).trans (hf k))

/-- The channels. -/
theorem projected (c : Dev nD) : (dats m 0 c).arrAt 2 (cfgs 0).N = channels (m ((c : Thread nD τ).loc main_arg0)) (m ((c : Thread nD τ).loc main_arg1)) := by
  refine (dats m 0 c).arrAt_eq_of_covers 2 _ (by decide +kernel) fun t _ y => ?_
  have ht : t.val < 256 := t.isLt
  blk_simp
  rw [after0_2]
  refine (congrArg _ (eq_ix2 (y : S512x1024.Idx))).trans ((point_at m c t _ _).trans (congrArg (channels _ _) ?_))
  blk_ext [idx t]

end Cert.KernelZIdeal.Own

namespace Cert.ReferenceZIdeal.Own

open Idealize.ShloMosaic Idealize.ShloMosaic.TcCoe Idealize.SL.Sem
open Cert.ReferenceZIdeal Cert.ReferenceZIdeal.Gen
open Cert.KernelZIdeal.Own (channels projected)

/-- The reference's slice of the whole product. -/
theorem slice_eq (h : FVec Ideal S16384x1024 .bf16) (w : FVec Ideal S1024x11264 .f32) :
    extractStridedSlice S16384x8192 ![0, 3072] (Host.dotGeneral dot_S16384x1024_S1024x11264_S16384x11264_1_0_0_1_n_n none (extf .f32 h bitsLt_bf16_f32) w)
      slices_S16384x11264_S16384x8192_0_3072 = channels h w := by
  funext i
  unfold channels Cert.Projection.product
  pointwise []

/-- The two programs agree. -/
theorem agree : Cert.algebraic_KernelZIdeal_ReferenceZIdeal (hKernelZIdeal := Cert.KernelZIdeal.Gen.facts) (hReferenceZIdeal := Cert.ReferenceZIdeal.Gen.facts) := by
  pair_intro
  · exact Cert.KernelZIdeal.Value.run_blocks m g
  · refine (θ_run _ _ _).mono (fun r h c => ⟨(h c).1.trans ?_, (h c).2⟩) (Cert.ReferenceZIdeal.Value.run m' g')
    obtain ⟨h0, h1⟩ := hagree c
    exact (slice_eq _ _).trans (by rw [h0, h1]; exact (projected m c).symm)

/-- The reference's run, its arguments unchanged. -/
theorem frame : Cert.quiescent_ReferenceZIdeal (hReferenceZIdeal := Cert.ReferenceZIdeal.Gen.facts) := by
  intro m g _
  exact (θ_run _ _ _).mono (fun r h => ⟨fun c => (h c).2, sem_eq_zero_of_no_sems rfl _⟩) (Cert.ReferenceZIdeal.Value.run m g)

end Cert.ReferenceZIdeal.Own

end
-- ==== Proof.ProjSK.lean ====
/-
  The keys of the sampled tokens' projection, in two precisions: the one block of each result is the product of the
  activations with the keys' columns of the weights.
-/
module

public import proofs.«01_k».proof.Defs
public import proofs.«01_k».proof.Proof.Columns
public import proofs.«01_k».proof.Proof.Gen.KernelSK
public import proofs.«01_k».proof.Proof.Gen.KernelSK.Frame
public import proofs.«01_k».proof.Proof.Gen.KernelSKIdeal
public import proofs.«01_k».proof.Proof.Gen.KernelSKIdeal.Frame
public import proofs.«01_k».proof.Proof.Gen.KernelSKIdeal.Value
public import proofs.«01_k».proof.Proof.Gen.ReferenceSKIdeal
public import proofs.«01_k».proof.Proof.Gen.ReferenceSKIdeal.Run

@[expose] public section

set_option maxRecDepth 16384

noncomputable section

namespace Cert.KernelSKIdeal.Own

open Idealize.ShloMosaic Idealize.ShloMosaic.TcCoe Idealize.SL.Sem
open Cert.KernelSKIdeal Cert.KernelSKIdeal.Gen Cert.Projection

variable (m : (ℓ : Loc nD τ sig) → Buf (Elt Ideal) ℓ)

theorem idx : ∀ t : Fin cfg0.N, win0_0.index t = ![0, 0] ∧ win0_1.index t = ![0, 1]
    ∧ win0_2.index t = ![0, 0] ∧ win0_3.index t = ![0, 0] :=
  (by decide +kernel : ∀ t : Fin grid0.N, _)

/-- What the body computes of the activations and the weights it holds. -/
theorem wide_at (x : Vec Ideal S128x1024 .bf16) (w : Vec Ideal S1024x1024 .bf16) (r : Fin 128) (d : Fin 1024) :
    k0_pay2 x w (ix2 r d) = ∑ k : Fin 1024, x (ix2 r k) * w (ix2 k d) := by
  pointwise [k0_pay2]

theorem narrow_at (x : Vec Ideal S128x1024 .bf16) (w : Vec Ideal S1024x1024 .bf16) (r : Fin 128) (d : Fin 1024) :
    k0_pay3 x w (ix2 r d) = ∑ k : Fin 1024, x (ix2 r k) * w (ix2 k d) := by
  pointwise [k0_pay3, k0_pay2]

theorem rounded_at (w : Vec Ideal S1024x1024 .f32) (j : S1024x1024.Idx) : k0_pay1 w j = w j := by
  pointwise [k0_pay1]

theorem rows_at (c : Dev nD) (t : Fin cfg0.N) (r : Fin 128) (k : Fin 1024) :
    iblk m c 0 t (ix2 r k) = m ((c : Thread nD τ).loc main_arg0) (ix2 r k) := by
  blk_point [iblk, V, idx t]

theorem columns_at (c : Dev nD) (t : Fin cfg0.N) (k d : Fin 1024) :
    iblk m c 1 t (ix2 k d) = m ((c : Thread nD τ).loc main_arg1) (ix2 k ⟨1024 + d.val, by omega⟩) := by
  blk_point [iblk, V, idx t]

/-- The keys, from the arguments. -/
def keys (h : FVec Ideal S128x1024 .bf16) (w : FVec Ideal S1024x11264 .f32) (i : S128x1024.Idx) : EReal :=
  product h w (i 0) ⟨1024 + (i 1).val, by have : (i 1).val < 1024 := (i 1).isLt; omega⟩

/-- Both blocks the point leaves. -/
theorem point_at (c : Dev nD) (t : Fin cfg0.N) (r : Fin 128) (d : Fin 1024) :
    (outsAt0 m c t).1 (ix2 r d : S128x1024.Idx)
        = keys (m ((c : Thread nD τ).loc main_arg0)) (m ((c : Thread nD τ).loc main_arg1)) (ix2 r d)
    ∧ (outsAt0 m c t).2 (ix2 r d : S128x1024.Idx)
        = keys (m ((c : Thread nD τ).loc main_arg0)) (m ((c : Thread nD τ).loc main_arg1)) (ix2 r d) := by
  have hx := rows_at m c t r
  have hw := fun k => columns_at m c t k d
  unfold outsAt0
  constructor
  · frame_out
    exact (wide_at _ _ r d).trans (product_of_blocks hx fun k => (rounded_at _ _).trans (hw k))
  · frame_out
    exact (narrow_at _ _ r d).trans (product_of_blocks hx fun k => (rounded_at _ _).trans (hw k))

/-- The keys in 32 bits. -/
theorem wide (c : Dev nD) : (dats m 0 c).arrAt 2 (cfgs 0).N = keys (m ((c : Thread nD τ).loc main_arg0)) (m ((c : Thread nD τ).loc main_arg1)) := by
  refine (dats m 0 c).arrAt_eq_of_covers 2 _ (by decide +kernel) fun t _ y => ?_
  blk_simp
  rw [after0_2]
  refine (congrArg _ (eq_ix2 (y : S128x1024.Idx))).trans ((point_at m c t _ _).1.trans (congrArg (keys _ _) ?_))
  blk_ext [idx t]

/-- The keys in 16 bits. -/
theorem narrow (c : Dev nD) : (dats m 0 c).arrAt 3 (cfgs 0).N = keys (m ((c : Thread nD τ).loc main_arg0)) (m ((c : Thread nD τ).loc main_arg1)) := by
  refine (dats m 0 c).arrAt_eq_of_covers 3 _ (by decide +kernel) fun t _ y => ?_
  blk_simp
  rw [after0_3]
  refine (congrArg _ (eq_ix2 (y : S128x1024.Idx))).trans ((point_at m c t _ _).2.trans (congrArg (keys _ _) ?_))
  blk_ext [idx t]

end Cert.KernelSKIdeal.Own

namespace Cert.ReferenceSKIdeal.Own

open Idealize.ShloMosaic Idealize.ShloMosaic.TcCoe Idealize.SL.Sem
open Cert.ReferenceSKIdeal Cert.ReferenceSKIdeal.Gen
open Cert.KernelSKIdeal.Own (keys wide narrow)

/-- The reference's slice of the whole product. -/
theorem slice_eq (h : FVec Ideal S128x1024 .bf16) (w : FVec Ideal S1024x11264 .f32) :
    extractStridedSlice S128x1024 ![0, 1024] (Host.dotGeneral dot_S128x1024_S1024x11264_S128x11264_1_0_0_1_n_n none (extf .f32 h bitsLt_bf16_f32) w)
      slices_S128x11264_S128x1024_0_1024 = keys h w := by
  funext i
  unfold keys Cert.Projection.product
  pointwise []

/-- The two programs agree. -/
theorem agree : Cert.algebraic_KernelSKIdeal_ReferenceSKIdeal (hKernelSKIdeal := Cert.KernelSKIdeal.Gen.facts) (hReferenceSKIdeal := Cert.ReferenceSKIdeal.Gen.facts) := by
  pair_intro
  · exact Cert.KernelSKIdeal.Value.run_blocks m g
  · refine (θ_run _ _ _).mono (fun r h c => ⟨(h c).1.trans ?_, (h c).2.1.trans ?_, (h c).2.2⟩) (Cert.ReferenceSKIdeal.Value.run m' g')
    all_goals obtain ⟨h0, h1⟩ := hagree c
    · exact (slice_eq _ _).trans (by rw [h0, h1]; exact (wide m c).symm)
    · exact (slice_eq _ _).trans (by rw [h0, h1]; exact (narrow m c).symm)

/-- The reference's run, its arguments unchanged. -/
theorem frame : Cert.quiescent_ReferenceSKIdeal (hReferenceSKIdeal := Cert.ReferenceSKIdeal.Gen.facts) := by
  intro m g _
  exact (θ_run _ _ _).mono (fun r h => ⟨fun c => (h c).2.2, sem_eq_zero_of_no_sems rfl _⟩) (Cert.ReferenceSKIdeal.Value.run m g)

end Cert.ReferenceSKIdeal.Own

end
-- ==== Proof.ProjSV.lean ====
/-
  The values of the sampled tokens' projection, in two precisions: the one block of each result is the product of the
  activations with the values' columns of the weights.
-/
module

public import proofs.«01_k».proof.Defs
public import proofs.«01_k».proof.Proof.Columns
public import proofs.«01_k».proof.Proof.Gen.KernelSV
public import proofs.«01_k».proof.Proof.Gen.KernelSV.Frame
public import proofs.«01_k».proof.Proof.Gen.KernelSVIdeal
public import proofs.«01_k».proof.Proof.Gen.KernelSVIdeal.Frame
public import proofs.«01_k».proof.Proof.Gen.KernelSVIdeal.Value
public import proofs.«01_k».proof.Proof.Gen.ReferenceSVIdeal
public import proofs.«01_k».proof.Proof.Gen.ReferenceSVIdeal.Run

@[expose] public section

set_option maxRecDepth 16384

noncomputable section

namespace Cert.KernelSVIdeal.Own

open Idealize.ShloMosaic Idealize.ShloMosaic.TcCoe Idealize.SL.Sem
open Cert.KernelSVIdeal Cert.KernelSVIdeal.Gen Cert.Projection

variable (m : (ℓ : Loc nD τ sig) → Buf (Elt Ideal) ℓ)

theorem idx : ∀ t : Fin cfg0.N, win0_0.index t = ![0, 0] ∧ win0_1.index t = ![0, 2]
    ∧ win0_2.index t = ![0, 0] ∧ win0_3.index t = ![0, 0] :=
  (by decide +kernel : ∀ t : Fin grid0.N, _)

/-- What the body computes of the activations and the weights it holds. -/
theorem wide_at (x : Vec Ideal S128x1024 .bf16) (w : Vec Ideal S1024x1024 .bf16) (r : Fin 128) (d : Fin 1024) :
    k0_pay2 x w (ix2 r d) = ∑ k : Fin 1024, x (ix2 r k) * w (ix2 k d) := by
  pointwise [k0_pay2]

theorem narrow_at (x : Vec Ideal S128x1024 .bf16) (w : Vec Ideal S1024x1024 .bf16) (r : Fin 128) (d : Fin 1024) :
    k0_pay3 x w (ix2 r d) = ∑ k : Fin 1024, x (ix2 r k) * w (ix2 k d) := by
  pointwise [k0_pay3, k0_pay2]

theorem rounded_at (w : Vec Ideal S1024x1024 .f32) (j : S1024x1024.Idx) : k0_pay1 w j = w j := by
  pointwise [k0_pay1]

theorem rows_at (c : Dev nD) (t : Fin cfg0.N) (r : Fin 128) (k : Fin 1024) :
    iblk m c 0 t (ix2 r k) = m ((c : Thread nD τ).loc main_arg0) (ix2 r k) := by
  blk_point [iblk, V, idx t]

theorem columns_at (c : Dev nD) (t : Fin cfg0.N) (k d : Fin 1024) :
    iblk m c 1 t (ix2 k d) = m ((c : Thread nD τ).loc main_arg1) (ix2 k ⟨2048 + d.val, by omega⟩) := by
  blk_point [iblk, V, idx t]

/-- The values, from the arguments. -/
def vals (h : FVec Ideal S128x1024 .bf16) (w : FVec Ideal S1024x11264 .f32) (i : S128x1024.Idx) : EReal :=
  product h w (i 0) ⟨2048 + (i 1).val, by have : (i 1).val < 1024 := (i 1).isLt; omega⟩

/-- Both blocks the point leaves. -/
theorem point_at (c : Dev nD) (t : Fin cfg0.N) (r : Fin 128) (d : Fin 1024) :
    (outsAt0 m c t).1 (ix2 r d : S128x1024.Idx)
        = vals (m ((c : Thread nD τ).loc main_arg0)) (m ((c : Thread nD τ).loc main_arg1)) (ix2 r d)
    ∧ (outsAt0 m c t).2 (ix2 r d : S128x1024.Idx)
        = vals (m ((c : Thread nD τ).loc main_arg0)) (m ((c : Thread nD τ).loc main_arg1)) (ix2 r d) := by
  have hx := rows_at m c t r
  have hw := fun k => columns_at m c t k d
  unfold outsAt0
  constructor
  · frame_out
    exact (wide_at _ _ r d).trans (product_of_blocks hx fun k => (rounded_at _ _).trans (hw k))
  · frame_out
    exact (narrow_at _ _ r d).trans (product_of_blocks hx fun k => (rounded_at _ _).trans (hw k))

/-- The values in 32 bits. -/
theorem wide (c : Dev nD) : (dats m 0 c).arrAt 2 (cfgs 0).N = vals (m ((c : Thread nD τ).loc main_arg0)) (m ((c : Thread nD τ).loc main_arg1)) := by
  refine (dats m 0 c).arrAt_eq_of_covers 2 _ (by decide +kernel) fun t _ y => ?_
  blk_simp
  rw [after0_2]
  refine (congrArg _ (eq_ix2 (y : S128x1024.Idx))).trans ((point_at m c t _ _).1.trans (congrArg (vals _ _) ?_))
  blk_ext [idx t]

/-- The values in 16 bits. -/
theorem narrow (c : Dev nD) : (dats m 0 c).arrAt 3 (cfgs 0).N = vals (m ((c : Thread nD τ).loc main_arg0)) (m ((c : Thread nD τ).loc main_arg1)) := by
  refine (dats m 0 c).arrAt_eq_of_covers 3 _ (by decide +kernel) fun t _ y => ?_
  blk_simp
  rw [after0_3]
  refine (congrArg _ (eq_ix2 (y : S128x1024.Idx))).trans ((point_at m c t _ _).2.trans (congrArg (vals _ _) ?_))
  blk_ext [idx t]

end Cert.KernelSVIdeal.Own

namespace Cert.ReferenceSVIdeal.Own

open Idealize.ShloMosaic Idealize.ShloMosaic.TcCoe Idealize.SL.Sem
open Cert.ReferenceSVIdeal Cert.ReferenceSVIdeal.Gen
open Cert.KernelSVIdeal.Own (vals wide narrow)

/-- The reference's slice of the whole product. -/
theorem slice_eq (h : FVec Ideal S128x1024 .bf16) (w : FVec Ideal S1024x11264 .f32) :
    extractStridedSlice S128x1024 ![0, 2048] (Host.dotGeneral dot_S128x1024_S1024x11264_S128x11264_1_0_0_1_n_n none (extf .f32 h bitsLt_bf16_f32) w)
      slices_S128x11264_S128x1024_0_2048 = vals h w := by
  funext i
  unfold vals Cert.Projection.product
  pointwise []

/-- The two programs agree. -/
theorem agree : Cert.algebraic_KernelSVIdeal_ReferenceSVIdeal (hKernelSVIdeal := Cert.KernelSVIdeal.Gen.facts) (hReferenceSVIdeal := Cert.ReferenceSVIdeal.Gen.facts) := by
  pair_intro
  · exact Cert.KernelSVIdeal.Value.run_blocks m g
  · refine (θ_run _ _ _).mono (fun r h c => ⟨(h c).1.trans ?_, (h c).2.1.trans ?_, (h c).2.2⟩) (Cert.ReferenceSVIdeal.Value.run m' g')
    all_goals obtain ⟨h0, h1⟩ := hagree c
    · exact (slice_eq _ _).trans (by rw [h0, h1]; exact (wide m c).symm)
    · exact (slice_eq _ _).trans (by rw [h0, h1]; exact (narrow m c).symm)

/-- The reference's run, its arguments unchanged. -/
theorem frame : Cert.quiescent_ReferenceSVIdeal (hReferenceSVIdeal := Cert.ReferenceSVIdeal.Gen.facts) := by
  intro m g _
  exact (θ_run _ _ _).mono (fun r h => ⟨fun c => (h c).2.2, sem_eq_zero_of_no_sems rfl _⟩) (Cert.ReferenceSVIdeal.Value.run m g)

end Cert.ReferenceSVIdeal.Own

end
-- ==== Proof.ExpertsTables.lean ====
/-
  The precondition of the experts' call read: every tile names an expert, and at least one tile is in use.
-/
module

public import proofs.«01_k».proof.Pre_tables
public import proofs.«01_k».proof.Proof.Gen.Pre_tables
public import Idealize.ShloMosaic.Lib.ReduceAll
public import Idealize.ShloMosaic.Lib.WordCmp
public import Idealize.ShloMosaic.Lib.Pipeline.ValueKit

@[expose] public section

set_option maxRecDepth 16384

noncomputable section

namespace Cert.Pre_tables.Read

open Idealize.ShloMosaic Cert.Pre_tables Cert.Pre_tables.Gen

theorem andi_one {x y : BitVec 1} (h : IntOp.andi x y = 1#1) : x = 1#1 ∧ y = 1#1 := by
  have k : ∀ a b : BitVec 1, IntOp.andi a b = 1#1 → a = 1#1 ∧ b = 1#1 := by decide
  exact k _ _ h

theorem decided {p : Prop} [Decidable p] (h : BitVec.ofBool (decide p) = 1#1) : p := by
  by_contra hn
  rw [decide_eq_false hn] at h
  exact absurd h (by decide)

/-- Signed bounds of a word from below and above, as bounds of its value. -/
theorem bounds {x a b : BitVec 32} (ha : a.toNat < 2 ^ 31) (hb : b.toNat < 2 ^ 31) (h1 : a.toInt ≤ x.toInt) (h2 : x.toInt ≤ b.toInt) :
    a.toNat ≤ x.toNat ∧ x.toNat ≤ b.toNat := by
  have ea : a.toInt = a.toNat := BitVec.toInt_eq_toNat_of_lt (by omega)
  have eb : b.toInt = b.toNat := BitVec.toInt_eq_toNat_of_lt (by omega)
  have hx : 2 * x.toNat < 2 ^ 32 := by
    by_contra hn
    have := BitVec.toInt_eq_toNat_cond x
    rw [if_neg hn] at this
    have := x.isLt
    omega
  have ex : x.toInt = x.toNat := BitVec.toInt_eq_toNat_of_lt hx
  omega

/-- A one-element array has one index. -/
theorem one_index (a b : S1.Idx) : a = b :=
  funext fun k => by obtain rfl : k = 0 := Subsingleton.elim _ _; exact Fin.ext (by have := (a 0).isLt; have := (b 0).isLt; simp at *)

theorem read {F : FTy → Type} [FloatOps F] (x : FVec F S73728x1024 .f32) (te : IVec S288 32) (nv : IVec S1 32) (wu : FVec F S32x1024x2048 .f32)
    (bu : FVec F S32x2048 .f32) (wd : FVec F S32x1024x1024 .f32) (bd : FVec F S32x1024 .f32)
    (h : fn (F := F) x te nv wu bu wd bd = fun _ => 1#1) :
    (∀ t, (te t).toNat < 32) ∧ 1 ≤ (nv (ix1 0)).toNat ∧ (nv (ix1 0)).toNat < 2 ^ 31 := by
  have h0 := congrFun h ix0
  dsimp only [fn] at h0
  obtain ⟨hall, hge⟩ := andi_one h0
  have e : shapeCast S_ nv shapeCasts_S1_S_ ix0 = nv (ix1 0) :=
    congrArg nv (one_index _ _)
  refine ⟨fun t => ?_, ?_⟩
  · haveI : Subsingleton S_.Idx := ⟨fun a b => funext fun i => i.elim0⟩
    obtain ⟨h1, h2⟩ := andi_one (Host.reduce_andi_all _ _ reducesTo_S288_S_d0 h_S_ ix0 hall t)
    have h1' : (0#32 : BitVec 32).toInt ≤ (te t).toInt := decided h1
    have h2' : (te t).toInt < (32#32 : BitVec 32).toInt := decided h2
    have := (bounds (x := te t) (a := 0#32) (b := 31#32) (by decide) (by decide) h1'
      (by have : (32#32 : BitVec 32).toInt = 32 := by decide
          have : (31#32 : BitVec 32).toInt = 31 := by decide
          omega)).2
    have e31 : (31#32 : BitVec 32).toNat = 31 := by decide
    omega
  · have h1' : (1#32 : BitVec 32).toInt ≤ (shapeCast S_ nv shapeCasts_S1_S_ ix0).toInt := decided hge
    rw [e] at h1'
    have hm : (2147483647#32 : BitVec 32).toInt = 2147483647 := by decide
    have hn : (2147483647#32 : BitVec 32).toNat = 2147483647 := by decide
    have h2' : (nv (ix1 0)).toInt ≤ (2147483647#32 : BitVec 32).toInt := by
      have := BitVec.toInt_lt (x := nv (ix1 0))
      omega
    obtain ⟨hl, hu⟩ := bounds (by decide) (by decide) h1' h2'
    exact ⟨hl, by omega⟩

end Cert.Pre_tables.Read
-- ==== Proof.ExpertsIdealBody.lean ====
/-
  One grid point of the experts' call, the kernel over extended reals: from the blocks it is handed, what it leaves in the output's buffer.
-/
module

public import proofs.«01_k».proof.Defs
public import proofs.«01_k».proof.Proof.Gen.KernelEIdeal
public import proofs.«01_k».proof.Proof.Gen.KernelEIdeal.Launch
public import proofs.«01_k».proof.Proof.Gen.KernelEIdeal.Skeleton
public import Idealize.ShloMosaic.Lib.Pipeline.FrameBody
public import Idealize.ShloMosaic.Lib.Ring
public import Idealize.ShloMosaic.Lib.Tactic
public import Idealize.ShloMosaic.Lib.WordCmp
public import Idealize.ShloMosaic.Lib.VecWindow
public import Idealize.ShloMosaic.Lib.Claim

@[expose] public section

set_option maxRecDepth 16384

noncomputable section

namespace Cert.KernelEIdeal.Own

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelEIdeal Cert.KernelEIdeal.Gen

variable {F : FTy → Type} [FloatOps F]

local notation "𝕄" => MT nD τ sig Unit (Elt F) ℕ (UR sig nD τ) ℕ

/-! ## One grid point -/

/-- The tables as the body is handed them. -/
abbrev expertsRef : Memref sig .tc .smem S288 .i32 := Memref.whole main_arg1
abbrev validRef : Memref sig .tc .smem S1 .i32 := Memref.whole main_arg2

/-- Contents of a table's buffer, and the half of it the body holds. -/
abbrev Words (c : Dev nD) {S : Shape} {e : EltTy} (M : Memref sig .tc .smem S e) : Type := Buf (Elt F) (M.view.loc (c : Thread nD τ))
abbrev half (c : Dev nD) {S : Shape} {e : EltTy} (M : Memref sig .tc .smem S e) (f : Words (F := F) c M) : sProp 𝕄 :=
  M.view.loc (c : Thread nD τ) ↦{fullShare.right} f

/-- The word of the second table, as the body loads it. -/
def valid (c : Dev nD) (f : Words (F := F) c validRef) : BitVec 32 :=
  View.readAt (Elt F) validRef.view (Rect.unit (s := S1) ![0] S1.size inb_S1_S1_0).toLoadRect f (Shape.Idx.first (by decide))

/-- The feed-forward product of a tile in use, from the blocks its point is handed. -/
def product (x0 : Vec F S256x1024 .f32) (x1 x2 : Vec F S1x1x1024x1024 .bf16) (x3 x4 : Vec F S1x1x1x1024 .f32)
    (x5 : Vec F S1x1024x1024 .bf16) (x6 : Vec F S1x1x1024 .f32) : Vec F S256x1024 .f32 :=
  k0_pay1 (k0_pay4 x0 x2 x4) (k0_pay5 x0 x1 x3) (Scalar.ofBits .f32 0x3F800000#32) x5 x6

/-- What a point leaves in the output's block: the product if its tile is in use, else zeros. -/
def left (i : grid0.Coords) (n : BitVec 32) (x0 : Vec F S256x1024 .f32) (x1 x2 : Vec F S1x1x1024x1024 .bf16)
    (x3 x4 : Vec F S1x1x1x1024 .f32) (x5 : Vec F S1x1024x1024 .bf16) (x6 : Vec F S1x1x1024 .f32) : Vec F S256x1024 .f32 :=
  if k0_cond1 i n = 1#1 then product x0 x1 x2 x3 x4 x5 x6 else k0_pay2

/-- A point's tile is either in use or not. -/
theorem second_iff (i : grid0.Coords) (n : BitVec 32) : k0_cond2 i n = 1#1 ↔ ¬ k0_cond1 i n = 1#1 := by
  have key : ∀ b : Bool, (BitVec.ofBool (!b) = 1#1) ↔ ¬ BitVec.ofBool b = 1#1 := by decide
  have ext : ∀ b : BitVec 1, Scalar.cmpi .ne (Scalar.extui b : BitVec 32) 0#32 = b := by decide
  unfold k0_cond1 k0_cond2
  simp only [ext]
  simp only [Scalar.cmpi, IntOp.cmpi]
  rw [show (BitVec.sle n (BitVec.ofNat 32 (i 0).val)) = !(BitVec.slt (BitVec.ofNat 32 (i 0).val) n) by
    rw [BitVec.sle, BitVec.slt, ← decide_not]; exact decide_eq_decide.mpr not_lt.symm]
  exact key _

section body
variable (c : Dev nD) (i : grid0.Coords)
  (arg3 : Memref sig .tc .vmem S256x1024 .f32) (harg3 : arg3.IsWhole) (arg4 : Memref sig .tc .vmem S1x1x1024x1024 .bf16) (harg4 : arg4.IsWhole)
  (arg5 : Memref sig .tc .vmem S1x1x1024x1024 .bf16) (harg5 : arg5.IsWhole) (arg6 : Memref sig .tc .vmem S1x1x1x1024 .f32) (harg6 : arg6.IsWhole)
  (arg7 : Memref sig .tc .vmem S1x1x1x1024 .f32) (harg7 : arg7.IsWhole) (arg8 : Memref sig .tc .vmem S1x1024x1024 .bf16) (harg8 : arg8.IsWhole)
  (arg9 : Memref sig .tc .vmem S1x1x1024 .f32) (harg9 : arg9.IsWhole) (arg10 : Memref sig .tc .vmem S256x1024 .f32) (harg10 : arg10.IsWhole)
  (x0 : Vec F S256x1024 .f32) (x1 x2 : Vec F S1x1x1024x1024 .bf16) (x3 x4 : Vec F S1x1x1x1024 .f32)
  (x5 : Vec F S1x1024x1024 .bf16) (x6 : Vec F S1x1x1024 .f32)
  (xt0 : Words (F := F) c expertsRef) (xt1 : Words (F := F) c validRef)

/-- The inputs' blocks and the tables' halves, which a point leaves as it found them. -/
abbrev kept : sProp 𝕄 :=
  iprop(owns (c : Thread nD τ) arg3 fullShare x0 ∗ owns (c : Thread nD τ) arg4 fullShare x1 ∗ owns (c : Thread nD τ) arg5 fullShare x2
    ∗ owns (c : Thread nD τ) arg6 fullShare x3 ∗ owns (c : Thread nD τ) arg7 fullShare x4 ∗ owns (c : Thread nD τ) arg8 fullShare x5
    ∗ owns (c : Thread nD τ) arg9 fullShare x6 ∗ half c expertsRef xt0 ∗ half c validRef xt1)

set_option maxHeartbeats 4000000 in
/-- The body at a point. -/
theorem body (E : Set ℕ) (K : PUnit → sProp 𝕄) :
    iprop(kept c arg3 arg4 arg5 arg6 arg7 arg8 arg9 x0 x1 x2 x3 x4 x5 x6 xt0 xt1 ∗ (∃ d, owns (c : Thread nD τ) arg10 fullShare d)
        ∗ (iprop(kept c arg3 arg4 arg5 arg6 arg7 arg8 arg9 x0 x1 x2 x3 x4 x5 x6 xt0 xt1
            ∗ owns (c : Thread nD τ) arg10 fullShare (left i (valid c xt1) x0 x1 x2 x3 x4 x5 x6)) -∗ K ⟨⟩))
      ⊢ wp frame (wpE (defs₀ (F := F)) Variants.none c none) E
          (cc0_moe_expert_ffn i expertsRef (Memref.isWhole_whole _) validRef (Memref.isWhole_whole _) arg3 harg3 arg4 harg4 arg5 harg5 arg6 harg6 arg7 harg7 arg8 harg8 arg9 harg9 arg10 harg10) K := by
  simp only [cc0_moe_expert_ffn_eq_skeleton]; unfold cc0_moe_expert_ffn_skel
  simp only [k0_part1_eq_skeleton]
  unfold kept owns
  iintro ⟨⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, HT0, HT1⟩, ⟨%d7, %f7, -, H7⟩, Hk⟩
  obtain rfl := harg3.eq_unread hf0; obtain rfl := harg4.eq_unread hf1; obtain rfl := harg5.eq_unread hf2; obtain rfl := harg6.eq_unread hf3; obtain rfl := harg7.eq_unread hf4; obtain rfl := harg8.eq_unread hf5; obtain rfl := harg9.eq_unread hf6
  sl_exec
  sl_step
  iapply Hk
  isplitr [H7]
  · isplitl [H0]
    · iexists _; isplitr; · ipureintro; exact hf0
      iexact H0
    isplitl [H1]
    · iexists _; isplitr; · ipureintro; exact hf1
      iexact H1
    isplitl [H2]
    · iexists _; isplitr; · ipureintro; exact hf2
      iexact H2
    isplitl [H3]
    · iexists _; isplitr; · ipureintro; exact hf3
      iexact H3
    isplitl [H4]
    · iexists _; isplitr; · ipureintro; exact hf4
      iexact H4
    isplitl [H5]
    · iexists _; isplitr; · ipureintro; exact hf5
      iexact H5
    isplitl [H6]
    · iexists _; isplitr; · ipureintro; exact hf6
      iexact H6
    isplitl [HT0]; · iexact HT0
    iexact HT1
  iexists _; isplitr
  swap; · iexact H7
  ipureintro
  by_cases h : k0_cond1 i (valid c xt1) = 1#1
  · refine (congrArg _ ((dif_neg (mt (second_iff i _).mp (not_not.mpr h))).trans (dif_pos h))).trans ?_
    refine (View.read_writes_full (v := arg10.view) f7 inb_S256x1024_S256x1024_0_0 _ []).trans ?_
    unfold left product
    rw [if_pos h]
    have e0 := (View.readAt_full arg3.view (harg3.unread x0) inb_S256x1024_S256x1024_0_0).trans hf0
    have e1 := (View.readAt_full arg4.view (harg4.unread x1) inb_S1x1x1024x1024_S1x1x1024x1024_0_0_0_0).trans hf1
    have e2 := (View.readAt_full arg5.view (harg5.unread x2) inb_S1x1x1024x1024_S1x1x1024x1024_0_0_0_0).trans hf2
    have e3 := (View.readAt_full arg6.view (harg6.unread x3) inb_S1x1x1x1024_S1x1x1x1024_0_0_0_0).trans hf3
    have e4 := (View.readAt_full arg7.view (harg7.unread x4) inb_S1x1x1x1024_S1x1x1x1024_0_0_0_0).trans hf4
    have e5 := (View.readAt_full arg8.view (harg8.unread x5) inb_S1x1024x1024_S1x1024x1024_0_0_0).trans hf5
    have e6 := (View.readAt_full arg9.view (harg9.unread x6) inb_S1x1x1024_S1x1x1024_0_0_0).trans hf6
    have g4 : k0_pay4 (View.readAt (Elt F) arg3.view (Rect.unit (s := S256x1024) ![0, 0] S256x1024.size inb_S256x1024_S256x1024_0_0).toLoadRect (harg3.unread x0)) _ _ = k0_pay4 x0 x2 x4 :=
      congr (congr (congrArg k0_pay4 e0) e2) e4
    have g5 : k0_pay5 (View.readAt (Elt F) arg3.view (Rect.unit (s := S256x1024) ![0, 0] S256x1024.size inb_S256x1024_S256x1024_0_0).toLoadRect (harg3.unread x0)) _ _ = k0_pay5 x0 x1 x3 :=
      congr (congr (congrArg k0_pay5 e0) e1) e3
    exact congr (congr (congrFun (congr (congrArg k0_pay1 g4) g5) _) e5) e6
  · refine (congrArg _ (dif_pos ((second_iff i _).mpr h))).trans ?_
    refine (View.read_writes_full (v := arg10.view) _ inb_S256x1024_S256x1024_0_0 _ []).trans ?_
    unfold left
    rw [if_neg h]

end body
end Cert.KernelEIdeal.Own
end
-- ==== Proof.ExpertsIdealRun.lean ====
/-
  The run of the experts' call, the kernel over extended reals: the pipeline at the tables the launch memory holds, its proof data, and the frame.
-/
module

public import proofs.«01_k».proof.Proof.ExpertsIdealBody
public import Idealize.ShloMosaic.Lib.Pipeline.FrameBody
public import Idealize.ShloMosaic.Lib.Ring
public import Idealize.ShloMosaic.Lib.Tactic
public import Idealize.ShloMosaic.Lib.WordCmp
public import Idealize.ShloMosaic.Lib.VecWindow
public import Idealize.ShloMosaic.Lib.Claim

@[expose] public section

set_option maxRecDepth 16384

noncomputable section

namespace Cert.KernelEIdeal.Own

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelEIdeal Cert.KernelEIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The arrays and the tables when the grid is entered -/

/-- The core's buffers after the host operations before the call. -/
abbrev V (c : Dev nD) (b : Ref sig .tc) : Buf (Elt F) ((c : Thread nD τ).loc b) := StableHlo.after hostOps0 (fun b => m (c, b)) b

theorem host_fresh : (hostOps0 : List (HloOp τ sig (Elt F))).Forall fun op => op.fresh = ∅ := by
  simp only [List.Forall]; repeat' constructor

theorem reaches (𝒱 : Variants) : Pipeline.HMainP (Ix := Unit) (Name := ℕ) (U := UR sig nD τ) (Lvl := ℕ) pcfgs 0 defs₀ 𝒱 m (main (F := F)) (V m) :=
  Pipeline.hmainP_prefix pcfgs 0 defs₀ 𝒱 m main hostOps0 hostOps0_sub host_fresh main_chain

/-- A buffer that is the result of no host operation is as it was launched. -/
theorem V_kept (c : Dev nD) (b : Ref sig .tc)
    (h : b ≠ main_v0 ∧ b ≠ main_v1 ∧ b ≠ main_v2 ∧ b ≠ main_v3 ∧ b ≠ main_v4 ∧ b ≠ main_v5 ∧ b ≠ main_v6 ∧ b ≠ main_v7 ∧ b ≠ main_v8) :
    V m c b = m ((c : Thread nD τ).loc b) :=
  StableHlo.after_of_forall_not_mem (b := Proc.devRef .tc b) _ _ (List.forall_iff_forall_mem.mp (by
    obtain ⟨h0, h1, h2, h3, h4, h5, h6, h7, h8⟩ := h
    simp only [hostOps0, List.Forall, StableHlo.unary_writes, StableHlo.reshape_writes, Finset.mem_singleton]
    exact ⟨StableHlo.devRef_ne_of_ne h0, StableHlo.devRef_ne_of_ne h1, StableHlo.devRef_ne_of_ne h2, StableHlo.devRef_ne_of_ne h3,
      StableHlo.devRef_ne_of_ne h4, StableHlo.devRef_ne_of_ne h5, StableHlo.devRef_ne_of_ne h6, StableHlo.devRef_ne_of_ne h7,
      StableHlo.devRef_ne_of_ne h8⟩))

/-- The two tables' words. -/
def tbl : pre0.Contents (Elt F) := fun j => V m (0 : Dev nD) (pre0.ref j)

theorem V_tbl (c : Dev nD) (j : Fin 2) : V m c (pre0.ref j) = tbl m j := by
  obtain rfl : c = 0 := Subsingleton.elim _ _; rfl

/-- The tables name blocks inside the arrays. -/
abbrev Ok : Prop := ok0 (F := F) (tbl m)
abbrev adm (hO : Ok m) : (pcfg0 (F := F)).Adm := ⟨tbl m, hO⟩
abbrev cfgM (hO : Ok m) : Pipeline.Cfg sig Λ₀ := cfg0 (adm m hO)

/-- The halves of the two tables the grid hands its points. -/
theorem tables_held (c : Dev nD) :
    (Pipeline.ΦT pre0 (tbl m) c : sProp 𝕄) = iprop(half c expertsRef (tbl m 0) ∗ half c validRef (tbl m 1)) := by
  unfold Pipeline.ΦT Pipeline.prefHeld
  rw [show (Finset.univ : Finset (Fin 2)) = insert (0 : Fin 2) {(1 : Fin 2)} from by decide,
    bigSep_insert (by decide), bigSep_singleton]
  rfl

/-- A window's block at a point. -/
def iblk (hO : Ok m) (c : Dev nD) (w : Fin (cfgM m hO).W) (t : Fin (cfgM m hO).N) :
    (((cfgM m hO).win w).xblock ((cfgM m hO).grid.coords t)).Idx → Elt F ((cfgM m hO).win w).elt :=
  (((cfgM m hO).win w).blk t).view.read (Elt F) (V m c (Pipeline.arrRef spec0 w))

/-- The output's block after a point. -/
def outs (hO : Ok m) (c : Dev nD) (t : Fin (cfgM m hO).N) : Vec F S256x1024 .f32 :=
  left (grid0.coords t) (valid c (tbl m 1)) (iblk m hO c 0 t) (iblk m hO c 1 t) (iblk m hO c 2 t) (iblk m hO c 3 t) (iblk m hO c 4 t)
    (iblk m hO c 5 t) (iblk m hO c 6 t)

/-! ## The pipeline's proof data -/

/-- Inputs stay at their blocks, the output is at what its point leaves; an array two windows read is shared between them. -/
def dats (hO : Ok m) (_ : Fin 1) (c : Dev nD) : Dat τ (Elt F) Unit ℕ (UR sig nD τ) ℕ (cfgM m hO) c where
  A w := V m c (Pipeline.arrRef spec0 w)
  after w t := match w with
    | ⟨0, _⟩ => iblk m hO c 0 t
    | ⟨1, _⟩ => iblk m hO c 1 t
    | ⟨2, _⟩ => iblk m hO c 2 t
    | ⟨3, _⟩ => iblk m hO c 3 t
    | ⟨4, _⟩ => iblk m hO c 4 t
    | ⟨5, _⟩ => iblk m hO c 5 t
    | ⟨6, _⟩ => iblk m hO c 6 t
    | ⟨7, _⟩ => outs m hO c t
  Φ _ := iprop(Pipeline.ΦA spec0 c ∗ Pipeline.ΦT pre0 (tbl m) c)
  q w := Pipeline.shareOf spec0 w
  owed _ := 0

theorem A_eq (hO : Ok m) (c : Dev nD) (w : Fin (cfgM m hO).W) : (dats m hO 0 c).A w = V m c (Pipeline.arrRef spec0 w) := by
  dsimp only [dats]

/-- An input's buffer holds its block at every point. -/
theorem before_in (hO : Ok m) (c : Dev nD) (w : Fin (cfgM m hO).W) (hw : ((cfgM m hO).win w).isOut = false)
    (hlive : ∀ i, (cfgM m hO).idle w i = false)
    (hclip : ∀ t t' : Fin (cfgM m hO).N, ((cfgM m hO).win w).index t = ((cfgM m hO).win w).index t' →
      ((cfgM m hO).win w).clip ((cfgM m hO).grid.coords t) = ((cfgM m hO).win w).clip ((cfgM m hO).grid.coords t'))
    (hkeep : ∀ t, ((cfgM m hO).win w).cut ((cfgM m hO).grid.coords t) ((dats m hO 0 c).after w t) = (dats m hO 0 c).blockOf w t)
    (t : Fin (cfgM m hO).N) (d) : (dats m hO 0 c).before w t d = (dats m hO 0 c).fetched w t d :=
  (dats m hO 0 c).before_in_eq_fetched w hw hlive hclip hkeep t d

/-- No point leaves the output's buffer untouched. -/
theorem live (pf : pre0.Contents (Elt F)) (i : grid0.Coords) : idle0 pf 7 i = false := by
  have key : ∀ n : BitVec 32, (!(k0_cond1 i n == 1#1) && !(k0_cond2 i n == 1#1)) = false := by
    intro n
    by_cases h : k0_cond1 i n = 1#1
    · simp [h]
    · simp [(second_iff i n).mpr h]
  exact key _

/-! ## A point as the pipeline runs it -/

/-- A window's buffer at a point. -/
abbrev st (hO : Ok m) (t : Fin (cfgM m hO).N) (w : Fin 8) := (spec0 w).stage ((cfgM m hO).slots t w)

/-- The body at a point, on the buffers it is given there. -/
def bodyOf (hO : Ok m) (t : Fin (cfgM m hO).N) :=
  cc0_moe_expert_ffn (F := F) (grid0.coords t) expertsRef (Memref.isWhole_whole _) validRef (Memref.isWhole_whole _)
    (st m hO t 0) (hstage0_0 (((cfgM m hO).slots t 0).cast nbuf0_0)) (st m hO t 1) (hstage0_1 (((cfgM m hO).slots t 1).cast nbuf0_1)) (st m hO t 2) (hstage0_2 (((cfgM m hO).slots t 2).cast nbuf0_2)) (st m hO t 3) (hstage0_3 (((cfgM m hO).slots t 3).cast nbuf0_3)) (st m hO t 4) (hstage0_4 (((cfgM m hO).slots t 4).cast nbuf0_4)) (st m hO t 5) (hstage0_5 (((cfgM m hO).slots t 5).cast nbuf0_5)) (st m hO t 6) (hstage0_6 (((cfgM m hO).slots t 6).cast nbuf0_6)) (st m hO t 7) (hstage0_7 (((cfgM m hO).slots t 7).cast nbuf0_7))

/-- What a point is handed, -/
def before (hO : Ok m) (c : Dev nD) (t : Fin (cfgM m hO).N) : sProp 𝕄 :=
  iprop((dats m hO 0 c).Φ t.castSucc ∗ (dats m hO 0 c).owesAt () t.castSucc
    ∗ (∃ d, owns (c : Thread nD τ) (st m hO t 0) fullShare ((dats m hO 0 c).before 0 t d))
    ∗ (∃ d, owns (c : Thread nD τ) (st m hO t 1) fullShare ((dats m hO 0 c).before 1 t d))
    ∗ (∃ d, owns (c : Thread nD τ) (st m hO t 2) fullShare ((dats m hO 0 c).before 2 t d))
    ∗ (∃ d, owns (c : Thread nD τ) (st m hO t 3) fullShare ((dats m hO 0 c).before 3 t d))
    ∗ (∃ d, owns (c : Thread nD τ) (st m hO t 4) fullShare ((dats m hO 0 c).before 4 t d))
    ∗ (∃ d, owns (c : Thread nD τ) (st m hO t 5) fullShare ((dats m hO 0 c).before 5 t d))
    ∗ (∃ d, owns (c : Thread nD τ) (st m hO t 6) fullShare ((dats m hO 0 c).before 6 t d))
    ∗ (∃ d, owns (c : Thread nD τ) (st m hO t 7) fullShare ((dats m hO 0 c).before 7 t d)))

/-- and what it hands back. -/
def after (hO : Ok m) (c : Dev nD) (t : Fin (cfgM m hO).N) : sProp 𝕄 :=
  iprop((dats m hO 0 c).Φ t.succ ∗ (dats m hO 0 c).owesAt () t.succ
    ∗ owns (c : Thread nD τ) (st m hO t 0) fullShare ((dats m hO 0 c).after 0 t)
    ∗ owns (c : Thread nD τ) (st m hO t 1) fullShare ((dats m hO 0 c).after 1 t)
    ∗ owns (c : Thread nD τ) (st m hO t 2) fullShare ((dats m hO 0 c).after 2 t)
    ∗ owns (c : Thread nD τ) (st m hO t 3) fullShare ((dats m hO 0 c).after 3 t)
    ∗ owns (c : Thread nD τ) (st m hO t 4) fullShare ((dats m hO 0 c).after 4 t)
    ∗ owns (c : Thread nD τ) (st m hO t 5) fullShare ((dats m hO 0 c).after 5 t)
    ∗ owns (c : Thread nD τ) (st m hO t 6) fullShare ((dats m hO 0 c).after 6 t)
    ∗ owns (c : Thread nD τ) (st m hO t 7) fullShare ((dats m hO 0 c).after 7 t))

set_option maxHeartbeats 1600000 in
/-- The point runs from the one to the other. -/
theorem point (hO : Ok m) (c : Dev nD) (t : Fin (cfgM m hO).N) :
    before m hO c t ⊢ wp frame (wpE (defs₀ (F := F)) Variants.none c none) Set.univ (bodyOf m hO t) (fun _ => after m hO c t) := by
  unfold before after bodyOf
  have b0 : ∀ d, (dats m hO 0 c).before 0 t d = iblk m hO c 0 t := fun d =>
    before_in m hO c 0 rfl (fun _ => rfl) (fun _ _ _ => rfl) (fun _ => rfl) t d
  have b1 : ∀ d, (dats m hO 0 c).before 1 t d = iblk m hO c 1 t := fun d =>
    before_in m hO c 1 rfl (fun _ => rfl) (fun _ _ _ => rfl) (fun _ => rfl) t d
  have b2 : ∀ d, (dats m hO 0 c).before 2 t d = iblk m hO c 2 t := fun d =>
    before_in m hO c 2 rfl (fun _ => rfl) (fun _ _ _ => rfl) (fun _ => rfl) t d
  have b3 : ∀ d, (dats m hO 0 c).before 3 t d = iblk m hO c 3 t := fun d =>
    before_in m hO c 3 rfl (fun _ => rfl) (fun _ _ _ => rfl) (fun _ => rfl) t d
  have b4 : ∀ d, (dats m hO 0 c).before 4 t d = iblk m hO c 4 t := fun d =>
    before_in m hO c 4 rfl (fun _ => rfl) (fun _ _ _ => rfl) (fun _ => rfl) t d
  have b5 : ∀ d, (dats m hO 0 c).before 5 t d = iblk m hO c 5 t := fun d =>
    before_in m hO c 5 rfl (fun _ => rfl) (fun _ _ _ => rfl) (fun _ => rfl) t d
  have b6 : ∀ d, (dats m hO 0 c).before 6 t d = iblk m hO c 6 t := fun d =>
    before_in m hO c 6 rfl (fun _ => rfl) (fun _ _ _ => rfl) (fun _ => rfl) t d
  simp only [b0, b1, b2, b3, b4, b5, b6]
  rw [show (dats m hO 0 c).Φ t.succ = (dats m hO 0 c).Φ t.castSucc from rfl,
    show (dats m hO 0 c).owesAt () t.succ = (dats m hO 0 c).owesAt () t.castSucc from rfl,
    show (dats m hO 0 c).Φ t.castSucc = iprop(Pipeline.ΦA spec0 c ∗ Pipeline.ΦT pre0 (tbl m) c) from rfl, tables_held]
  iintro ⟨⟨HΦ, ⟨HT0, HT1⟩⟩, Ho, ⟨%d0, H0⟩, ⟨%d1, H1⟩, ⟨%d2, H2⟩, ⟨%d3, H3⟩, ⟨%d4, H4⟩, ⟨%d5, H5⟩, ⟨%d6, H6⟩, ⟨%d7, H7⟩⟩
  iapply (body c (grid0.coords t) _ _ _ _ _ _ _ _ _ _ _ _ _ _ _ _ (iblk m hO c 0 t) (iblk m hO c 1 t) (iblk m hO c 2 t)
    (iblk m hO c 3 t) (iblk m hO c 4 t) (iblk m hO c 5 t) (iblk m hO c 6 t) (tbl m 0) (tbl m 1) Set.univ _)
  unfold kept
  isplitl [H0 H1 H2 H3 H4 H5 H6 HT0 HT1]
  · isplitl [H0]; · iexact H0
    isplitl [H1]; · iexact H1
    isplitl [H2]; · iexact H2
    isplitl [H3]; · iexact H3
    isplitl [H4]; · iexact H4
    isplitl [H5]; · iexact H5
    isplitl [H6]; · iexact H6
    isplitl [HT0]; · iexact HT0
    iexact HT1
  isplitl [H7]; · iexists _; iexact H7
  iintro ⟨⟨H0, H1, H2, H3, H4, H5, H6, HT0, HT1⟩, H7⟩
  isplitl [HΦ HT0 HT1]
  · isplitl [HΦ]
    · iexact HΦ
    isplitl [HT0]; · iexact HT0
    iexact HT1
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

theorem row (hO : Ok m) (t : Fin (cfgM m hO).N) :
    defs₀ (F := F) .tc (cfgM m hO).body ((cfgM m hO).bodyArgs t ((cfgM m hO).slots t)) = bodyOf m hO t := by
  unfold defs₀; rw [Defs.onTc_tc]; rfl

end Cert.KernelEIdeal.Own

end
-- ==== Proof.ExpertsIdealEnd.lean ====
/-
  How the experts' call ends, the kernel over extended reals: its points put together into a run, and the arguments unchanged.
-/
module

public import proofs.«01_k».proof.Proof.ExpertsIdealRun
public import Idealize.ShloMosaic.Lib.Pipeline.FrameBody
public import Idealize.ShloMosaic.Lib.Ring
public import Idealize.ShloMosaic.Lib.Tactic
public import Idealize.ShloMosaic.Lib.WordCmp
public import Idealize.ShloMosaic.Lib.VecWindow
public import Idealize.ShloMosaic.Lib.Claim

@[expose] public section

set_option maxRecDepth 16384

noncomputable section

namespace Cert.KernelEIdeal.Own

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelEIdeal Cert.KernelEIdeal.Gen

variable {F : FTy → Type} [FloatOps F]
variable (m : (ℓ : Loc nD τ sig) → Buf (Elt F) ℓ) (ρ : Dev nD → PrngReg)

set_option maxHeartbeats 200000 in
/-- Every point is run as the proof data has it. -/
theorem obligation (hO : Ok m) (c : Dev nD) : BodyObligation (dats (F := F) m hO 0 c) (defs₀ (F := F)) Variants.none () Set.univ := fun t => by
  rw [bigSep_W0, bigSep_W0, row m hO]
  refine triple_restated (point m hO c t) rfl .rfl fun _ => ?_
  unfold after
  have h7 := live (tbl m) ((pcfg0.gridAt (tbl m)).coords t)
  refine sep_mono .rfl (sep_mono .rfl (sep_mono .rfl (sep_mono .rfl (sep_mono .rfl (sep_mono .rfl (sep_mono .rfl (sep_mono .rfl (sep_mono .rfl ?_))))))))
  dsimp only
  rw [h7]

/-! ## The run and the frame -/

set_option maxHeartbeats 3200000 in
set_option backward.isDefEq.respectTransparency.types false in
/-- Every execution ends, with every array at what the proof data says and every semaphore at zero. -/
theorem ran (hO : Ok m) : θ_run defs (onTc (τ := τ) (main (F := F))) (s₀ m ρ)
    (fun r => (Pipeline.FramePost (Pipeline.pin pcfgs fun _ => adm m hO) (dats m hO) 0 (V m)) r ∧ r.2.sem = fun _ => 0) :=
  Pipeline.θ_run_frameP_shared (Q' := _) pcfgs (fun _ => adm m hO) (dats m hO) (0 : Fin 1) launch₀0 defs₀ Variants.none m ρ main
    (hbody := fun c => (obligation m hO c).loose) (hq := fun _ _ _ => rfl)
    (howed := fun _ _ => rfl) (V := V m) (hmain := reaches m Variants.none) (hA := A_eq m hO) (hpf := V_tbl m)
    (hΦ := fun _ _ => rfl)

/-- The output, and that the arguments end as they were. -/
theorem ends (hO : Ok m) : θ_run defs (onTc (τ := τ) (main (F := F))) ⟨m, fun _ => 0, ρ⟩ (fun r => (∀ c : Dev nD,
      r.2.mem ((c.tc : Thread nD τ).loc main_v9) = (dats m hO 0 c).arrAt 7 (cfgM m hO).N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6))
      ∧ r.2.sem = fun _ => 0) :=
  (θ_run defs _ _).mono (fun _ h => ⟨fun c => ⟨(h.1 c).1 7,
      ((h.1 c).1 0).trans (((dats m hO 0 c).arrAt_in 0 rfl _).trans ((A_eq m hO c 0).trans (V_kept m c main_arg0 (by decide)))),
      ((h.1 c).2 main_arg1 (by decide : main_arg1 ∈ Pipeline.restRefs sig spec0)).trans (V_kept m c main_arg1 (by decide)),
      ((h.1 c).2 main_arg2 (by decide : main_arg2 ∈ Pipeline.restRefs sig spec0)).trans (V_kept m c main_arg2 (by decide)),
      ((h.1 c).2 main_arg3 (by decide : main_arg3 ∈ Pipeline.restRefs sig spec0)).trans (V_kept m c main_arg3 (by decide)),
      ((h.1 c).2 main_arg4 (by decide : main_arg4 ∈ Pipeline.restRefs sig spec0)).trans (V_kept m c main_arg4 (by decide)),
      ((h.1 c).2 main_arg5 (by decide : main_arg5 ∈ Pipeline.restRefs sig spec0)).trans (V_kept m c main_arg5 (by decide)),
      ((h.1 c).2 main_arg6 (by decide : main_arg6 ∈ Pipeline.restRefs sig spec0)).trans (V_kept m c main_arg6 (by decide))⟩, h.2⟩)
    (ran m ρ hO)

end Cert.KernelEIdeal.Own

end
-- ==== Proof.ExpertsIdealOk.lean ====
/-
  The tables of the experts' call under its precondition, the kernel over extended reals: what their words are, and that every block they name lies inside its array.
-/
module

public import proofs.«01_k».proof.Proof.ExpertsIdealRun
public import proofs.«01_k».proof.Proof.ExpertsTables
public import Idealize.ShloMosaic.Lib.Pipeline.ValueKit

@[expose] public section

set_option maxRecDepth 16384

noncomputable section

namespace Cert.KernelEIdeal.Own

open Idealize.ShloMosaic Idealize.ShloMosaic.TcCoe Idealize.SL.Sem
open Cert.KernelEIdeal Cert.KernelEIdeal.Gen

variable {F : FTy → Type} [FloatOps F]
variable (m : (ℓ : Loc nD τ sig) → Buf (Elt F) ℓ)

/-- The expert of a tile, and the number of tiles in use, as launched. -/
def te (t : Fin 288) : BitVec 32 := (m (((0 : Dev nD).tc : Thread nD τ).loc main_arg1) : IVec S288 32) (ix1 t)
def nv : BitVec 32 := (m (((0 : Dev nD).tc : Thread nD τ).loc main_arg2) : IVec S1 32) (ix1 0)

theorem tbl_experts (j : S288.Idx) : (tbl m 0 : IVec S288 32) j = te m (j 0) := by
  have h : tbl m 0 = m (((0 : Dev nD).tc : Thread nD τ).loc main_arg1) := V_kept m 0 main_arg1 (by decide)
  exact (congrFun h j).trans (congrArg _ (funext fun a => by obtain rfl : a = 0 := Subsingleton.elim _ _; rfl))

theorem tbl_valid (j : S1.Idx) : (tbl m 1 : IVec S1 32) j = nv m := by
  have h : tbl m 1 = m (((0 : Dev nD).tc : Thread nD τ).loc main_arg2) := V_kept m 0 main_arg2 (by decide)
  exact (congrFun h j).trans (congrArg _ (Cert.Pre_tables.Read.one_index _ _))

/-- The word a point reads of the experts' table is its tile's, -/
theorem at_expert (i : grid0.Coords) (off : Fin 1 → Nat) (ho : off 0 = (i 0).val) (hb : ∀ a, off a + S1.size a ≤ S288.size a) :
    (tbl m).at 0 (Rect.unit (s := S288) off S1.size hb) numel1_S1 = te m (i 0) := by
  refine (tbl_experts m _).trans (congrArg (te m) (Fin.ext ?_))
  exact (ValueKit.rect_emb_unit_val _ _ _ _ _).trans (by simp [ho])

/-- and of the other the number of tiles in use. -/
theorem at_valid : (tbl m).at 1 (Rect.unit (s := S1) ![0] S1.size inb_S1_S1_0) numel1_S1 = nv m := tbl_valid m _

theorem valid_eq (c : Dev nD) : valid c (tbl m 1) = nv m := tbl_valid m _

theorem step_nat (i : grid0.Coords) : (BitVec.ofNat 32 (i 0).val).toNat = (i 0).val := by
  have h : (i 0).val < 288 := (i 0).isLt
  simp [BitVec.toNat_ofNat]; omega

theorem step_val (i : grid0.Coords) : BitVec.toNat (Scalar.indexCast (BitVec.ofNat 32 (i 0).val)) = (i 0).val := by
  refine Eq.trans ?_ (step_nat i)
  simp [Scalar.indexCast]

/-- The tile whose rows a point fetches: its own where in use, else the last in use. -/
theorem row_block (i : grid0.Coords) (n : BitVec 32) (h1 : 1 ≤ n.toNat) (h2 : n.toNat < 2 ^ 31) :
    (Scalar.minsi (BitVec.ofNat 32 (i 0).val) (Scalar.subi n 1#32)).toNat = min (i 0).val (n.toNat - 1) := by
  have h : (i 0).val < 288 := (i 0).isLt
  have hs : (Scalar.subi n 1#32).toNat = n.toNat - 1 := by
    show (n - 1#32).toNat = _
    rw [BitVec.toNat_sub]; simp; omega
  have hi := step_nat i
  have key : ∀ x y : BitVec 32, x.toNat < 2 ^ 31 → y.toNat < 2 ^ 31 → (Scalar.minsi x y).toNat = min x.toNat y.toNat := by
    intro x y hx hy
    show (if x.slt y then x else y).toNat = _
    have : x.slt y = decide (x.toNat < y.toNat) := by
      rw [BitVec.slt, BitVec.toInt_eq_toNat_of_lt (by omega), BitVec.toInt_eq_toNat_of_lt (by omega)]
      simp
    rw [this]
    by_cases hxy : x.toNat < y.toNat
    · simp [hxy]; omega
    · simp [hxy]; omega
  rw [key _ _ (by omega) (by omega), hs, hi]

/-! ## The blocks the index maps name -/

theorem ix_rows (i : grid0.Coords) (h1 : 1 ≤ (nv m).toNat) (h2 : (nv m).toNat < 2 ^ 31) :
    cc0_transform_0 inb_S1_S1_0 numel1_S1 (tbl m) i = ![min (i 0).val ((nv m).toNat - 1), 0] := by
  refine (congrArg (fun w : BitVec 32 => (![(Scalar.minsi (BitVec.ofNat 32 (i 0).val) (Scalar.subi w 1#32)).toNat, 0] : Fin 2 → Nat)) (at_valid m)).trans ?_
  dsimp only
  rw [row_block i (nv m) h1 h2]

theorem ix_up0 (i : grid0.Coords) : cc0_transform_1 k0_off1_inb numel1_S1 (tbl m) i = ![(te m (i 0)).toNat, 0, 0, 0] :=
  congrArg (fun w : BitVec 32 => (![w.toNat, 0, 0, 0] : Fin 4 → Nat)) (at_expert m i (k0_off1 i) (step_val i) (k0_off1_inb i))

theorem ix_up1 (i : grid0.Coords) : cc0_transform_2 k0_off1_inb numel1_S1 (tbl m) i = ![(te m (i 0)).toNat, 1, 0, 0] :=
  congrArg (fun w : BitVec 32 => (![w.toNat, 1, 0, 0] : Fin 4 → Nat)) (at_expert m i (k0_off1 i) (step_val i) (k0_off1_inb i))

theorem ix_b0 (i : grid0.Coords) : cc0_transform_3 k0_off1_inb numel1_S1 (tbl m) i = ![(te m (i 0)).toNat, 0, 0, 0] :=
  congrArg (fun w : BitVec 32 => (![w.toNat, 0, 0, 0] : Fin 4 → Nat)) (at_expert m i (k0_off1 i) (step_val i) (k0_off1_inb i))

theorem ix_b1 (i : grid0.Coords) : cc0_transform_4 k0_off1_inb numel1_S1 (tbl m) i = ![(te m (i 0)).toNat, 1, 0, 0] :=
  congrArg (fun w : BitVec 32 => (![w.toNat, 1, 0, 0] : Fin 4 → Nat)) (at_expert m i (k0_off1 i) (step_val i) (k0_off1_inb i))

theorem ix_dn (i : grid0.Coords) : cc0_transform_5 k0_off1_inb numel1_S1 (tbl m) i = ![(te m (i 0)).toNat, 0, 0] :=
  congrArg (fun w : BitVec 32 => (![w.toNat, 0, 0] : Fin 3 → Nat)) (at_expert m i (k0_off1 i) (step_val i) (k0_off1_inb i))

theorem ix_bd (i : grid0.Coords) : cc0_transform_6 k0_off1_inb numel1_S1 (tbl m) i = ![(te m (i 0)).toNat, 0, 0] :=
  congrArg (fun w : BitVec 32 => (![w.toNat, 0, 0] : Fin 3 → Nat)) (at_expert m i (k0_off1 i) (step_val i) (k0_off1_inb i))

/-- Tables of experts and of at least one tile in use name blocks inside the arrays. -/
theorem ok_of (ht : ∀ t, (te m t).toNat < 32) (h1 : 1 ≤ (nv m).toNat) (h2 : (nv m).toNat < 2 ^ 31) : Ok m := by
  have four : ∀ (e k : Nat) (sz ar : Fin 4 → Nat) , e < 32 → k < 2 → sz 0 = 1 → sz 1 = 1 → ar 0 = 32 → ar 1 = 2 → sz 2 = ar 2 → sz 3 = ar 3 →
      ∀ a, ((![e, k, 0, 0] : Fin 4 → Nat) a + 1) * sz a ≤ ar a := by
    intro e k sz ar he hk s0 s1 a0 a1 h2 h3 a
    match a with
    | 0 => show (e + 1) * sz 0 ≤ ar 0; rw [s0, a0]; omega
    | 1 => show (k + 1) * sz 1 ≤ ar 1; rw [s1, a1]; omega
    | 2 => show (0 + 1) * sz 2 ≤ ar 2; omega
    | 3 => show (0 + 1) * sz 3 ≤ ar 3; omega
  have three : ∀ (e : Nat) (sz ar : Fin 3 → Nat), e < 32 → sz 0 = 1 → ar 0 = 32 → sz 1 = ar 1 → sz 2 = ar 2 →
      ∀ a, ((![e, 0, 0] : Fin 3 → Nat) a + 1) * sz a ≤ ar a := by
    intro e sz ar he s0 a0 h1 h2 a
    match a with
    | 0 => show (e + 1) * sz 0 ≤ ar 0; rw [s0, a0]; omega
    | 1 => show (0 + 1) * sz 1 ≤ ar 1; omega
    | 2 => show (0 + 1) * sz 2 ≤ ar 2; omega
  refine ⟨fun i => ?_, fun i => ?_, fun i => ?_, fun i => ?_, fun i => ?_, fun i => ?_, fun i => ?_⟩
  · refine ⟨?_, .inl rfl⟩
    rw [ix_rows m i h1 h2]
    have hi : (i 0).val < 288 := (i 0).isLt
    intro a
    match a with
    | 0 => show (min (i 0).val ((nv m).toNat - 1) + 1) * 256 ≤ 73728; omega
    | 1 => show (0 + 1) * 1024 ≤ 1024; omega
  · have e := ix_up0 m i
    refine ⟨?_, .inr (.inr ⟨by decide, rfl, ?_, rfl⟩)⟩
    · rw [e]; exact four _ _ _ _ (ht _) (by omega) rfl rfl rfl rfl rfl rfl
    · show cc0_transform_1 k0_off1_inb numel1_S1 (tbl m) i 2 * 1024 = 0; rw [e]; rfl
  · have e := ix_up1 m i
    refine ⟨?_, .inr (.inr ⟨by decide, rfl, ?_, rfl⟩)⟩
    · rw [e]; exact four _ _ _ _ (ht _) (by omega) rfl rfl rfl rfl rfl rfl
    · show cc0_transform_2 k0_off1_inb numel1_S1 (tbl m) i 2 * 1024 = 0; rw [e]; rfl
  · refine ⟨?_, .inl rfl⟩
    rw [ix_b0 m i]; exact four _ _ _ _ (ht _) (by omega) rfl rfl rfl rfl rfl rfl
  · refine ⟨?_, .inl rfl⟩
    rw [ix_b1 m i]; exact four _ _ _ _ (ht _) (by omega) rfl rfl rfl rfl rfl rfl
  · have e := ix_dn m i
    refine ⟨?_, .inr (.inr ⟨by decide, rfl, ?_, rfl⟩)⟩
    · rw [e]; exact three _ _ _ (ht _) rfl rfl rfl rfl
    · show cc0_transform_5 k0_off1_inb numel1_S1 (tbl m) i 1 * 1024 = 0; rw [e]; rfl
  · refine ⟨?_, .inl rfl⟩
    rw [ix_bd m i]; exact three _ _ _ (ht _) rfl rfl rfl rfl

/-- The precondition says as much of the launch memory. -/
theorem tables_of (c : Dev nD)
    (h : Cert.Pre_tables.fn (F := F) (m ((c.tc : Thread nD τ).loc main_arg0)) (m ((c.tc : Thread nD τ).loc main_arg1)) (m ((c.tc : Thread nD τ).loc main_arg2))
      (m ((c.tc : Thread nD τ).loc main_arg3)) (m ((c.tc : Thread nD τ).loc main_arg4)) (m ((c.tc : Thread nD τ).loc main_arg5)) (m ((c.tc : Thread nD τ).loc main_arg6)) = fun _ => 1#1) :
    (∀ t, (te m t).toNat < 32) ∧ 1 ≤ (nv m).toNat ∧ (nv m).toNat < 2 ^ 31 := by
  obtain rfl : c = 0 := Subsingleton.elim _ _
  obtain ⟨h1, h2, h3⟩ := Cert.Pre_tables.Read.read _ _ _ _ _ _ _ h
  exact ⟨fun t => h1 _, h2, h3⟩

end Cert.KernelEIdeal.Own
-- ==== Proof.ExpertsMath.lean ====
/-
  The experts' feed-forward network at one element, as both programs are shown to compute it.
-/
module

public import proofs.«01_k».proof.Defs
public import Idealize.ShloMosaic.Lib.Pipeline.ValueKit

@[expose] public section

noncomputable section

namespace Cert.Experts

open Idealize.ShloMosaic

/-- A gate's value cut at the limit. -/
def gate (g : EReal) : EReal := min g (Ideal.ofBits .f32 0x40E00000#32)

/-- A linear value cut at both limits. -/
def lin (l : EReal) : EReal := min (Ideal.ofBits .f32 0x40E00000#32) (max (Ideal.ofBits .f32 0xC0E00000#32) l)

/-- A gate's part of the activation: `g · σ(α g)`. -/
def gated (g : EReal) : EReal :=
  gate g * Ideal.div (Ideal.ofBits .f32 0x3F800000#32) (Ideal.ofBits .f32 0x3F800000#32 + Ideal.exp (-(Ideal.ofBits .f32 0x3FD9DB23#32 * gate g)))

/-- The activation of a gate and a linear value: `g · σ(α g) · (l + 1)`. -/
def act (g l : EReal) : EReal := gated g * (lin l + Ideal.ofBits .f32 0x3F800000#32)

/-- A row's upward product of one expert, with its bias, at a column: gates stand in the even columns, linear values in the odd ones. -/
def upward (x : FVec Ideal ⟨2, ![73728, 1024]⟩ .f32) (w : FVec Ideal ⟨3, ![32, 1024, 2048]⟩ .f32) (b : FVec Ideal ⟨2, ![32, 2048]⟩ .f32)
    (n : Fin 73728) (e : Fin 32) (f : Fin 2048) : EReal :=
  (∑ k : Fin 1024, x (ix2 n k) * w (ix3 e k f)) + b (ix2 e f)

/-- A row's value after one expert's network, at a column. -/
def network (x : FVec Ideal ⟨2, ![73728, 1024]⟩ .f32) (w : FVec Ideal ⟨3, ![32, 1024, 2048]⟩ .f32) (b : FVec Ideal ⟨2, ![32, 2048]⟩ .f32)
    (wd : FVec Ideal ⟨3, ![32, 1024, 1024]⟩ .f32) (bd : FVec Ideal ⟨2, ![32, 1024]⟩ .f32) (n : Fin 73728) (e : Fin 32) (d : Fin 1024) : EReal :=
  (∑ f : Fin 1024, act (upward x w b n e ⟨2 * f.val, by omega⟩) (upward x w b n e ⟨1 + 2 * f.val, by omega⟩) * wd (ix3 e f d)) + bd (ix2 e d)

/-- The tile of a row. -/
def tileOf (n : Fin 73728) : Fin 288 := ⟨n.val / 256, by omega⟩

/-- The whole result: a row of a tile in use is its expert's value of it, any other row zero. -/
def result (x : FVec Ideal ⟨2, ![73728, 1024]⟩ .f32) (w : FVec Ideal ⟨3, ![32, 1024, 2048]⟩ .f32) (b : FVec Ideal ⟨2, ![32, 2048]⟩ .f32)
    (wd : FVec Ideal ⟨3, ![32, 1024, 1024]⟩ .f32) (bd : FVec Ideal ⟨2, ![32, 1024]⟩ .f32) (e : Fin 288 → Fin 32) (used : ℕ) :
    FVec Ideal ⟨2, ![73728, 1024]⟩ .f32 := fun i =>
  if (tileOf (i 0)).val < used then network x w b wd bd (i 0) (e (tileOf (i 0))) (i 1) else Ideal.ofBits .f32 0x00000000#32

theorem network_row (x w b wd bd) (n n' : Fin 73728) (h : n = n') (e d) : network x w b wd bd n e d = network x w b wd bd n' e d := by rw [h]

/-- The same, at a row given by its tile and its place in the tile. -/
theorem result_at (x w b wd bd e used) (t : Fin 288) (r : Fin 256) (d : Fin 1024) :
    result x w b wd bd e used (ix2 ⟨t.val * 256 + r.val, by omega⟩ d)
      = if t.val < used then network x w b wd bd ⟨t.val * 256 + r.val, by omega⟩ (e t) d else Ideal.ofBits .f32 0x00000000#32 := by
  have h : tileOf ⟨t.val * 256 + r.val, by omega⟩ = t := Fin.ext (by show (t.val * 256 + r.val) / 256 = t.val; omega)
  show (if (tileOf ⟨t.val * 256 + r.val, _⟩).val < used then network x w b wd bd ⟨t.val * 256 + r.val, _⟩ (e (tileOf ⟨t.val * 256 + r.val, _⟩)) d else _) = _
  rw [h]

end Cert.Experts

end
-- ==== Proof.ExpertsIdealValue.lean ====
/-
  The array the experts' kernel leaves, over extended reals: every row of a tile in use is its expert's value of it, every other row is zero.
-/
module

public import proofs.«01_k».proof.Proof.ExpertsIdealOk
public import proofs.«01_k».proof.Proof.ExpertsMath

@[expose] public section

set_option maxRecDepth 16384

noncomputable section

namespace Cert.KernelEIdeal.Own

open Idealize.ShloMosaic Idealize.ShloMosaic.TcCoe Idealize.SL.Sem
open Cert.KernelEIdeal Cert.KernelEIdeal.Gen

/-! ## The payloads at an element -/

theorem lin_at (x : Vec Ideal S256x1024 .f32) (w : Vec Ideal S1x1x1024x1024 .bf16) (b : Vec Ideal S1x1x1x1024 .f32) (r : Fin 256) (f : Fin 1024) :
    k0_pay4 x w b (ix2 r f) = Cert.Experts.lin ((∑ k : Fin 1024, x (ix2 r k) * w (ix4 0 0 k f)) + b (ix4 0 0 0 f)) := by
  unfold Cert.Experts.lin
  pointwise [k0_pay4, k0_pay3]

theorem gate_at (x : Vec Ideal S256x1024 .f32) (w : Vec Ideal S1x1x1024x1024 .bf16) (b : Vec Ideal S1x1x1x1024 .f32) (r : Fin 256) (f : Fin 1024)
    (g : EReal) (hg : g = (∑ k : Fin 1024, x (ix2 r k) * w (ix4 0 0 k f)) + b (ix4 0 0 0 f)) :
    k0_pay5 x w b (ix2 r f) = Cert.Experts.gated g := by
  subst hg
  unfold Cert.Experts.gated Cert.Experts.gate
  pointwise [k0_pay5, k0_pay3]
  rw [zero_sub]

theorem down_at (l g : FVec Ideal S256x1024 .f32) (w : Vec Ideal S1x1024x1024 .bf16) (b : Vec Ideal S1x1x1024 .f32) (r : Fin 256) (d : Fin 1024) :
    k0_pay1 l g (Scalar.ofBits .f32 0x3F800000#32) w b (ix2 r d)
      = (∑ f : Fin 1024, (g (ix2 r f) * (l (ix2 r f) + Ideal.ofBits .f32 0x3F800000#32)) * w (ix3 0 f d)) + b (ix3 0 0 d) := by
  pointwise [k0_pay1]

/-- A tile in use at an element, in the entries of its blocks. -/
theorem product_at (x0 : Vec Ideal S256x1024 .f32) (x1 x2 : Vec Ideal S1x1x1024x1024 .bf16) (x3 x4 : Vec Ideal S1x1x1x1024 .f32)
    (x5 : Vec Ideal S1x1024x1024 .bf16) (x6 : Vec Ideal S1x1x1024 .f32) (r : Fin 256) (d : Fin 1024)
    (x : FVec Ideal S73728x1024 .f32) (w : FVec Ideal S32x1024x2048 .f32) (b : FVec Ideal S32x2048 .f32) (wd : FVec Ideal S32x1024x1024 .f32)
    (bd : FVec Ideal S32x1024 .f32) (n : Fin 73728) (e : Fin 32) (hx : ∀ k, x0 (ix2 r k) = x (ix2 n k))
    (hg : ∀ k f : Fin 1024, x1 (ix4 0 0 k f) = w (ix3 e k ⟨2 * f.val, by omega⟩)) (hl : ∀ k f : Fin 1024, x2 (ix4 0 0 k f) = w (ix3 e k ⟨1 + 2 * f.val, by omega⟩))
    (hb0 : ∀ f : Fin 1024, x3 (ix4 0 0 0 f) = b (ix2 e ⟨2 * f.val, by omega⟩)) (hb1 : ∀ f : Fin 1024, x4 (ix4 0 0 0 f) = b (ix2 e ⟨1 + 2 * f.val, by omega⟩))
    (hd : ∀ f : Fin 1024, x5 (ix3 0 f d) = wd (ix3 e f d)) (hdb : x6 (ix3 0 0 d) = bd (ix2 e d)) :
    product x0 x1 x2 x3 x4 x5 x6 (ix2 r d) = Cert.Experts.network x w b wd bd n e d := by
  unfold product
  refine (down_at _ _ _ _ r d).trans ?_
  unfold Cert.Experts.network Cert.Experts.act Cert.Experts.upward
  refine congrArg₂ (fun a b : EReal => a + b) (Finset.sum_congr rfl fun f _ => ?_) hdb
  rw [lin_at, gate_at _ _ _ r f _ rfl, hd f, hb0 f, hb1 f]
  simp only [hx, hg, hl]

theorem zero_at (r : Fin 256) (d : Fin 1024) : (k0_pay2 : FVec Ideal S256x1024 .f32) (ix2 r d) = Ideal.ofBits .f32 0x00000000#32 := rfl

/-- A point's tile is in use when its number is below the number of tiles in use. -/
theorem cond_iff (i : grid0.Coords) (n : BitVec 32) (h : n.toNat < 2 ^ 31) : k0_cond1 i n = 1#1 ↔ (i 0).val < n.toNat := by
  have hi := step_nat i
  have hl : (i 0).val < 288 := (i 0).isLt
  have e : k0_cond1 i n = BitVec.ofBool (decide ((BitVec.ofNat 32 (i 0).val).toInt < n.toInt)) := by
    have k : ∀ b : BitVec 1, Scalar.cmpi .ne (Scalar.extui b : BitVec 32) 0#32 = b := by decide
    exact k _
  rw [e, BitVec.toInt_eq_toNat_of_lt (by omega), BitVec.toInt_eq_toNat_of_lt (by omega), hi]
  by_cases hc : (i 0).val < n.toNat <;> simp [hc]

theorem point_val (t : Fin 288) : (grid0.coords t 0).val = t.val := by
  revert t; decide +kernel

/-! ## The arrays the host prepares -/

/-- The upward weights: the even columns apart from the odd ones. -/
def upArr (x : FVec Ideal S32x1024x2048 .f32) : FVec Ideal S32x2x1024x1024 .bf16 :=
  truncf .bf16 (transpose S32x2x1024x1024 [0, 3, 1, 2] (shapeCast S32x1024x1024x2 x shapeCasts_S32x1024x2048_S32x1024x1024x2)
    transposes_S32x1024x1024x2_S32x2x1024x1024_0_3_1_2) bitsLt_bf16_f32

/-- Their biases likewise. -/
def biasArr (x : FVec Ideal S32x2048 .f32) : FVec Ideal S32x2x1x1024 .f32 :=
  shapeCast S32x2x1x1024 (transpose S32x2x1024 [0, 2, 1] (shapeCast S32x1024x2 x shapeCasts_S32x2048_S32x1024x2) transposes_S32x1024x2_S32x2x1024_0_2_1)
    shapeCasts_S32x2x1024_S32x2x1x1024

theorem up_even (x : FVec Ideal S32x1024x2048 .f32) (e : Fin 32) (k f : Fin 1024) : upArr x (ix4 e 0 k f) = x (ix3 e k ⟨2 * f.val, by omega⟩) := by
  pointwise [upArr]
  exact congrArg (fun j : Fin 2048 => x (ix3 e k j)) (Fin.ext (Nat.mul_comm _ _))

theorem up_odd (x : FVec Ideal S32x1024x2048 .f32) (e : Fin 32) (k f : Fin 1024) : upArr x (ix4 e 1 k f) = x (ix3 e k ⟨1 + 2 * f.val, by omega⟩) := by
  pointwise [upArr]
  exact congrArg (fun j : Fin 2048 => x (ix3 e k j)) (Fin.ext (by show f.val * 2 + 1 = 1 + 2 * f.val; omega))

theorem bias_even (x : FVec Ideal S32x2048 .f32) (e : Fin 32) (f : Fin 1024) : biasArr x (ix4 e 0 0 f) = x (ix2 e ⟨2 * f.val, by omega⟩) := by
  pointwise [biasArr]
  exact congrArg (fun j : Fin 2048 => x (ix2 e j)) (Fin.ext (Nat.mul_comm _ _))

theorem bias_odd (x : FVec Ideal S32x2048 .f32) (e : Fin 32) (f : Fin 1024) : biasArr x (ix4 e 1 0 f) = x (ix2 e ⟨1 + 2 * f.val, by omega⟩) := by
  pointwise [biasArr]
  exact congrArg (fun j : Fin 2048 => x (ix2 e j)) (Fin.ext (by show f.val * 2 + 1 = 1 + 2 * f.val; omega))

theorem down_bias (x : FVec Ideal S32x1024 .f32) (e : Fin 32) (d : Fin 1024) : shapeCast S32x1x1024 x shapeCasts_S32x1024_S32x1x1024 (ix3 e 0 d) = x (ix2 e d) := by
  pointwise

variable (m : (ℓ : Loc nD τ sig) → Buf (Elt Ideal) ℓ)

/-- The argument arrays. -/
abbrev argX (c : Dev nD) : FVec Ideal S73728x1024 .f32 := m ((c.tc : Thread nD τ).loc main_arg0)
abbrev argU (c : Dev nD) : FVec Ideal S32x1024x2048 .f32 := m ((c.tc : Thread nD τ).loc main_arg3)
abbrev argB (c : Dev nD) : FVec Ideal S32x2048 .f32 := m ((c.tc : Thread nD τ).loc main_arg4)
abbrev argD (c : Dev nD) : FVec Ideal S32x1024x1024 .f32 := m ((c.tc : Thread nD τ).loc main_arg5)
abbrev argE (c : Dev nD) : FVec Ideal S32x1024 .f32 := m ((c.tc : Thread nD τ).loc main_arg6)

theorem V_rows (c : Dev nD) : (V m c main_arg0 : FVec Ideal S73728x1024 .f32) = argX m c := V_kept m c main_arg0 (by decide)
theorem V_up (c : Dev nD) : (V m c main_v2 : FVec Ideal S32x2x1024x1024 .bf16) = upArr (argU m c) := rfl
theorem V_bias0 (c : Dev nD) : (V m c main_v6 : FVec Ideal S32x2x1x1024 .f32) = biasArr (argB m c) := rfl
theorem V_bias1 (c : Dev nD) : (V m c main_v7 : FVec Ideal S32x2x1x1024 .f32) = biasArr (argB m c) := rfl
theorem V_down (c : Dev nD) : (V m c main_v5 : FVec Ideal S32x1024x1024 .bf16) = truncf .bf16 (argD m c) bitsLt_bf16_f32 := rfl
theorem V_dbias (c : Dev nD) : (V m c main_v8 : FVec Ideal S32x1x1024 .f32) = shapeCast S32x1x1024 (argE m c) shapeCasts_S32x1024_S32x1x1024 := rfl

/-! ## The blocks at an element -/

section
variable (hO : Ok m) (c : Dev nD) (t : Fin 288)

/-- Two indices of three or four axes with the same coordinates are one. -/
theorem idx_ext {s : Shape} {a b : s.Idx} (h : ∀ k, (a k).val = (b k).val) : a = b := funext fun k => Fin.ext (h k)

/-- The rows a point in use fetches are its tile's. -/
theorem row_ix (h1 : 1 ≤ (nv m).toNat) (h2 : (nv m).toNat < 2 ^ 31) (hu : t.val < (nv m).toNat) :
    cc0_transform_0 inb_S1_S1_0 numel1_S1 (tbl m) (grid0.coords t) = ![t.val, 0] := by
  rw [ix_rows m _ h1 h2, point_val t, Nat.min_eq_left (Nat.le_sub_one_of_lt hu)]

theorem row_ix0 (h1 : 1 ≤ (nv m).toNat) (h2 : (nv m).toNat < 2 ^ 31) (hu : t.val < (nv m).toNat) :
    cc0_transform_0 inb_S1_S1_0 numel1_S1 (tbl m) (grid0.coords t) 0 = t.val := by rw [row_ix m t h1 h2 hu]; rfl
theorem row_ix1 (h1 : 1 ≤ (nv m).toNat) (h2 : (nv m).toNat < 2 ^ 31) (hu : t.val < (nv m).toNat) :
    cc0_transform_0 inb_S1_S1_0 numel1_S1 (tbl m) (grid0.coords t) 1 = 0 := by rw [row_ix m t h1 h2 hu]; rfl

/-- The window's index is the index map's. -/
theorem ixw : ((cfgM m hO).win 0).index t = cc0_transform_0 inb_S1_S1_0 numel1_S1 (tbl m) (grid0.coords t) := rfl

/-- Where the window's block lies in its array. -/
theorem emb0 (r : Fin 256) (k : Fin 1024) (n : Fin 73728)
    (hn : n.val = cc0_transform_0 inb_S1_S1_0 numel1_S1 (tbl m) (grid0.coords t) 0 * 256 + r.val)
    (hk : cc0_transform_0 inb_S1_S1_0 numel1_S1 (tbl m) (grid0.coords t) 1 = 0) :
    ((((cfgM m hO).win 0).blk t).view.emb (ix2 r k : S256x1024.Idx) : S73728x1024.Idx) = ix2 n k := by
  refine idx_ext fun (a : Fin 2) => ?_
  refine (ValueKit.rect_emb_unit_val _ _ _ _ _).trans ?_
  have key : ∀ x z : ℕ, x = cc0_transform_0 inb_S1_S1_0 numel1_S1 (tbl m) (grid0.coords t) 0 → z = 256 → x * z + r.val = n.val := by
    intro x z hx hz; rw [hx, hz, hn]
  match a with
  | 0 => exact key (((cfgM m hO).win 0).index t (0 : Fin 2)) (((cfgM m hO).win 0).size (0 : Fin 2)) (congrFun (ixw m hO t) (0 : Fin 2)) rfl
  | 1 => exact (congrArg (fun z => z * 1024 + k.val) hk).trans (Nat.zero_add _)

theorem rows_blk (h1 : 1 ≤ (nv m).toNat) (h2 : (nv m).toNat < 2 ^ 31) (hu : t.val < (nv m).toNat) (r : Fin 256) (k : Fin 1024) (n : Fin 73728)
    (hn : n.val = t.val * 256 + r.val) :
    (iblk m hO c 0 t : Vec Ideal S256x1024 .f32) (ix2 r k) = argX m c (ix2 n k) := by
  refine Eq.trans (congrArg (V m c main_arg0 : FVec Ideal S73728x1024 .f32) (emb0 m hO t r k n ?_ (row_ix1 m t h1 h2 hu))) (congrFun (V_rows m c) _)
  rw [row_ix0 m t h1 h2 hu, hn]

variable (e : Fin 32) (he : (te m (grid0.coords t 0)).toNat = e.val)
include he

theorem up0_blk (k f : Fin 1024) : (iblk m hO c 1 t : Vec Ideal S1x1x1024x1024 .bf16) (ix4 0 0 k f) = argU m c (ix3 e k ⟨2 * f.val, by omega⟩) := by
  have ei := ix_up0 m (grid0.coords t)
  refine Eq.trans (congrArg (upArr (argU m c)) (a₂ := ix4 e 0 k f) (idx_ext fun (a : Fin 4) => ?_)) (up_even _ _ _ _)
  refine (ValueKit.rect_emb_unit_val _ _ _ _ _).trans ?_
  match a with
  | 0 => exact (congrArg (fun z => z * 1 + 0) (congrFun ei 0)).trans ((Nat.mul_one _).trans he)
  | 1 => exact congrArg (fun z => z * 1 + 0) (congrFun ei 1)
  | 2 => exact (congrArg (fun z => z * 1024 + k.val) (congrFun ei 2)).trans (Nat.zero_add _)
  | 3 => exact (congrArg (fun z => z * 1024 + f.val) (congrFun ei 3)).trans (Nat.zero_add _)

theorem up1_blk (k f : Fin 1024) : (iblk m hO c 2 t : Vec Ideal S1x1x1024x1024 .bf16) (ix4 0 0 k f) = argU m c (ix3 e k ⟨1 + 2 * f.val, by omega⟩) := by
  have ei := ix_up1 m (grid0.coords t)
  refine Eq.trans (congrArg (upArr (argU m c)) (a₂ := ix4 e 1 k f) (idx_ext fun (a : Fin 4) => ?_)) (up_odd _ _ _ _)
  refine (ValueKit.rect_emb_unit_val _ _ _ _ _).trans ?_
  match a with
  | 0 => exact (congrArg (fun z => z * 1 + 0) (congrFun ei 0)).trans ((Nat.mul_one _).trans he)
  | 1 => exact congrArg (fun z => z * 1 + 0) (congrFun ei 1)
  | 2 => exact (congrArg (fun z => z * 1024 + k.val) (congrFun ei 2)).trans (Nat.zero_add _)
  | 3 => exact (congrArg (fun z => z * 1024 + f.val) (congrFun ei 3)).trans (Nat.zero_add _)

theorem b0_blk (f : Fin 1024) : (iblk m hO c 3 t : Vec Ideal S1x1x1x1024 .f32) (ix4 0 0 0 f) = argB m c (ix2 e ⟨2 * f.val, by omega⟩) := by
  have ei := ix_b0 m (grid0.coords t)
  refine Eq.trans (congrArg (biasArr (argB m c)) (a₂ := ix4 e 0 0 f) (idx_ext fun (a : Fin 4) => ?_)) (bias_even _ _ _)
  refine (ValueKit.rect_emb_unit_val _ _ _ _ _).trans ?_
  match a with
  | 0 => exact (congrArg (fun z => z * 1 + 0) (congrFun ei 0)).trans ((Nat.mul_one _).trans he)
  | 1 => exact congrArg (fun z => z * 1 + 0) (congrFun ei 1)
  | 2 => exact congrArg (fun z => z * 1 + 0) (congrFun ei 2)
  | 3 => exact (congrArg (fun z => z * 1024 + f.val) (congrFun ei 3)).trans (Nat.zero_add _)

theorem b1_blk (f : Fin 1024) : (iblk m hO c 4 t : Vec Ideal S1x1x1x1024 .f32) (ix4 0 0 0 f) = argB m c (ix2 e ⟨1 + 2 * f.val, by omega⟩) := by
  have ei := ix_b1 m (grid0.coords t)
  refine Eq.trans (congrArg (biasArr (argB m c)) (a₂ := ix4 e 1 0 f) (idx_ext fun (a : Fin 4) => ?_)) (bias_odd _ _ _)
  refine (ValueKit.rect_emb_unit_val _ _ _ _ _).trans ?_
  match a with
  | 0 => exact (congrArg (fun z => z * 1 + 0) (congrFun ei 0)).trans ((Nat.mul_one _).trans he)
  | 1 => exact congrArg (fun z => z * 1 + 0) (congrFun ei 1)
  | 2 => exact congrArg (fun z => z * 1 + 0) (congrFun ei 2)
  | 3 => exact (congrArg (fun z => z * 1024 + f.val) (congrFun ei 3)).trans (Nat.zero_add _)

theorem dn_blk (f d : Fin 1024) : (iblk m hO c 5 t : Vec Ideal S1x1024x1024 .bf16) (ix3 0 f d) = argD m c (ix3 e f d) := by
  have ei := ix_dn m (grid0.coords t)
  refine Eq.trans (congrArg (truncf .bf16 (argD m c) bitsLt_bf16_f32) (a₂ := ix3 e f d) (idx_ext fun (a : Fin 3) => ?_)) rfl
  refine (ValueKit.rect_emb_unit_val _ _ _ _ _).trans ?_
  match a with
  | 0 => exact (congrArg (fun z => z * 1 + 0) (congrFun ei 0)).trans ((Nat.mul_one _).trans he)
  | 1 => exact (congrArg (fun z => z * 1024 + f.val) (congrFun ei 1)).trans (Nat.zero_add _)
  | 2 => exact (congrArg (fun z => z * 1024 + d.val) (congrFun ei 2)).trans (Nat.zero_add _)

theorem db_blk (d : Fin 1024) : (iblk m hO c 6 t : Vec Ideal S1x1x1024 .f32) (ix3 0 0 d) = argE m c (ix2 e d) := by
  have ei := ix_bd m (grid0.coords t)
  refine Eq.trans (congrArg (shapeCast S32x1x1024 (argE m c) shapeCasts_S32x1024_S32x1x1024) (a₂ := ix3 e 0 d) (idx_ext fun (a : Fin 3) => ?_)) (down_bias _ _ _)
  refine (ValueKit.rect_emb_unit_val _ _ _ _ _).trans ?_
  match a with
  | 0 => exact (congrArg (fun z => z * 1 + 0) (congrFun ei 0)).trans ((Nat.mul_one _).trans he)
  | 1 => exact congrArg (fun z => z * 1 + 0) (congrFun ei 1)
  | 2 => exact (congrArg (fun z => z * 1024 + d.val) (congrFun ei 2)).trans (Nat.zero_add _)

end

/-! ## The output's blocks and its array -/

theorem coord (t : Fin 288) : (grid0.coords t 0 : Fin 288) = t := Fin.ext (point_val t)

/-- What a point leaves in the output's block. -/
theorem outs_at (hO : Ok m) (c : Dev nD) (ht : ∀ t, (te m t).toNat < 32) (h1 : 1 ≤ (nv m).toNat) (h2 : (nv m).toNat < 2 ^ 31) (t : Fin 288)
    (r : Fin 256) (d : Fin 1024) :
    (outs m hO c t : FVec Ideal S256x1024 .f32) (ix2 r d)
      = if t.val < (nv m).toNat then Cert.Experts.network (argX m c) (argU m c) (argB m c) (argD m c) (argE m c) ⟨t.val * 256 + r.val, by omega⟩ ⟨(te m t).toNat, ht t⟩ d
        else Ideal.ofBits .f32 0x00000000#32 := by
  have hc := cond_iff (grid0.coords t) (nv m) h2
  rw [point_val t] at hc
  unfold outs left
  rw [valid_eq]
  by_cases hu : t.val < (nv m).toNat
  · rw [if_pos (hc.mpr hu), if_pos hu]
    have he : (te m (grid0.coords t 0)).toNat = (⟨(te m t).toNat, ht t⟩ : Fin 32).val := congrArg (fun z => (te m z).toNat) (coord t)
    exact product_at _ _ _ _ _ _ _ r d (argX m c) (argU m c) (argB m c) (argD m c) (argE m c) _ _ (fun k => rows_blk m hO c t h1 h2 hu r k _ rfl)
      (up0_blk m hO c t _ he) (up1_blk m hO c t _ he) (b0_blk m hO c t _ he) (b1_blk m hO c t _ he)
      (fun f => dn_blk m hO c t _ he f d) (db_blk m hO c t _ he d)
  · rw [if_neg (fun h => hu (hc.mp h)), if_neg hu]
    exact zero_at r d

theorem idx2 (y : S256x1024.Idx) : ∃ (r : Fin 256) (d : Fin 1024), y = ix2 r d :=
  ⟨y 0, y 1, funext fun (a : Fin 2) => match a with | 0 => rfl | 1 => rfl⟩

theorem ix_out (t : Fin 288) : cc0_transform_7 (grid0.coords t) = ![t.val, 0] :=
  congrArg (fun w : ℕ => (![w, 0] : Fin 2 → Nat)) ((step_nat (grid0.coords t)).trans (point_val t))

/-- Every point writes its block back. -/
theorem flushes (hO : Ok m) (t : Fin 288) : ((cfgM m hO).win 7).flush t = true := by
  by_cases h : t.val + 1 = 288
  · have : (t.val + 1 = grid0.N) := h
    simp only [Pipeline.Window.flush, Bool.and_eq_true, Bool.or_eq_true, decide_eq_true_eq]
    exact ⟨rfl, .inl this⟩
  · have hlt : t.val + 1 < 288 := by omega
    simp only [Pipeline.Window.flush, Bool.and_eq_true, Bool.or_eq_true, decide_eq_true_eq]
    refine ⟨rfl, .inr ⟨hlt, fun he => ?_⟩⟩
    have h0 : cc0_transform_7 (grid0.coords (⟨t.val + 1, hlt⟩ : Fin 288)) 0 = cc0_transform_7 (grid0.coords t) 0 := congrFun he (0 : Fin 2)
    rw [ix_out, ix_out] at h0
    have h0' : t.val + 1 = t.val := h0
    exact absurd h0' (by simp)

theorem ixw7 (hO : Ok m) (t : Fin 288) : ((cfgM m hO).win 7).index t = cc0_transform_7 (grid0.coords t) := rfl

/-- Where the output's block lies in its array. -/
theorem emb7 (hO : Ok m) (t : Fin 288) (r : Fin 256) (d : Fin 1024) :
    ((((cfgM m hO).win 7).blk t).view.emb (ix2 r d : S256x1024.Idx) : S73728x1024.Idx) = ix2 ⟨t.val * 256 + r.val, by omega⟩ d := by
  refine idx_ext fun (a : Fin 2) => ?_
  refine (ValueKit.rect_emb_unit_val _ _ _ _ _).trans ?_
  have e := (ixw7 m hO t).trans (ix_out t)
  have key : ∀ x z : ℕ, x = t.val → z = 256 → x * z + r.val = t.val * 256 + r.val := by
    intro x z hx hz; rw [hx, hz]
  have key1 : ∀ x z : ℕ, x = 0 → x * z + d.val = d.val := by
    intro x z hx; rw [hx, Nat.zero_mul, Nat.zero_add]
  match a with
  | 0 => exact key (((cfgM m hO).win 7).index t (0 : Fin 2)) (((cfgM m hO).win 7).size (0 : Fin 2)) (congrFun e (0 : Fin 2)) rfl
  | 1 => exact key1 (((cfgM m hO).win 7).index t (1 : Fin 2)) (((cfgM m hO).win 7).size (1 : Fin 2)) (congrFun e (1 : Fin 2))

/-- Every element of the array lies in the block its tile's point writes. -/
theorem covered (hO : Ok m) (i : S73728x1024.Idx) :
    ∃ t : Fin 288, ((cfgM m hO).win 7).flush t = true ∧ i ∈ (((cfgM m hO).win 7).blk t).view.set := by
  have hi0 : (i 0).val < 73728 := (i 0).isLt
  have hi1 : (i 1).val < 1024 := (i 1).isLt
  have hl : (i 0).val / 256 < 288 := by omega
  refine ⟨⟨_, hl⟩, flushes m hO _, ?_⟩
  have e := (ixw7 m hO ⟨_, hl⟩).trans (ix_out ⟨_, hl⟩)
  have k0 : ∀ x z y : ℕ, x = (i 0).val / 256 → z = 256 → y = 256 → x * z ≤ (i 0).val ∧ (i 0).val < x * z + y := by
    intro x z y hx hz hy; subst hx hz hy; omega
  have k1 : ∀ x z y : ℕ, x = 0 → y = 1024 → x * z ≤ (i 1).val ∧ (i 1).val < x * z + y := by
    intro x z y hx hy; subst hx hy; rw [Nat.zero_mul]; omega
  refine (((cfgM m hO).win 7).emb_mem_blk_iff (⟨_, hl⟩ : Fin 288) i rfl).mpr fun (a : Fin 2) => ?_
  match a with
  | 0 => exact k0 _ _ _ (congrFun e (0 : Fin 2)) rfl rfl
  | 1 => exact k1 _ _ _ (congrFun e (1 : Fin 2)) rfl

set_option maxHeartbeats 2000000 in
/-- The output's contents after a point are what the point leaves. -/
theorem after7 (hO : Ok m) (c : Dev nD) (t : Fin (cfgM m hO).N) : (dats m hO 0 c).after 7 t = outs m hO c t := by dsimp only [dats]; rfl

/-- What a point leaves at an element is what the whole result has where the block places it. -/
theorem block_eq (hO : Ok m) (c : Dev nD) (ht : ∀ t, (te m t).toNat < 32) (h1 : 1 ≤ (nv m).toNat) (h2 : (nv m).toNat < 2 ^ 31) (t : Fin 288)
    (y : S256x1024.Idx) :
    (outs m hO c t : FVec Ideal S256x1024 .f32) y
      = Cert.Experts.result (argX m c) (argU m c) (argB m c) (argD m c) (argE m c) (fun t => ⟨(te m t).toNat, ht t⟩) (nv m).toNat
          ((((cfgM m hO).win 7).blk t).view.emb y) := by
  obtain ⟨r, d, rfl⟩ := idx2 y
  have h := (outs_at m hO c ht h1 h2 t r d).trans (Cert.Experts.result_at _ _ _ _ _ (fun t => ⟨(te m t).toNat, ht t⟩) _ t r d).symm
  have g := congrArg (Cert.Experts.result (argX m c) (argU m c) (argB m c) (argD m c) (argE m c) (fun t => ⟨(te m t).toNat, ht t⟩) (nv m).toNat) (emb7 m hO t r d)
  exact h.trans g.symm

/-- The array after the run. -/
theorem final (hO : Ok m) (c : Dev nD) (ht : ∀ t, (te m t).toNat < 32) (h1 : 1 ≤ (nv m).toNat) (h2 : (nv m).toNat < 2 ^ 31) :
    (dats m hO 0 c).arrAt 7 (cfgM m hO).N
      = Cert.Experts.result (argX m c) (argU m c) (argB m c) (argD m c) (argE m c) (fun t => ⟨(te m t).toNat, ht t⟩) (nv m).toNat := by
  have hb := block_eq m hO c ht h1 h2
  generalize Cert.Experts.result (argX m c) (argU m c) (argB m c) (argD m c) (argE m c) (fun t => ⟨(te m t).toNat, ht t⟩) (nv m).toNat = G at hb ⊢
  exact (dats m hO 0 c).arrAt_eq_of_emb 7 G (fun t _ y => (congrFun (after7 m hO c t) y).trans (hb t y)) (covered m hO)

end Cert.KernelEIdeal.Own

end
-- ==== Proof.ExpertsRef.lean ====
/-
  The experts' reference at one element: the gathered weights are the weights of the tile's expert.
-/
module

public import proofs.«01_k».proof.Proof.ExpertsMath
public import proofs.«01_k».proof.Proof.Gen.ReferenceEIdeal
public import proofs.«01_k».proof.Proof.Gen.ReferenceEIdeal.Run
public import Idealize.ShloMosaic.Lib.Routing.Ops
public import Idealize.ShloMosaic.Lib.WordCmp

@[expose] public section

set_option maxRecDepth 16384

noncomputable section

namespace Cert.ReferenceEIdeal.Own

open Idealize.ShloMosaic Idealize.ShloMosaic.TcCoe Idealize.SL.Sem
open Cert.ReferenceEIdeal Cert.ReferenceEIdeal.Gen
open Cert.Experts (act)

/-! ## The reference's stages -/

/-- The rows the gathers read. -/
def rows (te : IVec S288 32) : IVec S288x1 32 :=
  broadcastInDim S288x1 ![0] bcast_S288_S288x1_0 (select (cmpi .slt te (broadcastInDim S288 ![] bcast_S_S288 (constantI S_ 32 0#32)))
    (addi te (broadcastInDim S288 ![] bcast_S_S288 (constantI S_ 32 32#32))) te)

/-- The upward product with its bias. -/
def up (x : FVec Ideal S73728x1024 .f32) (te : IVec S288 32) (w : FVec Ideal S32x1024x2048 .f32) (b : FVec Ideal S32x2048 .f32) :
    FVec Ideal S288x256x2048 .f32 :=
  addf (Host.dotGeneral dot_S288x256x1024_S288x1024x2048_S288x256x2048_2_1_1_2_0_0 none (shapeCast _ x shapeCasts_S73728x1024_S288x256x1024)
      (Host.gather gather_S32x1024x2048_S288x1_S288x1024x2048_12_0_n_n_0_1_110242048 w (rows te)))
    (broadcastInDim S288x256x2048 ![0, 1, 2] bcast_S288x1x2048_S288x256x2048_0_1_2 (broadcastInDim S288x1x2048 ![0, 2] bcast_S288x2048_S288x1x2048_0_2
      (Host.gather gather_S32x2048_S288x1_S288x2048_1_0_n_n_0_1_12048 b (rows te))))

/-- The gates, cut. -/
def gates (u : FVec Ideal S288x256x2048 .f32) : FVec Ideal S288x256x1024 .f32 :=
  minimumf (Host.slice S288x256x1024 ![0, 0, 0] ![1, 1, 2] u slicesBy_S288x256x2048_S288x256x1024_0s1_0s1_0s2)
    (broadcastInDim S288x256x1024 ![] bcast_S_S288x256x1024 (constant S_ .f32 0x40E00000#32))

/-- The activations. -/
def acts (u : FVec Ideal S288x256x2048 .f32) : FVec Ideal S288x256x1024 .f32 :=
  mulf (mulf (gates u) (Host.divf (broadcastInDim S288x256x1024 ![] bcast_S_S288x256x1024 (constant S_ .f32 0x3F800000#32))
      (addf (broadcastInDim S288x256x1024 ![] bcast_S_S288x256x1024 (constant S_ .f32 0x3F800000#32))
        (Host.exp (Host.negf (mulf (broadcastInDim S288x256x1024 ![] bcast_S_S288x256x1024 (constant S_ .f32 0x3FD9DB23#32)) (gates u)))))))
    (addf (minimumf (broadcastInDim S288x256x1024 ![] bcast_S_S288x256x1024 (id (constant S_ .f32 0x40E00000#32)))
        (maximumf (broadcastInDim S288x256x1024 ![] bcast_S_S288x256x1024 (id (constant S_ .f32 0xC0E00000#32)))
          (Host.slice S288x256x1024 ![0, 0, 1] ![1, 1, 2] u slicesBy_S288x256x2048_S288x256x1024_0s1_0s1_1s2)))
      (broadcastInDim S288x256x1024 ![] bcast_S_S288x256x1024 (constant S_ .f32 0x3F800000#32)))

/-- The downward product with its bias. -/
def down (a : FVec Ideal S288x256x1024 .f32) (te : IVec S288 32) (w : FVec Ideal S32x1024x1024 .f32) (b : FVec Ideal S32x1024 .f32) :
    FVec Ideal S288x256x1024 .f32 :=
  addf (Host.dotGeneral dot_S288x256x1024_S288x1024x1024_S288x256x1024_2_1_1_2_0_0 none a
      (Host.gather gather_S32x1024x1024_S288x1_S288x1024x1024_12_0_n_n_0_1_110241024 w (rows te)))
    (broadcastInDim S288x256x1024 ![0, 1, 2] bcast_S288x1x1024_S288x256x1024_0_1_2 (broadcastInDim S288x1x1024 ![0, 2] bcast_S288x1024_S288x1x1024_0_2
      (Host.gather gather_S32x1024_S288x1_S288x1024_1_0_n_n_0_1_11024 b (rows te))))

/-- The tiles out of use set to zero. -/
def masked (nv : IVec S1 32) (y : FVec Ideal S288x256x1024 .f32) : FVec Ideal S288x256x1024 .f32 :=
  select (broadcastInDim S288x256x1024 ![0, 1, 2] bcast_S288x1x1_S288x256x1024_0_1_2 (broadcastInDim S288x1x1 ![0] bcast_S288_S288x1x1_0
      (cmpi .slt (iotaInDim S288 32 0) (broadcastInDim S288 ![] bcast_S_S288 (shapeCast _ nv shapeCasts_S1_S_)))))
    y (broadcastInDim S288x256x1024 ![] bcast_S_S288x256x1024 (id (constant S_ .f32 0x00000000#32)))

theorem result_eq (m : (ℓ : Loc nD τ sig) → Buf (Elt Ideal) ℓ) (c : Dev nD) :
    Cert.ReferenceEIdeal.Value.res_main_v60 m c = shapeCast _ (masked (m ((c.tc : Thread nD τ).loc main_arg2))
      (down (acts (up (m ((c.tc : Thread nD τ).loc main_arg0)) (m ((c.tc : Thread nD τ).loc main_arg1)) (m ((c.tc : Thread nD τ).loc main_arg3)) (m ((c.tc : Thread nD τ).loc main_arg4))))
        (m ((c.tc : Thread nD τ).loc main_arg1)) (m ((c.tc : Thread nD τ).loc main_arg5)) (m ((c.tc : Thread nD τ).loc main_arg6))))
      shapeCasts_S288x256x1024_S73728x1024 := rfl

/-! ## At an element -/

theorem acts_at (u : FVec Ideal S288x256x2048 .f32) (t : Fin 288) (r : Fin 256) (f : Fin 1024) :
    acts u (ix3 t r f) = act (u (ix3 t r ⟨2 * f.val, by omega⟩)) (u (ix3 t r ⟨1 + 2 * f.val, by omega⟩)) := by
  unfold act Cert.Experts.gated Cert.Experts.gate Cert.Experts.lin
  pointwise [acts, gates]
  rfl

/-- An expert's number isn't negative, so no gather wraps it. -/
theorem rows_at (te : IVec S288 32) (t : Fin 288) (h : (te (ix1 t)).toNat < 32) : rows te (ix2 t (0 : Fin 1)) = te (ix1 t) := by
  have e : IntOp.cmpi .slt (te (ix1 t)) 0#32 = 0#1 := by
    have k : ¬ (te (ix1 t)).toInt < (0#32).toInt := by rw [BitVec.toInt_eq_toNat_of_lt (by omega)]; simp
    show BitVec.ofBool (decide ((te (ix1 t)).toInt < (0#32).toInt)) = 0#1
    rw [decide_eq_false k]; rfl
  pointwise [rows]
  rw [e]; rfl

/-- A tile is in use when its number is below the count. -/
theorem masked_at (nv : IVec S1 32) (y : FVec Ideal S288x256x1024 .f32) (t : Fin 288) (r : Fin 256) (d : Fin 1024) (h : (nv (ix1 0)).toNat < 2 ^ 31) :
    masked nv y (ix3 t r d) = if t.val < (nv (ix1 0)).toNat then y (ix3 t r d) else Ideal.ofBits .f32 0x00000000#32 := by
  have e : IntOp.cmpi .slt (BitVec.ofNat 32 t.val) (nv (ix1 0)) = BitVec.ofBool (decide (t.val < (nv (ix1 0)).toNat)) := by
    have := t.isLt
    have k : (BitVec.ofNat 32 t.val).toInt = t.val := by
      rw [BitVec.toInt_eq_toNat_of_lt (by rw [BitVec.toNat_ofNat, Nat.mod_eq_of_lt (by omega)]; omega), BitVec.toNat_ofNat, Nat.mod_eq_of_lt (by omega)]
    show BitVec.ofBool (decide ((BitVec.ofNat 32 t.val).toInt < (nv (ix1 0)).toInt)) = _
    rw [k, BitVec.toInt_eq_toNat_of_lt (by omega)]
    simp
  have p : masked nv y (ix3 t r d) = Scalar.select (IntOp.cmpi .slt (BitVec.ofNat 32 t.val) (nv (ix1 0))) (y (ix3 t r d)) (Ideal.ofBits .f32 0x00000000#32) := by
    pointwise [masked]
    exact congrArg _ Ideal.ofBits_zero_f32
  rw [p, e]
  by_cases hl : t.val < (nv (ix1 0)).toNat
  · rw [decide_eq_true hl, if_pos hl]; rfl
  · rw [decide_eq_false hl, if_neg hl]; rfl

/-- `table[idx]` over the leading axis of a rank-three table, where `idx` names a row of it. -/
theorem gather_slab {α : Type} {N A B n : ℕ} (d : GatherDims ⟨3, ![N, A, B]⟩ ⟨2, ![n, 1]⟩ ⟨3, ![n, A, B]⟩) (hoff : d.offsetDims = [1, 2])
    (hcoll : d.collapsedSliceDims = [0]) (hob : d.operandBatchingDims = []) (hsim : d.startIndexMap = [0]) (hivd : d.indexVectorDim = 1)
    (x : (⟨3, ![N, A, B]⟩ : Shape).Idx → α) (idx : IVec ⟨2, ![n, 1]⟩ 32) (t : Fin n) (p : Fin A) (q : Fin B) (e : Fin N)
    (he : (idx (ix2 t (0 : Fin 1))).toInt = e.val) : Host.gather d x idx (ix3 t p q) = x (ix3 e p q) := by
  obtain ⟨od, cd, ob, sb, sm, iv, ss, wf⟩ := d
  subst hoff hcoll hob hsim hivd
  unfold Host.gather
  refine congrArg x (funext fun a => Fin.ext ?_)
  have s0 : ss 0 = 1 := GatherDims.slice_collapsed ⟨[1, 2], [0], [], sb, [0], 1, ss, wf⟩ 0 (List.mem_singleton.2 rfl)
  let D : GatherDims ⟨3, ![N, A, B]⟩ ⟨2, ![n, 1]⟩ ⟨3, ![n, A, B]⟩ := ⟨[1, 2], [0], [], sb, [0], 1, ss, wf⟩
  show D.start (ix3 t p q) idx a + D.batchCoord (ix3 t p q) a + D.offCoord (ix3 t p q) a = _
  rw [GatherDims.batchCoord_eq_zero D _ _ List.not_mem_nil, Nat.add_zero]
  match a with
  | ⟨0, _⟩ =>
    show D.start (ix3 t p q) idx 0 + D.offCoord (ix3 t p q) 0 = e.val
    rw [GatherDims.offCoord_eq_zero D _ _ (fun h => ((GatherDims.mem_sKept D _).mp h).1 (List.mem_singleton.mpr rfl)), Nat.add_zero]
    unfold GatherDims.start
    rw [dif_pos (show (0 : Fin 3) ∈ D.startIndexMap from List.mem_singleton.mpr rfl)]
    have hsi : D.siIdx (ix3 t p q) ⟨List.idxOf (0 : Fin 3) D.startIndexMap, List.idxOf_lt_length_iff.2 (List.mem_singleton.mpr rfl)⟩ = ix2 t (0 : Fin 1) := by
      funext b
      refine Fin.ext ?_
      match b with
      | ⟨0, _⟩ => rfl
      | ⟨1, _⟩ => rfl
    rw [hsi, he]
    have := e.isLt
    show min ((e.val : ℤ)).toNat (N - ss 0) = e.val
    rw [s0]
    omega
  | ⟨1, _⟩ =>
    show D.start (ix3 t p q) idx 1 + D.offCoord (ix3 t p q) 1 = p.val
    unfold GatherDims.start
    rw [dif_neg (show ¬ (1 : Fin 3) ∈ D.startIndexMap from fun h => absurd (congrArg Fin.val (List.mem_singleton.mp h)) (show ¬ (1 : ℕ) = 0 by decide)), Nat.zero_add]
    rfl
  | ⟨2, _⟩ =>
    show D.start (ix3 t p q) idx 2 + D.offCoord (ix3 t p q) 2 = q.val
    unfold GatherDims.start
    rw [dif_neg (show ¬ (2 : Fin 3) ∈ D.startIndexMap from fun h => absurd (congrArg Fin.val (List.mem_singleton.mp h)) (show ¬ (2 : ℕ) = 0 by decide)), Nat.zero_add]
    rfl

/-- The gathered weights and biases are those of the tile's expert. -/
theorem up_at (x : FVec Ideal S73728x1024 .f32) (te : IVec S288 32) (w : FVec Ideal S32x1024x2048 .f32) (b : FVec Ideal S32x2048 .f32)
    (t : Fin 288) (r : Fin 256) (f : Fin 2048) (h : (te (ix1 t)).toNat < 32) :
    up x te w b (ix3 t r f) = (∑ k : Fin 1024, x (ix2 ⟨t.val * 256 + r.val, by omega⟩ k) * w (ix3 ⟨(te (ix1 t)).toNat, h⟩ k f))
      + b (ix2 ⟨(te (ix1 t)).toNat, h⟩ f) := by
  have hr := rows_at te t h
  have hi : (rows te (ix2 t (0 : Fin 1))).toInt = (⟨(te (ix1 t)).toNat, h⟩ : Fin 32).val := by
    rw [hr, BitVec.toInt_eq_toNat_of_lt (by omega)]
  have gw := fun k => gather_slab gather_S32x1024x2048_S288x1_S288x1024x2048_12_0_n_n_0_1_110242048 rfl rfl rfl rfl rfl w (rows te) t k f _ hi
  have gb : Host.gather gather_S32x2048_S288x1_S288x2048_1_0_n_n_0_1_12048 b (rows te) (ix2 t f) = b (ix2 ⟨(te (ix1 t)).toNat, h⟩ f) :=
    Routing.gather_row _ rfl rfl rfl rfl rfl b (rows te) t f ⟨(te (ix1 t)).toNat, h⟩ (hr.trans (by simp)) (by norm_num)
  have s : up x te w b (ix3 t r f) = (∑ k : Fin 1024, x (ix2 ⟨t.val * 256 + r.val, by omega⟩ k)
      * Host.gather gather_S32x1024x2048_S288x1_S288x1024x2048_12_0_n_n_0_1_110242048 w (rows te) (ix3 t k f))
      + Host.gather gather_S32x2048_S288x1_S288x2048_1_0_n_n_0_1_12048 b (rows te) (ix2 t f) := by
    unfold up
    generalize Host.gather gather_S32x1024x2048_S288x1_S288x1024x2048_12_0_n_n_0_1_110242048 w (rows te) = G
    generalize Host.gather gather_S32x2048_S288x1_S288x2048_1_0_n_n_0_1_12048 b (rows te) = H
    pointwise []
  rw [s, gb]
  simp only [gw]

theorem down_at (a : FVec Ideal S288x256x1024 .f32) (te : IVec S288 32) (w : FVec Ideal S32x1024x1024 .f32) (b : FVec Ideal S32x1024 .f32)
    (t : Fin 288) (r : Fin 256) (d : Fin 1024) (h : (te (ix1 t)).toNat < 32) :
    down a te w b (ix3 t r d) = (∑ k : Fin 1024, a (ix3 t r k) * w (ix3 ⟨(te (ix1 t)).toNat, h⟩ k d))
      + b (ix2 ⟨(te (ix1 t)).toNat, h⟩ d) := by
  have hr := rows_at te t h
  have hi : (rows te (ix2 t (0 : Fin 1))).toInt = (⟨(te (ix1 t)).toNat, h⟩ : Fin 32).val := by
    rw [hr, BitVec.toInt_eq_toNat_of_lt (by omega)]
  have gw := fun k => gather_slab gather_S32x1024x1024_S288x1_S288x1024x1024_12_0_n_n_0_1_110241024 rfl rfl rfl rfl rfl w (rows te) t k d _ hi
  have gb : Host.gather gather_S32x1024_S288x1_S288x1024_1_0_n_n_0_1_11024 b (rows te) (ix2 t d) = b (ix2 ⟨(te (ix1 t)).toNat, h⟩ d) :=
    Routing.gather_row _ rfl rfl rfl rfl rfl b (rows te) t d ⟨(te (ix1 t)).toNat, h⟩ (hr.trans (by simp)) (by norm_num)
  have s : down a te w b (ix3 t r d) = (∑ k : Fin 1024, a (ix3 t r k)
      * Host.gather gather_S32x1024x1024_S288x1_S288x1024x1024_12_0_n_n_0_1_110241024 w (rows te) (ix3 t k d))
      + Host.gather gather_S32x1024_S288x1_S288x1024_1_0_n_n_0_1_11024 b (rows te) (ix2 t d) := by
    unfold down
    generalize Host.gather gather_S32x1024x1024_S288x1_S288x1024x1024_12_0_n_n_0_1_110241024 w (rows te) = G
    generalize Host.gather gather_S32x1024_S288x1_S288x1024_1_0_n_n_0_1_11024 b (rows te) = H
    pointwise []
  rw [s, gb]
  simp only [gw]

/-! ## The whole result -/

theorem flat_at (y : FVec Ideal S288x256x1024 .f32) (t : Fin 288) (r : Fin 256) (d : Fin 1024) :
    shapeCast S73728x1024 y shapeCasts_S288x256x1024_S73728x1024 (ix2 ⟨t.val * 256 + r.val, by omega⟩ d) = y (ix3 t r d) := by
  pointwise []

/-- A row is given by its tile and its place in the tile. -/
theorem idx_split (i : S73728x1024.Idx) : ∃ (t : Fin 288) (r : Fin 256) (d : Fin 1024), i = ix2 ⟨t.val * 256 + r.val, by omega⟩ d := by
  have h : (i 0).val < 73728 := (i 0).isLt
  refine ⟨⟨(i 0).val / 256, by omega⟩, ⟨(i 0).val % 256, Nat.mod_lt _ (by decide)⟩, i 1, funext fun (a : Fin 2) => ?_⟩
  match a with
  | 0 => exact Fin.ext (show (i 0).val = (i 0).val / 256 * 256 + (i 0).val % 256 by omega)
  | 1 => rfl

/-- The reference's stages together are the experts' networks on the tiles in use and zero elsewhere. -/
theorem stages_eq (x : FVec Ideal S73728x1024 .f32) (te : IVec S288 32) (nv : IVec S1 32) (w : FVec Ideal S32x1024x2048 .f32) (b : FVec Ideal S32x2048 .f32)
    (wd : FVec Ideal S32x1024x1024 .f32) (bd : FVec Ideal S32x1024 .f32) (ht : ∀ t : Fin 288, (te (ix1 t)).toNat < 32) (h2 : (nv (ix1 0)).toNat < 2 ^ 31) :
    shapeCast S73728x1024 (masked nv (down (acts (up x te w b)) te wd bd)) shapeCasts_S288x256x1024_S73728x1024
      = Cert.Experts.result x w b wd bd (fun t => ⟨(te (ix1 t)).toNat, ht t⟩) (nv (ix1 0)).toNat := by
  funext i
  obtain ⟨t, r, d, rfl⟩ := idx_split i
  refine (flat_at _ t r d).trans ((masked_at nv _ t r d (by omega)).trans ?_)
  refine Eq.trans ?_ (Cert.Experts.result_at x w b wd bd _ _ t r d).symm
  by_cases hu : t.val < (nv (ix1 0)).toNat
  · rw [if_pos hu, if_pos hu, down_at _ te wd bd t r d (ht t)]
    unfold Cert.Experts.network Cert.Experts.upward
    simp only [acts_at, up_at x te w b t r _ (ht t)]
  · rw [if_neg hu, if_neg hu]

end Cert.ReferenceEIdeal.Own

end
-- ==== Proof.Experts.lean ====
/-
  The experts' claims: both kernels and the reference run and leave their arguments as they were, and kernel and reference agree.
-/
module

public import proofs.«01_k».proof.Proof.ExpertsEnd
public import proofs.«01_k».proof.Proof.ExpertsOk
public import proofs.«01_k».proof.Proof.ExpertsIdealEnd
public import proofs.«01_k».proof.Proof.ExpertsIdealValue
public import proofs.«01_k».proof.Proof.ExpertsRef
public import Idealize.ShloMosaic.Lib.Claim

@[expose] public section

set_option maxRecDepth 8192

noncomputable section

namespace Cert.Experts

open Idealize.ShloMosaic Idealize.ShloMosaic.TcCoe Idealize.SL.Sem

theorem kernel_frame : Cert.quiescent_KernelE (hKernelE := Cert.KernelE.Gen.facts) (hPre_tables := Cert.Pre_tables.Gen.facts) := by
  intro m g h
  obtain ⟨ht, h1, h2⟩ := Cert.KernelE.Own.tables_of m 0 (h 0)
  exact (θ_run _ _ _).mono (fun r h => ⟨fun c => (h.1 c).2, h.2⟩) (Cert.KernelE.Own.ends m g (Cert.KernelE.Own.ok_of m ht h1 h2))

theorem ideal_frame : Cert.quiescent_KernelEIdeal (hKernelEIdeal := Cert.KernelEIdeal.Gen.facts) (hPre_tables := Cert.Pre_tables.Gen.facts) := by
  intro m g h
  obtain ⟨ht, h1, h2⟩ := Cert.KernelEIdeal.Own.tables_of m 0 (h 0)
  exact (θ_run _ _ _).mono (fun r h => ⟨fun c => (h.1 c).2, h.2⟩) (Cert.KernelEIdeal.Own.ends m g (Cert.KernelEIdeal.Own.ok_of m ht h1 h2))

theorem reference_frame : Cert.quiescent_ReferenceEIdeal (hReferenceEIdeal := Cert.ReferenceEIdeal.Gen.facts) := by
  intro m g _
  exact (θ_run _ _ _).mono (fun r h => ⟨fun c => (h c).2, sem_eq_zero_of_no_sems rfl _⟩) (Cert.ReferenceEIdeal.Value.run m g)

/-- The array the kernel leaves, as the reference's stages of the launched arrays. -/
theorem results_eq (m : (ℓ : Loc Cert.KernelEIdeal.nD Cert.KernelEIdeal.τ Cert.KernelEIdeal.sig) → Buf (Elt Ideal) ℓ) (hO : Cert.KernelEIdeal.Own.Ok m)
    (c : Dev Cert.KernelEIdeal.nD) (ht : ∀ t, (Cert.KernelEIdeal.Own.te m t).toNat < 32) (h1 : 1 ≤ (Cert.KernelEIdeal.Own.nv m).toNat)
    (h2 : (Cert.KernelEIdeal.Own.nv m).toNat < 2 ^ 31) (x : FVec Ideal Cert.ReferenceEIdeal.S73728x1024 .f32) (te : IVec Cert.ReferenceEIdeal.S288 32)
    (nv : IVec Cert.ReferenceEIdeal.S1 32) (w : FVec Ideal Cert.ReferenceEIdeal.S32x1024x2048 .f32) (b : FVec Ideal Cert.ReferenceEIdeal.S32x2048 .f32)
    (wd : FVec Ideal Cert.ReferenceEIdeal.S32x1024x1024 .f32) (bd : FVec Ideal Cert.ReferenceEIdeal.S32x1024 .f32)
    (e0 : x = m (c.tc.loc Cert.KernelEIdeal.main_arg0)) (e1 : te = m (c.tc.loc Cert.KernelEIdeal.main_arg1)) (e2 : nv = m (c.tc.loc Cert.KernelEIdeal.main_arg2))
    (e3 : w = m (c.tc.loc Cert.KernelEIdeal.main_arg3)) (e4 : b = m (c.tc.loc Cert.KernelEIdeal.main_arg4)) (e5 : wd = m (c.tc.loc Cert.KernelEIdeal.main_arg5))
    (e6 : bd = m (c.tc.loc Cert.KernelEIdeal.main_arg6)) :
    (Cert.KernelEIdeal.Own.dats m hO 0 c).arrAt 7 (Cert.KernelEIdeal.Own.cfgM m hO).N
      = shapeCast Cert.ReferenceEIdeal.S73728x1024 (Cert.ReferenceEIdeal.Own.masked nv (Cert.ReferenceEIdeal.Own.down
          (Cert.ReferenceEIdeal.Own.acts (Cert.ReferenceEIdeal.Own.up x te w b)) te wd bd)) Cert.ReferenceEIdeal.Gen.facts.shapeCasts_S288x256x1024_S73728x1024 := by
  obtain rfl : c = 0 := Subsingleton.elim _ _
  subst e0 e1 e2 e3 e4 e5 e6
  exact (Cert.KernelEIdeal.Own.final m hO 0 ht h1 h2).trans (Cert.ReferenceEIdeal.Own.stages_eq _ _ _ _ _ _ _ ht h2).symm

/-- The two programs agree. -/
theorem agree : Cert.algebraic_KernelEIdeal_ReferenceEIdeal (hKernelEIdeal := Cert.KernelEIdeal.Gen.facts) (hReferenceEIdeal := Cert.ReferenceEIdeal.Gen.facts)
    (hPre_tables := Cert.Pre_tables.Gen.facts) := by
  intro m g m' g' hpre hagree
  obtain ⟨ht, h1, h2⟩ := Cert.KernelEIdeal.Own.tables_of m 0 (hpre 0)
  have hO := Cert.KernelEIdeal.Own.ok_of m ht h1 h2
  refine ⟨fun c => (Cert.KernelEIdeal.Own.dats m hO 0 c).arrAt 7 (Cert.KernelEIdeal.Own.cfgM m hO).N, ?_, ?_⟩
  · exact (θ_run _ _ _).mono (fun r h c => h.1 c) (Cert.KernelEIdeal.Own.ends m g hO)
  · refine (θ_run _ _ _).mono (fun r h c => ⟨(h c).1.trans ?_, (h c).2⟩) (Cert.ReferenceEIdeal.Value.run m' g')
    obtain ⟨e0, e1, e2, e3, e4, e5, e6⟩ := hagree c
    exact (Cert.ReferenceEIdeal.Own.result_eq m' c).trans (results_eq m hO c ht h1 h2 _ _ _ _ _ _ _ e0 e1 e2 e3 e4 e5 e6).symm

end Cert.Experts

end
-- ==== Proof.ProjV.lean ====
/-
  The values' projection, in two precisions: every block of the results is the block of the product of the activations with
  the values' columns of the weights.
-/
module

public import proofs.«01_k».proof.Defs
public import proofs.«01_k».proof.Proof.Columns
public import proofs.«01_k».proof.Proof.Gen.KernelV
public import proofs.«01_k».proof.Proof.Gen.KernelV.Frame
public import proofs.«01_k».proof.Proof.Gen.KernelVIdeal
public import proofs.«01_k».proof.Proof.Gen.KernelVIdeal.Frame
public import proofs.«01_k».proof.Proof.Gen.KernelVIdeal.Value
public import proofs.«01_k».proof.Proof.Gen.ReferenceVIdeal
public import proofs.«01_k».proof.Proof.Gen.ReferenceVIdeal.Run

@[expose] public section

set_option maxRecDepth 16384

noncomputable section

namespace Cert.KernelVIdeal.Own

open Idealize.ShloMosaic Idealize.ShloMosaic.TcCoe Idealize.SL.Sem
open Cert.KernelVIdeal Cert.KernelVIdeal.Gen Cert.Projection

variable (m : (ℓ : Loc nD τ sig) → Buf (Elt Ideal) ℓ)

theorem idx : ∀ t : Fin cfg0.N, win0_0.index t = ![t.val % 32, 0] ∧ win0_1.index t = ![0, t.val / 32 + 2]
    ∧ win0_2.index t = ![t.val % 32, t.val / 32] ∧ win0_3.index t = ![t.val % 32, t.val / 32] :=
  (by decide +kernel : ∀ t : Fin grid0.N, _)

/-- What the body computes of a block of activations and the weights it holds. -/
theorem wide_at (x : Vec Ideal S512x1024 .bf16) (w : Vec Ideal S1024x1024 .bf16) (r : Fin 512) (d : Fin 1024) :
    k0_pay2 x w (ix2 r d) = ∑ k : Fin 1024, x (ix2 r k) * w (ix2 k d) := by
  pointwise [k0_pay2]

theorem narrow_at (x : Vec Ideal S512x1024 .bf16) (w : Vec Ideal S1024x1024 .bf16) (r : Fin 512) (d : Fin 1024) :
    k0_pay3 x w (ix2 r d) = ∑ k : Fin 1024, x (ix2 r k) * w (ix2 k d) := by
  pointwise [k0_pay3, k0_pay2]

theorem rounded_at (w : Vec Ideal S1024x1024 .f32) (j : S1024x1024.Idx) : k0_pay1 w j = w j := by
  pointwise [k0_pay1]

/-- The weights the body holds are its columns. -/
theorem held_at (c : Dev nD) (n : ℕ) (hn : n < cfg0.N) : (outsAt0 m c n hn).2.2 = iblk m c 1 ⟨n, hn⟩ := by
  refine held 32 (fun n hn => (outsAt0 m c n hn).2.2) (fun t => iblk m c 1 t) (fun t h0 => ?_) (fun t h0 => ?_) (fun t h0 => ?_) n hn
  · funext j
    show (outsAt0 m c t.val t.isLt).2.2 j = _
    rw [outsAt0_A m c t h0]
    frame_out
    exact rounded_at _ j
  · show (outsAt0 m c t.val t.isLt).2.2 = _
    rw [outsAt0_B m c t h0]
    rfl
  · funext j
    have e : (t.val - 1) / 32 = t.val / 32 := by omega
    blk_point [iblk, V, idx t, idx ⟨t.val - 1, Nat.lt_of_le_of_lt (Nat.sub_le _ _) t.isLt⟩]

theorem rows_at (c : Dev nD) (t : Fin cfg0.N) (r : Fin 512) (k : Fin 1024) :
    iblk m c 0 t (ix2 r k) = m ((c : Thread nD τ).loc main_arg0) (ix2 ⟨t.val % 32 * 512 + r.val, by omega⟩ k) := by
  blk_point [iblk, V, idx t]

theorem columns_at (c : Dev nD) (t : Fin cfg0.N) (k d : Fin 1024) :
    iblk m c 1 t (ix2 k d) = m ((c : Thread nD τ).loc main_arg1) (ix2 k ⟨2048 + d.val, by omega⟩) := by
  have ht : t.val < 32 := t.isLt
  blk_point [iblk, V, idx t]

/-- The values, from the arguments. -/
def vals (h : FVec Ideal S16384x1024 .bf16) (w : FVec Ideal S1024x11264 .f32) (i : S16384x1024.Idx) : EReal :=
  product h w (i 0) ⟨2048 + (i 1).val, by have : (i 1).val < 1024 := (i 1).isLt; omega⟩

/-- Both blocks a point leaves. -/
theorem point_at (c : Dev nD) (t : Fin cfg0.N) (r : Fin 512) (d : Fin 1024) :
    (outsAt0 m c t.val t.isLt).1 (ix2 r d : S512x1024.Idx)
        = vals (m ((c : Thread nD τ).loc main_arg0)) (m ((c : Thread nD τ).loc main_arg1)) (ix2 ⟨t.val % 32 * 512 + r.val, by omega⟩ d)
    ∧ (outsAt0 m c t.val t.isLt).2.1 (ix2 r d : S512x1024.Idx)
        = vals (m ((c : Thread nD τ).loc main_arg0)) (m ((c : Thread nD τ).loc main_arg1)) (ix2 ⟨t.val % 32 * 512 + r.val, by omega⟩ d) := by
  have hx := rows_at m c t r
  have hw := fun k => columns_at m c t k d
  by_cases h0 : t.val % 32 = 0
  · rw [outsAt0_A m c t h0]
    constructor
    · frame_out
      exact (wide_at _ _ r d).trans (product_of_blocks hx fun k => (rounded_at _ _).trans (hw k))
    · frame_out
      exact (narrow_at _ _ r d).trans (product_of_blocks hx fun k => (rounded_at _ _).trans (hw k))
  · have hf : ∀ k, (outsAt0 m c (t.val - 1) (Nat.lt_of_le_of_lt (Nat.sub_le _ _) t.isLt)).2.2 (ix2 k d)
        = m ((c : Thread nD τ).loc main_arg1) (ix2 k ⟨2048 + d.val, by omega⟩) := fun k => by
      have e := held_at m c t.val t.isLt
      rw [outsAt0_B m c t h0] at e
      exact (congrFun e (ix2 k d)).trans (hw k)
    rw [outsAt0_B m c t h0]
    constructor
    · frame_out
      exact (wide_at _ _ r d).trans (product_of_blocks hx fun k => (congrFun (Memref.IsWhole.read_unread _ _) _).trans (hf k))
    · frame_out
      exact (narrow_at _ _ r d).trans (product_of_blocks hx fun k => (congrFun (Memref.IsWhole.read_unread _ _) _).trans (hf k))

/-- The values in 32 bits. -/
theorem wide (c : Dev nD) : (dats m 0 c).arrAt 2 (cfgs 0).N = vals (m ((c : Thread nD τ).loc main_arg0)) (m ((c : Thread nD τ).loc main_arg1)) := by
  refine (dats m 0 c).arrAt_eq_of_covers 2 _ (by decide +kernel) fun t _ y => ?_
  have ht : t.val < 32 := t.isLt
  blk_simp
  rw [after0_2]
  refine (congrArg _ (eq_ix2 (y : S512x1024.Idx))).trans ((point_at m c t _ _).1.trans (congrArg (vals _ _) ?_))
  blk_ext [idx t]

/-- The values in 16 bits. -/
theorem narrow (c : Dev nD) : (dats m 0 c).arrAt 3 (cfgs 0).N = vals (m ((c : Thread nD τ).loc main_arg0)) (m ((c : Thread nD τ).loc main_arg1)) := by
  refine (dats m 0 c).arrAt_eq_of_covers 3 _ (by decide +kernel) fun t _ y => ?_
  have ht : t.val < 32 := t.isLt
  blk_simp
  rw [after0_3]
  refine (congrArg _ (eq_ix2 (y : S512x1024.Idx))).trans ((point_at m c t _ _).2.trans (congrArg (vals _ _) ?_))
  blk_ext [idx t]

end Cert.KernelVIdeal.Own

namespace Cert.ReferenceVIdeal.Own

open Idealize.ShloMosaic Idealize.ShloMosaic.TcCoe Idealize.SL.Sem
open Cert.ReferenceVIdeal Cert.ReferenceVIdeal.Gen
open Cert.KernelVIdeal.Own (vals wide narrow)

/-- The reference's slice of the whole product. -/
theorem slice_eq (h : FVec Ideal S16384x1024 .bf16) (w : FVec Ideal S1024x11264 .f32) :
    extractStridedSlice S16384x1024 ![0, 2048] (Host.dotGeneral dot_S16384x1024_S1024x11264_S16384x11264_1_0_0_1_n_n none (extf .f32 h bitsLt_bf16_f32) w)
      slices_S16384x11264_S16384x1024_0_2048 = vals h w := by
  funext i
  unfold vals Cert.Projection.product
  pointwise []

/-- The two programs agree. -/
theorem agree : Cert.algebraic_KernelVIdeal_ReferenceVIdeal (hKernelVIdeal := Cert.KernelVIdeal.Gen.facts) (hReferenceVIdeal := Cert.ReferenceVIdeal.Gen.facts) := by
  pair_intro
  · exact Cert.KernelVIdeal.Value.run_blocks m g
  · refine (θ_run _ _ _).mono (fun r h c => ⟨(h c).1.trans ?_, (h c).2.1.trans ?_, (h c).2.2⟩) (Cert.ReferenceVIdeal.Value.run m' g')
    all_goals obtain ⟨h0, h1⟩ := hagree c
    · exact (slice_eq _ _).trans (by rw [h0, h1]; exact (wide m c).symm)
    · exact (slice_eq _ _).trans (by rw [h0, h1]; exact (narrow m c).symm)

/-- The reference's run, its arguments unchanged. -/
theorem frame : Cert.quiescent_ReferenceVIdeal (hReferenceVIdeal := Cert.ReferenceVIdeal.Gen.facts) := by
  intro m g _
  exact (θ_run _ _ _).mono (fun r h => ⟨fun c => (h c).2.2, sem_eq_zero_of_no_sems rfl _⟩) (Cert.ReferenceVIdeal.Value.run m g)

end Cert.ReferenceVIdeal.Own

end
-- ==== Proof.ProjK.lean ====
/-
  The keys' projection, in two precisions: every block of the results is the block of the product of the activations with
  the keys' columns of the weights.
-/
module

public import proofs.«01_k».proof.Defs
public import proofs.«01_k».proof.Proof.Columns
public import proofs.«01_k».proof.Proof.Gen.KernelK
public import proofs.«01_k».proof.Proof.Gen.KernelK.Frame
public import proofs.«01_k».proof.Proof.Gen.KernelKIdeal
public import proofs.«01_k».proof.Proof.Gen.KernelKIdeal.Frame
public import proofs.«01_k».proof.Proof.Gen.KernelKIdeal.Value
public import proofs.«01_k».proof.Proof.Gen.ReferenceKIdeal
public import proofs.«01_k».proof.Proof.Gen.ReferenceKIdeal.Run

@[expose] public section

set_option maxRecDepth 16384

noncomputable section

namespace Cert.KernelKIdeal.Own

open Idealize.ShloMosaic Idealize.ShloMosaic.TcCoe Idealize.SL.Sem
open Cert.KernelKIdeal Cert.KernelKIdeal.Gen Cert.Projection

variable (m : (ℓ : Loc nD τ sig) → Buf (Elt Ideal) ℓ)

theorem idx : ∀ t : Fin cfg0.N, win0_0.index t = ![t.val % 32, 0] ∧ win0_1.index t = ![0, t.val / 32 + 1]
    ∧ win0_2.index t = ![t.val % 32, t.val / 32] ∧ win0_3.index t = ![t.val % 32, t.val / 32] :=
  (by decide +kernel : ∀ t : Fin grid0.N, _)

/-- What the body computes of a block of activations and the weights it holds. -/
theorem wide_at (x : Vec Ideal S512x1024 .bf16) (w : Vec Ideal S1024x1024 .bf16) (r : Fin 512) (d : Fin 1024) :
    k0_pay2 x w (ix2 r d) = ∑ k : Fin 1024, x (ix2 r k) * w (ix2 k d) := by
  pointwise [k0_pay2]

theorem narrow_at (x : Vec Ideal S512x1024 .bf16) (w : Vec Ideal S1024x1024 .bf16) (r : Fin 512) (d : Fin 1024) :
    k0_pay3 x w (ix2 r d) = ∑ k : Fin 1024, x (ix2 r k) * w (ix2 k d) := by
  pointwise [k0_pay3, k0_pay2]

theorem rounded_at (w : Vec Ideal S1024x1024 .f32) (j : S1024x1024.Idx) : k0_pay1 w j = w j := by
  pointwise [k0_pay1]

/-- The weights the body holds are its columns. -/
theorem held_at (c : Dev nD) (n : ℕ) (hn : n < cfg0.N) : (outsAt0 m c n hn).2.2 = iblk m c 1 ⟨n, hn⟩ := by
  refine held 32 (fun n hn => (outsAt0 m c n hn).2.2) (fun t => iblk m c 1 t) (fun t h0 => ?_) (fun t h0 => ?_) (fun t h0 => ?_) n hn
  · funext j
    show (outsAt0 m c t.val t.isLt).2.2 j = _
    rw [outsAt0_A m c t h0]
    frame_out
    exact rounded_at _ j
  · show (outsAt0 m c t.val t.isLt).2.2 = _
    rw [outsAt0_B m c t h0]
    rfl
  · funext j
    have e : (t.val - 1) / 32 = t.val / 32 := by omega
    blk_point [iblk, V, idx t, idx ⟨t.val - 1, Nat.lt_of_le_of_lt (Nat.sub_le _ _) t.isLt⟩]

theorem rows_at (c : Dev nD) (t : Fin cfg0.N) (r : Fin 512) (k : Fin 1024) :
    iblk m c 0 t (ix2 r k) = m ((c : Thread nD τ).loc main_arg0) (ix2 ⟨t.val % 32 * 512 + r.val, by omega⟩ k) := by
  blk_point [iblk, V, idx t]

theorem columns_at (c : Dev nD) (t : Fin cfg0.N) (k d : Fin 1024) :
    iblk m c 1 t (ix2 k d) = m ((c : Thread nD τ).loc main_arg1) (ix2 k ⟨1024 + d.val, by omega⟩) := by
  have ht : t.val < 32 := t.isLt
  blk_point [iblk, V, idx t]

/-- The keys, from the arguments. -/
def keys (h : FVec Ideal S16384x1024 .bf16) (w : FVec Ideal S1024x11264 .f32) (i : S16384x1024.Idx) : EReal :=
  product h w (i 0) ⟨1024 + (i 1).val, by have : (i 1).val < 1024 := (i 1).isLt; omega⟩

/-- Both blocks a point leaves. -/
theorem point_at (c : Dev nD) (t : Fin cfg0.N) (r : Fin 512) (d : Fin 1024) :
    (outsAt0 m c t.val t.isLt).1 (ix2 r d : S512x1024.Idx)
        = keys (m ((c : Thread nD τ).loc main_arg0)) (m ((c : Thread nD τ).loc main_arg1)) (ix2 ⟨t.val % 32 * 512 + r.val, by omega⟩ d)
    ∧ (outsAt0 m c t.val t.isLt).2.1 (ix2 r d : S512x1024.Idx)
        = keys (m ((c : Thread nD τ).loc main_arg0)) (m ((c : Thread nD τ).loc main_arg1)) (ix2 ⟨t.val % 32 * 512 + r.val, by omega⟩ d) := by
  have hx := rows_at m c t r
  have hw := fun k => columns_at m c t k d
  by_cases h0 : t.val % 32 = 0
  · rw [outsAt0_A m c t h0]
    constructor
    · frame_out
      exact (wide_at _ _ r d).trans (product_of_blocks hx fun k => (rounded_at _ _).trans (hw k))
    · frame_out
      exact (narrow_at _ _ r d).trans (product_of_blocks hx fun k => (rounded_at _ _).trans (hw k))
  · have hf : ∀ k, (outsAt0 m c (t.val - 1) (Nat.lt_of_le_of_lt (Nat.sub_le _ _) t.isLt)).2.2 (ix2 k d)
        = m ((c : Thread nD τ).loc main_arg1) (ix2 k ⟨1024 + d.val, by omega⟩) := fun k => by
      have e := held_at m c t.val t.isLt
      rw [outsAt0_B m c t h0] at e
      exact (congrFun e (ix2 k d)).trans (hw k)
    rw [outsAt0_B m c t h0]
    constructor
    · frame_out
      exact (wide_at _ _ r d).trans (product_of_blocks hx fun k => (congrFun (Memref.IsWhole.read_unread _ _) _).trans (hf k))
    · frame_out
      exact (narrow_at _ _ r d).trans (product_of_blocks hx fun k => (congrFun (Memref.IsWhole.read_unread _ _) _).trans (hf k))

/-- The keys in 32 bits. -/
theorem wide (c : Dev nD) : (dats m 0 c).arrAt 2 (cfgs 0).N = keys (m ((c : Thread nD τ).loc main_arg0)) (m ((c : Thread nD τ).loc main_arg1)) := by
  refine (dats m 0 c).arrAt_eq_of_covers 2 _ (by decide +kernel) fun t _ y => ?_
  have ht : t.val < 32 := t.isLt
  blk_simp
  rw [after0_2]
  refine (congrArg _ (eq_ix2 (y : S512x1024.Idx))).trans ((point_at m c t _ _).1.trans (congrArg (keys _ _) ?_))
  blk_ext [idx t]

/-- The keys in 16 bits. -/
theorem narrow (c : Dev nD) : (dats m 0 c).arrAt 3 (cfgs 0).N = keys (m ((c : Thread nD τ).loc main_arg0)) (m ((c : Thread nD τ).loc main_arg1)) := by
  refine (dats m 0 c).arrAt_eq_of_covers 3 _ (by decide +kernel) fun t _ y => ?_
  have ht : t.val < 32 := t.isLt
  blk_simp
  rw [after0_3]
  refine (congrArg _ (eq_ix2 (y : S512x1024.Idx))).trans ((point_at m c t _ _).2.trans (congrArg (keys _ _) ?_))
  blk_ext [idx t]

end Cert.KernelKIdeal.Own

namespace Cert.ReferenceKIdeal.Own

open Idealize.ShloMosaic Idealize.ShloMosaic.TcCoe Idealize.SL.Sem
open Cert.ReferenceKIdeal Cert.ReferenceKIdeal.Gen
open Cert.KernelKIdeal.Own (keys wide narrow)

/-- The reference's slice of the whole product. -/
theorem slice_eq (h : FVec Ideal S16384x1024 .bf16) (w : FVec Ideal S1024x11264 .f32) :
    extractStridedSlice S16384x1024 ![0, 1024] (Host.dotGeneral dot_S16384x1024_S1024x11264_S16384x11264_1_0_0_1_n_n none (extf .f32 h bitsLt_bf16_f32) w)
      slices_S16384x11264_S16384x1024_0_1024 = keys h w := by
  funext i
  unfold keys Cert.Projection.product
  pointwise []

/-- The two programs agree. -/
theorem agree : Cert.algebraic_KernelKIdeal_ReferenceKIdeal (hKernelKIdeal := Cert.KernelKIdeal.Gen.facts) (hReferenceKIdeal := Cert.ReferenceKIdeal.Gen.facts) := by
  pair_intro
  · exact Cert.KernelKIdeal.Value.run_blocks m g
  · refine (θ_run _ _ _).mono (fun r h c => ⟨(h c).1.trans ?_, (h c).2.1.trans ?_, (h c).2.2⟩) (Cert.ReferenceKIdeal.Value.run m' g')
    all_goals obtain ⟨h0, h1⟩ := hagree c
    · exact (slice_eq _ _).trans (by rw [h0, h1]; exact (wide m c).symm)
    · exact (slice_eq _ _).trans (by rw [h0, h1]; exact (narrow m c).symm)

/-- The reference's run, its arguments unchanged. -/
theorem frame : Cert.quiescent_ReferenceKIdeal (hReferenceKIdeal := Cert.ReferenceKIdeal.Gen.facts) := by
  intro m g _
  exact (θ_run _ _ _).mono (fun r h => ⟨fun c => (h c).2.2, sem_eq_zero_of_no_sems rfl _⟩) (Cert.ReferenceKIdeal.Value.run m g)

end Cert.ReferenceKIdeal.Own

end
-- ==== Proof.ProjQ.lean ====
/-
  The queries' projection: every block of the result is the block of the product of the activations with
  the queries' columns of the weights.
-/
module

public import proofs.«01_k».proof.Defs
public import proofs.«01_k».proof.Proof.Columns
public import proofs.«01_k».proof.Proof.Gen.KernelQ
public import proofs.«01_k».proof.Proof.Gen.KernelQ.Frame
public import proofs.«01_k».proof.Proof.Gen.KernelQIdeal
public import proofs.«01_k».proof.Proof.Gen.KernelQIdeal.Frame
public import proofs.«01_k».proof.Proof.Gen.KernelQIdeal.Value
public import proofs.«01_k».proof.Proof.Gen.ReferenceQIdeal
public import proofs.«01_k».proof.Proof.Gen.ReferenceQIdeal.Run

@[expose] public section

set_option maxRecDepth 16384

noncomputable section

namespace Cert.KernelQIdeal.Own

open Idealize.ShloMosaic Idealize.ShloMosaic.TcCoe Idealize.SL.Sem
open Cert.KernelQIdeal Cert.KernelQIdeal.Gen Cert.Projection

variable (m : (ℓ : Loc nD τ sig) → Buf (Elt Ideal) ℓ)

theorem idx : ∀ t : Fin cfg0.N, win0_0.index t = ![t.val % 32, 0] ∧ win0_1.index t = ![0, t.val / 32]
    ∧ win0_2.index t = ![t.val % 32, t.val / 32] :=
  (by decide +kernel : ∀ t : Fin grid0.N, _)

/-- What the body computes of a block of activations and the weights it holds. -/
theorem product_at (x : Vec Ideal S512x1024 .bf16) (w : Vec Ideal S1024x1024 .bf16) (r : Fin 512) (d : Fin 1024) :
    k0_pay2 x w (ix2 r d) = ∑ k : Fin 1024, x (ix2 r k) * w (ix2 k d) := by
  pointwise [k0_pay2]

theorem rounded_at (w : Vec Ideal S1024x1024 .f32) (j : S1024x1024.Idx) : k0_pay1 w j = w j := by
  pointwise [k0_pay1]

/-- The weights the body holds are its columns. -/
theorem held_at (c : Dev nD) (n : ℕ) (hn : n < cfg0.N) : (outsAt0 m c n hn).2 = iblk m c 1 ⟨n, hn⟩ := by
  refine held 32 (fun n hn => (outsAt0 m c n hn).2) (fun t => iblk m c 1 t) (fun t h0 => ?_) (fun t h0 => ?_) (fun t h0 => ?_) n hn
  · funext j
    show (outsAt0 m c t.val t.isLt).2 j = _
    rw [outsAt0_A m c t h0]
    frame_out
    exact rounded_at _ j
  · show (outsAt0 m c t.val t.isLt).2 = _
    rw [outsAt0_B m c t h0]
    rfl
  · funext j
    have e : (t.val - 1) / 32 = t.val / 32 := by omega
    blk_point [iblk, V, idx t, idx ⟨t.val - 1, Nat.lt_of_le_of_lt (Nat.sub_le _ _) t.isLt⟩]

theorem rows_at (c : Dev nD) (t : Fin cfg0.N) (r : Fin 512) (k : Fin 1024) :
    iblk m c 0 t (ix2 r k) = m ((c : Thread nD τ).loc main_arg0) (ix2 ⟨t.val % 32 * 512 + r.val, by omega⟩ k) := by
  blk_point [iblk, V, idx t]

theorem columns_at (c : Dev nD) (t : Fin cfg0.N) (k d : Fin 1024) :
    iblk m c 1 t (ix2 k d) = m ((c : Thread nD τ).loc main_arg1) (ix2 k ⟨d.val, by omega⟩) := by
  have ht : t.val < 32 := t.isLt
  blk_point [iblk, V, idx t]

/-- The queries, from the arguments. -/
def queries (h : FVec Ideal S16384x1024 .bf16) (w : FVec Ideal S1024x11264 .f32) (i : S16384x1024.Idx) : EReal :=
  product h w (i 0) ⟨(i 1).val, by have : (i 1).val < 1024 := (i 1).isLt; omega⟩

/-- The block a point leaves. -/
theorem point_at (c : Dev nD) (t : Fin cfg0.N) (r : Fin 512) (d : Fin 1024) :
    (outsAt0 m c t.val t.isLt).1 (ix2 r d : S512x1024.Idx)
        = queries (m ((c : Thread nD τ).loc main_arg0)) (m ((c : Thread nD τ).loc main_arg1)) (ix2 ⟨t.val % 32 * 512 + r.val, by omega⟩ d) := by
  have hx := rows_at m c t r
  have hw := fun k => columns_at m c t k d
  by_cases h0 : t.val % 32 = 0
  · rw [outsAt0_A m c t h0]
    frame_out
    exact (product_at _ _ r d).trans (product_of_blocks hx fun k => (rounded_at _ _).trans (hw k))
  · have hf : ∀ k, (outsAt0 m c (t.val - 1) (Nat.lt_of_le_of_lt (Nat.sub_le _ _) t.isLt)).2 (ix2 k d)
        = m ((c : Thread nD τ).loc main_arg1) (ix2 k ⟨d.val, by omega⟩) := fun k => by
      have e := held_at m c t.val t.isLt
      rw [outsAt0_B m c t h0] at e
      exact (congrFun e (ix2 k d)).trans (hw k)
    rw [outsAt0_B m c t h0]
    frame_out
    exact (product_at _ _ r d).trans (product_of_blocks hx fun k => (congrFun (Memref.IsWhole.read_unread _ _) _).trans (hf k))

/-- The queries. -/
theorem projected (c : Dev nD) : (dats m 0 c).arrAt 2 (cfgs 0).N = queries (m ((c : Thread nD τ).loc main_arg0)) (m ((c : Thread nD τ).loc main_arg1)) := by
  refine (dats m 0 c).arrAt_eq_of_covers 2 _ (by decide +kernel) fun t _ y => ?_
  have ht : t.val < 32 := t.isLt
  blk_simp
  rw [after0_2]
  refine (congrArg _ (eq_ix2 (y : S512x1024.Idx))).trans ((point_at m c t _ _).trans (congrArg (queries _ _) ?_))
  blk_ext [idx t]

end Cert.KernelQIdeal.Own

namespace Cert.ReferenceQIdeal.Own

open Idealize.ShloMosaic Idealize.ShloMosaic.TcCoe Idealize.SL.Sem
open Cert.ReferenceQIdeal Cert.ReferenceQIdeal.Gen
open Cert.KernelQIdeal.Own (queries projected)

/-- The reference's slice of the whole product. -/
theorem slice_eq (h : FVec Ideal S16384x1024 .bf16) (w : FVec Ideal S1024x11264 .f32) :
    extractStridedSlice S16384x1024 ![0, 0] (Host.dotGeneral dot_S16384x1024_S1024x11264_S16384x11264_1_0_0_1_n_n none (extf .f32 h bitsLt_bf16_f32) w)
      slices_S16384x11264_S16384x1024_0_0 = queries h w := by
  funext i
  unfold queries Cert.Projection.product
  pointwise []

/-- The two programs agree. -/
theorem agree : Cert.algebraic_KernelQIdeal_ReferenceQIdeal (hKernelQIdeal := Cert.KernelQIdeal.Gen.facts) (hReferenceQIdeal := Cert.ReferenceQIdeal.Gen.facts) := by
  pair_intro
  · exact Cert.KernelQIdeal.Value.run_blocks m g
  · refine (θ_run _ _ _).mono (fun r h c => ⟨(h c).1.trans ?_, (h c).2⟩) (Cert.ReferenceQIdeal.Value.run m' g')
    obtain ⟨h0, h1⟩ := hagree c
    exact (slice_eq _ _).trans (by rw [h0, h1]; exact (projected m c).symm)

/-- The reference's run, its arguments unchanged. -/
theorem frame : Cert.quiescent_ReferenceQIdeal (hReferenceQIdeal := Cert.ReferenceQIdeal.Gen.facts) := by
  intro m g _
  exact (θ_run _ _ _).mono (fun r h => ⟨fun c => (h c).2, sem_eq_zero_of_no_sems rfl _⟩) (Cert.ReferenceQIdeal.Value.run m g)

end Cert.ReferenceQIdeal.Own

end
-- ==== Proof.lean ====
module

public import proofs.«01_k».proof.Defs
public import proofs.«01_k».proof.Proof.Gen.Kernel
public import proofs.«01_k».proof.Proof.Gen.Kernel.Frame
public import proofs.«01_k».proof.Proof.Gen.KernelIdeal
public import proofs.«01_k».proof.Proof.Gen.KernelIdeal.Frame
public import proofs.«01_k».proof.Proof.Gen.ReferenceIdeal
public import proofs.«01_k».proof.Proof.Gen.Pre_finite_inputs
public import proofs.«01_k».proof.Proof.Gen.ReferenceIdeal.Run
public import proofs.«01_k».proof.Proof.Finite
public import proofs.«01_k».proof.Proof.Final
public import proofs.«01_k».proof.Proof.ProjZ
public import proofs.«01_k».proof.Proof.ProjSK
public import proofs.«01_k».proof.Proof.ProjSV
public import proofs.«01_k».proof.Proof.Experts
public import proofs.«01_k».proof.Proof.ProjV
public import proofs.«01_k».proof.Proof.ProjK
public import proofs.«01_k».proof.Proof.ProjQ
public import Idealize.ShloMosaic.Adequacy
public import Idealize.ShloMosaic.Init

@[expose] public section

noncomputable section

namespace Cert.Proof

open Idealize.ShloMosaic Idealize.SL.Sem

/-- The reference's run, its arguments unchanged. -/
theorem reference_frame : @Cert.quiescent_ReferenceIdeal Cert.ReferenceIdeal.Gen.facts := by
  intro m g _
  exact (θ_run _ _ _).mono (fun r h => ⟨fun c => (h c).2, sem_eq_zero_of_no_sems rfl _⟩) (Cert.ReferenceIdeal.Value.run m g)

/-- The array the kernel leaves is the reference's, when queries, keys, values and λ's vectors are finite. -/
theorem results_eq (m : (ℓ : Loc Cert.KernelIdeal.nD Cert.KernelIdeal.τ Cert.KernelIdeal.sig) → Buf (Elt Ideal) ℓ)
    (hpre : Cert.Pre_KernelIdeal_finite_inputs m) (c : Dev Cert.KernelIdeal.nD) :
    (Cert.KernelIdeal.Own.dats m 0 c).arrAt 8 (Cert.KernelIdeal.cfgs 0).N
      = Cert.ReferenceIdeal.Stages.attention (m (c.tc.loc Cert.KernelIdeal.main_arg0)) (m (c.tc.loc Cert.KernelIdeal.main_arg1))
        (m (c.tc.loc Cert.KernelIdeal.main_arg2)) (m (c.tc.loc Cert.KernelIdeal.main_arg3)) (m (c.tc.loc Cert.KernelIdeal.main_arg4))
        (m (c.tc.loc Cert.KernelIdeal.main_arg5)) (m (c.tc.loc Cert.KernelIdeal.main_arg6)) (m (c.tc.loc Cert.KernelIdeal.main_arg7)) := by
  obtain ⟨⟨qr, hq⟩, ⟨kr, hk⟩, ⟨vr, hv⟩, ⟨ar, ha⟩, ⟨br, hb⟩, ⟨dr, hd⟩, ⟨er, he⟩⟩ :=
    Cert.Pre_finite_inputs.Read.read _ _ _ _ _ _ _ _ (hpre c)
  obtain ⟨l, hl⟩ := Cert.Attention.lamOf_real (fun i => ar (ix2 0 i)) (fun i => br (ix2 0 i)) (fun i => dr (ix2 0 i)) (fun i => er (ix2 0 i))
  refine Cert.KernelIdeal.Own.final m c qr kr vr hq hk hv l ?_
  rw [← hl]
  congr 1 <;> funext i
  · exact ha _
  · exact hb _
  · exact hd _
  · exact he _

set_option maxRecDepth 8192 in
/-- The attention: kernel and reference agree. -/
theorem attention_agrees : Cert.algebraic_KernelIdeal_ReferenceIdeal_pre_finite_inputs (hKernelIdeal := Cert.KernelIdeal.Gen.facts)
    (hReferenceIdeal := Cert.ReferenceIdeal.Gen.facts) (hPre_finite_inputs := Cert.Pre_finite_inputs.Gen.facts) := by
  pair_intro
  · run_from Cert.KernelIdeal.Own.ran m g
  · refine (θ_run _ _ _).mono (fun r h c => ⟨(h c).1.trans ?_, (h c).2⟩) (Cert.ReferenceIdeal.Value.run m' g')
    obtain ⟨h0, h1, h2, h3, h4, h5, h6, h7⟩ := hagree c
    exact (Cert.ReferenceIdeal.Stages.res_eq m' c).trans (by rw [h0, h1, h2, h3, h4, h5, h6, h7]; exact (results_eq m hpre c).symm)

/-- Everything that is claimed. -/
theorem claim : Cert.Claim :=
  ⟨Cert.Kernel.Gen.facts, Cert.KernelIdeal.Gen.facts, Cert.ReferenceIdeal.Gen.facts,
    Cert.KernelQ.Gen.facts, Cert.KernelQIdeal.Gen.facts, Cert.ReferenceQIdeal.Gen.facts,
    Cert.KernelK.Gen.facts, Cert.KernelKIdeal.Gen.facts, Cert.ReferenceKIdeal.Gen.facts,
    Cert.KernelV.Gen.facts, Cert.KernelVIdeal.Gen.facts, Cert.ReferenceVIdeal.Gen.facts,
    Cert.KernelZ.Gen.facts, Cert.KernelZIdeal.Gen.facts, Cert.ReferenceZIdeal.Gen.facts,
    Cert.KernelSK.Gen.facts, Cert.KernelSKIdeal.Gen.facts, Cert.ReferenceSKIdeal.Gen.facts,
    Cert.KernelSV.Gen.facts, Cert.KernelSVIdeal.Gen.facts, Cert.ReferenceSVIdeal.Gen.facts,
    Cert.KernelE.Gen.facts, Cert.KernelEIdeal.Gen.facts, Cert.ReferenceEIdeal.Gen.facts,
    Cert.Pre_finite_inputs.Gen.facts, Cert.Pre_tables.Gen.facts,
    fun m ρ _ => Cert.Kernel.Gen.frame m ρ,
    fun m ρ _ => Cert.KernelIdeal.Gen.frame m ρ,
    fun m ρ _ => Cert.KernelIdeal.Gen.frame m ρ,
    reference_frame,
    fun m g _ => reference_frame m g trivial,
    fun m ρ _ => Cert.KernelQ.Gen.frame m ρ, fun m ρ _ => Cert.KernelQIdeal.Gen.frame m ρ, Cert.ReferenceQIdeal.Own.frame,
    fun m ρ _ => Cert.KernelK.Gen.frame m ρ, fun m ρ _ => Cert.KernelKIdeal.Gen.frame m ρ, Cert.ReferenceKIdeal.Own.frame,
    fun m ρ _ => Cert.KernelV.Gen.frame m ρ, fun m ρ _ => Cert.KernelVIdeal.Gen.frame m ρ, Cert.ReferenceVIdeal.Own.frame,
    fun m ρ _ => Cert.KernelZ.Gen.frame m ρ, fun m ρ _ => Cert.KernelZIdeal.Gen.frame m ρ, Cert.ReferenceZIdeal.Own.frame,
    fun m ρ _ => Cert.KernelSK.Gen.frame m ρ, fun m ρ _ => Cert.KernelSKIdeal.Gen.frame m ρ, Cert.ReferenceSKIdeal.Own.frame,
    fun m ρ _ => Cert.KernelSV.Gen.frame m ρ, fun m ρ _ => Cert.KernelSVIdeal.Gen.frame m ρ, Cert.ReferenceSVIdeal.Own.frame,
    Cert.Experts.kernel_frame, Cert.Experts.ideal_frame, Cert.Experts.reference_frame, fun m g _ => Cert.Experts.reference_frame m g trivial,
    trivial, attention_agrees,
    trivial, Cert.ReferenceQIdeal.Own.agree, trivial, Cert.ReferenceKIdeal.Own.agree, trivial, Cert.ReferenceVIdeal.Own.agree, trivial, Cert.ReferenceZIdeal.Own.agree,
    trivial, Cert.ReferenceSKIdeal.Own.agree, trivial, Cert.ReferenceSVIdeal.Own.agree,
    trivial, Cert.Experts.agree⟩

end Cert.Proof

end
